-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81_0)) (v1 : (c : Dev Cert.KernelIdeal.nD) → Buf (Elt Ideal) ((c.tc : Thread Cert.KernelIdeal.nD Cert.KernelIdeal.τ).loc Cert.KernelIdeal.main_v81_1)) (v2 : (c : Dev Cert.KernelIdeal.nD) → Buf (Elt Ideal) ((c.tc : Thread Cert.KernelIdeal.nD Cert.KernelIdeal.τ).loc Cert.KernelIdeal.main_v81_2)) (v3 : (c : Dev Cert.KernelIdeal.nD) → Buf (Elt Ideal) ((c.tc : Thread Cert.KernelIdeal.nD Cert.KernelIdeal.τ).loc Cert.KernelIdeal.main_v81_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81_0) = v0 c
          ∧ r.2.mem ((c.tc : Thread Cert.KernelIdeal.nD Cert.KernelIdeal.τ).loc Cert.KernelIdeal.main_v81_1) = v1 c
          ∧ r.2.mem ((c.tc : Thread Cert.KernelIdeal.nD Cert.KernelIdeal.τ).loc Cert.KernelIdeal.main_v81_2) = v2 c
          ∧ r.2.mem ((c.tc : Thread Cert.KernelIdeal.nD Cert.KernelIdeal.τ).loc Cert.KernelIdeal.main_v81_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v33) = v0 c
          ∧ r.2.mem ((c.tc : Thread Cert.Reference10Ideal.nD Cert.Reference10Ideal.τ).loc Cert.Reference10Ideal.main_v34) = v1 c
          ∧ r.2.mem ((c.tc : Thread Cert.Reference10Ideal.nD Cert.Reference10Ideal.τ).loc Cert.Reference10Ideal.main_v36) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v22) = v0 c
          ∧ r.2.mem ((c.tc : Thread Cert.Reference17Ideal.nD Cert.Reference17Ideal.τ).loc Cert.Reference17Ideal.main_v2) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v27) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v19) = v2 c
          ∧ r.2.mem ((c.tc : Thread Cert.Reference18Ideal.nD Cert.Reference18Ideal.τ).loc Cert.Reference18Ideal.main_v28) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v19) = v2 c
          ∧ r.2.mem ((c.tc : Thread Cert.Reference19Ideal.nD Cert.Reference19Ideal.τ).loc Cert.Reference19Ideal.main_v28) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_v5) = v2 c
          ∧ r.2.mem ((c.tc : Thread Cert.Reference21Ideal.nD Cert.Reference21Ideal.τ).loc Cert.Reference21Ideal.main_v11) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_v25) = v1 c
          ∧ r.2.mem ((c.tc : Thread Cert.Reference22Ideal.nD Cert.Reference22Ideal.τ).loc Cert.Reference22Ideal.main_v6) = v2 c
          ∧ r.2.mem ((c.tc : Thread Cert.Reference22Ideal.nD Cert.Reference22Ideal.τ).loc Cert.Reference22Ideal.main_v12) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_v25) = v1 c
          ∧ r.2.mem ((c.tc : Thread Cert.Reference23Ideal.nD Cert.Reference23Ideal.τ).loc Cert.Reference23Ideal.main_v6) = v2 c
          ∧ r.2.mem ((c.tc : Thread Cert.Reference23Ideal.nD Cert.Reference23Ideal.τ).loc Cert.Reference23Ideal.main_v12) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v0) = v0 c
          ∧ r.2.mem ((c.tc : Thread Cert.Reference24Ideal.nD Cert.Reference24Ideal.τ).loc Cert.Reference24Ideal.main_v24) = v1 c
          ∧ r.2.mem ((c.tc : Thread Cert.Reference24Ideal.nD Cert.Reference24Ideal.τ).loc Cert.Reference24Ideal.main_v5) = v2 c
          ∧ r.2.mem ((c.tc : Thread Cert.Reference24Ideal.nD Cert.Reference24Ideal.τ).loc Cert.Reference24Ideal.main_v11) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_v24) = v1 c
          ∧ r.2.mem ((c.tc : Thread Cert.Reference27Ideal.nD Cert.Reference27Ideal.τ).loc Cert.Reference27Ideal.main_v5) = v2 c
          ∧ r.2.mem ((c.tc : Thread Cert.Reference27Ideal.nD Cert.Reference27Ideal.τ).loc Cert.Reference27Ideal.main_v11) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)) →
    ∃ (v0 : (c : Dev Cert.Kernel29Ideal.nD) → Buf (Elt Ideal) ((c.tc : Thread Cert.Kernel29Ideal.nD Cert.Kernel29Ideal.τ).loc Cert.Kernel29Ideal.main_v1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v1) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v8) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v38) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite.lean ====
abbrev S8192x3072 : Shape := ⟨2, ![8192, 3072]⟩
abbrev S2x8x4096 : Shape := ⟨3, ![2, 8, 4096]⟩
abbrev S8192x512 : Shape := ⟨2, ![8192, 512]⟩
abbrev S8192x1536 : Shape := ⟨2, ![8192, 1536]⟩
abbrev S_ : Shape := ⟨0, ![]⟩

class Facts : Prop where
  slices_S8192x3072_S8192x1536_0_1536 : S8192x3072.Slices ![0, 1536] S8192x1536
  bcast_S_S8192x1536 : S_.BroadcastsInDim S8192x1536 (![] : Fin 0 → Fin S8192x1536.rank)
  bcast_S_S2x8x4096 : S_.BroadcastsInDim S2x8x4096 (![] : Fin 0 → Fin S2x8x4096.rank)
  bcast_S_S8192x512 : S_.BroadcastsInDim S8192x512 (![] : Fin 0 → Fin S8192x512.rank)

variable [Facts]

def fn {F : FTy → Type} [FloatOps F] (main_arg0 : FVec F S8192x3072 .f32) (main_arg1 : FVec F S2x8x4096 .f32) (main_arg2 : FVec F S8192x512 .f32) : IVec S8192x1536 1 × IVec S2x8x4096 1 × IVec S8192x512 1 :=
  let main_v0 : FVec F S8192x1536 .f32 := (extractStridedSlice S8192x1536 ![0, 1536] · slices_S8192x3072_S8192x1536_0_1536) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S2x8x4096 .f32 := Host.absf main_arg1
  let main_cst_0 : FVec F S_ .f32 := constant S_ .f32 0x7F800000#32
  let main_v5 : FVec F S2x8x4096 .f32 := broadcastInDim S2x8x4096 ![] bcast_S_S2x8x4096 main_cst_0
  let main_v6 : IVec S2x8x4096 1 := cmpf .olt main_v4 main_v5
  let main_v7 : FVec F S8192x512 .f32 := Host.absf main_arg2
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  (main_v3, main_v6, main_v9)
-- ==== Kernel.lean ====
abbrev S8192x3072 : Shape := ⟨2, ![8192, 3072]⟩
abbrev S2x8x4096 : Shape := ⟨3, ![2, 8, 4096]⟩
abbrev S8192x512 : Shape := ⟨2, ![8192, 512]⟩
abbrev S2x4096x512 : Shape := ⟨3, ![2, 4096, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x1 : Shape := ⟨3, ![16, 4096, 1]⟩
abbrev S16x1x4096 : Shape := ⟨3, ![16, 1, 4096]⟩
abbrev S512x128 : Shape := ⟨2, ![512, 128]⟩
abbrev S4096x128 : Shape := ⟨2, ![4096, 128]⟩
abbrev S2x1x4096 : Shape := ⟨3, ![2, 1, 4096]⟩
abbrev S2x512x1 : Shape := ⟨3, ![2, 512, 1]⟩
abbrev S1024x128 : Shape := ⟨2, ![1024, 128]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩
abbrev S512x512 : Shape := ⟨2, ![512, 512]⟩
abbrev S1x512x1 : Shape := ⟨3, ![1, 512, 1]⟩
abbrev S1024x512 : Shape := ⟨2, ![1024, 512]⟩
abbrev S512x1024 : Shape := ⟨2, ![512, 1024]⟩

abbrev nBuf : Space → Nat
  | .hbm => 103
  | .vmem => 24
  | .smem => 0
  | _ => 0

abbrev bufTy : (tb : Table) → Fin (tcTables nBuf tb) → BufTy
  | .hbm, ⟨0, _⟩ => ⟨S8192x3072, .f32⟩
  | .hbm, ⟨1, _⟩ => ⟨S2x8x4096, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S2x4096x512, .f32⟩
  | .hbm, ⟨10, _⟩ => ⟨S2x4096x512, .f32⟩
  | .hbm, ⟨11, _⟩ => ⟨S2x4096x512, .f32⟩
  | .hbm, ⟨12, _⟩ => ⟨S2x4096x8x64, .f32⟩
  | .hbm, ⟨13, _⟩ => ⟨S2x8x4096x64, .f32⟩
  | .hbm, ⟨14, _⟩ => ⟨S2x4096x8x64, .f32⟩
  | .hbm, ⟨15, _⟩ => ⟨S2x8x4096x64, .f32⟩
  | .hbm, ⟨16, _⟩ => ⟨S2x8x4096x4096, .f32⟩
  | .hbm, ⟨17, _⟩ => ⟨S_, .f32⟩
  | .hbm, ⟨18, _⟩ => ⟨S2x8x4096x4096, .f32⟩
  | .hbm, ⟨19, _⟩ => ⟨S2x8x4096x4096, .f32⟩
  | .hbm, ⟨20, _⟩ => ⟨S2x8x4096x1, .f32⟩
  | .hbm, ⟨21, _⟩ => ⟨S2x8x4096x4096, .f32⟩
  | .hbm, ⟨22, _⟩ => ⟨S2x8x4096x4096, .f32⟩
  | .hbm, ⟨23, _⟩ => ⟨S2x8x1x4096, .f32⟩
  | .hbm, ⟨24, _⟩ => ⟨S2x8x4096x4096, .f32⟩
  | .hbm, ⟨25, _⟩ => ⟨S2x8x4096x4096, .f32⟩
  | .hbm, ⟨26, _⟩ => ⟨S4096, .i32⟩
  | .hbm, ⟨27, _⟩ => ⟨S1x4096, .i32⟩
  | .hbm, ⟨28, _⟩ => ⟨S4096x1, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S2x8x4096x4096, .i1⟩
  | .hbm, ⟨35, _⟩ => ⟨S2x8x4096x4096, .f32⟩
  | .hbm, ⟨36, _⟩ => ⟨S2x8x4096x4096, .f32⟩
  | .hbm, ⟨37, _⟩ => ⟨S2x4096x8x64, .f32⟩
  | .hbm, ⟨38, _⟩ => ⟨S2x8x4096x64, .f32⟩
  | .hbm, ⟨39, _⟩ => ⟨S_, .f32⟩
  | .hbm, ⟨40, _⟩ => ⟨S2x8x4096, .f32⟩
  | .hbm, ⟨41, _⟩ => ⟨S_, .f32⟩
  | .hbm, ⟨42, _⟩ => ⟨S2x8x4096, .f32⟩
  | .hbm, ⟨43, _⟩ => ⟨S2x8x4096, .f32⟩
  | .hbm, ⟨44, _⟩ => ⟨S2x8x4096x1, .f32⟩
  | .hbm, ⟨45, _⟩ => ⟨S2x8x4096x4096, .f32⟩
  | .hbm, ⟨46, _⟩ => ⟨S2x8x4096x4096, .f32⟩
  | .hbm, ⟨47, _⟩ => ⟨S2x8x4096x4096, .f32⟩
  | .hbm, ⟨48, _⟩ => ⟨S_, .f32⟩
  | .hbm, ⟨49, _⟩ => ⟨S2x8x4096, .f32⟩
  | .hbm, ⟨50, _⟩ => ⟨S2x8x4096x1, .f32⟩
  | .hbm, ⟨51, _⟩ => ⟨S2x8x4096x4096, .f32⟩
  | .hbm, ⟨52, _⟩ => ⟨S2x8x4096x4096, .f32⟩
  | .hbm, ⟨53, _⟩ => ⟨S2x8x4096x64, .f32⟩
  | .hbm, ⟨54, _⟩ => ⟨S2x4096x8x64, .f32⟩
  | .hbm, ⟨55, _⟩ => ⟨S2x4096x512, .f32⟩
  | .hbm, ⟨56, _⟩ => ⟨S8192x512, .f32⟩
  | .hbm, ⟨57, _⟩ => ⟨S2x4096x8x64, .f32⟩
  | .hbm, ⟨58, _⟩ => ⟨S2x8x4096x64, .f32⟩
  | .hbm, ⟨59, _⟩ => ⟨S2x4096x8x64, .f32⟩
  | .hbm, ⟨60, _⟩ => ⟨S2x8x4096x64, .f32⟩
  | .hbm, ⟨61, _⟩ => ⟨S2x8x4096x4096, .f32⟩
  | .hbm, ⟨62, _⟩ => ⟨S_, .f32⟩
  | .hbm, ⟨63, _⟩ => ⟨S2x8x4096x4096, .f32⟩
  | .hbm, ⟨64, _⟩ => ⟨S2x8x4096x4096, .f32⟩
  | .hbm, ⟨65, _⟩ => ⟨S2x8x4096x1, .f32⟩
  | .hbm, ⟨66, _⟩ => ⟨S2x8x4096x4096, .f32⟩
  | .hbm, ⟨67, _⟩ => ⟨S2x8x4096x4096, .f32⟩
  | .hbm, ⟨68, _⟩ => ⟨S2x8x1x4096, .f32⟩
  | .hbm, ⟨69, _⟩ => ⟨S2x8x4096x4096, .f32⟩
  | .hbm, ⟨70, _⟩ => ⟨S2x8x4096x4096, .f32⟩
  | .hbm, ⟨71, _⟩ => ⟨S4096, .i32⟩
  | .hbm, ⟨72, _⟩ => ⟨S1x4096, .i32⟩
  | .hbm, ⟨73, _⟩ => ⟨S4096x1, .i32⟩
  | .hbm, ⟨74, _⟩ => ⟨S4096x4096, .i32⟩
  | .hbm, ⟨75, _⟩ => ⟨S4096x4096, .i32⟩
  | .hbm, ⟨76, _⟩ => ⟨S4096x4096, .i1⟩
  | .hbm, ⟨77, _⟩ => ⟨S_, .f32⟩
  | .hbm, ⟨78, _⟩ => ⟨S_, .f32⟩
  | .hbm, ⟨79, _⟩ => ⟨S2x8x4096x4096, .i1⟩
  | .hbm, ⟨80, _⟩ => ⟨S2x8x4096x4096, .f32⟩
  | .hbm, ⟨81, _⟩ => ⟨S2x8x4096x4096, .f32⟩
  | .hbm, ⟨82, _⟩ => ⟨S2x4096x8x64, .f32⟩
  | .hbm, ⟨83, _⟩ => ⟨S2x8x4096x64, .f32⟩
  | .hbm, ⟨84, _⟩ => ⟨S_, .f32⟩
  | .hbm, ⟨85, _⟩ => ⟨S2x8x4096, .f32⟩
  | .hbm, ⟨86, _⟩ => ⟨S2x8x4096x1, .f32⟩
  | .hbm, ⟨87, _⟩ => ⟨S2x8x4096x4096, .f32⟩
  | .hbm, ⟨88, _⟩ => ⟨S2x8x4096x4096, .f32⟩
  | .hbm, ⟨89, _⟩ => ⟨S2x8x4096x4096, .f32⟩
  | .hbm, ⟨90, _⟩ => ⟨S_, .f32⟩
  | .hbm, ⟨91, _⟩ => ⟨S2x8x4096, .f32⟩
  | .hbm, ⟨92, _⟩ => ⟨S2x8x4096x1, .f32⟩
  | .hbm, ⟨93, _⟩ => ⟨S2x8x4096x1, .f32⟩
  | .hbm, ⟨94, _⟩ => ⟨S2x8x4096x1, .f32⟩
  | .hbm, ⟨95, _⟩ => ⟨S16x4096x1, .f32⟩
  | .hbm, ⟨96, _⟩ => ⟨S8192x3072, .bf16⟩
  | .hbm, ⟨97, _⟩ => ⟨S16x1x4096, .f32⟩
  | .hbm, ⟨98, _⟩ => ⟨S8192x512, .bf16⟩
  | .hbm, ⟨99, _⟩ => ⟨S8192x512, .bf16⟩
  | .hbm, ⟨100, _⟩ => ⟨S8192x512, .bf16⟩
  | .hbm, ⟨101, _⟩ => ⟨S8192x512, .bf16⟩
  | .hbm, ⟨102, _⟩ => ⟨S16x1x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2x1x4096, .f32⟩
  | .local _ .vmem, ⟨7, _⟩ => ⟨S2x1x4096, .f32⟩
  | .local _ .vmem, ⟨8, _⟩ => ⟨S512x128, .bf16⟩
  | .local _ .vmem, ⟨9, _⟩ => ⟨S512x128, .bf16⟩
  | .local _ .vmem, ⟨10, _⟩ => ⟨S512x128, .f32⟩
  | .local _ .vmem, ⟨11, _⟩ => ⟨S512x128, .f32⟩
  | .local _ .vmem, ⟨12, _⟩ => ⟨S2x512x1, .f32⟩
  | .local _ .vmem, ⟨13, _⟩ => ⟨S2x512x1, .f32⟩
  | .local _ .vmem, ⟨14, _⟩ => ⟨S512x128, .bf16⟩
  | .local _ .vmem, ⟨15, _⟩ => ⟨S512x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S2x1x4096, .f32⟩
  | .local _ .vmem, ⟨21, _⟩ => ⟨S2x1x4096, .f32⟩
  | .local _ .vmem, ⟨22, _⟩ => ⟨S4096x128, .f32⟩
  | .local _ .vmem, ⟨23, _⟩ => ⟨S4096x128, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_1 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_4 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_5 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_6 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81_0 : Ref sig .tc := ⟨.hbm, 99, rfl⟩
abbrev main_v81_1 : Ref sig .tc := ⟨.hbm, 100, rfl⟩
abbrev main_v81_2 : Ref sig .tc := ⟨.hbm, 101, rfl⟩
abbrev main_v81_3 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c512_i32 : BitVec 32 := 512#32
  let v38 : BitVec 32 := Scalar.muli arg2 c512_i32
  v38
def k0_off1 (i : grid0.Coords) : Fin 3 → Nat :=
  let c0_14 : Index := 0#32
  let c0_15 : Index := 0#32
  let arg2 : BitVec 32 := BitVec.ofNat 32 (i 2).val
  let c512_i32 : BitVec 32 := 512#32
  let v38 : BitVec 32 := Scalar.muli arg2 c512_i32
  let v39 : BitVec 32 := v38
  let v40 : Index := Scalar.indexCast v39
  ![0, 0, v40.toNat]
def k0_mult2 (i : grid0.Coords) : BitVec 32 :=
  let arg2 : BitVec 32 := BitVec.ofNat 32 (i 2).val
  let c512_i32_18 : BitVec 32 := 512#32
  let v52 : BitVec 32 := Scalar.muli arg2 c512_i32_18
  v52
def k0_off2 (i : grid0.Coords) : Fin 3 → Nat :=
  let c1 : Index := 1#32
  let c0_19 : Index := 0#32
  let arg2 : BitVec 32 := BitVec.ofNat 32 (i 2).val
  let c512_i32_18 : BitVec 32 := 512#32
  let v52 : BitVec 32 := Scalar.muli arg2 c512_i32_18
  let v53 : BitVec 32 := v52
  let v54 : Index := Scalar.indexCast v53
  ![1, 0, v54.toNat]
@[reducible] def k0_t1_loop (i : grid0.Coords) : Scf.Loop 32 :=
  let c0_i32_29 : BitVec 32 := 0#32
  let arg2 : BitVec 32 := BitVec.ofNat 32 (i 2).val
  let v74 : BitVec 32 := Scalar.subi arg2 c0_i32_29
  let c1_i32 : BitVec 32 := 1#32
  let v76 : BitVec 32 := Scalar.divsi v74 c1_i32
  let v77 : BitVec 32 := Scalar.muli v76 c1_i32
  let v78 : BitVec 32 := Scalar.addi c0_i32_29 v77
  let c1_i32_30 : BitVec 32 := 1#32
  ⟨c0_i32_29, v78, c1_i32_30⟩
def k0_mult3 (i : grid0.Coords) (k0_t1 : Fin (k0_t1_loop i).trips) : BitVec 32 :=
  let c0_i32_29 : BitVec 32 := 0#32
  let c1_i32_30 : BitVec 32 := 1#32
  let arg16 : BitVec 32 := Scf.iv c0_i32_29 c1_i32_30 k0_t1
  let c512_i32_66 : BitVec 32 := 512#32
  let v184 : BitVec 32 := Scalar.muli arg16 c512_i32_66
  v184
def k0_off3 (i : grid0.Coords) (k0_t1 : Fin (k0_t1_loop i).trips) : Fin 2 → Nat :=
  let c0_i32_29 : BitVec 32 := 0#32
  let c1_i32_30 : BitVec 32 := 1#32
  let arg16 : BitVec 32 := Scf.iv c0_i32_29 c1_i32_30 k0_t1
  let c512_i32_66 : BitVec 32 := 512#32
  let v184 : BitVec 32 := Scalar.muli arg16 c512_i32_66
  let v185 : BitVec 32 := v184
  let v186 : Index := Scalar.indexCast v185
  let c0_67 : Index := 0#32
  ![v186.toNat, 0]
def k0_off4 (i : grid0.Coords) (k0_t1 : Fin (k0_t1_loop i).trips) : Fin 3 → Nat :=
  let c0_71 : Index := 0#32
  let c0_72 : Index := 0#32
  let c0_i32_29 : BitVec 32 := 0#32
  let c1_i32_30 : BitVec 32 := 1#32
  let arg16 : BitVec 32 := Scf.iv c0_i32_29 c1_i32_30 k0_t1
  let c512_i32_66 : BitVec 32 := 512#32
  let v184 : BitVec 32 := Scalar.muli arg16 c512_i32_66
  let v185 : BitVec 32 := v184
  let v195 : Index := Scalar.indexCast v185
  ![0, 0, v195.toNat]
def k0_off5 (i : grid0.Coords) (k0_t1 : Fin (k0_t1_loop i).trips) : Fin 3 → Nat :=
  let c1_73 : Index := 1#32
  let c0_74 : Index := 0#32
  let c0_i32_29 : BitVec 32 := 0#32
  let c1_i32_30 : BitVec 32 := 1#32
  let arg16 : BitVec 32 := Scf.iv c0_i32_29 c1_i32_30 k0_t1
  let c512_i32_66 : BitVec 32 := 512#32
  let v184 : BitVec 32 := Scalar.muli arg16 c512_i32_66
  let v185 : BitVec 32 := v184
  let v203 : Index := Scalar.indexCast v185
  ![1, 0, v203.toNat]
@[reducible] def k0_t2_loop (i : grid0.Coords) : Scf.Loop 32 :=
  let c0_i32_29 : BitVec 32 := 0#32
  let arg2 : BitVec 32 := BitVec.ofNat 32 (i 2).val
  let v74 : BitVec 32 := Scalar.subi arg2 c0_i32_29
  let c1_i32 : BitVec 32 := 1#32
  let v76 : BitVec 32 := Scalar.divsi v74 c1_i32
  let v77 : BitVec 32 := Scalar.muli v76 c1_i32
  let v78 : BitVec 32 := Scalar.addi c0_i32_29 v77
  let v75 : BitVec 32 := Scalar.addi c0_i32_29 v74
  let c1_i32_31 : BitVec 32 := 1#32
  ⟨v78, v75, c1_i32_31⟩
def k0_mult4 (i : grid0.Coords) (k0_t2 : Fin (k0_t2_loop i).trips) : BitVec 32 :=
  let c0_i32_29 : BitVec 32 := 0#32
  let arg2 : BitVec 32 := BitVec.ofNat 32 (i 2).val
  let v74 : BitVec 32 := Scalar.subi arg2 c0_i32_29
  let c1_i32 : BitVec 32 := 1#32
  let v76 : BitVec 32 := Scalar.divsi v74 c1_i32
  let v77 : BitVec 32 := Scalar.muli v76 c1_i32
  let v78 : BitVec 32 := Scalar.addi c0_i32_29 v77
  let c1_i32_31 : BitVec 32 := 1#32
  let arg16 : BitVec 32 := Scf.iv v78 c1_i32_31 k0_t2
  let c512_i32_66 : BitVec 32 := 512#32
  let v184 : BitVec 32 := Scalar.muli arg16 c512_i32_66
  v184
def k0_off6 (i : grid0.Coords) (k0_t2 : Fin (k0_t2_loop i).trips) : Fin 2 → Nat :=
  let c0_i32_29 : BitVec 32 := 0#32
  let arg2 : BitVec 32 := BitVec.ofNat 32 (i 2).val
  let v74 : BitVec 32 := Scalar.subi arg2 c0_i32_29
  let c1_i32 : BitVec 32 := 1#32
  let v76 : BitVec 32 := Scalar.divsi v74 c1_i32
  let v77 : BitVec 32 := Scalar.muli v76 c1_i32
  let v78 : BitVec 32 := Scalar.addi c0_i32_29 v77
  let c1_i32_31 : BitVec 32 := 1#32
  let arg16 : BitVec 32 := Scf.iv v78 c1_i32_31 k0_t2
  let c512_i32_66 : BitVec 32 := 512#32
  let v184 : BitVec 32 := Scalar.muli arg16 c512_i32_66
  let v185 : BitVec 32 := v184
  let v186 : Index := Scalar.indexCast v185
  let c0_67 : Index := 0#32
  ![v186.toNat, 0]
def k0_off7 (i : grid0.Coords) (k0_t2 : Fin (k0_t2_loop i).trips) : Fin 3 → Nat :=
  let c0_71 : Index := 0#32
  let c0_72 : Index := 0#32
  let c0_i32_29 : BitVec 32 := 0#32
  let arg2 : BitVec 32 := BitVec.ofNat 32 (i 2).val
  let v74 : BitVec 32 := Scalar.subi arg2 c0_i32_29
  let c1_i32 : BitVec 32 := 1#32
  let v76 : BitVec 32 := Scalar.divsi v74 c1_i32
  let v77 : BitVec 32 := Scalar.muli v76 c1_i32
  let v78 : BitVec 32 := Scalar.addi c0_i32_29 v77
  let c1_i32_31 : BitVec 32 := 1#32
  let arg16 : BitVec 32 := Scf.iv v78 c1_i32_31 k0_t2
  let c512_i32_66 : BitVec 32 := 512#32
  let v184 : BitVec 32 := Scalar.muli arg16 c512_i32_66
  let v185 : BitVec 32 := v184
  let v195 : Index := Scalar.indexCast v185
  ![0, 0, v195.toNat]
def k0_off8 (i : grid0.Coords) (k0_t2 : Fin (k0_t2_loop i).trips) : Fin 3 → Nat :=
  let c1_73 : Index := 1#32
  let c0_74 : Index := 0#32
  let c0_i32_29 : BitVec 32 := 0#32
  let arg2 : BitVec 32 := BitVec.ofNat 32 (i 2).val
  let v74 : BitVec 32 := Scalar.subi arg2 c0_i32_29
  let c1_i32 : BitVec 32 := 1#32
  let v76 : BitVec 32 := Scalar.divsi v74 c1_i32
  let v77 : BitVec 32 := Scalar.muli v76 c1_i32
  let v78 : BitVec 32 := Scalar.addi c0_i32_29 v77
  let c1_i32_31 : BitVec 32 := 1#32
  let arg16 : BitVec 32 := Scf.iv v78 c1_i32_31 k0_t2
  let c512_i32_66 : BitVec 32 := 512#32
  let v184 : BitVec 32 := Scalar.muli arg16 c512_i32_66
  let v185 : BitVec 32 := v184
  let v203 : Index := Scalar.indexCast v185
  ![1, 0, v203.toNat]
def k0_mult5 (i : grid0.Coords) : BitVec 32 :=
  let arg2 : BitVec 32 := BitVec.ofNat 32 (i 2).val
  let c512_i32_32 : BitVec 32 := 512#32
  let v81 : BitVec 32 := Scalar.muli arg2 c512_i32_32
  v81
def k0_off9 (i : grid0.Coords) : Fin 2 → Nat :=
  let arg2 : BitVec 32 := BitVec.ofNat 32 (i 2).val
  let c512_i32_32 : BitVec 32 := 512#32
  let v81 : BitVec 32 := Scalar.muli arg2 c512_i32_32
  let v82 : BitVec 32 := v81
  let v83 : Index := Scalar.indexCast v82
  let c0_33 : Index := 0#32
  ![v83.toNat, 0]
def k0_cond2 (i : grid0.Coords) : BitVec 1 :=
  let arg2 : BitVec 32 := BitVec.ofNat 32 (i 2).val
  let c7_i32 : BitVec 32 := 7#32
  let v181 : BitVec 1 := Scalar.cmpi .eq arg2 c7_i32
  let v182 : BitVec 32 := Scalar.extui v181
  let c0_i32_65 : BitVec 32 := 0#32
  let v183 : BitVec 1 := Scalar.cmpi .ne v182 c0_i32_65
  v183

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2x1x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S8192x3072 : Shape := ⟨2, ![8192, 3072]⟩
abbrev S2x8x4096 : Shape := ⟨3, ![2, 8, 4096]⟩
abbrev S8192x512 : Shape := ⟨2, ![8192, 512]⟩
abbrev S2x4096x512 : Shape := ⟨3, ![2, 4096, 512]⟩
abbrev S2x4096x8x64 : Shape := ⟨4, ![2, 4096, 8, 64]⟩
abbrev S2x8x4096x64 : Shape := ⟨4, ![2, 8, 4096, 64]⟩
abbrev S2x8x4096x4096 : Shape := ⟨4, ![2, 8, 4096, 4096]⟩
abbrev S_ : Shape := ⟨0, ![]⟩
abbrev S2x8x4096x1 : Shape := ⟨4, ![2, 8, 4096, 1]⟩
abbrev S2x8x1x4096 : Shape := ⟨4, ![2, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x64x4096 : Shape := ⟨4, ![2, 8, 64, 4096]⟩
abbrev S16x1x4096 : Shape := ⟨3, ![16, 1, 4096]⟩

abbrev nBuf : Space → Nat
  | .hbm => 135
  | .vmem => 0
  | .smem => 0
  | _ => 0

abbrev hbmTy0_0 (i : Nat) : BufTy := match i % 128 with
  | 0 => ⟨S8192x3072, .f32⟩
  | 1 => ⟨S2x8x4096, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S2x4096x512, .f32⟩
  | 10 => ⟨S2x4096x512, .f32⟩
  | 11 => ⟨S2x4096x512, .f32⟩
  | 12 => ⟨S2x4096x8x64, .f32⟩
  | 13 => ⟨S2x8x4096x64, .f32⟩
  | 14 => ⟨S2x4096x8x64, .f32⟩
  | 15 => ⟨S2x8x4096x64, .f32⟩
  | 16 => ⟨S2x8x4096x4096, .f32⟩
  | 17 => ⟨S_, .f32⟩
  | 18 => ⟨S2x8x4096x4096, .f32⟩
  | 19 => ⟨S2x8x4096x4096, .f32⟩
  | 20 => ⟨S2x8x4096x1, .f32⟩
  | 21 => ⟨S2x8x4096x4096, .f32⟩
  | 22 => ⟨S2x8x4096x4096, .f32⟩
  | 23 => ⟨S2x8x1x4096, .f32⟩
  | 24 => ⟨S2x8x4096x4096, .f32⟩
  | 25 => ⟨S2x8x4096x4096, .f32⟩
  | 26 => ⟨S4096, .i32⟩
  | 27 => ⟨S1x4096, .i32⟩
  | 28 => ⟨S4096x1, .i32⟩
  | 29 => ⟨S4096x4096, .i32⟩
  | 30 => ⟨S4096x4096, .i32⟩
  | 31 => ⟨S4096x4096, .i1⟩
  | 32 => ⟨S_, .f32⟩
  | 33 => ⟨S_, .f32⟩
  | 34 => ⟨S2x8x4096x4096, .i1⟩
  | 35 => ⟨S2x8x4096x4096, .f32⟩
  | 36 => ⟨S2x8x4096x4096, .f32⟩
  | 37 => ⟨S_, .f32⟩
  | 38 => ⟨S2x8x4096x4096, .f32⟩
  | 39 => ⟨S2x4096x8x64, .f32⟩
  | 40 => ⟨S2x8x4096x64, .f32⟩
  | 41 => ⟨S_, .f32⟩
  | 42 => ⟨S2x8x4096, .f32⟩
  | 43 => ⟨S2x8x4096x1, .f32⟩
  | 44 => ⟨S2x8x4096x4096, .f32⟩
  | 45 => ⟨S2x8x4096x4096, .i1⟩
  | 46 => ⟨S2x8x4096x4096, .f32⟩
  | 47 => ⟨S_, .f32⟩
  | 48 => ⟨S2x8x4096, .f32⟩
  | 49 => ⟨S_, .f32⟩
  | 50 => ⟨S2x8x4096, .f32⟩
  | 51 => ⟨S2x8x4096, .f32⟩
  | 52 => ⟨S_, .f32⟩
  | 53 => ⟨S2x8x4096, .f32⟩
  | 54 => ⟨S2x8x4096, .i1⟩
  | 55 => ⟨S_, .f32⟩
  | 56 => ⟨S2x8x4096, .f32⟩
  | 57 => ⟨S2x8x4096, .i1⟩
  | 58 => ⟨S_, .f32⟩
  | 59 => ⟨S2x8x4096, .f32⟩
  | 60 => ⟨S_, .f32⟩
  | 61 => ⟨S2x8x4096, .f32⟩
  | 62 => ⟨S_, .f32⟩
  | 63 => ⟨S2x8x4096, .f32⟩
  | 64 => ⟨S2x8x4096, .f32⟩
  | 65 => ⟨S2x8x4096, .f32⟩
  | 66 => ⟨S2x8x4096x1, .f32⟩
  | 67 => ⟨S2x8x4096x4096, .f32⟩
  | 68 => ⟨S2x8x4096x4096, .f32⟩
  | 69 => ⟨S2x8x4096x4096, .f32⟩
  | 70 => ⟨S_, .f32⟩
  | 71 => ⟨S2x8x4096, .f32⟩
  | 72 => ⟨S2x8x4096x1, .f32⟩
  | 73 => ⟨S2x8x4096x4096, .f32⟩
  | 74 => ⟨S2x8x4096x4096, .f32⟩
  | 75 => ⟨S2x8x4096x1, .f32⟩
  | 76 => ⟨S_, .f32⟩
  | 77 => ⟨S2x8x4096x1, .f32⟩
  | 78 => ⟨S2x8x4096x1, .f32⟩
  | 79 => ⟨S2x8x4096x64, .f32⟩
  | 80 => ⟨S2x4096x8x64, .f32⟩
  | 81 => ⟨S2x4096x512, .f32⟩
  | 82 => ⟨S2x4096x512, .f32⟩
  | 83 => ⟨S2x4096x8x64, .f32⟩
  | 84 => ⟨S2x8x4096x64, .f32⟩
  | 85 => ⟨S2x8x64x4096, .f32⟩
  | 86 => ⟨S2x8x4096x64, .f32⟩
  | 87 => ⟨S2x8x4096x4096, .f32⟩
  | 88 => ⟨S2x8x4096x4096, .f32⟩
  | 89 => ⟨S2x8x4096x4096, .f32⟩
  | 90 => ⟨S2x8x4096x4096, .f32⟩
  | 91 => ⟨S_, .f32⟩
  | 92 => ⟨S2x8x4096, .f32⟩
  | 93 => ⟨S2x8x4096x1, .f32⟩
  | 94 => ⟨S2x8x4096x1, .f32⟩
  | 95 => ⟨S2x8x4096x4096, .f32⟩
  | 96 => ⟨S2x8x4096x4096, .f32⟩
  | 97 => ⟨S_, .f32⟩
  | 98 => ⟨S2x8x4096, .f32⟩
  | 99 => ⟨S2x8x4096x4096, .f32⟩
  | 100 => ⟨S2x8x4096x4096, .f32⟩
  | 101 => ⟨S2x8x4096x4096, .f32⟩
  | 102 => ⟨S2x4096x8x64, .f32⟩
  | 103 => ⟨S2x4096x512, .f32⟩
  | 104 => ⟨S_, .f32⟩
  | 105 => ⟨S2x8x4096x4096, .f32⟩
  | 106 => ⟨S2x8x4096x4096, .f32⟩
  | 107 => ⟨S2x8x4096x4096, .f32⟩
  | 108 => ⟨S_, .f32⟩
  | 109 => ⟨S2x8x4096, .f32⟩
  | 110 => ⟨S2x8x1x4096, .f32⟩
  | 111 => ⟨S_, .f32⟩
  | 112 => ⟨S2x8x4096, .f32⟩
  | 113 => ⟨S_, .f32⟩
  | 114 => ⟨S2x8x4096, .f32⟩
  | 115 => ⟨S2x8x4096x1, .f32⟩
  | 116 => ⟨S_, .f32⟩
  | 117 => ⟨S2x8x4096, .f32⟩
  | 118 => ⟨S2x8x4096, .f32⟩
  | 119 => ⟨S_, .f32⟩
  | 120 => ⟨S2x8x4096x4096, .f32⟩
  | 121 => ⟨S2x8x4096x4096, .f32⟩
  | 122 => ⟨S2x8x4096x64, .f32⟩
  | 123 => ⟨S2x8x4096x64, .f32⟩
  | 124 => ⟨S2x4096x8x64, .f32⟩
  | 125 => ⟨S2x4096x512, .f32⟩
  | 126 => ⟨S2x4096x8x64, .f32⟩
  | 127 => ⟨S2x4096x512, .f32⟩
  | _ => ⟨S8192x3072, .f32⟩

abbrev hbmTy0_1 (i : Nat) : BufTy := match i % 128 with
  | 0 => ⟨S8192x512, .f32⟩
  | 1 => ⟨S8192x512, .bf16⟩
  | 2 => ⟨S8192x512, .f32⟩
  | 3 => ⟨S8192x512, .bf16⟩
  | 4 => ⟨S8192x512, .f32⟩
  | 5 => ⟨S8192x512, .bf16⟩
  | 6 => ⟨S16x1x4096, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_2 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_12 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_call1_cst : Ref sig .tc := ⟨.hbm, 104, rfl⟩
abbrev main_call1_v0 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_cst_14 : Ref sig .tc := ⟨.hbm, 111, rfl⟩
abbrev main_v86 : Ref sig .tc := ⟨.hbm, 112, rfl⟩
abbrev main_cst_15 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_cst_17 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩

abbrev nD : Nat := 1
abbrev τ : Topo := Topo.v7x

variable {F : FTy → Type} [FloatOps F]
-- ==== Kernel2.lean ====
abbrev S1024x5632 : Shape := ⟨2, ![1024, 5632]⟩
abbrev S8192x5632 : Shape := ⟨2, ![8192, 5632]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x5632, .bf16⟩
  | .hbm, ⟨1, _⟩ => ⟨S8192x5632, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1024x5632 : Shape := ⟨2, ![1024, 5632]⟩
abbrev S8192x5632 : Shape := ⟨2, ![8192, 5632]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S8192x5632, .bf16⟩
  | .hbm, ⟨2, _⟩ => ⟨S1024x5632, .f32⟩
  | .hbm, ⟨3, _⟩ => ⟨S8192x5632, .f32⟩
  | .hbm, ⟨4, _⟩ => ⟨S8192x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2816x1024 : Shape := ⟨2, ![2816, 1024]⟩
abbrev S8192x1024 : Shape := ⟨2, ![8192, 1024]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .bf16⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x3072 : Shape := ⟨2, ![8192, 3072]⟩
abbrev S8192x2048 : Shape := ⟨2, ![8192, 2048]⟩
abbrev S8192x128 : Shape := ⟨2, ![8192, 128]⟩
abbrev S1024x3072 : Shape := ⟨2, ![1024, 3072]⟩
abbrev S1024x2048 : Shape := ⟨2, ![1024, 2048]⟩
abbrev S1024x128 : Shape := ⟨2, ![1024, 128]⟩
abbrev S8192x1024 : Shape := ⟨2, ![8192, 1024]⟩
abbrev S512x3072 : Shape := ⟨2, ![512, 3072]⟩
abbrev S512x2048 : Shape := ⟨2, ![512, 2048]⟩
abbrev S512x128 : Shape := ⟨2, ![512, 128]⟩
abbrev S512x1024 : Shape := ⟨2, ![512, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S8192x128, .bf16⟩
  | .hbm, ⟨3, _⟩ => ⟨S1024x3072, .bf16⟩
  | .hbm, ⟨4, _⟩ => ⟨S1024x2048, .bf16⟩
  | .hbm, ⟨5, _⟩ => ⟨S1024x128, .bf16⟩
  | .hbm, ⟨6, _⟩ => ⟨S8192x1024, .f32⟩
  | .hbm, ⟨7, _⟩ => ⟨S8192x1024, .f32⟩
  | .local _ .vmem, ⟨0, _⟩ => ⟨S512x3072, .bf16⟩
  | .local _ .vmem, ⟨1, _⟩ => ⟨S512x3072, .bf16⟩
  | .local _ .vmem, ⟨2, _⟩ => ⟨S512x2048, .bf16⟩
  | .local _ .vmem, ⟨3, _⟩ => ⟨S512x2048, .bf16⟩
  | .local _ .vmem, ⟨4, _⟩ => ⟨S512x128, .bf16⟩
  | .local _ .vmem, ⟨5, _⟩ => ⟨S512x128, .bf16⟩
  | .local _ .vmem, ⟨6, _⟩ => ⟨S1024x3072, .bf16⟩
  | .local _ .vmem, ⟨7, _⟩ => ⟨S1024x2048, .bf16⟩
  | .local _ .vmem, ⟨8, _⟩ => ⟨S1024x128, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x3072 : Shape := ⟨2, ![8192, 3072]⟩
abbrev S8192x2048 : Shape := ⟨2, ![8192, 2048]⟩
abbrev S8192x128 : Shape := ⟨2, ![8192, 128]⟩
abbrev S1024x3072 : Shape := ⟨2, ![1024, 3072]⟩
abbrev S1024x2048 : Shape := ⟨2, ![1024, 2048]⟩
abbrev S1024x128 : Shape := ⟨2, ![1024, 128]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x2048, .bf16⟩
  | .hbm, ⟨2, _⟩ => ⟨S8192x128, .bf16⟩
  | .hbm, ⟨3, _⟩ => ⟨S1024x3072, .bf16⟩
  | .hbm, ⟨4, _⟩ => ⟨S1024x2048, .bf16⟩
  | .hbm, ⟨5, _⟩ => ⟨S1024x128, .bf16⟩
  | .hbm, ⟨6, _⟩ => ⟨S8192x1024, .f32⟩
  | .hbm, ⟨7, _⟩ => ⟨S8192x3072, .f32⟩
  | .hbm, ⟨8, _⟩ => ⟨S8192x2048, .f32⟩
  | .hbm, ⟨9, _⟩ => ⟨S8192x128, .f32⟩
  | .hbm, ⟨10, _⟩ => ⟨S1024x3072, .f32⟩
  | .hbm, ⟨11, _⟩ => ⟨S1024x2048, .f32⟩
  | .hbm, ⟨12, _⟩ => ⟨S1024x128, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S512x1024 : Shape := ⟨2, ![512, 1024]⟩
abbrev S8192x1024 : Shape := ⟨2, ![8192, 1024]⟩
abbrev S8192x512 : Shape := ⟨2, ![8192, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S8192x1024, .bf16⟩
  | .hbm, ⟨2, _⟩ => ⟨S8192x512, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S512x1024 : Shape := ⟨2, ![512, 1024]⟩
abbrev S8192x1024 : Shape := ⟨2, ![8192, 1024]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S8192x1024, .bf16⟩
  | .hbm, ⟨2, _⟩ => ⟨S512x1024, .f32⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x1024, .f32⟩
  | .hbm, ⟨3, _⟩ => ⟨S1024x512, .f32⟩
  | .hbm, ⟨4, _⟩ => ⟨S512x1024, .f32⟩
  | .hbm, ⟨5, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S8192x2176 : Shape := ⟨2, ![8192, 2176]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x2176, .f32⟩
  | .hbm, ⟨5, _⟩ => ⟨S8192x1024, .bf16⟩
  | .hbm, ⟨6, _⟩ => ⟨S8192x1024, .bf16⟩
  | .hbm, ⟨7, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S8192x1024 : Shape := ⟨2, ![8192, 1024]⟩
abbrev S1024x1024 : Shape := ⟨2, ![1024, 1024]⟩
abbrev S8192x2176 : Shape := ⟨2, ![8192, 2176]⟩
abbrev S_ : Shape := ⟨0, ![]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x2176, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S1024x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x2048, .f32⟩
  | .hbm, ⟨47, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel11.lean ====
abbrev S8192x1024 : Shape := ⟨2, ![8192, 1024]⟩
abbrev S8192x3072 : Shape := ⟨2, ![8192, 3072]⟩
abbrev S1024x3072 : Shape := ⟨2, ![1024, 3072]⟩
abbrev S8x3072 : Shape := ⟨2, ![8, 3072]⟩
abbrev S2048x1024 : Shape := ⟨2, ![2048, 1024]⟩
abbrev S1024x1024 : Shape := ⟨2, ![1024, 1024]⟩
abbrev S8x1024 : Shape := ⟨2, ![8, 1024]⟩
abbrev S256x8x1024 : Shape := ⟨3, ![256, 8, 1024]⟩
abbrev S1024 : Shape := ⟨1, ![1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .hbm, ⟨3, _⟩ => ⟨S8x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 3, 4], ![false, false, false]⟩

def k0_cond6 (i : grid0.Coords) : BitVec 1 :=
  let arg2 : BitVec 32 := BitVec.ofNat 32 (i 2).val
  let c3_i32_14 : BitVec 32 := 3#32
  let v22 : BitVec 1 := Scalar.cmpi .eq arg2 c3_i32_14
  let v23 : BitVec 32 := Scalar.extui v22
  let c0_i32_15 : BitVec 32 := 0#32
  let v24 : BitVec 1 := Scalar.cmpi .ne v23 c0_i32_15
  v24

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_6 : BitVec 32 := 0#32
  let v9 : BitVec 1 := Scalar.cmpi .ne v8 c0_i32_6
  v9

def k0_cond2 (i : grid0.Coords) : BitVec 1 :=
  let arg2 : BitVec 32 := BitVec.ofNat 32 (i 2).val
  let c0_i32_7 : BitVec 32 := 0#32
  let v10 : BitVec 1 := Scalar.cmpi .sgt arg2 c0_i32_7
  let v11 : BitVec 32 := Scalar.extui v10
  let c0_i32_8 : BitVec 32 := 0#32
  let v12 : BitVec 1 := Scalar.cmpi .ne v11 c0_i32_8
  v12

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference11Ideal.lean ====
abbrev S8192x1024 : Shape := ⟨2, ![8192, 1024]⟩
abbrev S8192x3072 : Shape := ⟨2, ![8192, 3072]⟩
abbrev S3072x1024 : Shape := ⟨2, ![3072, 1024]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8192x1024, .f32⟩
  | .hbm, ⟨3, _⟩ => ⟨S8192x3072, .f32⟩
  | .hbm, ⟨4, _⟩ => ⟨S3072x1024, .f32⟩
  | .hbm, ⟨5, _⟩ => ⟨S1024x3072, .f32⟩
  | .hbm, ⟨6, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S1024x2048 : Shape := ⟨2, ![1024, 2048]⟩
abbrev S8x2048 : Shape := ⟨2, ![8, 2048]⟩
abbrev S2048x1024 : Shape := ⟨2, ![2048, 1024]⟩
abbrev S1024x1024 : Shape := ⟨2, ![1024, 1024]⟩
abbrev S8x1024 : Shape := ⟨2, ![8, 1024]⟩
abbrev S256x8x1024 : Shape := ⟨3, ![256, 8, 1024]⟩
abbrev S1024 : Shape := ⟨1, ![1024]⟩
abbrev S1x1024 : Shape := ⟨2, ![1, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .hbm, ⟨3, _⟩ => ⟨S8x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S8x1024, .f32⟩
  | .local _ .vmem, ⟨8, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 2, 4], ![false, false, false]⟩

def k0_cond6 (i : grid0.Coords) : BitVec 1 :=
  let arg2 : BitVec 32 := BitVec.ofNat 32 (i 2).val
  let c3_i32_14 : BitVec 32 := 3#32
  let v22 : BitVec 1 := Scalar.cmpi .eq arg2 c3_i32_14
  let v23 : BitVec 32 := Scalar.extui v22
  let c0_i32_15 : BitVec 32 := 0#32
  let v24 : BitVec 1 := Scalar.cmpi .ne v23 c0_i32_15
  v24

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_6 : BitVec 32 := 0#32
  let v9 : BitVec 1 := Scalar.cmpi .ne v8 c0_i32_6
  v9

def k0_cond2 (i : grid0.Coords) : BitVec 1 :=
  let arg2 : BitVec 32 := BitVec.ofNat 32 (i 2).val
  let c0_i32_7 : BitVec 32 := 0#32
  let v10 : BitVec 1 := Scalar.cmpi .sgt arg2 c0_i32_7
  let v11 : BitVec 32 := Scalar.extui v10
  let c0_i32_8 : BitVec 32 := 0#32
  let v12 : BitVec 1 := Scalar.cmpi .ne v11 c0_i32_8
  v12

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]
-- ==== Reference12Ideal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S8192x1024, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S8192x128 : Shape := ⟨2, ![8192, 128]⟩
abbrev S1024x128 : Shape := ⟨2, ![1024, 128]⟩
abbrev S8x128 : Shape := ⟨2, ![8, 128]⟩
abbrev S2048x1024 : Shape := ⟨2, ![2048, 1024]⟩
abbrev S2048x128 : Shape := ⟨2, ![2048, 128]⟩
abbrev S256x8x128 : Shape := ⟨3, ![256, 8, 128]⟩
abbrev S128 : Shape := ⟨1, ![128]⟩
abbrev S1x128 : Shape := ⟨2, ![1, 128]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .bf16⟩
  | .hbm, ⟨3, _⟩ => ⟨S8x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S8x128, .f32⟩
  | .local _ .vmem, ⟨6, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond6 (i : grid0.Coords) : BitVec 1 :=
  let arg2 : BitVec 32 := BitVec.ofNat 32 (i 2).val
  let c3_i32_14 : BitVec 32 := 3#32
  let v22 : BitVec 1 := Scalar.cmpi .eq arg2 c3_i32_14
  let v23 : BitVec 32 := Scalar.extui v22
  let c0_i32_15 : BitVec 32 := 0#32
  let v24 : BitVec 1 := Scalar.cmpi .ne v23 c0_i32_15
  v24

def k0_cond1 (i : grid0.Coords) : BitVec 1 :=
  let arg2 : BitVec 32 := BitVec.ofNat 32 (i 2).val
  let c0_i32 : BitVec 32 := 0#32
  let v7 : BitVec 1 := Scalar.cmpi .eq arg2 c0_i32
  let v8 : BitVec 32 := Scalar.extui v7
  let c0_i32_6 : BitVec 32 := 0#32
  let v9 : BitVec 1 := Scalar.cmpi .ne v8 c0_i32_6
  v9

def k0_cond2 (i : grid0.Coords) : BitVec 1 :=
  let arg2 : BitVec 32 := BitVec.ofNat 32 (i 2).val
  let c0_i32_7 : BitVec 32 := 0#32
  let v10 : BitVec 1 := Scalar.cmpi .sgt arg2 c0_i32_7
  let v11 : BitVec 32 := Scalar.extui v10
  let c0_i32_8 : BitVec 32 := 0#32
  let v12 : BitVec 1 := Scalar.cmpi .ne v11 c0_i32_8
  v12

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]
-- ==== Reference13Ideal.lean ====
abbrev S8192x1024 : Shape := ⟨2, ![8192, 1024]⟩
abbrev S8192x128 : Shape := ⟨2, ![8192, 128]⟩
abbrev S128x1024 : Shape := ⟨2, ![128, 1024]⟩
abbrev S1024x128 : Shape := ⟨2, ![1024, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S8192x1024, .f32⟩
  | .hbm, ⟨3, _⟩ => ⟨S8192x128, .f32⟩
  | .hbm, ⟨4, _⟩ => ⟨S128x1024, .f32⟩
  | .hbm, ⟨5, _⟩ => ⟨S1024x128, .f32⟩
  | .hbm, ⟨6, _⟩ => ⟨S1024x128, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S1024x1024 : Shape := ⟨2, ![1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1x3072, .f32⟩
  | .hbm, ⟨3, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3072, .bf16⟩
  | .hbm, ⟨2, _⟩ => ⟨S1x3072, .f32⟩
  | .hbm, ⟨3, _⟩ => ⟨S8192x1024, .f32⟩
  | .hbm, ⟨4, _⟩ => ⟨S1024x3072, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x1024 : Shape := ⟨2, ![8192, 1024]⟩
abbrev S1024x2176 : Shape := ⟨2, ![1024, 2176]⟩
abbrev S1x2176 : Shape := ⟨2, ![1, 2176]⟩
abbrev S8192x2176 : Shape := ⟨2, ![8192, 2176]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x2176, .bf16⟩
  | .hbm, ⟨2, _⟩ => ⟨S1x2176, .f32⟩
  | .hbm, ⟨3, _⟩ => ⟨S8192x2176, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1x2176, .f32⟩
  | .local _ .vmem, ⟨4, _⟩ => ⟨S1024x2176, .f32⟩
  | .local _ .vmem, ⟨5, _⟩ => ⟨S1024x2176, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 1 → Memref sig .tc .vmem S1x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1024x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x1024 : Shape := ⟨2, ![8192, 1024]⟩
abbrev S1024x2176 : Shape := ⟨2, ![1024, 2176]⟩
abbrev S1x2176 : Shape := ⟨2, ![1, 2176]⟩
abbrev S8192x2176 : Shape := ⟨2, ![8192, 2176]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2176, .bf16⟩
  | .hbm, ⟨2, _⟩ => ⟨S1x2176, .f32⟩
  | .hbm, ⟨3, _⟩ => ⟨S8192x1024, .f32⟩
  | .hbm, ⟨4, _⟩ => ⟨S1024x2176, .f32⟩
  | .hbm, ⟨5, _⟩ => ⟨S8192x2176, .f32⟩
  | .hbm, ⟨6, _⟩ => ⟨S8192x2176, .f32⟩
  | .hbm, ⟨7, _⟩ => ⟨S8192x2176, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x512 : Shape := ⟨2, ![8192, 512]⟩
abbrev S512x1024 : Shape := ⟨2, ![512, 1024]⟩
abbrev S8192x2176 : Shape := ⟨2, ![8192, 2176]⟩
abbrev S8192x1024 : Shape := ⟨2, ![8192, 1024]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S512x1024, .bf16⟩
  | .hbm, ⟨3, _⟩ => ⟨S512x1024, .bf16⟩
  | .hbm, ⟨4, _⟩ => ⟨S8192x2176, .f32⟩
  | .hbm, ⟨5, _⟩ => ⟨S8192x1024, .bf16⟩
  | .hbm, ⟨6, _⟩ => ⟨S8192x1024, .f32⟩
  | .hbm, ⟨7, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S8192x512 : Shape := ⟨2, ![8192, 512]⟩
abbrev S512x1024 : Shape := ⟨2, ![512, 1024]⟩
abbrev S8192x2176 : Shape := ⟨2, ![8192, 2176]⟩
abbrev S8192x1024 : Shape := ⟨2, ![8192, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .f32⟩
  | .hbm, ⟨2, _⟩ => ⟨S512x1024, .bf16⟩
  | .hbm, ⟨3, _⟩ => ⟨S512x1024, .bf16⟩
  | .hbm, ⟨4, _⟩ => ⟨S8192x2176, .f32⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S512x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S1x1024 : Shape := ⟨2, ![1, 1024]⟩
abbrev S8192x1 : Shape := ⟨2, ![8192, 1]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel19.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8192x1 : Shape := ⟨2, ![8192, 1]⟩
abbrev S512x2816 : Shape := ⟨2, ![512, 2816]⟩
abbrev S512x1024 : Shape := ⟨2, ![512, 1024]⟩
abbrev S512x1 : Shape := ⟨2, ![512, 1]⟩
abbrev S512 : Shape := ⟨1, ![512]⟩

abbrev nBuf : Space → Nat
  | .hbm => 9
  | .vmem => 15
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1, .f32⟩
  | .hbm, ⟨8, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S2816x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel20.lean ====
abbrev S1024x641 : Shape := ⟨2, ![1024, 641]⟩
abbrev S8x1024x641 : Shape := ⟨3, ![8, 1024, 641]⟩
abbrev S128x641 : Shape := ⟨2, ![128, 641]⟩
abbrev S8x128x641 : Shape := ⟨3, ![8, 128, 641]⟩
abbrev S1x128x641 : Shape := ⟨3, ![1, 128, 641]⟩

abbrev nBuf : Space → Nat
  | .hbm => 8
  | .vmem => 16
  | .smem => 0
  | _ => 0

abbrev bufTy : (tb : Table) → Fin (tcTables nBuf tb) → BufTy
  | .hbm, ⟨0, _⟩ => ⟨S1024x641, .f32⟩
  | .hbm, ⟨1, _⟩ => ⟨S8x1024x641, .bf16⟩
  | .hbm, ⟨2, _⟩ => ⟨S1024x641, .f32⟩
  | .hbm, ⟨3, _⟩ => ⟨S1024x641, .f32⟩
  | .hbm, ⟨4, _⟩ => ⟨S1024x641, .f32⟩
  | .hbm, ⟨5, _⟩ => ⟨S1024x641, .f32⟩
  | .hbm, ⟨6, _⟩ => ⟨S1024x641, .f32⟩
  | .hbm, ⟨7, _⟩ => ⟨S1024x641, .f32⟩
  | .local _ .vmem, ⟨0, _⟩ => ⟨S128x641, .f32⟩
  | .local _ .vmem, ⟨1, _⟩ => ⟨S128x641, .f32⟩
  | .local _ .vmem, ⟨2, _⟩ => ⟨S8x128x641, .bf16⟩
  | .local _ .vmem, ⟨3, _⟩ => ⟨S8x128x641, .bf16⟩
  | .local _ .vmem, ⟨4, _⟩ => ⟨S128x641, .f32⟩
  | .local _ .vmem, ⟨5, _⟩ => ⟨S128x641, .f32⟩
  | .local _ .vmem, ⟨6, _⟩ => ⟨S128x641, .f32⟩
  | .local _ .vmem, ⟨7, _⟩ => ⟨S128x641, .f32⟩
  | .local _ .vmem, ⟨8, _⟩ => ⟨S128x641, .f32⟩
  | .local _ .vmem, ⟨9, _⟩ => ⟨S128x641, .f32⟩
  | .local _ .vmem, ⟨10, _⟩ => ⟨S128x641, .f32⟩
  | .local _ .vmem, ⟨11, _⟩ => ⟨S128x641, .f32⟩
  | .local _ .vmem, ⟨12, _⟩ => ⟨S128x641, .f32⟩
  | .local _ .vmem, ⟨13, _⟩ => ⟨S128x641, .f32⟩
  | .local _ .vmem, ⟨14, _⟩ => ⟨S128x641, .f32⟩
  | .local _ .vmem, ⟨15, _⟩ => ⟨S128x641, .f32⟩
  | _, _ => ⟨S1024x641, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x641 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x641 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x641 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x641 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x641 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x641 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x641 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x641 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S1024x641 : Shape := ⟨2, ![1024, 641]⟩
abbrev S8x1024x641 : Shape := ⟨3, ![8, 1024, 641]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x641, .f32⟩
  | .hbm, ⟨1, _⟩ => ⟨S8x1024x641, .bf16⟩
  | .hbm, ⟨2, _⟩ => ⟨S1024x641, .f32⟩
  | .hbm, ⟨3, _⟩ => ⟨S1024x641, .f32⟩
  | .hbm, ⟨4, _⟩ => ⟨S8x1024x641, .f32⟩
  | .hbm, ⟨5, _⟩ => ⟨S_, .f32⟩
  | .hbm, ⟨6, _⟩ => ⟨S1024x641, .f32⟩
  | .hbm, ⟨7, _⟩ => ⟨S_, .f32⟩
  | .hbm, ⟨8, _⟩ => ⟨S1024x641, .f32⟩
  | .hbm, ⟨9, _⟩ => ⟨S1024x641, .f32⟩
  | .hbm, ⟨10, _⟩ => ⟨S_, .f32⟩
  | .hbm, ⟨11, _⟩ => ⟨S1024x641, .f32⟩
  | .hbm, ⟨12, _⟩ => ⟨S1024x641, .f32⟩
  | .hbm, ⟨13, _⟩ => ⟨S1024x641, .f32⟩
  | .hbm, ⟨14, _⟩ => ⟨S_, .f32⟩
  | .hbm, ⟨15, _⟩ => ⟨S1024x641, .f32⟩
  | .hbm, ⟨16, _⟩ => ⟨S1024x641, .f32⟩
  | .hbm, ⟨17, _⟩ => ⟨S1024x641, .f32⟩
  | .hbm, ⟨18, _⟩ => ⟨S_, .f32⟩
  | .hbm, ⟨19, _⟩ => ⟨S1024x641, .f32⟩
  | .hbm, ⟨20, _⟩ => ⟨S1024x641, .f32⟩
  | .hbm, ⟨21, _⟩ => ⟨S1024x641, .f32⟩
  | .hbm, ⟨22, _⟩ => ⟨S_, .f32⟩
  | .hbm, ⟨23, _⟩ => ⟨S1024x641, .f32⟩
  | .hbm, ⟨24, _⟩ => ⟨S1024x641, .f32⟩
  | .hbm, ⟨25, _⟩ => ⟨S_, .f32⟩
  | .hbm, ⟨26, _⟩ => ⟨S1024x641, .f32⟩
  | .hbm, ⟨27, _⟩ => ⟨S1024x641, .f32⟩
  | .hbm, ⟨28, _⟩ => ⟨S1024x641, .f32⟩
  | .hbm, ⟨29, _⟩ => ⟨S_, .f32⟩
  | .hbm, ⟨30, _⟩ => ⟨S1024x641, .f32⟩
  | .hbm, ⟨31, _⟩ => ⟨S1024x641, .f32⟩
  | .hbm, ⟨32, _⟩ => ⟨S1024x641, .f32⟩
  | .hbm, ⟨33, _⟩ => ⟨S_, .f32⟩
  | .hbm, ⟨34, _⟩ => ⟨S1024x641, .f32⟩
  | .hbm, ⟨35, _⟩ => ⟨S1024x641, .f32⟩
  | .hbm, ⟨36, _⟩ => ⟨S1024x641, .f32⟩
  | .hbm, ⟨37, _⟩ => ⟨S_, .f32⟩
  | .hbm, ⟨38, _⟩ => ⟨S1024x641, .f32⟩
  | .hbm, ⟨39, _⟩ => ⟨S1024x641, .f32⟩
  | _, _ => ⟨S1024x641, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S1x5128 : Shape := ⟨2, ![1, 5128]⟩
abbrev S8x1x5128 : Shape := ⟨3, ![8, 1, 5128]⟩
abbrev S1x1x5128 : Shape := ⟨3, ![1, 1, 5128]⟩

abbrev nBuf : Space → Nat
  | .hbm => 8
  | .vmem => 8
  | .smem => 0
  | _ => 0

abbrev bufTy : (tb : Table) → Fin (tcTables nBuf tb) → BufTy
  | .hbm, ⟨0, _⟩ => ⟨S1x5128, .f32⟩
  | .hbm, ⟨1, _⟩ => ⟨S8x1x5128, .f32⟩
  | .hbm, ⟨2, _⟩ => ⟨S1x5128, .f32⟩
  | .hbm, ⟨3, _⟩ => ⟨S1x5128, .f32⟩
  | .hbm, ⟨4, _⟩ => ⟨S1x5128, .f32⟩
  | .hbm, ⟨5, _⟩ => ⟨S1x5128, .f32⟩
  | .hbm, ⟨6, _⟩ => ⟨S1x5128, .f32⟩
  | .hbm, ⟨7, _⟩ => ⟨S1x5128, .f32⟩
  | .local _ .vmem, ⟨0, _⟩ => ⟨S1x5128, .f32⟩
  | .local _ .vmem, ⟨1, _⟩ => ⟨S8x1x5128, .f32⟩
  | .local _ .vmem, ⟨2, _⟩ => ⟨S1x5128, .f32⟩
  | .local _ .vmem, ⟨3, _⟩ => ⟨S1x5128, .f32⟩
  | .local _ .vmem, ⟨4, _⟩ => ⟨S1x5128, .f32⟩
  | .local _ .vmem, ⟨5, _⟩ => ⟨S1x5128, .f32⟩
  | .local _ .vmem, ⟨6, _⟩ => ⟨S1x5128, .f32⟩
  | .local _ .vmem, ⟨7, _⟩ => ⟨S1x5128, .f32⟩
  | _, _ => ⟨S1x5128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x5128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x5128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x5128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x5128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x5128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x5128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x5128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x5128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S1x5128 : Shape := ⟨2, ![1, 5128]⟩
abbrev S8x1x5128 : Shape := ⟨3, ![8, 1, 5128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x5128, .f32⟩
  | .hbm, ⟨1, _⟩ => ⟨S8x1x5128, .f32⟩
  | .hbm, ⟨2, _⟩ => ⟨S1x5128, .f32⟩
  | .hbm, ⟨3, _⟩ => ⟨S1x5128, .f32⟩
  | .hbm, ⟨4, _⟩ => ⟨S_, .f32⟩
  | .hbm, ⟨5, _⟩ => ⟨S1x5128, .f32⟩
  | .hbm, ⟨6, _⟩ => ⟨S_, .f32⟩
  | .hbm, ⟨7, _⟩ => ⟨S1x5128, .f32⟩
  | .hbm, ⟨8, _⟩ => ⟨S1x5128, .f32⟩
  | .hbm, ⟨9, _⟩ => ⟨S_, .f32⟩
  | .hbm, ⟨10, _⟩ => ⟨S1x5128, .f32⟩
  | .hbm, ⟨11, _⟩ => ⟨S1x5128, .f32⟩
  | .hbm, ⟨12, _⟩ => ⟨S1x5128, .f32⟩
  | .hbm, ⟨13, _⟩ => ⟨S_, .f32⟩
  | .hbm, ⟨14, _⟩ => ⟨S1x5128, .f32⟩
  | .hbm, ⟨15, _⟩ => ⟨S1x5128, .f32⟩
  | .hbm, ⟨16, _⟩ => ⟨S1x5128, .f32⟩
  | .hbm, ⟨17, _⟩ => ⟨S_, .f32⟩
  | .hbm, ⟨18, _⟩ => ⟨S1x5128, .f32⟩
  | .hbm, ⟨19, _⟩ => ⟨S1x5128, .f32⟩
  | .hbm, ⟨20, _⟩ => ⟨S1x5128, .f32⟩
  | .hbm, ⟨21, _⟩ => ⟨S_, .f32⟩
  | .hbm, ⟨22, _⟩ => ⟨S1x5128, .f32⟩
  | .hbm, ⟨23, _⟩ => ⟨S1x5128, .f32⟩
  | .hbm, ⟨24, _⟩ => ⟨S_, .f32⟩
  | .hbm, ⟨25, _⟩ => ⟨S1x5128, .f32⟩
  | .hbm, ⟨26, _⟩ => ⟨S1x5128, .f32⟩
  | .hbm, ⟨27, _⟩ => ⟨S1x5128, .f32⟩
  | .hbm, ⟨28, _⟩ => ⟨S_, .f32⟩
  | .hbm, ⟨29, _⟩ => ⟨S1x5128, .f32⟩
  | .hbm, ⟨30, _⟩ => ⟨S1x5128, .f32⟩
  | .hbm, ⟨31, _⟩ => ⟨S1x5128, .f32⟩
  | .hbm, ⟨32, _⟩ => ⟨S_, .f32⟩
  | .hbm, ⟨33, _⟩ => ⟨S1x5128, .f32⟩
  | .hbm, ⟨34, _⟩ => ⟨S1x5128, .f32⟩
  | .hbm, ⟨35, _⟩ => ⟨S1x5128, .f32⟩
  | .hbm, ⟨36, _⟩ => ⟨S_, .f32⟩
  | .hbm, ⟨37, _⟩ => ⟨S1x5128, .f32⟩
  | .hbm, ⟨38, _⟩ => ⟨S1x5128, .f32⟩
  | _, _ => ⟨S1x5128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel22.lean ====
abbrev S512x128 : Shape := ⟨2, ![512, 128]⟩
abbrev S8x512x128 : Shape := ⟨3, ![8, 512, 128]⟩
abbrev S128x128 : Shape := ⟨2, ![128, 128]⟩
abbrev S8x128x128 : Shape := ⟨3, ![8, 128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S128x128, .f32⟩
  | .local _ .vmem, ⟨1, _⟩ => ⟨S128x128, .f32⟩
  | .local _ .vmem, ⟨2, _⟩ => ⟨S8x128x128, .bf16⟩
  | .local _ .vmem, ⟨3, _⟩ => ⟨S8x128x128, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S512x128 : Shape := ⟨2, ![512, 128]⟩
abbrev S8x512x128 : Shape := ⟨3, ![8, 512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x512x128, .bf16⟩
  | .hbm, ⟨2, _⟩ => ⟨S512x128, .f32⟩
  | .hbm, ⟨3, _⟩ => ⟨S512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel23.lean ====
abbrev S128x1024 : Shape := ⟨2, ![128, 1024]⟩
abbrev S8x128x1024 : Shape := ⟨3, ![8, 128, 1024]⟩
abbrev S64x1024 : Shape := ⟨2, ![64, 1024]⟩
abbrev S8x64x1024 : Shape := ⟨3, ![8, 64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S8x64x1024, .bf16⟩
  | .local _ .vmem, ⟨3, _⟩ => ⟨S8x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel24.lean ====
abbrev S1x1024 : Shape := ⟨2, ![1, 1024]⟩
abbrev S8x1x1024 : Shape := ⟨3, ![8, 1, 1024]⟩
abbrev S1x1x1024 : Shape := ⟨3, ![1, 1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .local _ .vmem, ⟨0, _⟩ => ⟨S1x1024, .f32⟩
  | .local _ .vmem, ⟨1, _⟩ => ⟨S8x1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S1x1024 : Shape := ⟨2, ![1, 1024]⟩
abbrev S8x1x1024 : Shape := ⟨3, ![8, 1, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel25.lean ====
abbrev S1024x704 : Shape := ⟨2, ![1024, 704]⟩
abbrev S8x1024x704 : Shape := ⟨3, ![8, 1024, 704]⟩
abbrev S128x704 : Shape := ⟨2, ![128, 704]⟩
abbrev S8x128x704 : Shape := ⟨3, ![8, 128, 704]⟩
abbrev S1x128x704 : Shape := ⟨3, ![1, 128, 704]⟩

abbrev nBuf : Space → Nat
  | .hbm => 8
  | .vmem => 16
  | .smem => 0
  | _ => 0

abbrev bufTy : (tb : Table) → Fin (tcTables nBuf tb) → BufTy
  | .hbm, ⟨0, _⟩ => ⟨S1024x704, .f32⟩
  | .hbm, ⟨1, _⟩ => ⟨S8x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .local _ .vmem, ⟨0, _⟩ => ⟨S128x704, .f32⟩
  | .local _ .vmem, ⟨1, _⟩ => ⟨S128x704, .f32⟩
  | .local _ .vmem, ⟨2, _⟩ => ⟨S8x128x704, .bf16⟩
  | .local _ .vmem, ⟨3, _⟩ => ⟨S8x128x704, .bf16⟩
  | .local _ .vmem, ⟨4, _⟩ => ⟨S128x704, .f32⟩
  | .local _ .vmem, ⟨5, _⟩ => ⟨S128x704, .f32⟩
  | .local _ .vmem, ⟨6, _⟩ => ⟨S128x704, .f32⟩
  | .local _ .vmem, ⟨7, _⟩ => ⟨S128x704, .f32⟩
  | .local _ .vmem, ⟨8, _⟩ => ⟨S128x704, .f32⟩
  | .local _ .vmem, ⟨9, _⟩ => ⟨S128x704, .f32⟩
  | .local _ .vmem, ⟨10, _⟩ => ⟨S128x704, .f32⟩
  | .local _ .vmem, ⟨11, _⟩ => ⟨S128x704, .f32⟩
  | .local _ .vmem, ⟨12, _⟩ => ⟨S128x704, .f32⟩
  | .local _ .vmem, ⟨13, _⟩ => ⟨S128x704, .f32⟩
  | .local _ .vmem, ⟨14, _⟩ => ⟨S128x704, .f32⟩
  | .local _ .vmem, ⟨15, _⟩ => ⟨S128x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1024x704 : Shape := ⟨2, ![1024, 704]⟩
abbrev S8x1024x704 : Shape := ⟨3, ![8, 1024, 704]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S8x1024x704, .bf16⟩
  | .hbm, ⟨2, _⟩ => ⟨S1024x704, .f32⟩
  | .hbm, ⟨3, _⟩ => ⟨S1024x704, .f32⟩
  | .hbm, ⟨4, _⟩ => ⟨S8x1024x704, .f32⟩
  | .hbm, ⟨5, _⟩ => ⟨S_, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S_, .f32⟩
  | .hbm, ⟨11, _⟩ => ⟨S1024x704, .f32⟩
  | .hbm, ⟨12, _⟩ => ⟨S1024x704, .f32⟩
  | .hbm, ⟨13, _⟩ => ⟨S1024x704, .f32⟩
  | .hbm, ⟨14, _⟩ => ⟨S_, .f32⟩
  | .hbm, ⟨15, _⟩ => ⟨S1024x704, .f32⟩
  | .hbm, ⟨16, _⟩ => ⟨S1024x704, .f32⟩
  | .hbm, ⟨17, _⟩ => ⟨S1024x704, .f32⟩
  | .hbm, ⟨18, _⟩ => ⟨S_, .f32⟩
  | .hbm, ⟨19, _⟩ => ⟨S1024x704, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S_, .f32⟩
  | .hbm, ⟨26, _⟩ => ⟨S1024x704, .f32⟩
  | .hbm, ⟨27, _⟩ => ⟨S1024x704, .f32⟩
  | .hbm, ⟨28, _⟩ => ⟨S1024x704, .f32⟩
  | .hbm, ⟨29, _⟩ => ⟨S_, .f32⟩
  | .hbm, ⟨30, _⟩ => ⟨S1024x704, .f32⟩
  | .hbm, ⟨31, _⟩ => ⟨S1024x704, .f32⟩
  | .hbm, ⟨32, _⟩ => ⟨S1024x704, .f32⟩
  | .hbm, ⟨33, _⟩ => ⟨S_, .f32⟩
  | .hbm, ⟨34, _⟩ => ⟨S1024x704, .f32⟩
  | .hbm, ⟨35, _⟩ => ⟨S1024x704, .f32⟩
  | .hbm, ⟨36, _⟩ => ⟨S1024x704, .f32⟩
  | .hbm, ⟨37, _⟩ => ⟨S_, .f32⟩
  | .hbm, ⟨38, _⟩ => ⟨S1024x704, .f32⟩
  | .hbm, ⟨39, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel26.lean ====
abbrev S3x352 : Shape := ⟨2, ![3, 352]⟩
abbrev S8x3x352 : Shape := ⟨3, ![8, 3, 352]⟩
abbrev S1x3x352 : Shape := ⟨3, ![1, 3, 352]⟩

abbrev nBuf : Space → Nat
  | .hbm => 8
  | .vmem => 8
  | .smem => 0
  | _ => 0

abbrev bufTy : (tb : Table) → Fin (tcTables nBuf tb) → BufTy
  | .hbm, ⟨0, _⟩ => ⟨S3x352, .f32⟩
  | .hbm, ⟨1, _⟩ => ⟨S8x3x352, .f32⟩
  | .hbm, ⟨2, _⟩ => ⟨S3x352, .f32⟩
  | .hbm, ⟨3, _⟩ => ⟨S3x352, .f32⟩
  | .hbm, ⟨4, _⟩ => ⟨S3x352, .f32⟩
  | .hbm, ⟨5, _⟩ => ⟨S3x352, .f32⟩
  | .hbm, ⟨6, _⟩ => ⟨S3x352, .f32⟩
  | .hbm, ⟨7, _⟩ => ⟨S3x352, .f32⟩
  | .local _ .vmem, ⟨0, _⟩ => ⟨S3x352, .f32⟩
  | .local _ .vmem, ⟨1, _⟩ => ⟨S8x3x352, .f32⟩
  | .local _ .vmem, ⟨2, _⟩ => ⟨S3x352, .f32⟩
  | .local _ .vmem, ⟨3, _⟩ => ⟨S3x352, .f32⟩
  | .local _ .vmem, ⟨4, _⟩ => ⟨S3x352, .f32⟩
  | .local _ .vmem, ⟨5, _⟩ => ⟨S3x352, .f32⟩
  | .local _ .vmem, ⟨6, _⟩ => ⟨S3x352, .f32⟩
  | .local _ .vmem, ⟨7, _⟩ => ⟨S3x352, .f32⟩
  | _, _ => ⟨S3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S3x352 : Shape := ⟨2, ![3, 352]⟩
abbrev S8x3x352 : Shape := ⟨3, ![8, 3, 352]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S3x352, .f32⟩
  | .hbm, ⟨1, _⟩ => ⟨S8x3x352, .f32⟩
  | .hbm, ⟨2, _⟩ => ⟨S3x352, .f32⟩
  | .hbm, ⟨3, _⟩ => ⟨S3x352, .f32⟩
  | .hbm, ⟨4, _⟩ => ⟨S_, .f32⟩
  | .hbm, ⟨5, _⟩ => ⟨S3x352, .f32⟩
  | .hbm, ⟨6, _⟩ => ⟨S_, .f32⟩
  | .hbm, ⟨7, _⟩ => ⟨S3x352, .f32⟩
  | .hbm, ⟨8, _⟩ => ⟨S3x352, .f32⟩
  | .hbm, ⟨9, _⟩ => ⟨S_, .f32⟩
  | .hbm, ⟨10, _⟩ => ⟨S3x352, .f32⟩
  | .hbm, ⟨11, _⟩ => ⟨S3x352, .f32⟩
  | .hbm, ⟨12, _⟩ => ⟨S3x352, .f32⟩
  | .hbm, ⟨13, _⟩ => ⟨S_, .f32⟩
  | .hbm, ⟨14, _⟩ => ⟨S3x352, .f32⟩
  | .hbm, ⟨15, _⟩ => ⟨S3x352, .f32⟩
  | .hbm, ⟨16, _⟩ => ⟨S3x352, .f32⟩
  | .hbm, ⟨17, _⟩ => ⟨S_, .f32⟩
  | .hbm, ⟨18, _⟩ => ⟨S3x352, .f32⟩
  | .hbm, ⟨19, _⟩ => ⟨S3x352, .f32⟩
  | .hbm, ⟨20, _⟩ => ⟨S3x352, .f32⟩
  | .hbm, ⟨21, _⟩ => ⟨S_, .f32⟩
  | .hbm, ⟨22, _⟩ => ⟨S3x352, .f32⟩
  | .hbm, ⟨23, _⟩ => ⟨S3x352, .f32⟩
  | .hbm, ⟨24, _⟩ => ⟨S_, .f32⟩
  | .hbm, ⟨25, _⟩ => ⟨S3x352, .f32⟩
  | .hbm, ⟨26, _⟩ => ⟨S3x352, .f32⟩
  | .hbm, ⟨27, _⟩ => ⟨S3x352, .f32⟩
  | .hbm, ⟨28, _⟩ => ⟨S_, .f32⟩
  | .hbm, ⟨29, _⟩ => ⟨S3x352, .f32⟩
  | .hbm, ⟨30, _⟩ => ⟨S3x352, .f32⟩
  | .hbm, ⟨31, _⟩ => ⟨S3x352, .f32⟩
  | .hbm, ⟨32, _⟩ => ⟨S_, .f32⟩
  | .hbm, ⟨33, _⟩ => ⟨S3x352, .f32⟩
  | .hbm, ⟨34, _⟩ => ⟨S3x352, .f32⟩
  | .hbm, ⟨35, _⟩ => ⟨S3x352, .f32⟩
  | .hbm, ⟨36, _⟩ => ⟨S_, .f32⟩
  | .hbm, ⟨37, _⟩ => ⟨S3x352, .f32⟩
  | .hbm, ⟨38, _⟩ => ⟨S3x352, .f32⟩
  | _, _ => ⟨S3x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S1x2816 : Shape := ⟨2, ![1, 2816]⟩
abbrev S8x1x2816 : Shape := ⟨3, ![8, 1, 2816]⟩
abbrev S1x1x2816 : Shape := ⟨3, ![1, 1, 2816]⟩

abbrev nBuf : Space → Nat
  | .hbm => 8
  | .vmem => 8
  | .smem => 0
  | _ => 0

abbrev bufTy : (tb : Table) → Fin (tcTables nBuf tb) → BufTy
  | .hbm, ⟨0, _⟩ => ⟨S1x2816, .f32⟩
  | .hbm, ⟨1, _⟩ => ⟨S8x1x2816, .f32⟩
  | .hbm, ⟨2, _⟩ => ⟨S1x2816, .f32⟩
  | .hbm, ⟨3, _⟩ => ⟨S1x2816, .f32⟩
  | .hbm, ⟨4, _⟩ => ⟨S1x2816, .f32⟩
  | .hbm, ⟨5, _⟩ => ⟨S1x2816, .f32⟩
  | .hbm, ⟨6, _⟩ => ⟨S1x2816, .f32⟩
  | .hbm, ⟨7, _⟩ => ⟨S1x2816, .f32⟩
  | .local _ .vmem, ⟨0, _⟩ => ⟨S1x2816, .f32⟩
  | .local _ .vmem, ⟨1, _⟩ => ⟨S8x1x2816, .f32⟩
  | .local _ .vmem, ⟨2, _⟩ => ⟨S1x2816, .f32⟩
  | .local _ .vmem, ⟨3, _⟩ => ⟨S1x2816, .f32⟩
  | .local _ .vmem, ⟨4, _⟩ => ⟨S1x2816, .f32⟩
  | .local _ .vmem, ⟨5, _⟩ => ⟨S1x2816, .f32⟩
  | .local _ .vmem, ⟨6, _⟩ => ⟨S1x2816, .f32⟩
  | .local _ .vmem, ⟨7, _⟩ => ⟨S1x2816, .f32⟩
  | _, _ => ⟨S1x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S1x2816 : Shape := ⟨2, ![1, 2816]⟩
abbrev S8x1x2816 : Shape := ⟨3, ![8, 1, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2816, .f32⟩
  | .hbm, ⟨1, _⟩ => ⟨S8x1x2816, .f32⟩
  | .hbm, ⟨2, _⟩ => ⟨S1x2816, .f32⟩
  | .hbm, ⟨3, _⟩ => ⟨S1x2816, .f32⟩
  | .hbm, ⟨4, _⟩ => ⟨S_, .f32⟩
  | .hbm, ⟨5, _⟩ => ⟨S1x2816, .f32⟩
  | .hbm, ⟨6, _⟩ => ⟨S_, .f32⟩
  | .hbm, ⟨7, _⟩ => ⟨S1x2816, .f32⟩
  | .hbm, ⟨8, _⟩ => ⟨S1x2816, .f32⟩
  | .hbm, ⟨9, _⟩ => ⟨S_, .f32⟩
  | .hbm, ⟨10, _⟩ => ⟨S1x2816, .f32⟩
  | .hbm, ⟨11, _⟩ => ⟨S1x2816, .f32⟩
  | .hbm, ⟨12, _⟩ => ⟨S1x2816, .f32⟩
  | .hbm, ⟨13, _⟩ => ⟨S_, .f32⟩
  | .hbm, ⟨14, _⟩ => ⟨S1x2816, .f32⟩
  | .hbm, ⟨15, _⟩ => ⟨S1x2816, .f32⟩
  | .hbm, ⟨16, _⟩ => ⟨S1x2816, .f32⟩
  | .hbm, ⟨17, _⟩ => ⟨S_, .f32⟩
  | .hbm, ⟨18, _⟩ => ⟨S1x2816, .f32⟩
  | .hbm, ⟨19, _⟩ => ⟨S1x2816, .f32⟩
  | .hbm, ⟨20, _⟩ => ⟨S1x2816, .f32⟩
  | .hbm, ⟨21, _⟩ => ⟨S_, .f32⟩
  | .hbm, ⟨22, _⟩ => ⟨S1x2816, .f32⟩
  | .hbm, ⟨23, _⟩ => ⟨S1x2816, .f32⟩
  | .hbm, ⟨24, _⟩ => ⟨S_, .f32⟩
  | .hbm, ⟨25, _⟩ => ⟨S1x2816, .f32⟩
  | .hbm, ⟨26, _⟩ => ⟨S1x2816, .f32⟩
  | .hbm, ⟨27, _⟩ => ⟨S1x2816, .f32⟩
  | .hbm, ⟨28, _⟩ => ⟨S_, .f32⟩
  | .hbm, ⟨29, _⟩ => ⟨S1x2816, .f32⟩
  | .hbm, ⟨30, _⟩ => ⟨S1x2816, .f32⟩
  | .hbm, ⟨31, _⟩ => ⟨S1x2816, .f32⟩
  | .hbm, ⟨32, _⟩ => ⟨S_, .f32⟩
  | .hbm, ⟨33, _⟩ => ⟨S1x2816, .f32⟩
  | .hbm, ⟨34, _⟩ => ⟨S1x2816, .f32⟩
  | .hbm, ⟨35, _⟩ => ⟨S1x2816, .f32⟩
  | .hbm, ⟨36, _⟩ => ⟨S_, .f32⟩
  | .hbm, ⟨37, _⟩ => ⟨S1x2816, .f32⟩
  | .hbm, ⟨38, _⟩ => ⟨S1x2816, .f32⟩
  | _, _ => ⟨S1x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel28.lean ====
abbrev S352x1024 : Shape := ⟨2, ![352, 1024]⟩
abbrev S8x352x1024 : Shape := ⟨3, ![8, 352, 1024]⟩
abbrev S32x1024 : Shape := ⟨2, ![32, 1024]⟩
abbrev S8x32x1024 : Shape := ⟨3, ![8, 32, 1024]⟩
abbrev S1x32x1024 : Shape := ⟨3, ![1, 32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S8x32x1024, .bf16⟩
  | .local _ .vmem, ⟨3, _⟩ => ⟨S8x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S352x1024 : Shape := ⟨2, ![352, 1024]⟩
abbrev S8x352x1024 : Shape := ⟨3, ![8, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S8x352x1024, .bf16⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8192x1024 : Shape := ⟨2, ![8192, 1024]⟩
abbrev S8192x1 : Shape := ⟨2, ![8192, 1]⟩
abbrev S1x1024 : Shape := ⟨2, ![1, 1024]⟩
abbrev S8x1024 : Shape := ⟨2, ![8, 1024]⟩
abbrev S8x128 : Shape := ⟨2, ![8, 128]⟩
abbrev S512x1024 : Shape := ⟨2, ![512, 1024]⟩
abbrev S512x1 : Shape := ⟨2, ![512, 1]⟩
abbrev S512 : Shape := ⟨1, ![512]⟩
abbrev S64x8x1024 : Shape := ⟨3, ![64, 8, 1024]⟩
abbrev S1024 : Shape := ⟨1, ![1024]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 11
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8x1024, .f32⟩
  | .hbm, ⟨7, _⟩ => ⟨S8x1024, .f32⟩
  | .hbm, ⟨8, _⟩ => ⟨S8x128, .f32⟩
  | .hbm, ⟨9, _⟩ => ⟨S8192x1024, .bf16⟩
  | .hbm, ⟨10, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S8x1024, .f32⟩
  | .local _ .vmem, ⟨13, _⟩ => ⟨S8x128, .f32⟩
  | .local _ .vmem, ⟨14, _⟩ => ⟨S512x1024, .bf16⟩
  | .local _ .vmem, ⟨15, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference29Ideal.lean ====
abbrev S8192x1024 : Shape := ⟨2, ![8192, 1024]⟩
abbrev S8192x1 : Shape := ⟨2, ![8192, 1]⟩
abbrev S1x1024 : Shape := ⟨2, ![1, 1024]⟩
abbrev S_ : Shape := ⟨0, ![]⟩
abbrev S8192 : Shape := ⟨1, ![8192]⟩
abbrev S1x1 : Shape := ⟨2, ![1, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S1x1, .f32⟩
  | .hbm, ⟨17, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Kernel30.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S8192x512 : Shape := ⟨2, ![8192, 512]⟩
abbrev S8192x1024 : Shape := ⟨2, ![8192, 1024]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S8192x512, .f32⟩
  | .hbm, ⟨3, _⟩ => ⟨S8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel31.lean ====
abbrev S8192x5632 : Shape := ⟨2, ![8192, 5632]⟩
abbrev S3x2816 : Shape := ⟨2, ![3, 2816]⟩
abbrev S1x2816 : Shape := ⟨2, ![1, 2816]⟩
abbrev S8192x2816 : Shape := ⟨2, ![8192, 2816]⟩
abbrev S256x2816 : Shape := ⟨2, ![256, 2816]⟩
abbrev S16x2816 : Shape := ⟨2, ![16, 2816]⟩

abbrev nBuf : Space → Nat
  | .hbm => 4
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S1x2816, .f32⟩
  | .hbm, ⟨3, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S256x2816, .bf16⟩
  | .local _ .vmem, ⟨5, _⟩ => ⟨S256x2816, .bf16⟩
  | .local _ .vmem, ⟨6, _⟩ => ⟨S3x2816, .f32⟩
  | .local _ .vmem, ⟨7, _⟩ => ⟨S1x2816, .f32⟩
  | .local _ .vmem, ⟨8, _⟩ => ⟨S256x2816, .bf16⟩
  | .local _ .vmem, ⟨9, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference31Ideal.lean ====
abbrev S8192x5632 : Shape := ⟨2, ![8192, 5632]⟩
abbrev S3x2816 : Shape := ⟨2, ![3, 2816]⟩
abbrev S1x2816 : Shape := ⟨2, ![1, 2816]⟩
abbrev S2x4096x5632 : Shape := ⟨3, ![2, 4096, 5632]⟩
abbrev S2x4096x2816 : Shape := ⟨3, ![2, 4096, 2816]⟩
abbrev S2816 : Shape := ⟨1, ![2816]⟩
abbrev S_ : Shape := ⟨0, ![]⟩
abbrev S2x4098x2816 : Shape := ⟨3, ![2, 4098, 2816]⟩
abbrev S1x1x2816 : Shape := ⟨3, ![1, 1, 2816]⟩
abbrev S8192x2816 : Shape := ⟨2, ![8192, 2816]⟩

abbrev nBuf : Space → Nat
  | .hbm => 45
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S3x2816, .f32⟩
  | .hbm, ⟨2, _⟩ => ⟨S1x2816, .f32⟩
  | .hbm, ⟨3, _⟩ => ⟨S8192x5632, .f32⟩
  | .hbm, ⟨4, _⟩ => ⟨S2x4096x5632, .f32⟩
  | .hbm, ⟨5, _⟩ => ⟨S2x4096x2816, .f32⟩
  | .hbm, ⟨6, _⟩ => ⟨S2x4096x2816, .f32⟩
  | .hbm, ⟨7, _⟩ => ⟨S2816, .f32⟩
  | .hbm, ⟨8, _⟩ => ⟨S_, .f32⟩
  | .hbm, ⟨9, _⟩ => ⟨S2x4098x2816, .f32⟩
  | .hbm, ⟨10, _⟩ => ⟨S1x2816, .f32⟩
  | .hbm, ⟨11, _⟩ => ⟨S2816, .f32⟩
  | .hbm, ⟨12, _⟩ => ⟨S2x4096x2816, .f32⟩
  | .hbm, ⟨13, _⟩ => ⟨S1x1x2816, .f32⟩
  | .hbm, ⟨14, _⟩ => ⟨S2x4096x2816, .f32⟩
  | .hbm, ⟨15, _⟩ => ⟨S2x4096x2816, .f32⟩
  | .hbm, ⟨16, _⟩ => ⟨S1x1x2816, .f32⟩
  | .hbm, ⟨17, _⟩ => ⟨S2x4096x2816, .f32⟩
  | .hbm, ⟨18, _⟩ => ⟨S2x4096x2816, .f32⟩
  | .hbm, ⟨19, _⟩ => ⟨S1x2816, .f32⟩
  | .hbm, ⟨20, _⟩ => ⟨S2816, .f32⟩
  | .hbm, ⟨21, _⟩ => ⟨S2x4096x2816, .f32⟩
  | .hbm, ⟨22, _⟩ => ⟨S1x1x2816, .f32⟩
  | .hbm, ⟨23, _⟩ => ⟨S2x4096x2816, .f32⟩
  | .hbm, ⟨24, _⟩ => ⟨S2x4096x2816, .f32⟩
  | .hbm, ⟨25, _⟩ => ⟨S2x4096x2816, .f32⟩
  | .hbm, ⟨26, _⟩ => ⟨S1x2816, .f32⟩
  | .hbm, ⟨27, _⟩ => ⟨S2816, .f32⟩
  | .hbm, ⟨28, _⟩ => ⟨S2x4096x2816, .f32⟩
  | .hbm, ⟨29, _⟩ => ⟨S1x1x2816, .f32⟩
  | .hbm, ⟨30, _⟩ => ⟨S2x4096x2816, .f32⟩
  | .hbm, ⟨31, _⟩ => ⟨S2x4096x2816, .f32⟩
  | .hbm, ⟨32, _⟩ => ⟨S2x4096x2816, .f32⟩
  | .hbm, ⟨33, _⟩ => ⟨S_, .f32⟩
  | .hbm, ⟨34, _⟩ => ⟨S2x4096x2816, .f32⟩
  | .hbm, ⟨35, _⟩ => ⟨S2x4096x2816, .f32⟩
  | .hbm, ⟨36, _⟩ => ⟨S2x4096x2816, .f32⟩
  | .hbm, ⟨37, _⟩ => ⟨S_, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S2x4096x2816, .f32⟩
  | .hbm, ⟨42, _⟩ => ⟨S2x4096x2816, .f32⟩
  | .hbm, ⟨43, _⟩ => ⟨S8192x2816, .f32⟩
  | .hbm, ⟨44, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Proof.Product.Sums.lean ====
/-
  MATRIX PRODUCTS AND SUMS IN PIECES, over the extended reals: a product at an element, and a sum over a long axis as it is
  gathered block by block. No program is named here.
-/
module

public import Idealize.ShloMosaic.Lib.Tactic
public import Idealize.ShloMosaic.Lib.MatmulPlain
public import Idealize.ShloMosaic.Lib.Pointwise.Contract
public import Idealize.ShloMosaic.Lib.KernelVsHost
public import Idealize.ShloMosaic.Lib.ValueLayout
public import Idealize.ShloMosaic.Lib.Pipeline.ValueKit

@[expose] public section

noncomputable section

open Idealize.ShloMosaic Idealize.ShloMosaic.Tactic

namespace Cert.Product

/-- The offset of a load or store that starts at the first element. -/
theorem hz : (![0, 0] : Fin 2 → Nat) = fun _ => 0 := funext fun a => by fin_cases a <;> rfl

/-- An element of an array by its two coordinates as numbers; zero outside. -/
def at2 {n0 n1 : ℕ} (x : (⟨2, ![n0, n1]⟩ : Shape).Idx → EReal) (i j : ℕ) : EReal :=
  if h : i < n0 ∧ j < n1 then x (ix2 ⟨i, h.1⟩ ⟨j, h.2⟩) else 0

theorem at2_val {n0 n1 : ℕ} (x : (⟨2, ![n0, n1]⟩ : Shape).Idx → EReal) (y : (⟨2, ![n0, n1]⟩ : Shape).Idx) :
    at2 x (y 0).val (y 1).val = x y := by
  unfold at2
  rw [dif_pos ⟨(y 0).isLt, (y 1).isLt⟩]
  exact congrArg x (eq_ix2 y).symm

/-- An element whose coordinates are known. -/
theorem eq_at2 {n0 n1 : ℕ} (x : (⟨2, ![n0, n1]⟩ : Shape).Idx → EReal) (y : (⟨2, ![n0, n1]⟩ : Shape).Idx) {i j : ℕ}
    (hi : (y 0).val = i) (hj : (y 1).val = j) : x y = at2 x i j := by
  subst hi hj
  exact (at2_val x y).symm

/-- A sum over `n + k` terms is the sum over the first `n` and then the `k` that follow. -/
theorem sum_next (f : ℕ → EReal) (n k : ℕ) :
    ∑ i ∈ Finset.range n, f i + ∑ i : Fin k, f (n + i.val) = ∑ i ∈ Finset.range (n + k), f i := by
  rw [Finset.sum_range_add, Fin.sum_univ_eq_sum_range fun i => f (n + i)]

/-- A sum over the first `k` terms. -/
theorem sum_first (f : ℕ → EReal) (k : ℕ) : ∑ i : Fin k, f i.val = ∑ i ∈ Finset.range k, f i := by
  rw [Fin.sum_univ_eq_sum_range fun i => f i]

/-- The dimension numbers of a product whose operands are both summed over their first axis. -/
abbrev tn (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- That product at an element. -/
theorem product_tn {M K N : ℕ} (wf : DotDims.WF ⟨2, ![K, M]⟩ ⟨2, ![K, N]⟩ ⟨2, ![M, N]⟩ [0] [0] [1] [1] [] []) {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (tn M K N wf) prec lhs rhs acc (ix2 r c) = acc (ix2 r c) + ∑ k : Fin K, lhs (ix2 k r) * rhs (ix2 k c) := by
  refine (Ideal.matmul_apply₁ (tn M K N wf) rfl rfl lhs rhs acc (ix2 r c)).trans ?_
  refine congrArg (acc (ix2 r c) + ·) (Finset.sum_congr rfl fun k _ => ?_)
  refine congrArg₂ (· * ·) (congrArg lhs ?_) (congrArg rhs ?_) <;> funext a <;> apply Fin.ext <;>
    match a with
    | ⟨0, _⟩ => rfl
    | ⟨1, _⟩ => rfl

/-- Into a zero accumulator: rows by columns, rows by rows, columns by columns. -/
theorem zero_nn {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c) = ∑ k : Fin K, lhs (ix2 r k) * rhs (ix2 k c) := by
  refine (Ideal.matmul_plain_apply prec lhs rhs _ r c).trans ?_
  show Ideal.ofBits .f32 0x00000000#32 + _ = _
  rw [Ideal.ofBits_zero_f32, zero_add]
  rfl
theorem zero_nt {M K N : ℕ} {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c) = ∑ k : Fin K, lhs (ix2 r k) * rhs (ix2 c k) := by
  refine (Ideal.matmul_transposedRhs_apply prec lhs rhs _ r c).trans ?_
  show Ideal.ofBits .f32 0x00000000#32 + _ = _
  rw [Ideal.ofBits_zero_f32, zero_add]
  rfl
theorem zero_tn {M K N : ℕ} (wf : DotDims.WF ⟨2, ![K, M]⟩ ⟨2, ![K, N]⟩ ⟨2, ![M, N]⟩ [0] [0] [1] [1] [] []) {φ₁ φ₂ : FTy} (prec : Option ContractPrecision)
    (lhs : FVec Ideal ⟨2, ![K, M]⟩ φ₁) (rhs : FVec Ideal ⟨2, ![K, N]⟩ φ₂) (r : Fin M) (c : Fin N) :
    FloatOps.matmul (tn M K N wf) prec lhs rhs (constant ⟨2, ![M, N]⟩ .f32 0x00000000#32) (ix2 r c) = ∑ k : Fin K, lhs (ix2 k r) * rhs (ix2 k c) := by
  refine (product_tn wf prec lhs rhs _ r c).trans ?_
  show Ideal.ofBits .f32 0x00000000#32 + _ = _
  rw [Ideal.ofBits_zero_f32, zero_add]

end Cert.Product

end
-- ==== Proof.Product.Norm.lean ====
/-
  ROW NORMALISATION, over the extended reals: a row's mean, the row less its mean, its reciprocal deviation; and what the vector operations
  that make them read at an element. No program is named here.
-/
module

public import proofs.«01_k».proof.Proof.Product.Sums
public import Idealize.ShloMosaic.Lib.ValueLayoutCasts

@[expose] public section

noncomputable section

open Idealize.ShloMosaic Idealize.ShloMosaic.Tactic

namespace Cert.Product

/-- The mean of a row of 1024. -/
def mean (f : ℕ → EReal) : EReal := Ideal.div (∑ k : Fin 1024, f k.val) (Ideal.ofBits .f32 0x44800000#32)
/-- The row less its mean. -/
def centred (f : ℕ → EReal) (b : ℕ) : EReal := f b - mean f
/-- The reciprocal deviation of a row whose mean is taken off. -/
def scale (g : ℕ → EReal) : EReal := Ideal.rsqrt (mean (fun k => g k * g k) + Ideal.ofBits .f32 0x3727C5AC#32)
/-- The normalised row. -/
def normed (f : ℕ → EReal) (b : ℕ) : EReal := centred f b * scale (centred f)
/-- The normalised row, scaled and shifted. -/
def scaled (f g h : ℕ → EReal) (b : ℕ) : EReal := normed f b * g b + h b

/-- A row's sum, kept as a column. -/
theorem row_sum {a b : ℕ} (v : FVec Ideal ⟨2, ![a, b]⟩ .f32) (h : (⟨2, ![a, b]⟩ : Shape).Reduces [1] ⟨1, ![a]⟩) (hφ : FKind.Formats .f32)
    (hacc : (0x00000000#32 : BitVec 32) = FKind.add.neutral .f32 hφ) (hc : (⟨1, ![a]⟩ : Shape).ShapeCasts ⟨2, ![a, 1]⟩) (r : Fin a) (u : Fin 1) :
    shapeCast ⟨2, ![a, 1]⟩ (multiReduction .add [1] ⟨1, ![a]⟩ v 0x00000000#32 h hφ hacc) hc (ix2 r u) = ∑ k : Fin b, v (ix2 r k) := by
  refine (ValueIdx.shapeCast_a_a1_apply _ hc r u).trans ((Ideal.multiReduction_add_single v _ h hφ hacc _).trans ?_)
  refine Finset.sum_congr rfl fun k _ => congrArg v (funext fun d => Fin.ext ?_)
  match d with
  | ⟨0, _⟩ => rfl
  | ⟨1, _⟩ => rfl

/-- A column spread over its row. -/
theorem spread {α : Type} {a b : ℕ} (v : (⟨2, ![a, 1]⟩ : Shape).Idx → α) (h : (⟨2, ![a, 1]⟩ : Shape).Broadcasts ⟨2, ![a, b]⟩) (r : Fin a) (s : Fin b) :
    broadcastTo ⟨2, ![a, b]⟩ v h (ix2 r s) = v (ix2 r 0) := by
  refine broadcastTo_apply v h (ix2 r s) (ix2 r 0) fun ax => ?_
  match ax with
  | ⟨0, _⟩ =>
    show r.val = if a = 1 then 0 else r.val
    split
    · have := r.isLt; omega
    · rfl
  | ⟨1, _⟩ => rfl

/-- The mean of a row of a block. -/
theorem mean_read {a : ℕ} (v : FVec Ideal ⟨2, ![a, 1024]⟩ .f32) (h : (⟨2, ![a, 1024]⟩ : Shape).Reduces [1] ⟨1, ![a]⟩) (hφ : FKind.Formats .f32)
    (hacc : (0x00000000#32 : BitVec 32) = FKind.add.neutral .f32 hφ) (hc : (⟨1, ![a]⟩ : Shape).ShapeCasts ⟨2, ![a, 1]⟩) (r : Fin a) (u : Fin 1)
    (f : ℕ → EReal) (hf : ∀ k : Fin 1024, (v (ix2 r k) : EReal) = f k.val) :
    divf (shapeCast ⟨2, ![a, 1]⟩ (multiReduction .add [1] ⟨1, ![a]⟩ v 0x00000000#32 h hφ hacc) hc)
      (broadcast ⟨2, ![a, 1]⟩ (Scalar.ofBits .f32 0x44800000#32)) (ix2 r u) = mean f :=
  congrArg (fun x : EReal => Ideal.div x (Ideal.ofBits .f32 0x44800000#32)) ((row_sum v h hφ hacc hc r u).trans (Finset.sum_congr rfl fun k _ => hf k))

end Cert.Product

end
-- ==== Proof.Loss.Regroup.lean ====
/-
  THE SUM OF AN ARRAY, GATHERED IN LANES, over the extended reals: a factor taken out of a sum, and the sum over all rows and columns cut into grid
  points, groups of eight rows and groups of 128 lanes. No program is named here.
-/
module

public import proofs.«01_k».proof.Proof.Product.Norm

@[expose] public section

noncomputable section

open Idealize.ShloMosaic Idealize.ShloMosaic.Tactic

namespace Cert.Product

/-- A factor that is a nonnegative real comes out of any sum. -/
theorem sum_factor {ι : Type} (s : Finset ι) (f : ι → EReal) {a : EReal} (h0 : 0 ≤ a) (ht : a ≠ ⊤) : ∑ i ∈ s, f i * a = (∑ i ∈ s, f i) * a := by
  classical
  induction s using Finset.induction_on with
  | empty => simp
  | insert i s hi ih =>
    rw [Finset.sum_insert hi, Finset.sum_insert hi, ih, mul_comm (f i), mul_comm (∑ i ∈ s, f i), mul_comm (f i + _),
      EReal.left_distrib_of_nonneg_of_ne_top h0 ht]

/-- A sum over `n * k` terms in `n` runs of `k`. -/
theorem sum_runs (f : ℕ → EReal) (n k : ℕ) : ∑ i ∈ Finset.range (n * k), f i = ∑ a ∈ Finset.range n, ∑ b ∈ Finset.range k, f (a * k + b) := by
  induction n with
  | zero => simp
  | succ n ih => rw [Nat.succ_mul, Finset.sum_range_add, ih, Finset.sum_range_succ]

/-- What one lane gathers of the `t`-th 512 rows. -/
def lane (q : ℕ → ℕ → EReal) (t a b : ℕ) : EReal :=
  ∑ j ∈ Finset.range 8, ∑ u ∈ Finset.range 64, q (t * 512 + (u * 8 + a)) (j * 128 + b)

/-- All lanes together gather every element once. -/
theorem lanes (q : ℕ → ℕ → EReal) :
    ∑ b ∈ Finset.range 128, ∑ a ∈ Finset.range 8, ∑ t ∈ Finset.range 16, lane q t a b = ∑ r ∈ Finset.range 8192, ∑ s ∈ Finset.range 1024, q r s := by
  have hr : ∀ g : ℕ → EReal, ∑ r ∈ Finset.range 8192, g r
      = ∑ t ∈ Finset.range 16, ∑ u ∈ Finset.range 64, ∑ a ∈ Finset.range 8, g (t * 512 + (u * 8 + a)) := fun g => by
    refine (sum_runs g 16 512).trans (Finset.sum_congr rfl fun t _ => ?_)
    exact sum_runs (fun i => g (t * 512 + i)) 64 8
  have hs : ∀ g : ℕ → EReal, ∑ s ∈ Finset.range 1024, g s = ∑ j ∈ Finset.range 8, ∑ b ∈ Finset.range 128, g (j * 128 + b) := fun g => sum_runs g 8 128
  rw [hr]
  simp only [hs]
  unfold lane
  rw [Finset.sum_comm (s := Finset.range 128) (t := Finset.range 8)]
  rw [show (∑ t ∈ Finset.range 16, ∑ u ∈ Finset.range 64, ∑ a ∈ Finset.range 8, ∑ j ∈ Finset.range 8, ∑ b ∈ Finset.range 128, q (t * 512 + (u * 8 + a)) (j * 128 + b))
      = ∑ a ∈ Finset.range 8, ∑ t ∈ Finset.range 16, ∑ u ∈ Finset.range 64, ∑ j ∈ Finset.range 8, ∑ b ∈ Finset.range 128, q (t * 512 + (u * 8 + a)) (j * 128 + b) from by
    rw [Finset.sum_comm (s := Finset.range 8) (t := Finset.range 16)]
    exact Finset.sum_congr rfl fun t _ => Finset.sum_comm]
  refine Finset.sum_congr rfl fun a _ => ?_
  rw [Finset.sum_comm (s := Finset.range 128) (t := Finset.range 16)]
  refine Finset.sum_congr rfl fun t _ => ?_
  rw [Finset.sum_comm (s := Finset.range 64) (t := Finset.range 8), Finset.sum_comm (s := Finset.range 128) (t := Finset.range 8)]
  exact Finset.sum_congr rfl fun j _ => Finset.sum_comm

/-- The words of the constants: 1024, a half, and a half divided by 1024. -/
theorem word_1024 : Ideal.ofBits .f32 0x44800000#32 = ((1024 : ℝ) : EReal) := by
  simp [Ideal.ofBits, Ideal.ieee, -EReal.coe_mul]
  try norm_num
theorem word_half : Ideal.ofBits .f32 0x3F000000#32 = ((1 / 2 : ℝ) : EReal) := by
  simp [Ideal.ofBits, Ideal.ieee, -EReal.coe_mul]
  try norm_num
theorem word_part : Ideal.ofBits .f32 0x3A000000#32 = ((1 / 2048 : ℝ) : EReal) := by
  simp [Ideal.ofBits, Ideal.ieee, -EReal.coe_mul]
  try norm_num

end Cert.Product

end
-- ==== Proof.Loss.Reference.lean ====
/-
  THE REFERENCE LOSS: its run, and its one element: half the sum over the tokens of the mean squared error.
-/
module

public import proofs.«01_k».proof.Proof.Loss.Regroup
public import proofs.«01_k».proof.Proof.Gen.Reference29Ideal
public import Idealize.ShloMosaic.Lib.StableHlo.Run

@[expose] public section

noncomputable section

open Idealize.ShloMosaic Idealize.ShloMosaic.TcCoe Idealize.ShloMosaic.Tactic Idealize.SL.Sem Idealize.ShloMosaic.StableHlo
open Cert.Product

namespace Cert.Loss.Reference

open Cert.Reference29Ideal Cert.Reference29Ideal.Gen

section

variable {F : FTy → Type} [FloatOps F]

/-- The lines of the reference. -/
abbrev lines : List (HloOp τ sig (Elt F)) :=
  [ binary main_arg0 main_arg4 main_v0 (subf : (⟨S8192x1024, .f32⟩ : BufTy).Contents (Elt F) → (⟨S8192x1024, .f32⟩ : BufTy).Contents (Elt F) → (⟨S8192x1024, .f32⟩ : BufTy).Contents (Elt F)),
    binary main_v0 main_v0 main_v1 (mulf : (⟨S8192x1024, .f32⟩ : BufTy).Contents (Elt F) → (⟨S8192x1024, .f32⟩ : BufTy).Contents (Elt F) → (⟨S8192x1024, .f32⟩ : BufTy).Contents (Elt F)),
    nullary main_cst (constant S_ .f32 0x00000000#32),
    binary main_v1 main_cst main_v2 ((fun x v => Host.reduceAdd x v reducesTo_S8192x1024_S8192_d1 h_S_) : (⟨S8192x1024, .f32⟩ : BufTy).Contents (Elt F) → (⟨S_, .f32⟩ : BufTy).Contents (Elt F) → (⟨S8192, .f32⟩ : BufTy).Contents (Elt F)),
    nullary main_cst_0 (constant S_ .f32 0x44800000#32),
    unary main_cst_0 main_v3 (broadcastInDim S8192 ![] bcast_S_S8192 : (⟨S_, .f32⟩ : BufTy).Contents (Elt F) → (⟨S8192, .f32⟩ : BufTy).Contents (Elt F)),
    binary main_v2 main_v3 main_v4 (Host.divf : (⟨S8192, .f32⟩ : BufTy).Contents (Elt F) → (⟨S8192, .f32⟩ : BufTy).Contents (Elt F) → (⟨S8192, .f32⟩ : BufTy).Contents (Elt F)),
    nullary main_cst_1 (constant S_ .f32 0x00000000#32),
    binary main_v4 main_cst_1 main_v5 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    reshape main_v5 main_v6 (rfl : (.f32 : EltTy) = .f32) shapeCasts_S_S1x1,
    nullary main_cst_2 (constant S_ .f32 0x3F000000#32),
    unary main_cst_2 main_v7 (broadcastInDim S1x1 ![] bcast_S_S1x1 : (⟨S_, .f32⟩ : BufTy).Contents (Elt F) → (⟨S1x1, .f32⟩ : BufTy).Contents (Elt F)),
    binary main_v7 main_v6 main_v8 (mulf : (⟨S1x1, .f32⟩ : BufTy).Contents (Elt F) → (⟨S1x1, .f32⟩ : BufTy).Contents (Elt F) → (⟨S1x1, .f32⟩ : BufTy).Contents (Elt F)) ]

theorem main_lines (c : Dev nD) : main (F := F) c = seq lines := rfl
theorem no_scoped_refs : (Finset.univ.filter fun b : Ref sig .tc => b.isScoped) = ∅ := by decide
theorem no_scoped_sems : (Finset.univ.filter fun sm : SemLoc sig => sm.isScoped .tc) = ∅ := by decide
theorem lines_sub : (lines : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub ..,
    nullary_bufs_sub .., binary_bufs_sub .., reshape_bufs_sub .., nullary_bufs_sub .., unary_bufs_sub .., binary_bufs_sub ..⟩

end

/-- The row means. -/
def means (x y : S8192x1024.Idx → EReal) : FVec Ideal S8192 .f32 :=
  Host.divf (F := Ideal) (φ := .f32) (Host.reduceAdd (mulf (F := Ideal) (φ := .f32) (subf x y) (subf x y)) (constant S_ .f32 0x00000000#32) reducesTo_S8192x1024_S8192_d1 h_S_)
    (broadcastInDim S8192 ![] bcast_S_S8192 (constant S_ .f32 0x44800000#32))
/-- What the reference computes. -/
def value (x y : S8192x1024.Idx → EReal) : FVec Ideal S1x1 .f32 :=
  mulf (broadcastInDim S1x1 ![] bcast_S_S1x1 (constant S_ .f32 0x3F000000#32))
    (shapeCast S1x1 (Host.reduceAdd (means x y) (constant S_ .f32 0x00000000#32) reducesTo_S8192_S_d0 h_S_) shapeCasts_S_S1x1)

/-- The reference runs, its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = value (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v8).trans (by unfold value means; after_results_simp; rfl),
      (h c main_arg0).trans (by after_results_simp), (h c main_arg1).trans (by after_results_simp), (h c main_arg2).trans (by after_results_simp),
      (h c main_arg3).trans (by after_results_simp), (h c main_arg4).trans (by after_results_simp)⟩)
    (run_seq no_scoped_refs no_scoped_sems defs main (fun _ => lines) main_lines (fun _ => lines_sub) m ρ)

/-- An element's squared error. -/
def sq (x y : S8192x1024.Idx → EReal) (a b : ℕ) : EReal := (at2 x a b - at2 y a b) * (at2 x a b - at2 y a b)

/-- A row's mean. -/
theorem mean_at (x y : S8192x1024.Idx → EReal) (j : S8192.Idx) :
    (means x y j : EReal) = Ideal.div (∑ s : Fin 1024, sq x y (j 0).val s.val) (Ideal.ofBits .f32 0x44800000#32) := by
  unfold means
  refine congrArg (fun z : EReal => Ideal.div z (Ideal.ofBits .f32 0x44800000#32)) ?_
  simp only [Host.reduceAdd, Ideal.hostReduceAdd_def]
  rw [Ideal.hostReduceAdd_single reducesTo_S8192x1024_S8192_d1 (by decide)]
  show Ideal.ofBits .f32 0x00000000#32 + _ = _
  rw [Ideal.ofBits_zero_f32, zero_add]
  refine Finset.sum_congr rfl fun k _ => ?_
  exact congrArg (fun e : EReal => e * e) (congrArg₂ (fun a b : EReal => a - b) (eq_at2 x _ rfl rfl) (eq_at2 y _ rfl rfl))

/-- A row's mean, halved, is the row's sum over 2048. -/
theorem half_mean (z : EReal) : ((1 / 2 : ℝ) : EReal) * Ideal.div z ((1024 : ℝ) : EReal) = z * ((1 / 2048 : ℝ) : EReal) := by
  unfold Ideal.div
  rw [if_neg (by norm_num), ← EReal.coe_inv, mul_comm, mul_assoc, ← EReal.coe_mul]
  congr 2
  norm_num

/-- The reference's element. -/
theorem element (x y : S8192x1024.Idx → EReal) (i : S1x1.Idx) :
    (value x y i : EReal) = (∑ r ∈ Finset.range 8192, ∑ s ∈ Finset.range 1024, sq x y r s) * ((1 / 2048 : ℝ) : EReal) := by
  have hs : ∀ u : S_.Idx, (Host.reduceAdd (means x y) (constant S_ .f32 0x00000000#32) reducesTo_S8192_S_d0 h_S_ u : EReal)
      = ∑ r : Fin 8192, Ideal.div (∑ s : Fin 1024, sq x y r.val s.val) ((1024 : ℝ) : EReal) := fun u => by
    simp only [Host.reduceAdd, Ideal.hostReduceAdd_def]
    rw [Ideal.hostReduceAdd_total reducesTo_S8192_S_d0 (fun b => b.elim0)]
    show Ideal.ofBits .f32 0x00000000#32 + _ = _
    rw [Ideal.ofBits_zero_f32, zero_add, ← word_1024]
    exact Fintype.sum_equiv ⟨fun j : S8192.Idx => (j 0 : Fin 8192), fun k => ix1 k, fun j => (eq_ix1 j).symm, fun k => rfl⟩ _ _ fun j => mean_at x y j
  unfold value
  refine (congrArg₂ (fun a b : EReal => a * b) word_half (hs _)).trans ?_
  have hr : ∀ r : ℕ, ∑ s : Fin 1024, sq x y r s.val = ∑ s ∈ Finset.range 1024, sq x y r s := fun r => Fin.sum_univ_eq_sum_range (sq x y r) 1024
  simp only [hr]
  rw [Fin.sum_univ_eq_sum_range (fun r => Ideal.div (∑ s ∈ Finset.range 1024, sq x y r s) ((1024 : ℝ) : EReal)) 8192, mul_comm,
    ← sum_factor _ _ (by norm_num) (EReal.coe_ne_top _), ← sum_factor _ _ (by norm_num) (EReal.coe_ne_top _)]
  exact Finset.sum_congr rfl fun r _ => (mul_comm _ _).trans (half_mean _)

end Cert.Loss.Reference

end
-- ==== Proof.Loss.Kernel.lean ====
/-
  THE LOSS CALL: every block of 512 tokens adds its squared errors, lane by lane, to an 8 × 128 buffer that the grid points hand on; the
  last point adds the lanes up into the buffer's first element. That element is the reference's loss.
-/
module

public import proofs.«01_k».proof.Proof.Loss.Reference
public import proofs.«01_k».proof.Proof.Product.Norm
public import proofs.«01_k».proof.Proof.Gen.Kernel29Ideal.Frame

@[expose] public section

set_option maxRecDepth 16384

noncomputable section

open Idealize.ShloMosaic Idealize.ShloMosaic.TcCoe Idealize.ShloMosaic.Tactic Idealize.SL.Sem
open Idealize.ShloMosaic.Pipeline (Dat)
open Cert.Product

namespace Cert.Loss

open Cert.Kernel29Ideal Cert.Kernel29Ideal.Gen
open Cert.Loss.Reference (sq)

variable {m : (ℓ : Loc nD τ sig) → Buf (Elt Ideal) ℓ} {c : Dev nD}

/-- 512 rows, folded into 64 groups of eight and added up over the groups. -/
theorem folded (e : FVec Ideal S512x1024 .f32) (a : Fin 8) (b : Fin 1024) :
    multiReduction .add [0] S8x1024 (shapeCast S64x8x1024 e shapeCasts_S512x1024_S64x8x1024) 0x00000000#32 reduces_S64x8x1024_S8x1024 (.inl rfl) rfl (ix2 a b)
      = ∑ u ∈ Finset.range 64, at2 e (u * 8 + a.val) b.val := by
  refine (Ideal.multiReduction_add_single _ _ reduces_S64x8x1024_S8x1024 (.inl rfl) rfl _).trans ?_
  refine Eq.trans (Finset.sum_congr rfl fun u _ => ?_) (Fin.sum_univ_eq_sum_range (fun u => at2 e (u * 8 + a.val) b.val) 64)
  have hu : u.val < 64 := u.isLt
  refine (shapeCast_apply e _ _ (ix2 ⟨u.val * 8 + a.val, by omega⟩ b) ?_).trans (eq_at2 e _ rfl rfl)
  rw [Shape.rowMajor_val_two, Shape.rowMajor_val_three]
  rfl

/-- A slice of 128 lanes. -/
theorem sliced (v : FVec Ideal S8x1024 .f32) (o : ℕ) (h : S8x1024.Slices ![0, o] S8x128) (a : Fin 8) (b : Fin 128) (ho : o + 128 ≤ 1024) :
    (extractStridedSlice S8x128 ![0, o] v h (ix2 a b) : EReal) = v (ix2 a ⟨o + b.val, by omega⟩) := by
  refine extractStridedSlice_apply _ v h _ _ fun ax => ?_
  match ax with
  | ⟨0, _⟩ => exact (Nat.zero_add _).symm
  | ⟨1, _⟩ => rfl

/-- What a block adds to a lane. -/
def added (v : FVec Ideal S512x1024 .f32) (a b : ℕ) : EReal :=
  ∑ j ∈ Finset.range 8, ∑ u ∈ Finset.range 64, at2 v (u * 8 + a) (j * 128 + b) * at2 v (u * 8 + a) (j * 128 + b)

theorem step_at (v : FVec Ideal S512x1024 .f32) (p : Vec Ideal S8x128 .f32) (a : Fin 8) (b : Fin 128) :
    (k0_pay10 v p (ix2 a b) : EReal) = p (ix2 a b) + added v a.val b.val * ((1 / 2048 : ℝ) : EReal) := by
  have hf : ∀ j : ℕ, (hj : j < 8) → multiReduction .add [0] S8x1024 (shapeCast S64x8x1024 (mulf v v) shapeCasts_S512x1024_S64x8x1024) 0x00000000#32 reduces_S64x8x1024_S8x1024 (.inl rfl) rfl
      (ix2 a ⟨j * 128 + b.val, by omega⟩) = ∑ u ∈ Finset.range 64, at2 v (u * 8 + a.val) (j * 128 + b.val) * at2 v (u * 8 + a.val) (j * 128 + b.val) := fun j hj => by
    refine (folded (mulf v v) a _).trans (Finset.sum_congr rfl fun u hu => ?_)
    have hu' : u < 64 := Finset.mem_range.mp hu
    unfold at2
    rw [dif_pos ⟨by omega, by omega⟩, dif_pos ⟨by omega, by omega⟩]
    rfl
  unfold k0_pay10
  dsimp only
  rw [shapeCast_self]
  refine congrArg₂ (fun x y : EReal => x + y) rfl (congrArg₂ (fun x y : EReal => x * y) ?_ word_part)
  unfold added
  simp only [Finset.sum_range_succ (n := 7), Finset.sum_range_succ (n := 6), Finset.sum_range_succ (n := 5), Finset.sum_range_succ (n := 4), Finset.sum_range_succ (n := 3),
    Finset.sum_range_succ (n := 2), Finset.sum_range_succ (n := 1), Finset.sum_range_one]
  refine congrArg₂ (fun x y : EReal => x + y) (congrArg₂ (fun x y : EReal => x + y) (congrArg₂ (fun x y : EReal => x + y) (congrArg₂ (fun x y : EReal => x + y)
    (congrArg₂ (fun x y : EReal => x + y) (congrArg₂ (fun x y : EReal => x + y) (congrArg₂ (fun x y : EReal => x + y) ?_ ?_) ?_) ?_) ?_) ?_) ?_) ?_
  · exact (sliced _ 0 _ a b (by omega)).trans (hf 0 (by omega))
  · exact (sliced _ 128 _ a b (by omega)).trans (hf 1 (by omega))
  · exact (sliced _ 256 _ a b (by omega)).trans (hf 2 (by omega))
  · exact (sliced _ 384 _ a b (by omega)).trans (hf 3 (by omega))
  · exact (sliced _ 512 _ a b (by omega)).trans (hf 4 (by omega))
  · exact (sliced _ 640 _ a b (by omega)).trans (hf 5 (by omega))
  · exact (sliced _ 768 _ a b (by omega)).trans (hf 6 (by omega))
  · exact (sliced _ 896 _ a b (by omega)).trans (hf 7 (by omega))

/-- All lanes added up. -/
theorem gathered (p : Vec Ideal S8x128 .f32) (i : S1x1.Idx) : (k0_pay13 p i : EReal) = ∑ b ∈ Finset.range 128, ∑ a ∈ Finset.range 8, at2 p a b := by
  obtain ⟨r, s, rfl⟩ : ∃ (r : Fin 1) (s : Fin 1), i = ix2 r s := ⟨i 0, i 1, eq_ix2 i⟩
  unfold k0_pay13
  dsimp only
  rw [shapeCast_self]
  refine (row_sum _ reduces_S1x128_S1 (.inl rfl) rfl shapeCasts_S1_S1x1 r s).trans ?_
  refine Eq.trans (Finset.sum_congr rfl fun b _ => ?_) (Fin.sum_univ_eq_sum_range (fun b => ∑ a ∈ Finset.range 8, at2 p a b) 128)
  refine (ValueIdx.shapeCast_a_1a_apply _ _ r b).trans ((Ideal.multiReduction_add_single p _ reduces_S8x128_S128 (.inl rfl) rfl _).trans ?_)
  refine Eq.trans (Finset.sum_congr rfl fun a _ => ?_) (Fin.sum_univ_eq_sum_range (fun a => at2 p a b.val) 8)
  exact eq_at2 p _ rfl rfl

section Cases

variable (i : grid0.Coords) (a1 : Memref sig .tc .vmem S512x1024 .f32) (h1 : a1.IsWhole) (a2 : Memref sig .tc .vmem S512x1024 .f32) (h2 : a2.IsWhole)
  (a3 : Memref sig .tc .vmem S512x1 .f32) (h3 : a3.IsWhole) (a4 : Memref sig .tc .vmem S1x1024 .f32) (h4 : a4.IsWhole)
  (a5 : Memref sig .tc .vmem S512x1024 .f32) (h5 : a5.IsWhole) (a6 : Memref sig .tc .vmem S512x1024 .f32) (h6 : a6.IsWhole)
  (a7 : Memref sig .tc .vmem S8x1024 .f32) (h7 : a7.IsWhole) (a8 : Memref sig .tc .vmem S8x1024 .f32) (h8 : a8.IsWhole)
  (a9 : Memref sig .tc .vmem S8x128 .f32) (h9 : a9.IsWhole) (a10 : Memref sig .tc .vmem S512x1024 .bf16) (h10 : a10.IsWhole)
  (x0 : Vec Ideal S512x1024 .f32) (x1 : Vec Ideal S512x1024 .f32) (x2 : Vec Ideal S512x1 .f32) (x3 : Vec Ideal S1x1024 .f32) (x4 : Vec Ideal S512x1024 .f32)
  (p6 : Vec Ideal S8x1024 .f32) (p7 : Vec Ideal S8x1024 .f32) (p8 : Vec Ideal S8x128 .f32)

/-- The first block starts from zero. -/
theorem first_lanes (e0 : cond0_0 i) (e1 : ¬cond0_1 i) :
    out0_A_8 c i a1 h1 a2 h2 a3 h3 a4 h4 a5 h5 a6 h6 a7 h7 a8 h8 a9 h9 a10 h10 e0 e1 x0 x1 x2 x3 x4 = k0_pay10 (k0_pay4 x0 x4) (k0_pay3 (F := Ideal)) := by
  unfold out0_A_8
  rw [View.read_writes_eq_canon _ _ _ (cover0_A_8 c i a1 h1 a2 h2 a3 h3 a4 h4 a5 h5 a6 h6 a7 h7 a8 h8 a9 h9 a10 h10 e0 e1 x0 x1 x2 x3 x4)]
  unfold kernelRun0_A
  dsimp only
  sl_unfold_words
  rw [View.canon_cons_unit_zero hz, View.readCov_unit_zero (S := S8x128) _ hz]
  simp only [View.readAt_eq_ld, h1.read_unread, h5.read_unread, View.ld_unit_zero (S := S512x1024) hz, shapeCast_self]

/-- A middle block adds to what was handed on. -/
theorem next_lanes (e0 : ¬cond0_0 i) (e1 : ¬cond0_1 i) :
    out0_B_8 c i a1 h1 a2 h2 a3 h3 a4 h4 a5 h5 a6 h6 a7 h7 a8 h8 a9 h9 a10 h10 e0 e1 x0 x1 x2 x3 x4 p6 p7 p8 = k0_pay10 (k0_pay4 x0 x4) p8 := by
  unfold out0_B_8
  rw [View.read_writes_eq_canon _ _ _ (cover0_B_8 c i a1 h1 a2 h2 a3 h3 a4 h4 a5 h5 a6 h6 a7 h7 a8 h8 a9 h9 a10 h10 e0 e1 x0 x1 x2 x3 x4 p6 p7 p8)]
  unfold kernelRun0_B
  dsimp only
  sl_unfold_words
  rw [View.canon_unit_zero hz]
  simp only [View.readAt_eq_ld, h1.read_unread, h5.read_unread, h9.read_unread, View.ld_unit_zero (S := S512x1024) hz, View.ld_unit_zero (S := S8x128) hz, shapeCast_self]

/-- The first element as a rectangle of the buffer. -/
abbrev corner : Rect S8x128 := Rect.unit (s := S8x128) ![0, 0] S1x1.size inb_S8x128_S1x1_0_0
theorem corner_at : (ix2 0 0 : S8x128.Idx) = corner.emb (ix2 0 0 : S1x1.Idx) := funext fun a => Fin.ext (by
  match a with
  | ⟨0, _⟩ => rfl
  | ⟨1, _⟩ => rfl)

/-- The last block adds to it too, and then writes the sum of all lanes into the first element. -/
theorem last_lanes (e0 : ¬cond0_0 i) (e1 : cond0_1 i) :
    out0_C_8 c i a1 h1 a2 h2 a3 h3 a4 h4 a5 h5 a6 h6 a7 h7 a8 h8 a9 h9 a10 h10 e0 e1 x0 x1 x2 x3 x4 p6 p7 p8 (ix2 0 0) = k0_pay13 (k0_pay10 (k0_pay4 x0 x4) p8) (ix2 0 0) := by
  unfold out0_C_8
  rw [View.read_writes_eq_canon _ _ _ (cover0_C_8 c i a1 h1 a2 h2 a3 h3 a4 h4 a5 h5 a6 h6 a7 h7 a8 h8 a9 h9 a10 h10 e0 e1 x0 x1 x2 x3 x4 p6 p7 p8)]
  unfold kernelRun0_C
  dsimp only
  sl_unfold_words
  rw [View.readCov_unit_zero (S := S8x128) _ hz]
  rw [corner_at]
  refine (View.canon_cons_emb corner _ _ (ix2 0 0 : S1x1.Idx)).trans ?_
  simp only [View.readAt_eq_ld, h1.read_unread, h5.read_unread, h9.read_unread, View.ld_unit_zero (S := S512x1024) hz, View.ld_unit_zero (S := S8x128) hz, shapeCast_self]

end Cases

theorem points (t : Fin cfg0.N) : t.val < 16 := t.isLt
theorem rows_0 : ∀ t : Fin cfg0.N, win0_0.index t = ![t.val, 0] := (by decide +kernel : ∀ t : Fin grid0.N, _)
theorem rows_4 : ∀ t : Fin cfg0.N, win0_4.index t = ![t.val, 0] := (by decide +kernel : ∀ t : Fin grid0.N, _)
theorem result : ∀ t : Fin cfg0.N, win0_8.index t = ![0, 0] := (by decide +kernel : ∀ t : Fin grid0.N, _)
theorem flushed : ∀ t : Fin cfg0.N, (cfg0.win 8).flush t → t.val = 15 := (by decide +kernel : ∀ t : Fin grid0.N, _)

/-- The last layer's output and the target. -/
abbrev xs (m : (ℓ : Loc nD τ sig) → Buf (Elt Ideal) ℓ) (c : Dev nD) : S8192x1024.Idx → EReal := m ((c : Thread nD τ).loc main_arg0)
abbrev ys (m : (ℓ : Loc nD τ sig) → Buf (Elt Ideal) ℓ) (c : Dev nD) : S8192x1024.Idx → EReal := m ((c : Thread nD τ).loc main_arg4)

theorem block_x (t : Fin cfg0.N) (k : Fin 512) (s : Fin 1024) : iblk m c 0 t (ix2 k s) = at2 (xs m c) (t.val * 512 + k.val) s.val := by
  refine (by blk_simp [iblk]; rfl : iblk m c 0 t (ix2 k s) = xs m c (((cfg0.win 0).blk t).view.emb (ix2 k s))).trans (eq_at2 (xs m c) _ ?_ ?_)
  · blk_simp [rows_0 t]
  · blk_simp [rows_0 t]
theorem block_y (t : Fin cfg0.N) (k : Fin 512) (s : Fin 1024) : iblk m c 4 t (ix2 k s) = at2 (ys m c) (t.val * 512 + k.val) s.val := by
  refine (by blk_simp [iblk]; rfl : iblk m c 4 t (ix2 k s) = ys m c (((cfg0.win 4).blk t).view.emb (ix2 k s))).trans (eq_at2 (ys m c) _ ?_ ?_)
  · blk_simp [rows_4 t]
  · blk_simp [rows_4 t]

/-- What a point adds to a lane. -/
theorem added_at (t : Fin cfg0.N) (a b : ℕ) (ha : a < 8) (hb : b < 128) :
    added (k0_pay4 (F := Ideal) (iblk m c 0 t) (iblk m c 4 t)) a b = lane (sq (xs m c) (ys m c)) t.val a b := by
  unfold added lane
  refine Finset.sum_congr rfl fun j hj => Finset.sum_congr rfl fun u hu => ?_
  have hj' : j < 8 := Finset.mem_range.mp hj
  have hu' : u < 64 := Finset.mem_range.mp hu
  have h : at2 (k0_pay4 (F := Ideal) (iblk m c 0 t) (iblk m c 4 t)) (u * 8 + a) (j * 128 + b)
      = at2 (xs m c) (t.val * 512 + (u * 8 + a)) (j * 128 + b) - at2 (ys m c) (t.val * 512 + (u * 8 + a)) (j * 128 + b) := by
    refine (eq_at2 (k0_pay4 (F := Ideal) (iblk m c 0 t) (iblk m c 4 t)) (ix2 ⟨u * 8 + a, by omega⟩ ⟨j * 128 + b, by omega⟩) rfl rfl).symm.trans ?_
    exact congrArg₂ (fun x y : EReal => x - y) (block_x t _ _) (block_y t _ _)
  rw [h]
  rfl

/-- A lane after `n` blocks, as the call scales it. -/
def gather (q : ℕ → ℕ → EReal) (n a b : ℕ) : EReal := (∑ t ∈ Finset.range n, lane q t a b) * ((1 / 2048 : ℝ) : EReal)
theorem gather_next (q : ℕ → ℕ → EReal) (n a b : ℕ) : gather q (n + 1) a b = gather q n a b + lane q n a b * ((1 / 2048 : ℝ) : EReal) := by
  unfold gather
  rw [Finset.sum_range_succ, mul_comm, EReal.left_distrib_of_nonneg_of_ne_top (by norm_num) (EReal.coe_ne_top _), mul_comm, mul_comm (lane q n a b)]

theorem zeros (a : Fin 8) (b : Fin 128) : (k0_pay3 (F := Ideal) (ix2 a b) : EReal) = 0 := Ideal.ofBits_zero_f32

/-- What a first, a middle and the last point leave. -/
theorem at_first (t : Fin cfg0.N) (h0 : t.val % 16 = 0) :
    (outsAt0 m c t.val t.isLt).2.2.2.1 = k0_pay10 (k0_pay4 (iblk m c 0 t) (iblk m c 4 t)) (k0_pay3 (F := Ideal)) := by
  rw [outsAt0_A m c t h0 (by omega)]
  dsimp only
  rw [first_lanes]
theorem at_next (t : Fin cfg0.N) (h0 : ¬t.val % 16 = 0) (h1 : ¬t.val % 16 = 15) : (outsAt0 m c t.val t.isLt).2.2.2.1
    = k0_pay10 (k0_pay4 (iblk m c 0 t) (iblk m c 4 t)) (outsAt0 m c (t.val - 1) (Nat.lt_of_le_of_lt (Nat.sub_le _ _) t.isLt)).2.2.2.1 := by
  rw [outsAt0_B m c t h0 h1]
  dsimp only
  rw [next_lanes]
theorem at_last (t : Fin cfg0.N) (h1 : t.val % 16 = 15) : (outsAt0 m c t.val t.isLt).2.2.2.1 (ix2 0 0)
    = k0_pay13 (k0_pay10 (k0_pay4 (iblk m c 0 t) (iblk m c 4 t)) (outsAt0 m c (t.val - 1) (Nat.lt_of_le_of_lt (Nat.sub_le _ _) t.isLt)).2.2.2.1) (ix2 0 0) := by
  rw [outsAt0_C m c t (by omega) h1]
  dsimp only
  rw [last_lanes]

/-- The lanes after a point that is not the last. -/
theorem handed_on (n : ℕ) (hn : n < cfg0.N) (hl : ¬n % 16 = 15) (a : Fin 8) (b : Fin 128) :
    ((outsAt0 m c n hn).2.2.2.1 (ix2 a b) : EReal) = gather (sq (xs m c) (ys m c)) (n + 1) a.val b.val := by
  have hN := points ⟨n, hn⟩
  dsimp only at hN
  rw [gather_next]
  by_cases h0 : n % 16 = 0
  · have hz : n = 0 := by omega
    rw [at_first ⟨n, hn⟩ h0, step_at, zeros, added_at ⟨n, hn⟩ a.val b.val a.isLt b.isLt]
    subst hz
    refine congrArg (fun x : EReal => x + _) ?_
    unfold gather
    rw [Finset.sum_range_zero, zero_mul]
  · cases n with
    | zero => exact absurd rfl h0
    | succ n =>
      rw [at_next ⟨n + 1, hn⟩ h0 hl, step_at, added_at ⟨n + 1, hn⟩ a.val b.val a.isLt b.isLt]
      exact congrArg (fun x : EReal => x + _) (handed_on n (Nat.lt_of_succ_lt hn) (by omega) a b)

/-- The first element after the last point. -/
theorem total (t : Fin cfg0.N) (hl : t.val = 15) :
    ((outsAt0 m c t.val t.isLt).2.2.2.1 (ix2 0 0) : EReal) = (∑ r ∈ Finset.range 8192, ∑ s ∈ Finset.range 1024, sq (xs m c) (ys m c) r s) * ((1 / 2048 : ℝ) : EReal) := by
  rw [at_last t (by omega), gathered]
  have hg : ∀ b ∈ Finset.range 128, ∀ a ∈ Finset.range 8,
      at2 (k0_pay10 (k0_pay4 (iblk m c 0 t) (iblk m c 4 t)) (outsAt0 m c (t.val - 1) (Nat.lt_of_le_of_lt (Nat.sub_le _ _) t.isLt)).2.2.2.1) a b
        = (∑ t ∈ Finset.range 16, lane (sq (xs m c) (ys m c)) t a b) * ((1 / 2048 : ℝ) : EReal) := fun b hb a ha => by
    have hb' : b < 128 := Finset.mem_range.mp hb
    have ha' : a < 8 := Finset.mem_range.mp ha
    refine (eq_at2 _ (ix2 ⟨a, ha'⟩ ⟨b, hb'⟩) rfl rfl).symm.trans ?_
    rw [step_at, handed_on (t.val - 1) _ (by omega), added_at t a b ha' hb']
    have e : t.val - 1 + 1 = t.val := by omega
    rw [e, ← gather_next, hl]
    rfl
  rw [Finset.sum_congr rfl fun b hb => Finset.sum_congr rfl fun a ha => hg b hb a ha]
  rw [Finset.sum_congr rfl fun b _ => sum_factor (Finset.range 8) _ (by norm_num) (EReal.coe_ne_top _), sum_factor (Finset.range 128) _ (by norm_num) (EReal.coe_ne_top _),
    lanes]

/-- The first element of the call's array. -/
theorem array : ((dats m 0 c).arrAt 8 cfg0.N (ix2 0 0 : S8x128.Idx) : EReal)
    = (∑ r ∈ Finset.range 8192, ∑ s ∈ Finset.range 1024, sq (xs m c) (ys m c) r s) * ((1 / 2048 : ℝ) : EReal) := by
  refine ((dats m 0 c).arrAt_forall_of_covers 8 (fun i v => i = (ix2 0 0 : S8x128.Idx) → (v : EReal) = (∑ r ∈ Finset.range 8192, ∑ s ∈ Finset.range 1024, sq (xs m c) (ys m c) r s) * ((1 / 2048 : ℝ) : EReal))
    (by decide +kernel) (fun t hf y => ?_) (ix2 0 0 : S8x128.Idx) : _ → _) rfl
  have hl : t.val = 15 := flushed t hf
  intro hy
  have h0 : (y 0).val = 0 := by
    have h := congrArg (fun z : S8x128.Idx => (z 0).val) hy
    blk_simp [result t] at h
    exact h
  have h1 : (y 1).val = 0 := by
    have h := congrArg (fun z : S8x128.Idx => (z 1).val) hy
    blk_simp [result t] at h
    exact h
  have hy0 : y = (ix2 0 0 : S8x128.Idx) := funext fun a => Fin.ext (by
    match a with
    | ⟨0, _⟩ => exact h0
    | ⟨1, _⟩ => exact h1)
  subst hy0
  rw [after0_8]
  exact total t hl

/-- The call's result, sliced out of its array. -/
def value (m : (ℓ : Loc nD τ sig) → Buf (Elt Ideal) ℓ) (c : Dev nD) : FVec Ideal S1x1 .f32 :=
  extractStridedSlice S1x1 ![0, 0] ((dats m 0 c).arrAt 8 cfg0.N) slices_S8x128_S1x1_0_0

/-- It is the reference's loss. -/
theorem same : value m c = Reference.value (xs m c) (ys m c) := by
  funext i
  refine Eq.trans ?_ (Reference.element (xs m c) (ys m c) i).symm
  refine Eq.trans ?_ array
  refine extractStridedSlice_apply _ _ _ i (ix2 0 0 : S8x128.Idx) fun ax => ?_
  match ax with
  | ⟨0, _⟩ => have := (i 0).isLt; show 0 = 0 + (i 0).val; change (i 0).val < 1 at this; omega
  | ⟨1, _⟩ => have := (i 1).isLt; show 0 = 0 + (i 1).val; change (i 1).val < 1 at this; omega

theorem off_arrays : ∀ w : Fin cfg0.W, (spec0 w).arr.view.ref ≠ main_v1 := by decide
theorem arrays_apart : Function.Injective (Pipeline.arrRef spec0) := by decide

/-- The call runs: its result, its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v1 (Pipeline.mem_restRefs_of main_v1 rfl off_arrays)).trans (by
        unfold Pipeline.afterTail₀ hostOps1 value
        simp only [List.flatten_cons, List.flatten_nil, List.append_nil]
        after_results_simp
        exact congrArg (fun x => extractStridedSlice S1x1 ![0, 0] x slices_S8x128_S1x1_0_0)
          (Pipeline.withArrays_arr spec0 arrays_apart c (V0 m c) (fun w => (dats m 0 c).arrAt w cfg0.N) 8)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.Loss

end
-- ==== Proof.Product.DWPsb.lean ====
/-
  THE GRADIENT OF THE STICK-BREAKING BRANCH'S PROJECTION (`dwp_sb`): gathered over four blocks of 2048 tokens in a
  buffer that the grid points hand on; the fourth point writes the sum out. The reference, the transpose of the linear map,
  is the same sum over all tokens.
-/
module

public import proofs.«01_k».proof.Proof.Product.Sums
public import proofs.«01_k».proof.Proof.Gen.Kernel30Ideal.Value
public import proofs.«01_k».proof.Proof.Gen.Reference30Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWPsb

open Cert.Kernel30Ideal Cert.Kernel30Ideal.Gen Cert.Kernel30Ideal.Value

variable {m : (ℓ : Loc nD τ sig) → Buf (Elt Ideal) ℓ} {c : Dev nD}

/-- The product of one block of tokens. -/
theorem part (x : Vec Ideal S2048x512 .bf16) (g : Vec Ideal S2048x1024 .bf16) (r : Fin 512) (s : Fin 1024) :
    k0_pay1 x g (ix2 r s) = ∑ k : Fin 2048, x (ix2 k r) * g (ix2 k s) := by
  unfold k0_pay1
  exact zero_tn _ none x g r s

section Cases

variable (i : grid0.Coords) (a0 : Memref sig .tc .vmem S2048x512 .bf16) (h0 : a0.IsWhole) (a1 : Memref sig .tc .vmem S2048x1024 .bf16) (h1 : a1.IsWhole)
  (a2 : Memref sig .tc .vmem S512x1024 .bf16) (h2 : a2.IsWhole) (a3 : Memref sig .tc .vmem S512x1024 .f32) (h3 : a3.IsWhole)
  (x : Vec Ideal S2048x512 .bf16) (g : Vec Ideal S2048x1024 .bf16) (p : Vec Ideal S512x1024 .f32)

/-- A first block starts the sum. -/
theorem first_sum (e0 : cond0_0 i) (e1 : ¬cond0_1 i) (e2 : ¬cond0_2 i) :
    sout0_A_0 c i a0 h0 a1 h1 a2 h2 a3 h3 e0 e1 e2 x g = k0_pay1 x g := by
  unfold sout0_A_0
  rw [View.read_writes_eq_canon _ _ _ (scover0_A_0 c i a0 h0 a1 h1 a2 h2 a3 h3 e0 e1 e2 x g)]
  unfold kernelRun0_A
  dsimp only
  rw [View.canon_unit_zero hz]
  unfold k0_pay2
  simp only [View.readAt_eq_ld, h0.read_unread, h1.read_unread, View.ld_unit_zero (S := S2048x512) hz, View.ld_unit_zero (S := S2048x1024) hz, shapeCast_self]

/-- A middle block adds to it. -/
theorem next_sum (e0 : ¬cond0_0 i) (e1 : cond0_1 i) (e2 : ¬cond0_2 i) :
    sout0_B_0 c i a0 h0 a1 h1 a2 h2 a3 h3 e0 e1 e2 x g p = addf p (k0_pay1 x g) := by
  unfold sout0_B_0
  rw [View.read_writes_eq_canon _ _ _ (scover0_B_0 c i a0 h0 a1 h1 a2 h2 a3 h3 e0 e1 e2 x g p)]
  unfold kernelRun0_B
  dsimp only
  rw [View.canon_unit_zero hz]
  unfold k0_pay3
  simp only [View.readAt_eq_ld, h0.read_unread, h1.read_unread, h3.read_unread, View.ld_unit_zero (S := S2048x512) hz, View.ld_unit_zero (S := S2048x1024) hz, View.ld_unit_zero (S := S512x1024) hz, shapeCast_self]

/-- A last block writes the sum out. -/
theorem last_out (e0 : ¬cond0_0 i) (e1 : cond0_1 i) (e2 : cond0_2 i) :
    out0_C_2 c i a0 h0 a1 h1 a2 h2 a3 h3 e0 e1 e2 x g p = truncf .bf16 (addf p (k0_pay1 x g)) bitsLt_bf16_f32 := by
  unfold out0_C_2
  rw [View.read_writes_eq_canon _ _ _ (cover0_C_2 c i a0 h0 a1 h1 a2 h2 a3 h3 e0 e1 e2 x g p)]
  unfold kernelRun0_C
  dsimp only
  sl_unfold_words
  rw [View.canon_unit_zero hz, View.readCov_unit_zero (S := S512x1024) _ hz]
  unfold k0_pay4 k0_pay3
  simp only [View.readAt_eq_ld, h0.read_unread, h1.read_unread, h3.read_unread, View.ld_unit_zero (S := S2048x512) hz, View.ld_unit_zero (S := S2048x1024) hz, View.ld_unit_zero (S := S512x1024) hz, shapeCast_self]

end Cases

theorem points (t : Fin cfg0.N) : t.val < 4 := t.isLt
theorem left_block : ∀ t : Fin cfg0.N, win0_0.index t = ![t.val % 4, 0] := (by decide +kernel : ∀ t : Fin grid0.N, _)
theorem right_block : ∀ t : Fin cfg0.N, win0_1.index t = ![t.val % 4, 0] := (by decide +kernel : ∀ t : Fin grid0.N, _)
theorem result : ∀ t : Fin cfg0.N, win0_2.index t = ![0, 0] := (by decide +kernel : ∀ t : Fin grid0.N, _)

/-- The activations and the cotangent. -/
abbrev xs (m : (ℓ : Loc nD τ sig) → Buf (Elt Ideal) ℓ) (c : Dev nD) : S8192x512.Idx → EReal := m ((c : Thread nD τ).loc main_arg0)
abbrev ct (m : (ℓ : Loc nD τ sig) → Buf (Elt Ideal) ℓ) (c : Dev nD) : S8192x1024.Idx → EReal := m ((c : Thread nD τ).loc main_arg1)

/-- One token's term. -/
def term (x : S8192x512.Idx → EReal) (g : S8192x1024.Idx → EReal) (a b k : ℕ) : EReal := at2 x k a * at2 g k b

theorem block_x (t : Fin cfg0.N) (k : Fin 2048) (r : Fin 512) : iblk m c 0 t (ix2 k r) = at2 (xs m c) (t.val % 4 * 2048 + k.val) r.val := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 1024) : iblk m c 1 t (ix2 k s) = at2 (ct m c) (t.val % 4 * 2048 + k.val) s.val := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 512) (s : Fin 1024) :
    k0_pay1 (F := Ideal) (iblk m c 0 t) (iblk m c 1 t) (ix2 r s) = ∑ k : Fin 2048, term (xs m c) (ct m c) r s (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2 = k0_pay1 (iblk m c 0 t) (iblk m c 1 t) := by
  have ht := points t
  rw [outsAt0_A m c t h0 (by omega) (by omega)]
  dsimp only
  rw [first_sum]
theorem at_next (t : Fin cfg0.N) (h0 : ¬t.val % 4 = 0) (h3 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  have ht := points t
  rw [outsAt0_B m c t h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2 (k0_pay1 (iblk m c 0 t) (iblk m c 1 t))) bitsLt_bf16_f32 := by
  have ht := points t
  rw [outsAt0_C m c t (by omega) (by omega) h3]
  dsimp only
  rw [last_out]

/-- The sum handed on after a point that is not the last of its run. -/
theorem sums (n : ℕ) (hn : n < cfg0.N) (hl : ¬n % 4 = 3) (r : Fin 512) (s : Fin 1024) :
    (outsAt0 m c n hn).2 (ix2 r s) = ∑ k ∈ Finset.range (n % 4 * 2048 + 2048), term (xs m c) (ct m c) r s k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) r s) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e2 : n % 4 * 2048 + 2048 = (n + 1) % 4 * 2048 := by omega
      rw [e2]
      exact sum_next (term (xs m c) (ct m c) r s) ((n + 1) % 4 * 2048) 2048

/-- What a last point writes out. -/
theorem out (t : Fin cfg0.N) (hl : t.val % 4 = 3) (r : Fin 512) (s : Fin 1024) :
    (outsAt0 m c t.val t.isLt).1 (ix2 r s) = ∑ k ∈ Finset.range 8192, term (xs m c) (ct m c) r s k := by
  rw [at_last t hl]
  refine (congrArg₂ (· + ·) (sums (t.val - 1) (Nat.lt_of_le_of_lt (Nat.sub_le _ _) t.isLt) (by omega) r s) (part_at t r s)).trans ?_
  have e2 : (t.val - 1) % 4 * 2048 + 2048 = t.val % 4 * 2048 := by omega
  have ht := points t
  have e3 : 8192 = t.val % 4 * 2048 + 2048 := by omega
  rw [e2, e3]
  exact sum_next (term (xs m c) (ct m c) r s) (t.val % 4 * 2048) 2048

/-- The call's array, element by element. -/
theorem array (i : S512x1024.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  have ht := points t
  blk_simp [result t]
  rw [after0_2]
  idx_bounds y
  exact (congrArg _ (eq_ix2 (n0 := 512) (n1 := 1024) y)).trans (out t hl (y 0) (y 1))

/-- The reference at an element. -/
theorem reference (x : S8192x512.Idx → EReal) (g : S8192x1024.Idx → EReal) (i : S512x1024.Idx) :
    (Cert.Reference30Ideal.Read.val_main_v4 (F := Ideal) x g i : EReal) = ∑ k : Fin 8192, term x g (i 0).val (i 1).val k.val :=
  (Cert.Reference30Ideal.Read.val_main_v3_apply (F := Ideal) x g i).trans ((Cert.Reference30Ideal.Read.val_main_v2_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference30Ideal.Read.val_main_v4 (F := Ideal) (xs m c) (ct m c) := by
  funext i
  exact (array i).trans ((reference (xs m c) (ct m c) i).trans (Fin.sum_univ_eq_sum_range (term (xs m c) (ct m c) (i 0).val (i 1).val) 8192)).symm

end Cert.Product.DWPsb

end
-- ==== Proof.Conv.Reference.lean ====
/-
  THE REFERENCE OF THE GATED CONVOLUTION: its run, and its elements: a causal convolution of three taps along each sequence, its
  GELU, times the other half.
-/
module

public import proofs.«01_k».proof.Proof.Product.Sums
public import proofs.«01_k».proof.Proof.Gen.Reference31Ideal
public import Idealize.ShloMosaic.PureOps.Ideal.Laws
public import Idealize.ShloMosaic.Lib.StableHlo.Run

@[expose] public section

set_option maxRecDepth 16384

noncomputable section

open Idealize.ShloMosaic Idealize.ShloMosaic.TcCoe Idealize.ShloMosaic.Tactic Idealize.SL.Sem Idealize.ShloMosaic.StableHlo
open Cert.Product

namespace Cert.Conv

/-- The gate half `n` rows earlier in the same sequence; zero before its start. -/
def past (u : (⟨2, ![8192, 5632]⟩ : Shape).Idx → EReal) (n a b : ℕ) : EReal := if a % 4096 < n then 0 else at2 u (a - n) b
/-- The convolution. -/
def conv (u : (⟨2, ![8192, 5632]⟩ : Shape).Idx → EReal) (w : (⟨2, ![3, 2816]⟩ : Shape).Idx → EReal) (h : (⟨2, ![1, 2816]⟩ : Shape).Idx → EReal) (a b : ℕ) : EReal :=
  at2 h 0 b + at2 w 2 b * at2 u a b + at2 w 1 b * past u 1 a b + at2 w 0 b * past u 2 a b
/-- The GELU by the error function. -/
def gelu (x : EReal) : EReal := Ideal.ofBits .f32 0x3F000000#32 * x * (1 + Ideal.erf (x * Ideal.ofBits .f32 0x3F3504F3#32))
/-- The gated element. -/
def gated (u : (⟨2, ![8192, 5632]⟩ : Shape).Idx → EReal) (w : (⟨2, ![3, 2816]⟩ : Shape).Idx → EReal) (h : (⟨2, ![1, 2816]⟩ : Shape).Idx → EReal) (a b : ℕ) : EReal :=
  gelu (conv u w h a b) * at2 u a (2816 + b)

namespace Reference

open Cert.Reference31Ideal Cert.Reference31Ideal.Gen

section

variable {F : FTy → Type} [FloatOps F]

/-- The lines of the reference. -/
abbrev lines : List (HloOp τ sig (Elt F)) :=
  [ unary main_arg0 main_v0 ((extf .f32 · bitsLt_bf16_f32) : (⟨S8192x5632, .bf16⟩ : BufTy).Contents (Elt F) → (⟨S8192x5632, .f32⟩ : BufTy).Contents (Elt F)),
    reshape main_v0 main_v1 (rfl : (.f32 : EltTy) = .f32) shapeCasts_S8192x5632_S2x4096x5632,
    unary main_v1 main_v2 ((extractStridedSlice S2x4096x2816 ![0, 0, 0] · slices_S2x4096x5632_S2x4096x2816_0_0_0) : (⟨S2x4096x5632, .f32⟩ : BufTy).Contents (Elt F) → (⟨S2x4096x2816, .f32⟩ : BufTy).Contents (Elt F)),
    unary main_v1 main_v3 ((extractStridedSlice S2x4096x2816 ![0, 0, 2816] · slices_S2x4096x5632_S2x4096x2816_0_0_2816) : (⟨S2x4096x5632, .f32⟩ : BufTy).Contents (Elt F) → (⟨S2x4096x2816, .f32⟩ : BufTy).Contents (Elt F)),
    reshape main_arg2 main_v4 (rfl : (.f32 : EltTy) = .f32) shapeCasts_S1x2816_S2816,
    nullary main_cst (constant S_ .f32 0x00000000#32),
    binary main_v2 main_cst main_v5 ((fun x v => pad S2x4098x2816 ![0, 2, 0] ![0, 0, 0] ![0, 0, 0] x v pads_S2x4096x2816_S2x4098x2816_000_200_000 h_S_) : (⟨S2x4096x2816, .f32⟩ : BufTy).Contents (Elt F) → (⟨S_, .f32⟩ : BufTy).Contents (Elt F) → (⟨S2x4098x2816, .f32⟩ : BufTy).Contents (Elt F)),
    unary main_arg1 main_v6 ((extractStridedSlice S1x2816 ![0, 0] · slices_S3x2816_S1x2816_0_0) : (⟨S3x2816, .f32⟩ : BufTy).Contents (Elt F) → (⟨S1x2816, .f32⟩ : BufTy).Contents (Elt F)),
    reshape main_v6 main_v7 (rfl : (.f32 : EltTy) = .f32) shapeCasts_S1x2816_S2816,
    unary main_v5 main_v8 ((extractStridedSlice S2x4096x2816 ![0, 0, 0] · slices_S2x4098x2816_S2x4096x2816_0_0_0) : (⟨S2x4098x2816, .f32⟩ : BufTy).Contents (Elt F) → (⟨S2x4096x2816, .f32⟩ : BufTy).Contents (Elt F)),
    unary main_v7 main_v9 (broadcastInDim S1x1x2816 ![2] bcast_S2816_S1x1x2816_2 : (⟨S2816, .f32⟩ : BufTy).Contents (Elt F) → (⟨S1x1x2816, .f32⟩ : BufTy).Contents (Elt F)),
    unary main_v9 main_v10 (broadcastInDim S2x4096x2816 ![0, 1, 2] bcast_S1x1x2816_S2x4096x2816_0_1_2 : (⟨S1x1x2816, .f32⟩ : BufTy).Contents (Elt F) → (⟨S2x4096x2816, .f32⟩ : BufTy).Contents (Elt F)),
    binary main_v10 main_v8 main_v11 (mulf : (⟨S2x4096x2816, .f32⟩ : BufTy).Contents (Elt F) → (⟨S2x4096x2816, .f32⟩ : BufTy).Contents (Elt F) → (⟨S2x4096x2816, .f32⟩ : BufTy).Contents (Elt F)),
    unary main_v4 main_v12 (broadcastInDim S1x1x2816 ![2] bcast_S2816_S1x1x2816_2 : (⟨S2816, .f32⟩ : BufTy).Contents (Elt F) → (⟨S1x1x2816, .f32⟩ : BufTy).Contents (Elt F)),
    unary main_v12 main_v13 (broadcastInDim S2x4096x2816 ![0, 1, 2] bcast_S1x1x2816_S2x4096x2816_0_1_2 : (⟨S1x1x2816, .f32⟩ : BufTy).Contents (Elt F) → (⟨S2x4096x2816, .f32⟩ : BufTy).Contents (Elt F)),
    binary main_v13 main_v11 main_v14 (addf : (⟨S2x4096x2816, .f32⟩ : BufTy).Contents (Elt F) → (⟨S2x4096x2816, .f32⟩ : BufTy).Contents (Elt F) → (⟨S2x4096x2816, .f32⟩ : BufTy).Contents (Elt F)),
    unary main_arg1 main_v15 ((extractStridedSlice S1x2816 ![1, 0] · slices_S3x2816_S1x2816_1_0) : (⟨S3x2816, .f32⟩ : BufTy).Contents (Elt F) → (⟨S1x2816, .f32⟩ : BufTy).Contents (Elt F)),
    reshape main_v15 main_v16 (rfl : (.f32 : EltTy) = .f32) shapeCasts_S1x2816_S2816,
    unary main_v5 main_v17 ((extractStridedSlice S2x4096x2816 ![0, 1, 0] · slices_S2x4098x2816_S2x4096x2816_0_1_0) : (⟨S2x4098x2816, .f32⟩ : BufTy).Contents (Elt F) → (⟨S2x4096x2816, .f32⟩ : BufTy).Contents (Elt F)),
    unary main_v16 main_v18 (broadcastInDim S1x1x2816 ![2] bcast_S2816_S1x1x2816_2 : (⟨S2816, .f32⟩ : BufTy).Contents (Elt F) → (⟨S1x1x2816, .f32⟩ : BufTy).Contents (Elt F)),
    unary main_v18 main_v19 (broadcastInDim S2x4096x2816 ![0, 1, 2] bcast_S1x1x2816_S2x4096x2816_0_1_2 : (⟨S1x1x2816, .f32⟩ : BufTy).Contents (Elt F) → (⟨S2x4096x2816, .f32⟩ : BufTy).Contents (Elt F)),
    binary main_v19 main_v17 main_v20 (mulf : (⟨S2x4096x2816, .f32⟩ : BufTy).Contents (Elt F) → (⟨S2x4096x2816, .f32⟩ : BufTy).Contents (Elt F) → (⟨S2x4096x2816, .f32⟩ : BufTy).Contents (Elt F)),
    binary main_v14 main_v20 main_v21 (addf : (⟨S2x4096x2816, .f32⟩ : BufTy).Contents (Elt F) → (⟨S2x4096x2816, .f32⟩ : BufTy).Contents (Elt F) → (⟨S2x4096x2816, .f32⟩ : BufTy).Contents (Elt F)),
    unary main_arg1 main_v22 ((extractStridedSlice S1x2816 ![2, 0] · slices_S3x2816_S1x2816_2_0) : (⟨S3x2816, .f32⟩ : BufTy).Contents (Elt F) → (⟨S1x2816, .f32⟩ : BufTy).Contents (Elt F)),
    reshape main_v22 main_v23 (rfl : (.f32 : EltTy) = .f32) shapeCasts_S1x2816_S2816,
    unary main_v5 main_v24 ((extractStridedSlice S2x4096x2816 ![0, 2, 0] · slices_S2x4098x2816_S2x4096x2816_0_2_0) : (⟨S2x4098x2816, .f32⟩ : BufTy).Contents (Elt F) → (⟨S2x4096x2816, .f32⟩ : BufTy).Contents (Elt F)),
    unary main_v23 main_v25 (broadcastInDim S1x1x2816 ![2] bcast_S2816_S1x1x2816_2 : (⟨S2816, .f32⟩ : BufTy).Contents (Elt F) → (⟨S1x1x2816, .f32⟩ : BufTy).Contents (Elt F)),
    unary main_v25 main_v26 (broadcastInDim S2x4096x2816 ![0, 1, 2] bcast_S1x1x2816_S2x4096x2816_0_1_2 : (⟨S1x1x2816, .f32⟩ : BufTy).Contents (Elt F) → (⟨S2x4096x2816, .f32⟩ : BufTy).Contents (Elt F)),
    binary main_v26 main_v24 main_v27 (mulf : (⟨S2x4096x2816, .f32⟩ : BufTy).Contents (Elt F) → (⟨S2x4096x2816, .f32⟩ : BufTy).Contents (Elt F) → (⟨S2x4096x2816, .f32⟩ : BufTy).Contents (Elt F)),
    binary main_v21 main_v27 main_v28 (addf : (⟨S2x4096x2816, .f32⟩ : BufTy).Contents (Elt F) → (⟨S2x4096x2816, .f32⟩ : BufTy).Contents (Elt F) → (⟨S2x4096x2816, .f32⟩ : BufTy).Contents (Elt F)),
    nullary main_cst_0 (constant S_ .f32 0x3F000000#32),
    unary main_cst_0 main_v29 (broadcastInDim S2x4096x2816 ![] bcast_S_S2x4096x2816 : (⟨S_, .f32⟩ : BufTy).Contents (Elt F) → (⟨S2x4096x2816, .f32⟩ : BufTy).Contents (Elt F)),
    binary main_v29 main_v28 main_v30 (mulf : (⟨S2x4096x2816, .f32⟩ : BufTy).Contents (Elt F) → (⟨S2x4096x2816, .f32⟩ : BufTy).Contents (Elt F) → (⟨S2x4096x2816, .f32⟩ : BufTy).Contents (Elt F)),
    unary main_v28 main_v31 (Host.negf : (⟨S2x4096x2816, .f32⟩ : BufTy).Contents (Elt F) → (⟨S2x4096x2816, .f32⟩ : BufTy).Contents (Elt F)),
    nullary main_cst_1 (constant S_ .f32 0x3F3504F3#32),
    unary main_cst_1 main_v32 (broadcastInDim S2x4096x2816 ![] bcast_S_S2x4096x2816 : (⟨S_, .f32⟩ : BufTy).Contents (Elt F) → (⟨S2x4096x2816, .f32⟩ : BufTy).Contents (Elt F)),
    binary main_v31 main_v32 main_v33 (mulf : (⟨S2x4096x2816, .f32⟩ : BufTy).Contents (Elt F) → (⟨S2x4096x2816, .f32⟩ : BufTy).Contents (Elt F) → (⟨S2x4096x2816, .f32⟩ : BufTy).Contents (Elt F)),
    unary main_v33 main_v34 (Host.erfc : (⟨S2x4096x2816, .f32⟩ : BufTy).Contents (Elt F) → (⟨S2x4096x2816, .f32⟩ : BufTy).Contents (Elt F)),
    binary main_v30 main_v34 main_v35 (mulf : (⟨S2x4096x2816, .f32⟩ : BufTy).Contents (Elt F) → (⟨S2x4096x2816, .f32⟩ : BufTy).Contents (Elt F) → (⟨S2x4096x2816, .f32⟩ : BufTy).Contents (Elt F)),
    binary main_v35 main_v3 main_v36 (mulf : (⟨S2x4096x2816, .f32⟩ : BufTy).Contents (Elt F) → (⟨S2x4096x2816, .f32⟩ : BufTy).Contents (Elt F) → (⟨S2x4096x2816, .f32⟩ : BufTy).Contents (Elt F)),
    reshape main_v36 main_v37 (rfl : (.f32 : EltTy) = .f32) shapeCasts_S2x4096x2816_S8192x2816,
    unary main_v37 main_v38 ((truncf .bf16 · bitsLt_bf16_f32) : (⟨S8192x2816, .f32⟩ : BufTy).Contents (Elt F) → (⟨S8192x2816, .bf16⟩ : BufTy).Contents (Elt F)) ]

theorem main_lines (c : Dev nD) : main (F := F) c = seq lines := rfl
theorem no_scoped_refs : (Finset.univ.filter fun b : Ref sig .tc => b.isScoped) = ∅ := by decide
theorem no_scoped_sems : (Finset.univ.filter fun sm : SemLoc sig => sm.isScoped .tc) = ∅ := by decide
theorem lines_sub : (lines : List (HloOp τ sig (Elt F))).Forall fun op => op.bufs ⊆ tcRefs τ sig :=
  ⟨unary_bufs_sub .., reshape_bufs_sub .., unary_bufs_sub .., unary_bufs_sub .., reshape_bufs_sub .., nullary_bufs_sub .., binary_bufs_sub .., unary_bufs_sub .., reshape_bufs_sub .., unary_bufs_sub .., unary_bufs_sub .., unary_bufs_sub .., binary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., reshape_bufs_sub .., unary_bufs_sub ..⟩

end

/-- Both halves, by sequences. -/
def halves (u : S8192x5632.Idx → EReal) : FVec Ideal S2x4096x5632 .f32 :=
  shapeCast S2x4096x5632 (extf (F := Ideal) (φ := .bf16) .f32 u bitsLt_bf16_f32) shapeCasts_S8192x5632_S2x4096x5632
/-- The gate half, two rows of zeros before each sequence. -/
def padded (u : S8192x5632.Idx → EReal) : FVec Ideal S2x4098x2816 .f32 :=
  pad S2x4098x2816 ![0, 2, 0] ![0, 0, 0] ![0, 0, 0] (extractStridedSlice S2x4096x2816 ![0, 0, 0] (halves u) slices_S2x4096x5632_S2x4096x2816_0_0_0)
    (constant (F := Ideal) S_ .f32 0x00000000#32) pads_S2x4096x2816_S2x4098x2816_000_200_000 h_S_
/-- A row of weights over all rows of the sequences. -/
def over (w : FVec Ideal S1x2816 .f32) : FVec Ideal S2x4096x2816 .f32 :=
  broadcastInDim S2x4096x2816 ![0, 1, 2] bcast_S1x1x2816_S2x4096x2816_0_1_2
    (broadcastInDim S1x1x2816 ![2] bcast_S2816_S1x1x2816_2 (shapeCast S2816 w shapeCasts_S1x2816_S2816))
/-- The convolution's array. -/
def summed (u : S8192x5632.Idx → EReal) (w : S3x2816.Idx → EReal) (h : S1x2816.Idx → EReal) : FVec Ideal S2x4096x2816 .f32 :=
  addf (addf (addf (over h)
      (mulf (over (extractStridedSlice S1x2816 ![0, 0] w slices_S3x2816_S1x2816_0_0)) (extractStridedSlice S2x4096x2816 ![0, 0, 0] (padded u) slices_S2x4098x2816_S2x4096x2816_0_0_0)))
      (mulf (over (extractStridedSlice S1x2816 ![1, 0] w slices_S3x2816_S1x2816_1_0)) (extractStridedSlice S2x4096x2816 ![0, 1, 0] (padded u) slices_S2x4098x2816_S2x4096x2816_0_1_0)))
    (mulf (over (extractStridedSlice S1x2816 ![2, 0] w slices_S3x2816_S1x2816_2_0)) (extractStridedSlice S2x4096x2816 ![0, 2, 0] (padded u) slices_S2x4098x2816_S2x4096x2816_0_2_0))
/-- The GELU of an array as the host writes it. -/
def hostGelu (y : FVec Ideal S2x4096x2816 .f32) : FVec Ideal S2x4096x2816 .f32 :=
  mulf (mulf (broadcastInDim S2x4096x2816 ![] bcast_S_S2x4096x2816 (constant S_ .f32 0x3F000000#32)) y)
    (Host.erfc (mulf (Host.negf y) (broadcastInDim S2x4096x2816 ![] bcast_S_S2x4096x2816 (constant S_ .f32 0x3F3504F3#32))))
/-- What the reference computes. -/
def value (u : S8192x5632.Idx → EReal) (w : S3x2816.Idx → EReal) (h : S1x2816.Idx → EReal) : FVec Ideal S8192x2816 .bf16 :=
  truncf .bf16 (shapeCast S8192x2816 (mulf (hostGelu (summed u w h))
    (extractStridedSlice S2x4096x2816 ![0, 0, 2816] (halves u) slices_S2x4096x5632_S2x4096x2816_0_0_2816)) shapeCasts_S2x4096x2816_S8192x2816) bitsLt_bf16_f32

set_option maxHeartbeats 1000000 in
/-- The reference runs, its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v38) = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v38).trans (by unfold value hostGelu summed over padded halves; after_results_simp; rfl),
      (h c main_arg0).trans (by after_results_simp), (h c main_arg1).trans (by after_results_simp), (h c main_arg2).trans (by after_results_simp)⟩)
    (run_seq no_scoped_refs no_scoped_sems defs main (fun _ => lines) main_lines (fun _ => lines_sub) m ρ)

/-- A row of weights, read. -/
theorem over_at (w : FVec Ideal S1x2816 .f32) (p : Fin 2) (q : Fin 4096) (s : Fin 2816) : (over w (ix3 p q s) : EReal) = w (ix2 0 s) := by
  unfold over
  refine (broadcastInDim_apply _ _ _ _ (ix3 (0 : Fin 1) (0 : Fin 1) s) fun a => ?_).trans ((broadcastInDim_apply _ _ _ _ (ix1 s) fun a => ?_).trans
    (ValueIdx.shapeCast_1a_a_apply w _ s))
  · match a with
    | ⟨0, _⟩ => rfl
    | ⟨1, _⟩ => rfl
    | ⟨2, _⟩ => rfl
  · match a with
    | ⟨0, _⟩ => rfl

/-- A tap's row of the weights. -/
theorem tap_at (w : S3x2816.Idx → EReal) (k : ℕ) (hk : S3x2816.Slices ![k, 0] S1x2816) (s : Fin 2816) :
    (extractStridedSlice S1x2816 ![k, 0] w hk (ix2 0 s) : EReal) = at2 w k s.val := by
  have h3 := hk.2 0
  change k + 1 ≤ 3 at h3
  refine (extractStridedSlice_apply _ w hk (ix2 0 s) (ix2 ⟨k, by omega⟩ s) fun a => ?_).trans (eq_at2 w _ rfl rfl)
  match a with
  | ⟨0, _⟩ => rfl
  | ⟨1, _⟩ => exact (Nat.zero_add _).symm

/-- The halves, read. -/
theorem halves_at (u : S8192x5632.Idx → EReal) (p : Fin 2) (q : Fin 4096) (s : Fin 5632) : (halves u (ix3 p q s) : EReal) = at2 u (p.val * 4096 + q.val) s.val := by
  unfold halves
  refine (shapeCast_apply _ _ _ (ix2 (⟨p.val * 4096 + q.val, by omega⟩ : Fin 8192) s) ?_).trans (eq_at2 u _ rfl rfl)
  rw [Shape.rowMajor_val_two, Shape.rowMajor_val_three]
  rfl

/-- The padded gate half, read. -/
theorem padded_at (u : S8192x5632.Idx → EReal) (p : Fin 2) (q : Fin 4098) (s : Fin 2816) :
    (padded u (ix3 p q s) : EReal) = if q.val < 2 then 0 else at2 u (p.val * 4096 + (q.val - 2)) s.val := by
  unfold padded
  split
  · next h =>
    refine (pad_apply_of_not_inside _ _ _ _ _ _ _ _ (1 : Fin 3) fun e => ?_).trans Ideal.ofBits_zero_f32
    have e1 : 2 ≤ q.val := e.1
    omega
  · next h =>
    have hq := q.isLt
    refine (pad_apply_of_inside _ _ _ _ _ _ _ _ (ix3 p (⟨q.val - 2, by omega⟩ : Fin 4096) s) fun a => ?_).trans
      ((extractStridedSlice_apply _ _ _ _ (ix3 p (⟨q.val - 2, by omega⟩ : Fin 4096) (⟨s.val, by omega⟩ : Fin 5632)) fun a => ?_).trans (halves_at u _ _ _))
    · match a with
      | ⟨0, _⟩ => show p.val = 0 + p.val * (0 + 1); omega
      | ⟨1, _⟩ => show q.val = 2 + (q.val - 2) * (0 + 1); omega
      | ⟨2, _⟩ => show s.val = 0 + s.val * (0 + 1); omega
    · match a with
      | ⟨0, _⟩ => exact (Nat.zero_add _).symm
      | ⟨1, _⟩ => exact (Nat.zero_add _).symm
      | ⟨2, _⟩ => exact (Nat.zero_add _).symm

/-- The padded half, shifted. -/
theorem shifted_at (u : S8192x5632.Idx → EReal) (k : ℕ) (hk : S2x4098x2816.Slices ![0, k, 0] S2x4096x2816) (hk2 : k ≤ 2) (p : Fin 2) (q : Fin 4096) (s : Fin 2816) :
    (extractStridedSlice S2x4096x2816 ![0, k, 0] (padded u) hk (ix3 p q s) : EReal) = past u (2 - k) (p.val * 4096 + q.val) s.val := by
  have hq := q.isLt
  refine (extractStridedSlice_apply _ _ hk _ (ix3 p (⟨k + q.val, by omega⟩ : Fin 4098) s) fun a => ?_).trans ((padded_at u _ _ _).trans ?_)
  · match a with
    | ⟨0, _⟩ => exact (Nat.zero_add _).symm
    | ⟨1, _⟩ => rfl
    | ⟨2, _⟩ => exact (Nat.zero_add _).symm
  · unfold past
    dsimp only
    by_cases h : k + q.val < 2
    · rw [if_pos h, if_pos (by omega)]
    · rw [if_neg h, if_neg (by omega)]
      congr 1
      omega

/-- The convolution, read. -/
theorem summed_at (u : S8192x5632.Idx → EReal) (w : S3x2816.Idx → EReal) (h : S1x2816.Idx → EReal) (p : Fin 2) (q : Fin 4096) (s : Fin 2816) :
    (summed u w h (ix3 p q s) : EReal) = conv u w h (p.val * 4096 + q.val) s.val := by
  have hb : (over h (ix3 p q s) : EReal) = at2 h 0 s.val := (over_at h p q s).trans (eq_at2 h _ rfl rfl)
  have h0 := (over_at _ p q s).trans (tap_at w 0 slices_S3x2816_S1x2816_0_0 s)
  have h1 := (over_at _ p q s).trans (tap_at w 1 slices_S3x2816_S1x2816_1_0 s)
  have h2 := (over_at _ p q s).trans (tap_at w 2 slices_S3x2816_S1x2816_2_0 s)
  have g0 := shifted_at u 0 slices_S2x4098x2816_S2x4096x2816_0_0_0 (by omega) p q s
  have g1 := shifted_at u 1 slices_S2x4098x2816_S2x4096x2816_0_1_0 (by omega) p q s
  have g2 := shifted_at u 2 slices_S2x4098x2816_S2x4096x2816_0_2_0 (by omega) p q s
  have e : past u 0 (p.val * 4096 + q.val) s.val = at2 u (p.val * 4096 + q.val) s.val := by
    unfold past
    rw [if_neg (by omega), Nat.sub_zero]
  refine (congrArg₂ (fun x y : EReal => x + y) (congrArg₂ (fun x y : EReal => x + y) (congrArg₂ (fun x y : EReal => x + y) hb
    (congrArg₂ (fun x y : EReal => x * y) h0 g0)) (congrArg₂ (fun x y : EReal => x * y) h1 g1)) (congrArg₂ (fun x y : EReal => x * y) h2 g2)).trans ?_
  unfold conv
  show at2 h 0 s.val + at2 w 0 s.val * past u 2 _ _ + at2 w 1 s.val * past u 1 _ _ + at2 w 2 s.val * past u 0 _ _ = _
  rw [e]
  exact (add_right_comm _ _ _).trans ((congrArg (fun x : EReal => x + _) (add_right_comm _ _ _)).trans
    ((add_right_comm _ _ _).trans (congrArg (fun x : EReal => x + _) rfl)))

/-- The host's GELU. -/
theorem hostGelu_at (y : FVec Ideal S2x4096x2816 .f32) (i : S2x4096x2816.Idx) : (hostGelu y i : EReal) = gelu (y i) := by
  unfold hostGelu gelu
  show Ideal.ofBits .f32 0x3F000000#32 * (y i : EReal) * Ideal.erfc (-(y i : EReal) * Ideal.ofBits .f32 0x3F3504F3#32) = _
  rw [EReal.neg_mul, Ideal.erfc_neg]

/-- The reference's element. -/
theorem element (u : S8192x5632.Idx → EReal) (w : S3x2816.Idx → EReal) (h : S1x2816.Idx → EReal) (i : S8192x2816.Idx) :
    (value u w h i : EReal) = gated u w h (i 0).val (i 1).val := by
  obtain ⟨r, s, rfl⟩ : ∃ (r : Fin 8192) (s : Fin 2816), i = ix2 r s := ⟨i 0, i 1, eq_ix2 i⟩
  have hr := r.isLt
  have hs := s.isLt
  unfold value
  show (shapeCast S8192x2816 (mulf (hostGelu (summed u w h)) (extractStridedSlice S2x4096x2816 ![0, 0, 2816] (halves u) slices_S2x4096x5632_S2x4096x2816_0_0_2816))
    shapeCasts_S2x4096x2816_S8192x2816 (ix2 r s) : EReal) = _
  refine (shapeCast_apply _ _ _ (ix3 (⟨r.val / 4096, by omega⟩ : Fin 2) (⟨r.val % 4096, by omega⟩ : Fin 4096) s) ?_).trans ?_
  · rw [Shape.rowMajor_val_two, Shape.rowMajor_val_three]
    show (r.val / 4096 * 4096 + r.val % 4096) * 2816 + s.val = r.val * 2816 + s.val
    have : r.val / 4096 * 4096 + r.val % 4096 = r.val := by omega
    rw [this]
  · have e : r.val / 4096 * 4096 + r.val % 4096 = r.val := by omega
    unfold gated
    refine congrArg₂ (fun x y : EReal => x * y) ((hostGelu_at _ _).trans (congrArg gelu ((summed_at u w h _ _ _).trans ?_)))
      ((extractStridedSlice_apply _ _ _ _ (ix3 (⟨r.val / 4096, by omega⟩ : Fin 2) (⟨r.val % 4096, by omega⟩ : Fin 4096) (⟨2816 + s.val, by omega⟩ : Fin 5632)) fun a => ?_).trans
        ((halves_at u _ _ _).trans ?_))
    · dsimp only
      rw [e]
      rfl
    · match a with
      | ⟨0, _⟩ => exact (Nat.zero_add _).symm
      | ⟨1, _⟩ => exact (Nat.zero_add _).symm
      | ⟨2, _⟩ => rfl
    · dsimp only
      rw [e]
      rfl

end Reference

end Cert.Conv

end
-- ==== Proof.Conv.Kernel.lean ====
/-
  THE GATED CONVOLUTION'S CALL: every grid point takes 256 rows; the two rows before them come from the 16 rows before the block, or are
  zero where a sequence starts.
-/
module

public import proofs.«01_k».proof.Proof.Conv.Reference
public import proofs.«01_k».proof.Proof.Gen.Kernel31Ideal.Frame

@[expose] public section

set_option maxRecDepth 16384

noncomputable section

open Idealize.ShloMosaic Idealize.ShloMosaic.TcCoe Idealize.ShloMosaic.Tactic Idealize.SL.Sem
open Idealize.ShloMosaic.Pipeline (Dat)
open Cert.Product

namespace Cert.Conv

open Cert.Kernel31Ideal Cert.Kernel31Ideal.Gen

variable {m : (ℓ : Loc nD τ sig) → Buf (Elt Ideal) ℓ} {c : Dev nD}

/-- Whether a grid point's block starts a sequence, as the body computes it. -/
def starts (i : grid0.Coords) : BitVec 1 :=
  let arg0 : BitVec 32 := BitVec.ofNat 32 (i 0).val
  let v0 : BitVec 1 := Scalar.cmpi .eq 16#32 0#32
  let v1 : BitVec 32 := Scalar.select v0 1#32 16#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .eq v9 0#32
theorem starts_at : ∀ t : Fin cfg0.N, starts (grid0.coords t) = if t.val % 16 = 0 then 1#1 else 0#1 :=
  (by decide +kernel : ∀ t : Fin grid0.N, starts (grid0.coords t) = if t.val % 16 = 0 then 1#1 else 0#1)

/-- The rows before the block. -/
theorem before (i : grid0.Coords) (x : Vec Ideal S16x2816 .bf16) (y : S16x2816.Idx) :
    (k0_pay3 i x y : EReal) = if starts i = 1#1 then 0 else (x y : EReal) := by
  show (Scalar.select (starts i) (broadcast S16x2816 (Scalar.ofBits (F := Ideal) .f32 0x00000000#32)) (extf .f32 x bitsLt_bf16_f32) y : EReal) = _
  by_cases h : starts i = 1#1
  · rw [if_pos h]
    refine (congrFun (if_pos h) y).trans ?_
    exact Ideal.ofBits_zero_f32
  · rw [if_neg h]
    refine (congrFun (if_neg h) y).trans ?_
    rfl

/-- A row of the rows before, spread over the block. -/
theorem spread_row (v : FVec Ideal S16x2816 .f32) (o : ℕ) (h : S16x2816.Slices ![o, 0] S1x2816) (ho : o < 16) (r : Fin 256) (s : Fin 2816) :
    (broadcastTo S256x2816 (shapeCast S1x2816 (extractStridedSlice S1x2816 ![o, 0] v h) shapeCasts_S1x2816_S1x2816) broadcasts_S1x2816_S256x2816 (ix2 r s) : EReal)
      = v (ix2 (⟨o, ho⟩ : Fin 16) s) := by
  rw [shapeCast_self]
  refine (broadcastTo_apply _ _ (ix2 r s) (ix2 0 s) fun ax => ?_).trans (extractStridedSlice_apply _ v h _ _ fun ax => ?_)
  · match ax with
    | ⟨0, _⟩ => rfl
    | ⟨1, _⟩ => rfl
  · match ax with
    | ⟨0, _⟩ => rfl
    | ⟨1, _⟩ => exact (Nat.zero_add _).symm

/-- A row of the weights, spread over the block. -/
theorem spread_tap (v : FVec Ideal S3x2816 .f32) (o : ℕ) (h : S3x2816.Slices ![o, 0] S1x2816) (ho : o < 3) (r : Fin 256) (s : Fin 2816) :
    (broadcastTo S256x2816 (extractStridedSlice S1x2816 ![o, 0] v h) broadcasts_S1x2816_S256x2816 (ix2 r s) : EReal) = v (ix2 (⟨o, ho⟩ : Fin 3) s) := by
  refine (broadcastTo_apply _ _ (ix2 r s) (ix2 0 s) fun ax => ?_).trans (extractStridedSlice_apply _ v h _ _ fun ax => ?_)
  · match ax with
    | ⟨0, _⟩ => rfl
    | ⟨1, _⟩ => rfl
  · match ax with
    | ⟨0, _⟩ => rfl
    | ⟨1, _⟩ => exact (Nat.zero_add _).symm
theorem spread_shift (v : FVec Ideal S1x2816 .f32) (r : Fin 256) (s : Fin 2816) :
    (broadcastTo S256x2816 v broadcasts_S1x2816_S256x2816 (ix2 r s) : EReal) = v (ix2 0 s) := by
  refine broadcastTo_apply _ _ (ix2 r s) (ix2 0 s) fun ax => ?_
  match ax with
  | ⟨0, _⟩ => rfl
  | ⟨1, _⟩ => rfl

/-- Whether an element's row is row `k` of the block. -/
theorem row_mask : ∀ (k : Fin 2) (r : Fin 256), IntOp.cmpi .eq (BitVec.ofNat 32 r.val) (BitVec.ofNat 32 k.val) = if r.val = k.val then 1#1 else 0#1 := by decide +kernel

/-- The rotated block. -/
theorem rotated (x : FVec Ideal S256x2816 .f32) (k : ℕ) (n : BitVec 32) (hn : n.toNat = k) (r : Fin 256) (s : Fin 2816) (hk : k ≤ r.val) :
    (dynamicRotate 0 n none x rotates_S256x2816_d0 (ix2 r s) : EReal) = x (ix2 (⟨r.val - k, by omega⟩ : Fin 256) s) := by
  have hr := r.isLt
  refine dynamicRotate_apply (0 : Fin 2) n x rotates_S256x2816_d0 _ _ fun b => ?_
  rw [hn]
  match b with
  | ⟨0, _⟩ =>
    refine Eq.trans ?_ (if_pos (by rfl)).symm
    show r.val - k = (r.val + 256 - k % 256) % 256
    omega
  | ⟨1, _⟩ => rfl

/-- A selection by a decided word is an `if`. -/
theorem sel_if {α : Type} (p : Prop) [Decidable p] (a b : α) : Scalar.select (if p then 1#1 else 0#1) a b = if p then a else b := by
  unfold Scalar.select
  by_cases h : p
  · rw [if_pos h, if_pos h]
    exact if_pos rfl
  · rw [if_neg h, if_neg h]
    exact if_neg (by decide)

/-- The row before. -/
theorem prev_one (i : grid0.Coords) (x : Vec Ideal S256x2816 .bf16) (y : Vec Ideal S16x2816 .bf16) (r : Fin 256) (s : Fin 2816) :
    (k0_pay4 i x y (ix2 r s) : EReal) = if h : r.val < 1 then (if starts i = 1#1 then 0 else (y (ix2 (15 : Fin 16) s) : EReal)) else x (ix2 (⟨r.val - 1, by omega⟩ : Fin 256) s) := by
  unfold k0_pay4
  dsimp only
  show Scalar.select (IntOp.cmpi .eq (BitVec.ofNat 32 (0 * 256 + r.val)) (BitVec.ofNat 32 (0 : Fin 2).val)) (_ : EReal) (_ : EReal) = _
  rw [Nat.zero_mul, Nat.zero_add, row_mask, sel_if]
  by_cases h : r.val < 1
  · rw [dif_pos h, if_pos (show r.val = (0 : Fin 2).val from by show r.val = 0; omega)]
    exact (spread_row _ 15 slices_S16x2816_o15_0_S1x2816 (by omega) r s).trans (before i y _)
  · rw [dif_neg h, if_neg (show ¬r.val = (0 : Fin 2).val from by show ¬r.val = 0; omega)]
    exact rotated (k0_pay2 x) 1 _ rfl r s (by omega)

/-- The row before that. -/
theorem prev_two (i : grid0.Coords) (x : Vec Ideal S256x2816 .bf16) (y : Vec Ideal S16x2816 .bf16) (r : Fin 256) (s : Fin 2816) :
    (k0_pay5 i x y (ix2 r s) : EReal) = if h : r.val < 2 then (if starts i = 1#1 then 0 else (y (ix2 (⟨14 + r.val, by omega⟩ : Fin 16) s) : EReal)) else x (ix2 (⟨r.val - 2, by omega⟩ : Fin 256) s) := by
  unfold k0_pay5
  dsimp only
  show Scalar.select (IntOp.cmpi .eq (BitVec.ofNat 32 (0 * 256 + r.val)) (BitVec.ofNat 32 (1 : Fin 2).val)) (_ : EReal)
    (Scalar.select (IntOp.cmpi .eq (BitVec.ofNat 32 (0 * 256 + r.val)) (BitVec.ofNat 32 (0 : Fin 2).val)) (_ : EReal) (_ : EReal)) = _
  rw [Nat.zero_mul, Nat.zero_add, row_mask, row_mask, sel_if, sel_if]
  by_cases h : r.val < 2
  · rw [dif_pos h]
    by_cases h1 : r.val = 1
    · rw [if_pos (show r.val = (1 : Fin 2).val from h1)]
      refine (spread_row _ 15 slices_S16x2816_o15_0_S1x2816 (by omega) r s).trans ((before i y _).trans ?_)
      have e : (⟨15, by omega⟩ : Fin 16) = ⟨14 + r.val, by omega⟩ := Fin.ext (by show 15 = 14 + r.val; omega)
      rw [e]
    · rw [if_neg (show ¬r.val = (1 : Fin 2).val from h1), if_pos (show r.val = (0 : Fin 2).val from by show r.val = 0; omega)]
      refine (spread_row _ 14 slices_S16x2816_o14_0_S1x2816 (by omega) r s).trans ((before i y _).trans ?_)
      have e : (⟨14, by omega⟩ : Fin 16) = ⟨14 + r.val, by omega⟩ := Fin.ext (by show 14 = 14 + r.val; omega)
      rw [e]
  · rw [dif_neg h, if_neg (show ¬r.val = (1 : Fin 2).val from by show ¬r.val = 1; omega),
      if_neg (show ¬r.val = (0 : Fin 2).val from by show ¬r.val = 0; omega)]
    exact rotated (k0_pay2 x) 2 _ rfl r s (by omega)

/-- What the body leaves. -/
theorem left (i : grid0.Coords) (x : Vec Ideal S256x2816 .bf16) (y : Vec Ideal S16x2816 .bf16) (z : Vec Ideal S256x2816 .bf16) (w : Vec Ideal S3x2816 .f32)
    (h : Vec Ideal S1x2816 .f32) (r : Fin 256) (s : Fin 2816) :
    (out0_5 i x y z w h (ix2 r s) : EReal)
      = gelu ((h (ix2 0 s) : EReal) + (w (ix2 2 s) : EReal) * (x (ix2 r s) : EReal) + (w (ix2 1 s) : EReal) * k0_pay4 i x y (ix2 r s) + (w (ix2 0 s) : EReal) * k0_pay5 i x y (ix2 r s))
        * z (ix2 r s) := by
  unfold out0_5
  rw [View.canon_unit_zero hz]
  simp only [View.ld_unit_zero (S := S256x2816) hz, View.ld_unit_zero (S := S16x2816) hz, View.ld_unit_zero (S := S3x2816) hz, View.ld_unit_zero (S := S1x2816) hz]
  have eh := spread_shift h r s
  have e2 := spread_tap w 2 slices_S3x2816_o2_0_S1x2816 (by omega) r s
  have e1 := spread_tap w 1 slices_S3x2816_o1_0_S1x2816 (by omega) r s
  have e0 := spread_tap w 0 slices_S3x2816_o0_0_S1x2816 (by omega) r s
  have e : ∀ a b : EReal, a = b → Ideal.ofBits .f32 0x3F000000#32 * a * (Ideal.ofBits .f32 0x3F800000#32 + Ideal.erf (a * Ideal.ofBits .f32 0x3F3504F3#32)) = gelu b :=
    fun a b hab => by rw [hab, Ideal.ofBits_one_f32]; rfl
  refine congrArg₂ (fun a b : EReal => a * b) (e _ _ ?_) rfl
  exact congrArg₂ (fun a b : EReal => a + b) (congrArg₂ (fun a b : EReal => a + b) (congrArg₂ (fun a b : EReal => a + b) eh
    (congrArg₂ (fun a b : EReal => a * b) e2 rfl)) (congrArg₂ (fun a b : EReal => a * b) e1 rfl)) (congrArg₂ (fun a b : EReal => a * b) e0 rfl)

theorem points (t : Fin cfg0.N) : t.val < 32 := t.isLt
theorem rows_0 : ∀ t : Fin cfg0.N, win0_0.index t = ![t.val, 0] := (by decide +kernel : ∀ t : Fin grid0.N, _)
theorem rows_1 : ∀ t : Fin cfg0.N, win0_1.index t = ![t.val * 16 - 1, 0] := (by decide +kernel : ∀ t : Fin grid0.N, _)
theorem rows_2 : ∀ t : Fin cfg0.N, win0_2.index t = ![t.val, 1] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![0, 0] := (by decide +kernel : ∀ t : Fin grid0.N, _)
theorem result : ∀ t : Fin cfg0.N, win0_5.index t = ![t.val, 0] := (by decide +kernel : ∀ t : Fin grid0.N, _)

/-- The arguments as arrays. -/
abbrev us (m : (ℓ : Loc nD τ sig) → Buf (Elt Ideal) ℓ) (c : Dev nD) : S8192x5632.Idx → EReal := m ((c : Thread nD τ).loc main_arg0)
abbrev ws (m : (ℓ : Loc nD τ sig) → Buf (Elt Ideal) ℓ) (c : Dev nD) : S3x2816.Idx → EReal := m ((c : Thread nD τ).loc main_arg1)
abbrev hs (m : (ℓ : Loc nD τ sig) → Buf (Elt Ideal) ℓ) (c : Dev nD) : S1x2816.Idx → EReal := m ((c : Thread nD τ).loc main_arg2)

theorem block_gate (t : Fin cfg0.N) (k : Fin 256) (s : Fin 2816) : iblk m c 0 t (ix2 k s) = at2 (us m c) (t.val * 256 + k.val) s.val := by
  refine (by blk_simp [iblk] : iblk m c 0 t (ix2 k s) = us m c (((cfg0.win 0).blk t).view.emb (ix2 k s))).trans (eq_at2 (us m c) _ ?_ ?_)
  · blk_simp [rows_0 t]
  · blk_simp [rows_0 t]
theorem block_before (t : Fin cfg0.N) (k : Fin 16) (s : Fin 2816) : iblk m c 1 t (ix2 k s) = at2 (us m c) ((t.val * 16 - 1) * 16 + k.val) s.val := by
  refine (by blk_simp [iblk] : iblk m c 1 t (ix2 k s) = us m c (((cfg0.win 1).blk t).view.emb (ix2 k s))).trans (eq_at2 (us m c) _ ?_ ?_)
  · blk_simp [rows_1 t]
  · blk_simp [rows_1 t]
theorem block_value (t : Fin cfg0.N) (k : Fin 256) (s : Fin 2816) : iblk m c 2 t (ix2 k s) = at2 (us m c) (t.val * 256 + k.val) (2816 + s.val) := by
  refine (by blk_simp [iblk] : iblk m c 2 t (ix2 k s) = us m c (((cfg0.win 2).blk t).view.emb (ix2 k s))).trans (eq_at2 (us m c) _ ?_ ?_)
  · blk_simp [rows_2 t]
  · blk_simp [rows_2 t]
theorem block_taps (t : Fin cfg0.N) (k : Fin 3) (s : Fin 2816) : iblk m c 3 t (ix2 k s) = at2 (ws m c) k.val s.val := by
  refine (by blk_simp [iblk] : iblk m c 3 t (ix2 k s) = ws m c (((cfg0.win 3).blk t).view.emb (ix2 k s))).trans (eq_at2 (ws m c) _ ?_ ?_)
  · blk_simp [rows_3 t]
  · blk_simp [rows_3 t]
theorem block_shift (t : Fin cfg0.N) (k : Fin 1) (s : Fin 2816) : iblk m c 4 t (ix2 k s) = at2 (hs m c) k.val s.val := by
  refine (by blk_simp [iblk] : iblk m c 4 t (ix2 k s) = hs m c (((cfg0.win 4).blk t).view.emb (ix2 k s))).trans (eq_at2 (hs m c) _ ?_ ?_)
  · blk_simp [rows_4 t]
  · blk_simp [rows_4 t]

/-- The two earlier rows of the sequence. -/
theorem past_one (t : Fin cfg0.N) (r : Fin 256) (s : Fin 2816) :
    (k0_pay4 (F := Ideal) (grid0.coords t) (iblk m c 0 t) (iblk m c 1 t) (ix2 r s) : EReal) = past (us m c) 1 (t.val * 256 + r.val) s.val := by
  have ht := points t
  have hr := r.isLt
  refine (prev_one (grid0.coords t) (iblk m c 0 t) (iblk m c 1 t) r s).trans ?_
  unfold past
  rw [starts_at]
  by_cases h : r.val < 1
  · rw [dif_pos h]
    by_cases h0 : t.val % 16 = 0
    · rw [if_pos h0, if_pos rfl, if_pos (by omega)]
    · rw [if_neg h0, if_neg (by decide), if_neg (by omega)]
      refine (block_before t _ s).trans (congrArg (fun x => at2 (us m c) x s.val) ?_)
      show (t.val * 16 - 1) * 16 + 15 = t.val * 256 + r.val - 1
      omega
  · rw [dif_neg h, if_neg (by omega)]
    refine (block_gate t _ s).trans (congrArg (fun x => at2 (us m c) x s.val) ?_)
    show t.val * 256 + (r.val - 1) = t.val * 256 + r.val - 1
    omega
theorem past_two (t : Fin cfg0.N) (r : Fin 256) (s : Fin 2816) :
    (k0_pay5 (F := Ideal) (grid0.coords t) (iblk m c 0 t) (iblk m c 1 t) (ix2 r s) : EReal) = past (us m c) 2 (t.val * 256 + r.val) s.val := by
  have ht := points t
  have hr := r.isLt
  refine (prev_two (grid0.coords t) (iblk m c 0 t) (iblk m c 1 t) r s).trans ?_
  unfold past
  rw [starts_at]
  by_cases h : r.val < 2
  · rw [dif_pos h]
    by_cases h0 : t.val % 16 = 0
    · rw [if_pos h0, if_pos rfl, if_pos (by omega)]
    · rw [if_neg h0, if_neg (by decide), if_neg (by omega)]
      refine (block_before t _ s).trans (congrArg (fun x => at2 (us m c) x s.val) ?_)
      show (t.val * 16 - 1) * 16 + (14 + r.val) = t.val * 256 + r.val - 2
      omega
  · rw [dif_neg h, if_neg (by omega)]
    refine (block_gate t _ s).trans (congrArg (fun x => at2 (us m c) x s.val) ?_)
    show t.val * 256 + (r.val - 2) = t.val * 256 + r.val - 2
    omega

/-- The call's array, element by element. -/
theorem array (i : S8192x2816.Idx) : ((dats m 0 c).arrAt 5 cfg0.N i : EReal) = gated (us m c) (ws m c) (hs m c) (i 0).val (i 1).val := by
  refine (dats m 0 c).arrAt_forall_of_covers 5 (fun i v => (v : EReal) = gated (us m c) (ws m c) (hs m c) (i 0).val (i 1).val)
    (by decide +kernel) (fun t hf y => ?_) i
  have ht := points t
  blk_simp [result t]
  rw [after0_5]
  idx_bounds y
  refine (congrArg _ (eq_ix2 (n0 := 256) (n1 := 2816) y)).trans ((left _ _ _ _ _ _ (y 0) (y 1)).trans ?_)
  unfold gated conv
  refine congrArg₂ (fun a b : EReal => a * b) (congrArg gelu ?_) (block_value t (y 0) (y 1))
  exact congrArg₂ (fun a b : EReal => a + b) (congrArg₂ (fun a b : EReal => a + b) (congrArg₂ (fun a b : EReal => a + b) (block_shift t 0 (y 1))
    (congrArg₂ (fun a b : EReal => a * b) (block_taps t 2 (y 1)) (block_gate t (y 0) (y 1)))) (congrArg₂ (fun a b : EReal => a * b) (block_taps t 1 (y 1)) (past_one t (y 0) (y 1))))
    (congrArg₂ (fun a b : EReal => a * b) (block_taps t 0 (y 1)) (past_two t (y 0) (y 1)))

/-- The call's array is the reference's. -/
theorem same : (dats m 0 c).arrAt 5 cfg0.N = Reference.value (us m c) (ws m c) (hs m c) := by
  funext i
  exact (array i).trans (Reference.element (us m c) (ws m c) (hs m c) i).symm

/-- The call runs: its result, its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1 5,
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c)))⟩) (run_main m ρ)

end Cert.Conv

end
-- ==== Proof.Product.DX1.lean ====
/-
  THE FFN'S INPUT GRADIENT (`d_x1`): each grid point multiplies 512 rows of the cotangent by the whole weight, so the array the
  call leaves is the plain product. The reference, the transpose of the linear map, is the same sum.
-/
module

public import proofs.«01_k».proof.Proof.Product.Sums
public import proofs.«01_k».proof.Proof.Gen.Kernel2Ideal.Value
public import proofs.«01_k».proof.Proof.Gen.Reference2Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DX1

open Cert.Kernel2Ideal Cert.Kernel2Ideal.Gen Cert.Kernel2Ideal.Value

variable {m : (ℓ : Loc nD τ sig) → Buf (Elt Ideal) ℓ} {c : Dev nD}

/-- What the body leaves: the product of its two blocks. -/
theorem left (x : Vec Ideal S512x5632 .bf16) (w : Vec Ideal S1024x5632 .bf16) (r : Fin 512) (s : Fin 1024) :
    out0_2 x w (ix2 r s) = ∑ k : Fin 5632, x (ix2 r k) * w (ix2 s k) := by
  unfold out0_2
  rw [View.canon_unit_zero hz]
  unfold k0_pay1
  rw [View.ld_unit_zero (S := S512x5632) hz, View.ld_unit_zero (S := S1024x5632) hz]
  exact zero_nt none x w r s

theorem rows : ∀ t : Fin cfg0.N, win0_0.index t = ![t.val, 0] := (by decide +kernel : ∀ t : Fin grid0.N, _)
theorem whole : ∀ t : Fin cfg0.N, win0_1.index t = ![0, 0] := (by decide +kernel : ∀ t : Fin grid0.N, _)
theorem result : ∀ t : Fin cfg0.N, win0_2.index t = ![t.val, 0] := (by decide +kernel : ∀ t : Fin grid0.N, _)
theorem points (t : Fin cfg0.N) : t.val < 16 := t.isLt

/-- The cotangent and the weight. -/
abbrev ct (m : (ℓ : Loc nD τ sig) → Buf (Elt Ideal) ℓ) (c : Dev nD) : S8192x5632.Idx → EReal := m ((c : Thread nD τ).loc main_arg1)
abbrev w (m : (ℓ : Loc nD τ sig) → Buf (Elt Ideal) ℓ) (c : Dev nD) : S1024x5632.Idx → EReal := m ((c : Thread nD τ).loc main_arg0)

/-- The product at an element. -/
def value (x : S8192x5632.Idx → EReal) (w : S1024x5632.Idx → EReal) (a b : ℕ) : EReal := ∑ k : Fin 5632, at2 x a k * at2 w b k

/-- A row of the cotangent's block. -/
theorem block_ct (t : Fin cfg0.N) (r : Fin 512) (k : Fin 5632) : iblk m c 0 t (ix2 r k) = at2 (ct m c) (t.val * 512 + r.val) k.val := by
  refine (by blk_simp [iblk] : iblk m c 0 t (ix2 r k) = ct m c (((cfg0.win 0).blk t).view.emb (ix2 r k))).trans (eq_at2 (ct m c) _ ?_ ?_)
  · blk_simp [rows t]
  · blk_simp [rows t]
/-- A row of the weight's block. -/
theorem block_w (t : Fin cfg0.N) (r : Fin 1024) (k : Fin 5632) : iblk m c 1 t (ix2 r k) = at2 (w m c) r.val k.val := by
  refine (by blk_simp [iblk] : iblk m c 1 t (ix2 r k) = w m c (((cfg0.win 1).blk t).view.emb (ix2 r k))).trans (eq_at2 (w m c) _ ?_ ?_)
  · blk_simp [whole t]
  · blk_simp [whole t]

/-- The call's array, element by element. -/
theorem array (i : S8192x1024.Idx) : (dats m 0 c).arrAt 2 cfg0.N i = value (ct m c) (w m c) (i 0).val (i 1).val := by
  refine (dats m 0 c).arrAt_forall_of_covers 2 (fun i v => v = value (ct m c) (w m c) (i 0).val (i 1).val)
    (by decide +kernel) (fun t hf y => ?_) i
  have ht := points t
  blk_simp [result t]
  rw [after0_2]
  idx_bounds y
  refine (congrArg _ (eq_ix2 (n0 := 512) (n1 := 1024) y)).trans ((left _ _ (y 0) (y 1)).trans (Finset.sum_congr rfl fun k _ => ?_))
  exact congrArg₂ (· * ·) (block_ct t (y 0) k) (block_w t (y 1) k)

/-- The reference's array. -/
theorem same : (dats m 0 c).arrAt 2 cfg0.N = Cert.Reference2Ideal.Read.val_main_v2 (w m c) (ct m c) := by
  funext i
  refine (array i).trans ((Cert.Reference2Ideal.Read.val_main_v2_apply (w m c) (ct m c) i).trans (Finset.sum_congr rfl fun k _ => ?_)).symm
  exact congrArg₂ (· * ·) (eq_at2 (ct m c) _ rfl rfl) (eq_at2 (w m c) _ rfl rfl)

end Cert.Product.DX1

end
-- ==== Proof.Product.DWUp.lean ====
/-
  THE GRADIENT OF THE UP WEIGHT (`dw_up`): four blocks of columns, each gathered over four blocks of 2048 tokens in a
  buffer that the grid points hand on; the fourth point writes the sum out. So the array the call leaves is the sum over
  all tokens, and the reference, the transpose of the linear map, is the same sum.
-/
module

public import proofs.«01_k».proof.Proof.Product.Sums
public import proofs.«01_k».proof.Proof.Gen.Kernel3Ideal.Value
public import proofs.«01_k».proof.Proof.Gen.Reference3Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWUp

open Cert.Kernel3Ideal Cert.Kernel3Ideal.Gen Cert.Kernel3Ideal.Value

variable {m : (ℓ : Loc nD τ sig) → Buf (Elt Ideal) ℓ} {c : Dev nD}

/-- The product of one block of tokens. -/
theorem part (x : Vec Ideal S2048x1024 .bf16) (g : Vec Ideal S2048x1408 .bf16) (r : Fin 1024) (s : Fin 1408) :
    k0_pay1 x g (ix2 r s) = ∑ k : Fin 2048, x (ix2 k r) * g (ix2 k s) := by
  unfold k0_pay1
  exact zero_tn _ none x g r s

section Cases

variable (i : grid0.Coords) (a0 : Memref sig .tc .vmem S2048x1024 .bf16) (h0 : a0.IsWhole) (a1 : Memref sig .tc .vmem S2048x1408 .bf16) (h1 : a1.IsWhole)
  (a2 : Memref sig .tc .vmem S1024x1408 .bf16) (h2 : a2.IsWhole) (a3 : Memref sig .tc .vmem S1024x1408 .f32) (h3 : a3.IsWhole)
  (x : Vec Ideal S2048x1024 .bf16) (g : Vec Ideal S2048x1408 .bf16) (p : Vec Ideal S1024x1408 .f32)

/-- A first block starts the sum. -/
theorem first_sum (e0 : cond0_0 i) (e1 : ¬cond0_1 i) (e2 : ¬cond0_2 i) :
    sout0_A_0 c i a0 h0 a1 h1 a2 h2 a3 h3 e0 e1 e2 x g = k0_pay1 x g := by
  unfold sout0_A_0
  rw [View.read_writes_eq_canon _ _ _ (scover0_A_0 c i a0 h0 a1 h1 a2 h2 a3 h3 e0 e1 e2 x g)]
  unfold kernelRun0_A
  dsimp only
  rw [View.canon_unit_zero hz]
  unfold k0_pay2
  simp only [View.readAt_eq_ld, h0.read_unread, h1.read_unread, View.ld_unit_zero (S := S2048x1024) hz, View.ld_unit_zero (S := S2048x1408) hz, shapeCast_self]

/-- A middle block adds to it. -/
theorem next_sum (e0 : ¬cond0_0 i) (e1 : cond0_1 i) (e2 : ¬cond0_2 i) :
    sout0_B_0 c i a0 h0 a1 h1 a2 h2 a3 h3 e0 e1 e2 x g p = addf p (k0_pay1 x g) := by
  unfold sout0_B_0
  rw [View.read_writes_eq_canon _ _ _ (scover0_B_0 c i a0 h0 a1 h1 a2 h2 a3 h3 e0 e1 e2 x g p)]
  unfold kernelRun0_B
  dsimp only
  rw [View.canon_unit_zero hz]
  unfold k0_pay3
  simp only [View.readAt_eq_ld, h0.read_unread, h1.read_unread, h3.read_unread, View.ld_unit_zero (S := S2048x1024) hz, View.ld_unit_zero (S := S2048x1408) hz, View.ld_unit_zero (S := S1024x1408) hz, shapeCast_self]

/-- A last block writes the sum out. -/
theorem last_out (e0 : ¬cond0_0 i) (e1 : cond0_1 i) (e2 : cond0_2 i) :
    out0_C_2 c i a0 h0 a1 h1 a2 h2 a3 h3 e0 e1 e2 x g p = truncf .bf16 (addf p (k0_pay1 x g)) bitsLt_bf16_f32 := by
  unfold out0_C_2
  rw [View.read_writes_eq_canon _ _ _ (cover0_C_2 c i a0 h0 a1 h1 a2 h2 a3 h3 e0 e1 e2 x g p)]
  unfold kernelRun0_C
  dsimp only
  sl_unfold_words
  rw [View.canon_unit_zero hz, View.readCov_unit_zero (S := S1024x1408) _ hz]
  unfold k0_pay4 k0_pay3
  simp only [View.readAt_eq_ld, h0.read_unread, h1.read_unread, h3.read_unread, View.ld_unit_zero (S := S2048x1024) hz, View.ld_unit_zero (S := S2048x1408) hz, View.ld_unit_zero (S := S1024x1408) hz, shapeCast_self]

end Cases

theorem points (t : Fin cfg0.N) : t.val < 16 := t.isLt
theorem left_block : ∀ t : Fin cfg0.N, win0_0.index t = ![t.val % 4, 0] := (by decide +kernel : ∀ t : Fin grid0.N, _)
theorem right_block : ∀ t : Fin cfg0.N, win0_1.index t = ![t.val % 4, t.val / 4] := (by decide +kernel : ∀ t : Fin grid0.N, _)
theorem result : ∀ t : Fin cfg0.N, win0_2.index t = ![0, t.val / 4] := (by decide +kernel : ∀ t : Fin grid0.N, _)

/-- The activations and the cotangent. -/
abbrev xs (m : (ℓ : Loc nD τ sig) → Buf (Elt Ideal) ℓ) (c : Dev nD) : S8192x1024.Idx → EReal := m ((c : Thread nD τ).loc main_arg0)
abbrev ct (m : (ℓ : Loc nD τ sig) → Buf (Elt Ideal) ℓ) (c : Dev nD) : S8192x5632.Idx → EReal := m ((c : Thread nD τ).loc main_arg1)

/-- One token's term. -/
def term (x : S8192x1024.Idx → EReal) (g : S8192x5632.Idx → EReal) (a b k : ℕ) : EReal := at2 x k a * at2 g k b

theorem block_x (t : Fin cfg0.N) (k : Fin 2048) (r : Fin 1024) : iblk m c 0 t (ix2 k r) = at2 (xs m c) (t.val % 4 * 2048 + k.val) r.val := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 1408) :
    iblk m c 1 t (ix2 k s) = at2 (ct m c) (t.val % 4 * 2048 + k.val) (t.val / 4 * 1408 + s.val) := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 1024) (s : Fin 1408) :
    k0_pay1 (F := Ideal) (iblk m c 0 t) (iblk m c 1 t) (ix2 r s) = ∑ k : Fin 2048, term (xs m c) (ct m c) r (t.val / 4 * 1408 + s) (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2 = k0_pay1 (iblk m c 0 t) (iblk m c 1 t) := by
  rw [outsAt0_A m c t h0 (by omega) (by omega)]
  dsimp only
  rw [first_sum]
theorem at_next (t : Fin cfg0.N) (h0 : ¬t.val % 4 = 0) (h3 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  rw [outsAt0_B m c t h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2 (k0_pay1 (iblk m c 0 t) (iblk m c 1 t))) bitsLt_bf16_f32 := by
  rw [outsAt0_C m c t (by omega) (by omega) h3]
  dsimp only
  rw [last_out]

/-- The sum handed on after a point that is not the last of its column block. -/
theorem sums (n : ℕ) (hn : n < cfg0.N) (hl : ¬n % 4 = 3) (r : Fin 1024) (s : Fin 1408) :
    (outsAt0 m c n hn).2 (ix2 r s) = ∑ k ∈ Finset.range (n % 4 * 2048 + 2048), term (xs m c) (ct m c) r (n / 4 * 1408 + s) k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) r (n / 4 * 1408 + s)) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e1 : n / 4 = (n + 1) / 4 := by omega
      have e2 : n % 4 * 2048 + 2048 = (n + 1) % 4 * 2048 := by omega
      rw [e1, e2]
      exact sum_next (term (xs m c) (ct m c) r ((n + 1) / 4 * 1408 + s)) ((n + 1) % 4 * 2048) 2048

/-- What a last point writes out. -/
theorem out (t : Fin cfg0.N) (hl : t.val % 4 = 3) (r : Fin 1024) (s : Fin 1408) :
    (outsAt0 m c t.val t.isLt).1 (ix2 r s) = ∑ k ∈ Finset.range 8192, term (xs m c) (ct m c) r (t.val / 4 * 1408 + s) k := by
  rw [at_last t hl]
  refine (congrArg₂ (· + ·) (sums (t.val - 1) (Nat.lt_of_le_of_lt (Nat.sub_le _ _) t.isLt) (by omega) r s) (part_at t r s)).trans ?_
  have e1 : (t.val - 1) / 4 = t.val / 4 := by omega
  have e2 : (t.val - 1) % 4 * 2048 + 2048 = t.val % 4 * 2048 := by omega
  have e3 : 8192 = t.val % 4 * 2048 + 2048 := by omega
  rw [e1, e2, e3]
  exact sum_next (term (xs m c) (ct m c) r (t.val / 4 * 1408 + s)) (t.val % 4 * 2048) 2048

/-- The call's array, element by element. -/
theorem array (i : S1024x5632.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  blk_simp [result t]
  rw [after0_2]
  idx_bounds y
  exact (congrArg _ (eq_ix2 (n0 := 1024) (n1 := 1408) y)).trans (out t hl (y 0) (y 1))

/-- The reference at an element. -/
theorem reference (x : S8192x1024.Idx → EReal) (g : S8192x5632.Idx → EReal) (i : S1024x5632.Idx) :
    (Cert.Reference3Ideal.Read.val_main_v4 (F := Ideal) x g i : EReal) = ∑ k : Fin 8192, term x g (i 0).val (i 1).val k.val :=
  (Cert.Reference3Ideal.Read.val_main_v3_apply (F := Ideal) x g i).trans ((Cert.Reference3Ideal.Read.val_main_v2_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference3Ideal.Read.val_main_v4 (F := Ideal) (xs m c) (ct m c) := by
  funext i
  exact (array i).trans ((reference (xs m c) (ct m c) i).trans (Fin.sum_univ_eq_sum_range (term (xs m c) (ct m c) (i 0).val (i 1).val) 8192)).symm

end Cert.Product.DWUp

end
-- ==== Proof.Product.DAct.lean ====
/-
  THE GRADIENT OF THE ACTIVATIONS (`d_act`): each grid point multiplies 1024 rows of the cotangent by 1408 rows of the down
  weight. So the array is the plain product, and the reference, the transpose of the linear map, is the same sum.
-/
module

public import proofs.«01_k».proof.Proof.Product.Sums
public import proofs.«01_k».proof.Proof.Gen.Kernel4Ideal.Value
public import proofs.«01_k».proof.Proof.Gen.Reference4Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DAct

open Cert.Kernel4Ideal Cert.Kernel4Ideal.Gen Cert.Kernel4Ideal.Value

variable {m : (ℓ : Loc nD τ sig) → Buf (Elt Ideal) ℓ} {c : Dev nD}

/-- What the body leaves: the product of its two blocks. -/
theorem left (x : Vec Ideal S1024x1024 .bf16) (w : Vec Ideal S1408x1024 .bf16) (r : Fin 1024) (s : Fin 1408) :
    out0_2 x w (ix2 r s) = ∑ k : Fin 1024, x (ix2 r k) * w (ix2 s k) := by
  unfold out0_2
  rw [View.canon_unit_zero hz]
  unfold k0_pay1
  simp only [View.ld_unit_zero (S := S1024x1024) hz, View.ld_unit_zero (S := S1408x1024) hz]
  exact zero_nt (φ₁ := .bf16) (φ₂ := .bf16) none x w r s

theorem rows : ∀ t : Fin cfg0.N, win0_0.index t = ![t.val % 8, 0] := (by decide +kernel : ∀ t : Fin grid0.N, _)
theorem columns : ∀ t : Fin cfg0.N, win0_1.index t = ![t.val / 8, 0] := (by decide +kernel : ∀ t : Fin grid0.N, _)
theorem result : ∀ t : Fin cfg0.N, win0_2.index t = ![t.val % 8, t.val / 8] := (by decide +kernel : ∀ t : Fin grid0.N, _)
theorem points (t : Fin cfg0.N) : t.val < 16 := t.isLt

/-- The arguments as arrays. -/
abbrev xs (m : (ℓ : Loc nD τ sig) → Buf (Elt Ideal) ℓ) (c : Dev nD) : S8192x1024.Idx → EReal := m ((c : Thread nD τ).loc main_arg1)
abbrev w (m : (ℓ : Loc nD τ sig) → Buf (Elt Ideal) ℓ) (c : Dev nD) : S2816x1024.Idx → EReal := m ((c : Thread nD τ).loc main_arg0)

/-- The call's value at an element. -/
def value (x : S8192x1024.Idx → EReal) (w : S2816x1024.Idx → EReal) (a b : ℕ) : EReal := ∑ k : Fin 1024, at2 x a k * at2 w b k

/-- A row of the left block. -/
theorem block_x (t : Fin cfg0.N) (r : Fin 1024) (k : Fin 1024) : iblk m c 0 t (ix2 r k) = at2 (xs m c) (t.val % 8 * 1024 + r.val) k.val := by
  refine (by blk_simp [iblk] : iblk m c 0 t (ix2 r k) = xs m c (((cfg0.win 0).blk t).view.emb (ix2 r k))).trans (eq_at2 (xs m c) _ ?_ ?_)
  · blk_simp [rows t]
  · blk_simp [rows t]
/-- An element of the weight's block. -/
theorem block_w (t : Fin cfg0.N) (s : Fin 1408) (k : Fin 1024) : iblk m c 1 t (ix2 s k) = at2 (w m c) (t.val / 8 * 1408 + s.val) k.val := by
  refine (by blk_simp [iblk] : iblk m c 1 t (ix2 s k) = w m c (((cfg0.win 1).blk t).view.emb (ix2 s k))).trans (eq_at2 (w m c) _ ?_ ?_)
  · blk_simp [columns t]
  · blk_simp [columns t]

/-- The call's array, element by element. -/
theorem array (i : S8192x2816.Idx) : (dats m 0 c).arrAt 2 cfg0.N i = value (xs m c) (w m c) (i 0).val (i 1).val := by
  refine (dats m 0 c).arrAt_forall_of_covers 2 (fun i v => v = value (xs m c) (w m c) (i 0).val (i 1).val)
    (by decide +kernel) (fun t hf y => ?_) i
  have ht := points t
  blk_simp [result t]
  rw [after0_2]
  idx_bounds y
  refine (congrArg _ (eq_ix2 (n0 := 1024) (n1 := 1408) y)).trans ((left _ _ (y 0) (y 1)).trans (Finset.sum_congr rfl fun k _ => ?_))
  exact congrArg₂ (· * ·) (block_x t (y 0) k) (block_w t (y 1) k)

/-- The reference at an element. -/
theorem reference (x : S8192x1024.Idx → EReal) (w : S2816x1024.Idx → EReal) (i : S8192x2816.Idx) :
    (Cert.Reference4Ideal.Read.val_main_v3 (F := Ideal) w x i : EReal) = value x w (i 0).val (i 1).val :=
  (Cert.Reference4Ideal.Read.val_main_v2_apply w x i).trans (Finset.sum_congr rfl fun k _ => congrArg₂ (· * ·) (eq_at2 x _ rfl rfl) (eq_at2 w _ rfl rfl))

/-- The reference's array. -/
theorem same : (dats m 0 c).arrAt 2 cfg0.N = Cert.Reference4Ideal.Read.val_main_v3 (F := Ideal) (w m c) (xs m c) := by
  funext i
  exact (array i).trans (reference (xs m c) (w m c) i).symm

end Cert.Product.DAct

end
-- ==== Proof.Product.DWDown.lean ====
/-
  THE GRADIENT OF THE DOWN WEIGHT (`dw_down`): gathered over four blocks of 2048 tokens in a
  buffer that the grid points hand on, once for each of two blocks of rows; the fourth point writes the sum out. The reference, the transpose of the linear map,
  is the same sum over all tokens.
-/
module

public import proofs.«01_k».proof.Proof.Product.Sums
public import proofs.«01_k».proof.Proof.Gen.Kernel5Ideal.Value
public import proofs.«01_k».proof.Proof.Gen.Reference5Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWDown

open Cert.Kernel5Ideal Cert.Kernel5Ideal.Gen Cert.Kernel5Ideal.Value

variable {m : (ℓ : Loc nD τ sig) → Buf (Elt Ideal) ℓ} {c : Dev nD}

/-- The product of one block of tokens. -/
theorem part (x : Vec Ideal S2048x1408 .bf16) (g : Vec Ideal S2048x1024 .bf16) (r : Fin 1408) (s : Fin 1024) :
    k0_pay1 x g (ix2 r s) = ∑ k : Fin 2048, x (ix2 k r) * g (ix2 k s) := by
  unfold k0_pay1
  exact zero_tn _ none x g r s

section Cases

variable (i : grid0.Coords) (a0 : Memref sig .tc .vmem S2048x1408 .bf16) (h0 : a0.IsWhole) (a1 : Memref sig .tc .vmem S2048x1024 .bf16) (h1 : a1.IsWhole)
  (a2 : Memref sig .tc .vmem S1408x1024 .bf16) (h2 : a2.IsWhole) (a3 : Memref sig .tc .vmem S1408x1024 .f32) (h3 : a3.IsWhole)
  (x : Vec Ideal S2048x1408 .bf16) (g : Vec Ideal S2048x1024 .bf16) (p : Vec Ideal S1408x1024 .f32)

/-- A first block starts the sum. -/
theorem first_sum (e0 : cond0_0 i) (e1 : ¬cond0_1 i) (e2 : ¬cond0_2 i) :
    sout0_A_0 c i a0 h0 a1 h1 a2 h2 a3 h3 e0 e1 e2 x g = k0_pay1 x g := by
  unfold sout0_A_0
  rw [View.read_writes_eq_canon _ _ _ (scover0_A_0 c i a0 h0 a1 h1 a2 h2 a3 h3 e0 e1 e2 x g)]
  unfold kernelRun0_A
  dsimp only
  rw [View.canon_unit_zero hz]
  unfold k0_pay2
  simp only [View.readAt_eq_ld, h0.read_unread, h1.read_unread, View.ld_unit_zero (S := S2048x1408) hz, View.ld_unit_zero (S := S2048x1024) hz, shapeCast_self]

/-- A middle block adds to it. -/
theorem next_sum (e0 : ¬cond0_0 i) (e1 : cond0_1 i) (e2 : ¬cond0_2 i) :
    sout0_B_0 c i a0 h0 a1 h1 a2 h2 a3 h3 e0 e1 e2 x g p = addf p (k0_pay1 x g) := by
  unfold sout0_B_0
  rw [View.read_writes_eq_canon _ _ _ (scover0_B_0 c i a0 h0 a1 h1 a2 h2 a3 h3 e0 e1 e2 x g p)]
  unfold kernelRun0_B
  dsimp only
  rw [View.canon_unit_zero hz]
  unfold k0_pay3
  simp only [View.readAt_eq_ld, h0.read_unread, h1.read_unread, h3.read_unread, View.ld_unit_zero (S := S2048x1408) hz, View.ld_unit_zero (S := S2048x1024) hz, View.ld_unit_zero (S := S1408x1024) hz, shapeCast_self]

/-- A last block writes the sum out. -/
theorem last_out (e0 : ¬cond0_0 i) (e1 : cond0_1 i) (e2 : cond0_2 i) :
    out0_C_2 c i a0 h0 a1 h1 a2 h2 a3 h3 e0 e1 e2 x g p = truncf .bf16 (addf p (k0_pay1 x g)) bitsLt_bf16_f32 := by
  unfold out0_C_2
  rw [View.read_writes_eq_canon _ _ _ (cover0_C_2 c i a0 h0 a1 h1 a2 h2 a3 h3 e0 e1 e2 x g p)]
  unfold kernelRun0_C
  dsimp only
  sl_unfold_words
  rw [View.canon_unit_zero hz, View.readCov_unit_zero (S := S1408x1024) _ hz]
  unfold k0_pay4 k0_pay3
  simp only [View.readAt_eq_ld, h0.read_unread, h1.read_unread, h3.read_unread, View.ld_unit_zero (S := S2048x1408) hz, View.ld_unit_zero (S := S2048x1024) hz, View.ld_unit_zero (S := S1408x1024) hz, shapeCast_self]

end Cases

theorem points (t : Fin cfg0.N) : t.val < 8 := t.isLt
theorem left_block : ∀ t : Fin cfg0.N, win0_0.index t = ![t.val % 4, t.val / 4] := (by decide +kernel : ∀ t : Fin grid0.N, _)
theorem right_block : ∀ t : Fin cfg0.N, win0_1.index t = ![t.val % 4, 0] := (by decide +kernel : ∀ t : Fin grid0.N, _)
theorem result : ∀ t : Fin cfg0.N, win0_2.index t = ![t.val / 4, 0] := (by decide +kernel : ∀ t : Fin grid0.N, _)

/-- The activations and the cotangent. -/
abbrev xs (m : (ℓ : Loc nD τ sig) → Buf (Elt Ideal) ℓ) (c : Dev nD) : S8192x2816.Idx → EReal := m ((c : Thread nD τ).loc main_arg0)
abbrev ct (m : (ℓ : Loc nD τ sig) → Buf (Elt Ideal) ℓ) (c : Dev nD) : S8192x1024.Idx → EReal := m ((c : Thread nD τ).loc main_arg1)

/-- One token's term. -/
def term (x : S8192x2816.Idx → EReal) (g : S8192x1024.Idx → EReal) (a b k : ℕ) : EReal := at2 x k a * at2 g k b

theorem block_x (t : Fin cfg0.N) (k : Fin 2048) (r : Fin 1408) : iblk m c 0 t (ix2 k r) = at2 (xs m c) (t.val % 4 * 2048 + k.val) (t.val / 4 * 1408 + r.val) := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 1024) : iblk m c 1 t (ix2 k s) = at2 (ct m c) (t.val % 4 * 2048 + k.val) s.val := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 1408) (s : Fin 1024) :
    k0_pay1 (F := Ideal) (iblk m c 0 t) (iblk m c 1 t) (ix2 r s) = ∑ k : Fin 2048, term (xs m c) (ct m c) (t.val / 4 * 1408 + r) s (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2 = k0_pay1 (iblk m c 0 t) (iblk m c 1 t) := by
  have ht := points t
  rw [outsAt0_A m c t h0 (by omega) (by omega)]
  dsimp only
  rw [first_sum]
theorem at_next (t : Fin cfg0.N) (h0 : ¬t.val % 4 = 0) (h3 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  have ht := points t
  rw [outsAt0_B m c t h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2 (k0_pay1 (iblk m c 0 t) (iblk m c 1 t))) bitsLt_bf16_f32 := by
  have ht := points t
  rw [outsAt0_C m c t (by omega) (by omega) h3]
  dsimp only
  rw [last_out]

/-- The sum handed on after a point that is not the last of its run. -/
theorem sums (n : ℕ) (hn : n < cfg0.N) (hl : ¬n % 4 = 3) (r : Fin 1408) (s : Fin 1024) :
    (outsAt0 m c n hn).2 (ix2 r s) = ∑ k ∈ Finset.range (n % 4 * 2048 + 2048), term (xs m c) (ct m c) (n / 4 * 1408 + r) s k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) (n / 4 * 1408 + r) s) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e1 : n / 4 = (n + 1) / 4 := by omega
      have e2 : n % 4 * 2048 + 2048 = (n + 1) % 4 * 2048 := by omega
      rw [e1, e2]
      exact sum_next (term (xs m c) (ct m c) ((n + 1) / 4 * 1408 + r) s) ((n + 1) % 4 * 2048) 2048

/-- What a last point writes out. -/
theorem out (t : Fin cfg0.N) (hl : t.val % 4 = 3) (r : Fin 1408) (s : Fin 1024) :
    (outsAt0 m c t.val t.isLt).1 (ix2 r s) = ∑ k ∈ Finset.range 8192, term (xs m c) (ct m c) (t.val / 4 * 1408 + r) s k := by
  rw [at_last t hl]
  refine (congrArg₂ (· + ·) (sums (t.val - 1) (Nat.lt_of_le_of_lt (Nat.sub_le _ _) t.isLt) (by omega) r s) (part_at t r s)).trans ?_
  have e1 : (t.val - 1) / 4 = t.val / 4 := by omega
  have e2 : (t.val - 1) % 4 * 2048 + 2048 = t.val % 4 * 2048 := by omega
  have ht := points t
  have e3 : 8192 = t.val % 4 * 2048 + 2048 := by omega
  rw [e1, e2, e3]
  exact sum_next (term (xs m c) (ct m c) (t.val / 4 * 1408 + r) s) (t.val % 4 * 2048) 2048

/-- The call's array, element by element. -/
theorem array (i : S2816x1024.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  have ht := points t
  blk_simp [result t]
  rw [after0_2]
  idx_bounds y
  exact (congrArg _ (eq_ix2 (n0 := 1408) (n1 := 1024) y)).trans (out t hl (y 0) (y 1))

/-- The reference at an element. -/
theorem reference (x : S8192x2816.Idx → EReal) (g : S8192x1024.Idx → EReal) (i : S2816x1024.Idx) :
    (Cert.Reference5Ideal.Read.val_main_v4 (F := Ideal) x g i : EReal) = ∑ k : Fin 8192, term x g (i 0).val (i 1).val k.val :=
  (Cert.Reference5Ideal.Read.val_main_v3_apply (F := Ideal) x g i).trans ((Cert.Reference5Ideal.Read.val_main_v2_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference5Ideal.Read.val_main_v4 (F := Ideal) (xs m c) (ct m c) := by
  funext i
  exact (array i).trans ((reference (xs m c) (ct m c) i).trans (Fin.sum_univ_eq_sum_range (term (xs m c) (ct m c) (i 0).val (i 1).val) 8192)).symm

end Cert.Product.DWDown

end
-- ==== Proof.Product.InputGrad.lean ====
/-
  THE INPUT'S GRADIENT (`input_grad`): each grid point takes 512 rows of three cotangents and multiplies each by its own weight,
  whole, and adds the residual's part. The reference, the transpose of the three projections and the scaled residual, adds the
  same four terms in another order.
-/
module

public import proofs.«01_k».proof.Proof.Product.Sums
public import proofs.«01_k».proof.Proof.Gen.Kernel6Ideal.Value
public import proofs.«01_k».proof.Proof.Gen.Reference6Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.InputGrad

open Cert.Kernel6Ideal Cert.Kernel6Ideal.Gen Cert.Kernel6Ideal.Value

variable {m : (ℓ : Loc nD τ sig) → Buf (Elt Ideal) ℓ} {c : Dev nD}

/-- The residual's factor. -/
abbrev α : EReal := Ideal.ofBits .f32 0x3F9837F0#32

/-- What the body leaves: the scaled residual and the three products. -/
theorem left (q : Vec Ideal S512x3072 .bf16) (g : Vec Ideal S512x2048 .bf16) (f : Vec Ideal S512x128 .bf16)
    (wq : Vec Ideal S1024x3072 .bf16) (wg : Vec Ideal S1024x2048 .bf16) (wf : Vec Ideal S1024x128 .bf16) (d : Vec Ideal S512x1024 .f32) (r : Fin 512) (s : Fin 1024) :
    out0_7 q g f wq wg wf d (ix2 r s) = α * d (ix2 r s) + (∑ k : Fin 3072, q (ix2 r k) * wq (ix2 s k))
      + (∑ k : Fin 2048, g (ix2 r k) * wg (ix2 s k)) + ∑ k : Fin 128, f (ix2 r k) * wf (ix2 s k) := by
  unfold out0_7
  rw [View.canon_unit_zero hz]
  unfold k0_pay1
  simp only [View.ld_unit_zero (S := S512x3072) hz, View.ld_unit_zero (S := S512x2048) hz, View.ld_unit_zero (S := S512x128) hz,
    View.ld_unit_zero (S := S1024x3072) hz, View.ld_unit_zero (S := S1024x2048) hz, View.ld_unit_zero (S := S1024x128) hz, View.ld_unit_zero (S := S512x1024) hz]
  exact congrArg₂ (· + ·) (congrArg₂ (· + ·) (congrArg (α * d (ix2 r s) + ·) (zero_nt (φ₁ := .bf16) (φ₂ := .bf16) none q wq r s))
    (zero_nt (φ₁ := .bf16) (φ₂ := .bf16) none g wg r s)) (zero_nt (φ₁ := .bf16) (φ₂ := .bf16) none f wf r s)

theorem points (t : Fin cfg0.N) : t.val < 16 := t.isLt
theorem rows0 : ∀ t : Fin cfg0.N, win0_0.index t = ![t.val, 0] := (by decide +kernel : ∀ t : Fin grid0.N, _)
theorem rows1 : ∀ t : Fin cfg0.N, win0_1.index t = ![t.val, 0] := (by decide +kernel : ∀ t : Fin grid0.N, _)
theorem rows2 : ∀ t : Fin cfg0.N, win0_2.index t = ![t.val, 0] := (by decide +kernel : ∀ t : Fin grid0.N, _)
theorem rows6 : ∀ t : Fin cfg0.N, win0_6.index t = ![t.val, 0] := (by decide +kernel : ∀ t : Fin grid0.N, _)
theorem rows7 : ∀ t : Fin cfg0.N, win0_7.index t = ![t.val, 0] := (by decide +kernel : ∀ t : Fin grid0.N, _)
theorem whole3 : ∀ t : Fin cfg0.N, win0_3.index t = ![0, 0] := (by decide +kernel : ∀ t : Fin grid0.N, _)
theorem whole4 : ∀ t : Fin cfg0.N, win0_4.index t = ![0, 0] := (by decide +kernel : ∀ t : Fin grid0.N, _)
theorem whole5 : ∀ t : Fin cfg0.N, win0_5.index t = ![0, 0] := (by decide +kernel : ∀ t : Fin grid0.N, _)

/-- The arguments as arrays. -/
abbrev dq (m : (ℓ : Loc nD τ sig) → Buf (Elt Ideal) ℓ) (c : Dev nD) : S8192x3072.Idx → EReal := m ((c : Thread nD τ).loc main_arg0)
abbrev dg (m : (ℓ : Loc nD τ sig) → Buf (Elt Ideal) ℓ) (c : Dev nD) : S8192x2048.Idx → EReal := m ((c : Thread nD τ).loc main_arg1)
abbrev df (m : (ℓ : Loc nD τ sig) → Buf (Elt Ideal) ℓ) (c : Dev nD) : S8192x128.Idx → EReal := m ((c : Thread nD τ).loc main_arg2)
abbrev wq (m : (ℓ : Loc nD τ sig) → Buf (Elt Ideal) ℓ) (c : Dev nD) : S1024x3072.Idx → EReal := m ((c : Thread nD τ).loc main_arg3)
abbrev wg (m : (ℓ : Loc nD τ sig) → Buf (Elt Ideal) ℓ) (c : Dev nD) : S1024x2048.Idx → EReal := m ((c : Thread nD τ).loc main_arg4)
abbrev wf (m : (ℓ : Loc nD τ sig) → Buf (Elt Ideal) ℓ) (c : Dev nD) : S1024x128.Idx → EReal := m ((c : Thread nD τ).loc main_arg5)
abbrev dr (m : (ℓ : Loc nD τ sig) → Buf (Elt Ideal) ℓ) (c : Dev nD) : S8192x1024.Idx → EReal := m ((c : Thread nD τ).loc main_arg6)

/-- The call's value at an element. -/
def value (dq : S8192x3072.Idx → EReal) (dg : S8192x2048.Idx → EReal) (df : S8192x128.Idx → EReal) (wq : S1024x3072.Idx → EReal) (wg : S1024x2048.Idx → EReal) (wf : S1024x128.Idx → EReal) (dr : S8192x1024.Idx → EReal) (a b : ℕ) : EReal :=
  α * at2 dr a b + (∑ k : Fin 3072, at2 dq a k * at2 wq b k) + (∑ k : Fin 2048, at2 dg a k * at2 wg b k) + ∑ k : Fin 128, at2 df a k * at2 wf b k

theorem block_dq (t : Fin cfg0.N) (r : Fin 512) (k : Fin 3072) : iblk m c 0 t (ix2 r k) = at2 (dq m c) (t.val * 512 + r.val) k.val := by
  refine (by blk_simp [iblk] : iblk m c 0 t (ix2 r k) = dq m c (((cfg0.win 0).blk t).view.emb (ix2 r k))).trans (eq_at2 (dq m c) _ ?_ ?_)
  · blk_simp [rows0 t]
  · blk_simp [rows0 t]
theorem block_dg (t : Fin cfg0.N) (r : Fin 512) (k : Fin 2048) : iblk m c 1 t (ix2 r k) = at2 (dg m c) (t.val * 512 + r.val) k.val := by
  refine (by blk_simp [iblk] : iblk m c 1 t (ix2 r k) = dg m c (((cfg0.win 1).blk t).view.emb (ix2 r k))).trans (eq_at2 (dg m c) _ ?_ ?_)
  · blk_simp [rows1 t]
  · blk_simp [rows1 t]
theorem block_df (t : Fin cfg0.N) (r : Fin 512) (k : Fin 128) : iblk m c 2 t (ix2 r k) = at2 (df m c) (t.val * 512 + r.val) k.val := by
  refine (by blk_simp [iblk] : iblk m c 2 t (ix2 r k) = df m c (((cfg0.win 2).blk t).view.emb (ix2 r k))).trans (eq_at2 (df m c) _ ?_ ?_)
  · blk_simp [rows2 t]
  · blk_simp [rows2 t]
theorem block_wq (t : Fin cfg0.N) (r : Fin 1024) (k : Fin 3072) : iblk m c 3 t (ix2 r k) = at2 (wq m c) (r.val) k.val := by
  refine (by blk_simp [iblk] : iblk m c 3 t (ix2 r k) = wq m c (((cfg0.win 3).blk t).view.emb (ix2 r k))).trans (eq_at2 (wq m c) _ ?_ ?_)
  · blk_simp [whole3 t]
  · blk_simp [whole3 t]
theorem block_wg (t : Fin cfg0.N) (r : Fin 1024) (k : Fin 2048) : iblk m c 4 t (ix2 r k) = at2 (wg m c) (r.val) k.val := by
  refine (by blk_simp [iblk] : iblk m c 4 t (ix2 r k) = wg m c (((cfg0.win 4).blk t).view.emb (ix2 r k))).trans (eq_at2 (wg m c) _ ?_ ?_)
  · blk_simp [whole4 t]
  · blk_simp [whole4 t]
theorem block_wf (t : Fin cfg0.N) (r : Fin 1024) (k : Fin 128) : iblk m c 5 t (ix2 r k) = at2 (wf m c) (r.val) k.val := by
  refine (by blk_simp [iblk] : iblk m c 5 t (ix2 r k) = wf m c (((cfg0.win 5).blk t).view.emb (ix2 r k))).trans (eq_at2 (wf m c) _ ?_ ?_)
  · blk_simp [whole5 t]
  · blk_simp [whole5 t]
theorem block_dr (t : Fin cfg0.N) (r : Fin 512) (k : Fin 1024) : iblk m c 6 t (ix2 r k) = at2 (dr m c) (t.val * 512 + r.val) k.val := by
  refine (by blk_simp [iblk] : iblk m c 6 t (ix2 r k) = dr m c (((cfg0.win 6).blk t).view.emb (ix2 r k))).trans (eq_at2 (dr m c) _ ?_ ?_)
  · blk_simp [rows6 t]
  · blk_simp [rows6 t]

/-- The call's array, element by element. -/
theorem array (i : S8192x1024.Idx) : (dats m 0 c).arrAt 7 cfg0.N i = value (dq m c) (dg m c) (df m c) (wq m c) (wg m c) (wf m c) (dr m c) (i 0).val (i 1).val := by
  refine (dats m 0 c).arrAt_forall_of_covers 7 (fun i v => v = value (dq m c) (dg m c) (df m c) (wq m c) (wg m c) (wf m c) (dr m c) (i 0).val (i 1).val)
    (by decide +kernel) (fun t hf y => ?_) i
  have ht := points t
  blk_simp [rows7 t]
  rw [after0_7]
  idx_bounds y
  refine (congrArg _ (eq_ix2 (n0 := 512) (n1 := 1024) y)).trans ((left _ _ _ _ _ _ _ (y 0) (y 1)).trans ?_)
  exact congrArg₂ (· + ·) (congrArg₂ (· + ·) (congrArg₂ (· + ·) (congrArg (α * ·) (block_dr t (y 0) (y 1)))
      (Finset.sum_congr rfl fun k _ => congrArg₂ (· * ·) (block_dq t (y 0) k) (block_wq t (y 1) k)))
    (Finset.sum_congr rfl fun k _ => congrArg₂ (· * ·) (block_dg t (y 0) k) (block_wg t (y 1) k)))
    (Finset.sum_congr rfl fun k _ => congrArg₂ (· * ·) (block_df t (y 0) k) (block_wf t (y 1) k))

/-- The reference's terms at an element. -/
theorem scaled (dr : S8192x1024.Idx → EReal) (i : S8192x1024.Idx) : (Cert.Reference6Ideal.Read.val_main_v7 (F := Ideal) dr i : EReal) = α * at2 dr (i 0).val (i 1).val :=
  (Cert.Reference6Ideal.Read.val_main_v7_apply (F := Ideal) dr i).trans (congrArg₂ (· * ·) (Cert.Reference6Ideal.Read.val_main_v6_apply (F := Ideal) i) (eq_at2 dr _ rfl rfl))
theorem forget (df : S8192x128.Idx → EReal) (wf : S1024x128.Idx → EReal) (i : S8192x1024.Idx) :
    (Cert.Reference6Ideal.Read.val_main_v8 (F := Ideal) df wf i : EReal) = ∑ k : Fin 128, at2 df (i 0).val k * at2 wf (i 1).val k :=
  (Cert.Reference6Ideal.Read.val_main_v8_apply df wf i).trans (Finset.sum_congr rfl fun k _ => congrArg₂ (· * ·) (eq_at2 df _ rfl rfl) (eq_at2 wf _ rfl rfl))
theorem gates (dg : S8192x2048.Idx → EReal) (wg : S1024x2048.Idx → EReal) (i : S8192x1024.Idx) :
    (Cert.Reference6Ideal.Read.val_main_v10 (F := Ideal) dg wg i : EReal) = ∑ k : Fin 2048, at2 dg (i 0).val k * at2 wg (i 1).val k :=
  (Cert.Reference6Ideal.Read.val_main_v10_apply dg wg i).trans (Finset.sum_congr rfl fun k _ => congrArg₂ (· * ·) (eq_at2 dg _ rfl rfl) (eq_at2 wg _ rfl rfl))
theorem queries (dq : S8192x3072.Idx → EReal) (wq : S1024x3072.Idx → EReal) (i : S8192x1024.Idx) :
    (Cert.Reference6Ideal.Read.val_main_v12 (F := Ideal) dq wq i : EReal) = ∑ k : Fin 3072, at2 dq (i 0).val k * at2 wq (i 1).val k :=
  (Cert.Reference6Ideal.Read.val_main_v12_apply dq wq i).trans (Finset.sum_congr rfl fun k _ => congrArg₂ (· * ·) (eq_at2 dq _ rfl rfl) (eq_at2 wq _ rfl rfl))

/-- The same four terms in the kernel's order. -/
theorem reorder (a q g f : EReal) : a + f + g + q = a + q + g + f := by
  rw [add_assoc, add_assoc, add_assoc, add_assoc, add_left_comm f g q, add_comm f q, add_left_comm g q f]

/-- The reference at an element. -/
theorem reference (dq : S8192x3072.Idx → EReal) (dg : S8192x2048.Idx → EReal) (df : S8192x128.Idx → EReal) (wq : S1024x3072.Idx → EReal) (wg : S1024x2048.Idx → EReal) (wf : S1024x128.Idx → EReal) (dr : S8192x1024.Idx → EReal) (i : S8192x1024.Idx) :
    (Cert.Reference6Ideal.Read.val_main_v13 (F := Ideal) dq dg df wq wg wf dr i : EReal) = value dq dg df wq wg wf dr (i 0).val (i 1).val := by
  refine (Cert.Reference6Ideal.Read.val_main_v13_apply (F := Ideal) dq dg df wq wg wf dr i).trans (Eq.trans ?_ (reorder _ _ _ _))
  refine congrArg₂ (· + ·) ((Cert.Reference6Ideal.Read.val_main_v11_apply (F := Ideal) dg df wg wf dr i).trans ?_) (queries dq wq i)
  refine congrArg₂ (· + ·) ((Cert.Reference6Ideal.Read.val_main_v9_apply (F := Ideal) df wf dr i).trans ?_) (gates dg wg i)
  exact congrArg₂ (· + ·) (scaled dr i) (forget df wf i)

/-- The reference's array. -/
theorem same : (dats m 0 c).arrAt 7 cfg0.N = Cert.Reference6Ideal.Read.val_main_v13 (F := Ideal) (dq m c) (dg m c) (df m c) (wq m c) (wg m c) (wf m c) (dr m c) := by
  funext i
  exact (array i).trans (reference (dq m c) (dg m c) (df m c) (wq m c) (wg m c) (wf m c) (dr m c) i).symm

end Cert.Product.InputGrad

end
-- ==== Proof.Product.DWOut.lean ====
/-
  THE GRADIENT OF THE OUTPUT WEIGHT (`dw_out`): gathered over four blocks of 2048 tokens in a
  buffer that the grid points hand on; the fourth point writes the sum out. The reference, the transpose of the linear map,
  is the same sum over all tokens.
-/
module

public import proofs.«01_k».proof.Proof.Product.Sums
public import proofs.«01_k».proof.Proof.Gen.Kernel7Ideal.Value
public import proofs.«01_k».proof.Proof.Gen.Reference7Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWOut

open Cert.Kernel7Ideal Cert.Kernel7Ideal.Gen Cert.Kernel7Ideal.Value

variable {m : (ℓ : Loc nD τ sig) → Buf (Elt Ideal) ℓ} {c : Dev nD}

/-- The product of one block of tokens. -/
theorem part (x : Vec Ideal S2048x1024 .bf16) (g : Vec Ideal S2048x1024 .bf16) (r : Fin 1024) (s : Fin 1024) :
    k0_pay1 x g (ix2 r s) = ∑ k : Fin 2048, x (ix2 k r) * g (ix2 k s) := by
  unfold k0_pay1
  exact zero_tn _ none x g r s

section Cases

variable (i : grid0.Coords) (a0 : Memref sig .tc .vmem S2048x1024 .bf16) (h0 : a0.IsWhole) (a1 : Memref sig .tc .vmem S2048x1024 .bf16) (h1 : a1.IsWhole)
  (a2 : Memref sig .tc .vmem S1024x1024 .bf16) (h2 : a2.IsWhole) (a3 : Memref sig .tc .vmem S1024x1024 .f32) (h3 : a3.IsWhole)
  (x : Vec Ideal S2048x1024 .bf16) (g : Vec Ideal S2048x1024 .bf16) (p : Vec Ideal S1024x1024 .f32)

/-- A first block starts the sum. -/
theorem first_sum (e0 : cond0_0 i) (e1 : ¬cond0_1 i) (e2 : ¬cond0_2 i) :
    sout0_A_0 c i a0 h0 a1 h1 a2 h2 a3 h3 e0 e1 e2 x g = k0_pay1 x g := by
  unfold sout0_A_0
  rw [View.read_writes_eq_canon _ _ _ (scover0_A_0 c i a0 h0 a1 h1 a2 h2 a3 h3 e0 e1 e2 x g)]
  unfold kernelRun0_A
  dsimp only
  rw [View.canon_unit_zero hz]
  unfold k0_pay2
  simp only [View.readAt_eq_ld, h0.read_unread, h1.read_unread, View.ld_unit_zero (S := S2048x1024) hz, shapeCast_self]

/-- A middle block adds to it. -/
theorem next_sum (e0 : ¬cond0_0 i) (e1 : cond0_1 i) (e2 : ¬cond0_2 i) :
    sout0_B_0 c i a0 h0 a1 h1 a2 h2 a3 h3 e0 e1 e2 x g p = addf p (k0_pay1 x g) := by
  unfold sout0_B_0
  rw [View.read_writes_eq_canon _ _ _ (scover0_B_0 c i a0 h0 a1 h1 a2 h2 a3 h3 e0 e1 e2 x g p)]
  unfold kernelRun0_B
  dsimp only
  rw [View.canon_unit_zero hz]
  unfold k0_pay3
  simp only [View.readAt_eq_ld, h0.read_unread, h1.read_unread, h3.read_unread, View.ld_unit_zero (S := S2048x1024) hz, View.ld_unit_zero (S := S1024x1024) hz, shapeCast_self]

/-- A last block writes the sum out. -/
theorem last_out (e0 : ¬cond0_0 i) (e1 : cond0_1 i) (e2 : cond0_2 i) :
    out0_C_2 c i a0 h0 a1 h1 a2 h2 a3 h3 e0 e1 e2 x g p = truncf .bf16 (addf p (k0_pay1 x g)) bitsLt_bf16_f32 := by
  unfold out0_C_2
  rw [View.read_writes_eq_canon _ _ _ (cover0_C_2 c i a0 h0 a1 h1 a2 h2 a3 h3 e0 e1 e2 x g p)]
  unfold kernelRun0_C
  dsimp only
  sl_unfold_words
  rw [View.canon_unit_zero hz, View.readCov_unit_zero (S := S1024x1024) _ hz]
  unfold k0_pay4 k0_pay3
  simp only [View.readAt_eq_ld, h0.read_unread, h1.read_unread, h3.read_unread, View.ld_unit_zero (S := S2048x1024) hz, View.ld_unit_zero (S := S1024x1024) hz, shapeCast_self]

end Cases

theorem points (t : Fin cfg0.N) : t.val < 4 := t.isLt
theorem left_block : ∀ t : Fin cfg0.N, win0_0.index t = ![t.val % 4, 0] := (by decide +kernel : ∀ t : Fin grid0.N, _)
theorem right_block : ∀ t : Fin cfg0.N, win0_1.index t = ![t.val % 4, 0] := (by decide +kernel : ∀ t : Fin grid0.N, _)
theorem result : ∀ t : Fin cfg0.N, win0_2.index t = ![0, 0] := (by decide +kernel : ∀ t : Fin grid0.N, _)

/-- The activations and the cotangent. -/
abbrev xs (m : (ℓ : Loc nD τ sig) → Buf (Elt Ideal) ℓ) (c : Dev nD) : S8192x1024.Idx → EReal := m ((c : Thread nD τ).loc main_arg0)
abbrev ct (m : (ℓ : Loc nD τ sig) → Buf (Elt Ideal) ℓ) (c : Dev nD) : S8192x1024.Idx → EReal := m ((c : Thread nD τ).loc main_arg1)

/-- One token's term. -/
def term (x : S8192x1024.Idx → EReal) (g : S8192x1024.Idx → EReal) (a b k : ℕ) : EReal := at2 x k a * at2 g k b

theorem block_x (t : Fin cfg0.N) (k : Fin 2048) (r : Fin 1024) : iblk m c 0 t (ix2 k r) = at2 (xs m c) (t.val % 4 * 2048 + k.val) r.val := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 1024) : iblk m c 1 t (ix2 k s) = at2 (ct m c) (t.val % 4 * 2048 + k.val) s.val := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 1024) (s : Fin 1024) :
    k0_pay1 (F := Ideal) (iblk m c 0 t) (iblk m c 1 t) (ix2 r s) = ∑ k : Fin 2048, term (xs m c) (ct m c) r s (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2 = k0_pay1 (iblk m c 0 t) (iblk m c 1 t) := by
  have ht := points t
  rw [outsAt0_A m c t h0 (by omega) (by omega)]
  dsimp only
  rw [first_sum]
theorem at_next (t : Fin cfg0.N) (h0 : ¬t.val % 4 = 0) (h3 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  have ht := points t
  rw [outsAt0_B m c t h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2 (k0_pay1 (iblk m c 0 t) (iblk m c 1 t))) bitsLt_bf16_f32 := by
  have ht := points t
  rw [outsAt0_C m c t (by omega) (by omega) h3]
  dsimp only
  rw [last_out]

/-- The sum handed on after a point that is not the last of its run. -/
theorem sums (n : ℕ) (hn : n < cfg0.N) (hl : ¬n % 4 = 3) (r : Fin 1024) (s : Fin 1024) :
    (outsAt0 m c n hn).2 (ix2 r s) = ∑ k ∈ Finset.range (n % 4 * 2048 + 2048), term (xs m c) (ct m c) r s k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) r s) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e2 : n % 4 * 2048 + 2048 = (n + 1) % 4 * 2048 := by omega
      rw [e2]
      exact sum_next (term (xs m c) (ct m c) r s) ((n + 1) % 4 * 2048) 2048

/-- What a last point writes out. -/
theorem out (t : Fin cfg0.N) (hl : t.val % 4 = 3) (r : Fin 1024) (s : Fin 1024) :
    (outsAt0 m c t.val t.isLt).1 (ix2 r s) = ∑ k ∈ Finset.range 8192, term (xs m c) (ct m c) r s k := by
  rw [at_last t hl]
  refine (congrArg₂ (· + ·) (sums (t.val - 1) (Nat.lt_of_le_of_lt (Nat.sub_le _ _) t.isLt) (by omega) r s) (part_at t r s)).trans ?_
  have e2 : (t.val - 1) % 4 * 2048 + 2048 = t.val % 4 * 2048 := by omega
  have ht := points t
  have e3 : 8192 = t.val % 4 * 2048 + 2048 := by omega
  rw [e2, e3]
  exact sum_next (term (xs m c) (ct m c) r s) (t.val % 4 * 2048) 2048

/-- The call's array, element by element. -/
theorem array (i : S1024x1024.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  have ht := points t
  blk_simp [result t]
  rw [after0_2]
  idx_bounds y
  exact (congrArg _ (eq_ix2 (n0 := 1024) (n1 := 1024) y)).trans (out t hl (y 0) (y 1))

/-- The reference at an element. -/
theorem reference (x : S8192x1024.Idx → EReal) (g : S8192x1024.Idx → EReal) (i : S1024x1024.Idx) :
    (Cert.Reference7Ideal.Read.val_main_v4 (F := Ideal) x g i : EReal) = ∑ k : Fin 8192, term x g (i 0).val (i 1).val k.val :=
  (Cert.Reference7Ideal.Read.val_main_v3_apply (F := Ideal) x g i).trans ((Cert.Reference7Ideal.Read.val_main_v2_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference7Ideal.Read.val_main_v4 (F := Ideal) (xs m c) (ct m c) := by
  funext i
  exact (array i).trans ((reference (xs m c) (ct m c) i).trans (Fin.sum_univ_eq_sum_range (term (xs m c) (ct m c) (i 0).val (i 1).val) 8192)).symm

end Cert.Product.DWOut

end
-- ==== Proof.Product.DO.lean ====
/-
  THE GRADIENT OF AN ATTENTION'S OUTPUT (`d_o_sb`, `d_o_fx`): each grid point multiplies 512 rows of the cotangent by the whole
  projection. The reference, the transpose of the linear map, is the same sum.
-/
module

public import proofs.«01_k».proof.Proof.Product.Sums
public import proofs.«01_k».proof.Proof.Gen.Kernel8Ideal.Value
public import proofs.«01_k».proof.Proof.Gen.Reference8Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DO

open Cert.Kernel8Ideal Cert.Kernel8Ideal.Gen Cert.Kernel8Ideal.Value

variable {m : (ℓ : Loc nD τ sig) → Buf (Elt Ideal) ℓ} {c : Dev nD}

/-- What the body leaves: the product of its two blocks. -/
theorem left (x : Vec Ideal S512x1024 .bf16) (w : Vec Ideal S512x1024 .bf16) (r : Fin 512) (s : Fin 512) :
    out0_2 x w (ix2 r s) = ∑ k : Fin 1024, x (ix2 r k) * w (ix2 s k) := by
  unfold out0_2
  rw [View.canon_unit_zero hz]
  unfold k0_pay1
  simp only [View.ld_unit_zero (S := S512x1024) hz]
  exact zero_nt (φ₁ := .bf16) (φ₂ := .bf16) none x w r s

theorem rows : ∀ t : Fin cfg0.N, win0_0.index t = ![t.val, 0] := (by decide +kernel : ∀ t : Fin grid0.N, _)
theorem columns : ∀ t : Fin cfg0.N, win0_1.index t = ![0, 0] := (by decide +kernel : ∀ t : Fin grid0.N, _)
theorem result : ∀ t : Fin cfg0.N, win0_2.index t = ![t.val, 0] := (by decide +kernel : ∀ t : Fin grid0.N, _)
theorem points (t : Fin cfg0.N) : t.val < 16 := t.isLt

/-- The arguments as arrays. -/
abbrev xs (m : (ℓ : Loc nD τ sig) → Buf (Elt Ideal) ℓ) (c : Dev nD) : S8192x1024.Idx → EReal := m ((c : Thread nD τ).loc main_arg1)
abbrev w (m : (ℓ : Loc nD τ sig) → Buf (Elt Ideal) ℓ) (c : Dev nD) : S512x1024.Idx → EReal := m ((c : Thread nD τ).loc main_arg0)

/-- The call's value at an element. -/
def value (x : S8192x1024.Idx → EReal) (w : S512x1024.Idx → EReal) (a b : ℕ) : EReal := ∑ k : Fin 1024, at2 x a k * at2 w b k

/-- A row of the left block. -/
theorem block_x (t : Fin cfg0.N) (r : Fin 512) (k : Fin 1024) : iblk m c 0 t (ix2 r k) = at2 (xs m c) (t.val * 512 + r.val) k.val := by
  refine (by blk_simp [iblk] : iblk m c 0 t (ix2 r k) = xs m c (((cfg0.win 0).blk t).view.emb (ix2 r k))).trans (eq_at2 (xs m c) _ ?_ ?_)
  · blk_simp [rows t]
  · blk_simp [rows t]
/-- An element of the weight's block. -/
theorem block_w (t : Fin cfg0.N) (s : Fin 512) (k : Fin 1024) : iblk m c 1 t (ix2 s k) = at2 (w m c) (s.val) k.val := by
  refine (by blk_simp [iblk] : iblk m c 1 t (ix2 s k) = w m c (((cfg0.win 1).blk t).view.emb (ix2 s k))).trans (eq_at2 (w m c) _ ?_ ?_)
  · blk_simp [columns t]
  · blk_simp [columns t]

/-- The call's array, element by element. -/
theorem array (i : S8192x512.Idx) : (dats m 0 c).arrAt 2 cfg0.N i = value (xs m c) (w m c) (i 0).val (i 1).val := by
  refine (dats m 0 c).arrAt_forall_of_covers 2 (fun i v => v = value (xs m c) (w m c) (i 0).val (i 1).val)
    (by decide +kernel) (fun t hf y => ?_) i
  have ht := points t
  blk_simp [result t]
  rw [after0_2]
  idx_bounds y
  refine (congrArg _ (eq_ix2 (n0 := 512) (n1 := 512) y)).trans ((left _ _ (y 0) (y 1)).trans (Finset.sum_congr rfl fun k _ => ?_))
  exact congrArg₂ (· * ·) (block_x t (y 0) k) (block_w t (y 1) k)

/-- The reference at an element. -/
theorem reference (x : S8192x1024.Idx → EReal) (w : S512x1024.Idx → EReal) (i : S8192x512.Idx) :
    (Cert.Reference8Ideal.Read.val_main_v3 (F := Ideal) w x i : EReal) = value x w (i 0).val (i 1).val :=
  (Cert.Reference8Ideal.Read.val_main_v2_apply w x i).trans (Finset.sum_congr rfl fun k _ => congrArg₂ (· * ·) (eq_at2 x _ rfl rfl) (eq_at2 w _ rfl rfl))

/-- The reference's array. -/
theorem same : (dats m 0 c).arrAt 2 cfg0.N = Cert.Reference8Ideal.Read.val_main_v3 (F := Ideal) (w m c) (xs m c) := by
  funext i
  exact (array i).trans (reference (xs m c) (w m c) i).symm

end Cert.Product.DO

end
-- ==== Proof.Product.DWP.lean ====
/-
  THE GRADIENT OF AN ATTENTION'S PROJECTION (`dwp_fx`): gathered over four blocks of 2048 tokens in a
  buffer that the grid points hand on; the fourth point writes the sum out. The reference, the transpose of the linear map,
  is the same sum over all tokens.
-/
module

public import proofs.«01_k».proof.Proof.Product.Sums
public import proofs.«01_k».proof.Proof.Gen.Kernel9Ideal.Value
public import proofs.«01_k».proof.Proof.Gen.Reference9Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWP

open Cert.Kernel9Ideal Cert.Kernel9Ideal.Gen Cert.Kernel9Ideal.Value

variable {m : (ℓ : Loc nD τ sig) → Buf (Elt Ideal) ℓ} {c : Dev nD}

/-- The product of one block of tokens. -/
theorem part (x : Vec Ideal S2048x512 .f32) (g : Vec Ideal S2048x1024 .bf16) (r : Fin 512) (s : Fin 1024) :
    k0_pay1 x g (ix2 r s) = ∑ k : Fin 2048, x (ix2 k r) * g (ix2 k s) := by
  unfold k0_pay1
  exact zero_tn _ none x g r s

section Cases

variable (i : grid0.Coords) (a0 : Memref sig .tc .vmem S2048x512 .f32) (h0 : a0.IsWhole) (a1 : Memref sig .tc .vmem S2048x1024 .bf16) (h1 : a1.IsWhole)
  (a2 : Memref sig .tc .vmem S512x1024 .bf16) (h2 : a2.IsWhole) (a3 : Memref sig .tc .vmem S512x1024 .f32) (h3 : a3.IsWhole)
  (x : Vec Ideal S2048x512 .f32) (g : Vec Ideal S2048x1024 .bf16) (p : Vec Ideal S512x1024 .f32)

/-- A first block starts the sum. -/
theorem first_sum (e0 : cond0_0 i) (e1 : ¬cond0_1 i) (e2 : ¬cond0_2 i) :
    sout0_A_0 c i a0 h0 a1 h1 a2 h2 a3 h3 e0 e1 e2 x g = k0_pay1 x g := by
  unfold sout0_A_0
  rw [View.read_writes_eq_canon _ _ _ (scover0_A_0 c i a0 h0 a1 h1 a2 h2 a3 h3 e0 e1 e2 x g)]
  unfold kernelRun0_A
  dsimp only
  rw [View.canon_unit_zero hz]
  unfold k0_pay2
  simp only [View.readAt_eq_ld, h0.read_unread, h1.read_unread, View.ld_unit_zero (S := S2048x512) hz, View.ld_unit_zero (S := S2048x1024) hz, shapeCast_self]

/-- A middle block adds to it. -/
theorem next_sum (e0 : ¬cond0_0 i) (e1 : cond0_1 i) (e2 : ¬cond0_2 i) :
    sout0_B_0 c i a0 h0 a1 h1 a2 h2 a3 h3 e0 e1 e2 x g p = addf p (k0_pay1 x g) := by
  unfold sout0_B_0
  rw [View.read_writes_eq_canon _ _ _ (scover0_B_0 c i a0 h0 a1 h1 a2 h2 a3 h3 e0 e1 e2 x g p)]
  unfold kernelRun0_B
  dsimp only
  rw [View.canon_unit_zero hz]
  unfold k0_pay3
  simp only [View.readAt_eq_ld, h0.read_unread, h1.read_unread, h3.read_unread, View.ld_unit_zero (S := S2048x512) hz, View.ld_unit_zero (S := S2048x1024) hz, View.ld_unit_zero (S := S512x1024) hz, shapeCast_self]

/-- A last block writes the sum out. -/
theorem last_out (e0 : ¬cond0_0 i) (e1 : cond0_1 i) (e2 : cond0_2 i) :
    out0_C_2 c i a0 h0 a1 h1 a2 h2 a3 h3 e0 e1 e2 x g p = truncf .bf16 (addf p (k0_pay1 x g)) bitsLt_bf16_f32 := by
  unfold out0_C_2
  rw [View.read_writes_eq_canon _ _ _ (cover0_C_2 c i a0 h0 a1 h1 a2 h2 a3 h3 e0 e1 e2 x g p)]
  unfold kernelRun0_C
  dsimp only
  sl_unfold_words
  rw [View.canon_unit_zero hz, View.readCov_unit_zero (S := S512x1024) _ hz]
  unfold k0_pay4 k0_pay3
  simp only [View.readAt_eq_ld, h0.read_unread, h1.read_unread, h3.read_unread, View.ld_unit_zero (S := S2048x512) hz, View.ld_unit_zero (S := S2048x1024) hz, View.ld_unit_zero (S := S512x1024) hz, shapeCast_self]

end Cases

theorem points (t : Fin cfg0.N) : t.val < 4 := t.isLt
theorem left_block : ∀ t : Fin cfg0.N, win0_0.index t = ![t.val % 4, 0] := (by decide +kernel : ∀ t : Fin grid0.N, _)
theorem right_block : ∀ t : Fin cfg0.N, win0_1.index t = ![t.val % 4, 0] := (by decide +kernel : ∀ t : Fin grid0.N, _)
theorem result : ∀ t : Fin cfg0.N, win0_2.index t = ![0, 0] := (by decide +kernel : ∀ t : Fin grid0.N, _)

/-- The activations and the cotangent. -/
abbrev xs (m : (ℓ : Loc nD τ sig) → Buf (Elt Ideal) ℓ) (c : Dev nD) : S8192x512.Idx → EReal := m ((c : Thread nD τ).loc main_arg0)
abbrev ct (m : (ℓ : Loc nD τ sig) → Buf (Elt Ideal) ℓ) (c : Dev nD) : S8192x1024.Idx → EReal := m ((c : Thread nD τ).loc main_arg1)

/-- One token's term. -/
def term (x : S8192x512.Idx → EReal) (g : S8192x1024.Idx → EReal) (a b k : ℕ) : EReal := at2 x k a * at2 g k b

theorem block_x (t : Fin cfg0.N) (k : Fin 2048) (r : Fin 512) : iblk m c 0 t (ix2 k r) = at2 (xs m c) (t.val % 4 * 2048 + k.val) r.val := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 1024) : iblk m c 1 t (ix2 k s) = at2 (ct m c) (t.val % 4 * 2048 + k.val) s.val := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 512) (s : Fin 1024) :
    k0_pay1 (F := Ideal) (iblk m c 0 t) (iblk m c 1 t) (ix2 r s) = ∑ k : Fin 2048, term (xs m c) (ct m c) r s (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2 = k0_pay1 (iblk m c 0 t) (iblk m c 1 t) := by
  have ht := points t
  rw [outsAt0_A m c t h0 (by omega) (by omega)]
  dsimp only
  rw [first_sum]
theorem at_next (t : Fin cfg0.N) (h0 : ¬t.val % 4 = 0) (h3 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  have ht := points t
  rw [outsAt0_B m c t h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2 (k0_pay1 (iblk m c 0 t) (iblk m c 1 t))) bitsLt_bf16_f32 := by
  have ht := points t
  rw [outsAt0_C m c t (by omega) (by omega) h3]
  dsimp only
  rw [last_out]

/-- The sum handed on after a point that is not the last of its run. -/
theorem sums (n : ℕ) (hn : n < cfg0.N) (hl : ¬n % 4 = 3) (r : Fin 512) (s : Fin 1024) :
    (outsAt0 m c n hn).2 (ix2 r s) = ∑ k ∈ Finset.range (n % 4 * 2048 + 2048), term (xs m c) (ct m c) r s k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) r s) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e2 : n % 4 * 2048 + 2048 = (n + 1) % 4 * 2048 := by omega
      rw [e2]
      exact sum_next (term (xs m c) (ct m c) r s) ((n + 1) % 4 * 2048) 2048

/-- What a last point writes out. -/
theorem out (t : Fin cfg0.N) (hl : t.val % 4 = 3) (r : Fin 512) (s : Fin 1024) :
    (outsAt0 m c t.val t.isLt).1 (ix2 r s) = ∑ k ∈ Finset.range 8192, term (xs m c) (ct m c) r s k := by
  rw [at_last t hl]
  refine (congrArg₂ (· + ·) (sums (t.val - 1) (Nat.lt_of_le_of_lt (Nat.sub_le _ _) t.isLt) (by omega) r s) (part_at t r s)).trans ?_
  have e2 : (t.val - 1) % 4 * 2048 + 2048 = t.val % 4 * 2048 := by omega
  have ht := points t
  have e3 : 8192 = t.val % 4 * 2048 + 2048 := by omega
  rw [e2, e3]
  exact sum_next (term (xs m c) (ct m c) r s) (t.val % 4 * 2048) 2048

/-- The call's array, element by element. -/
theorem array (i : S512x1024.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  have ht := points t
  blk_simp [result t]
  rw [after0_2]
  idx_bounds y
  exact (congrArg _ (eq_ix2 (n0 := 512) (n1 := 1024) y)).trans (out t hl (y 0) (y 1))

/-- The reference at an element. -/
theorem reference (x : S8192x512.Idx → EReal) (g : S8192x1024.Idx → EReal) (i : S512x1024.Idx) :
    (Cert.Reference9Ideal.Read.val_main_v3 (F := Ideal) x g i : EReal) = ∑ k : Fin 8192, term x g (i 0).val (i 1).val k.val :=
  (Cert.Reference9Ideal.Read.val_main_v2_apply (F := Ideal) x g i).trans ((Cert.Reference9Ideal.Read.val_main_v1_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference9Ideal.Read.val_main_v3 (F := Ideal) (xs m c) (ct m c) := by
  funext i
  exact (array i).trans ((reference (xs m c) (ct m c) i).trans (Fin.sum_univ_eq_sum_range (term (xs m c) (ct m c) (i 0).val (i 1).val) 8192)).symm

end Cert.Product.DWP

end
-- ==== Proof.Product.Gate.lean ====
/-
  THE GATE, over the extended reals: the kernel's sigmoid, which takes the exponential of minus the absolute value and chooses by the sign, is
  the sigmoid. No program is named here.
-/
module

public import proofs.«01_k».proof.Proof.Product.Sums
public import Idealize.ShloMosaic.Lib.IdealHost

@[expose] public section

noncomputable section

open Idealize.ShloMosaic

namespace Cert.Product

/-- The sigmoid. -/
def sgm (x : EReal) : EReal := Ideal.div (Ideal.ofBits .f32 0x3F800000#32) (Ideal.ofBits .f32 0x3F800000#32 + Ideal.exp (-x))

/-- A quotient of reals. -/
theorem div_coe (a b : ℝ) (h : b ≠ 0) : Ideal.div a b = ((a / b : ℝ) : EReal) := by
  unfold Ideal.div
  rw [if_neg (by exact_mod_cast h), div_eq_mul_inv, EReal.coe_mul, EReal.coe_inv]

/-- The sigmoid as the kernel writes it. -/
def chosen (x : EReal) : EReal :=
  Scalar.select (Ideal.cmp .oge x (Ideal.ofBits .f32 0x00000000#32))
    (Ideal.div (Ideal.ofBits .f32 0x3F800000#32) (Ideal.ofBits .f32 0x3F800000#32 + Ideal.exp (Ideal.ofBits .f32 0x00000000#32 - max x (-x))))
    (Ideal.exp (Ideal.ofBits .f32 0x00000000#32 - max x (-x))
      * Ideal.div (Ideal.ofBits .f32 0x3F800000#32) (Ideal.ofBits .f32 0x3F800000#32 + Ideal.exp (Ideal.ofBits .f32 0x00000000#32 - max x (-x))))

theorem chosen_eq (x : EReal) : chosen x = sgm x := by
  unfold chosen sgm
  rw [Ideal.ofBits_zero_f32, Ideal.ofBits_one_f32, zero_sub]
  by_cases h : 0 ≤ x
  · have hm : max x (-x) = x := max_eq_left ((EReal.neg_le_neg_iff.mpr h).trans (by simpa using h))
    have hc : Ideal.cmp .oge x 0 = 1 := by simp [Ideal.cmp, h]
    rw [hm, hc]
    rfl
  · have hx : x ≤ 0 := (not_le.mp h).le
    have hm : max x (-x) = -x := max_eq_right (hx.trans (by simpa using EReal.neg_le_neg_iff.mpr hx))
    have hc : Ideal.cmp .oge x 0 = 0 := by simp [Ideal.cmp, h]
    rw [hm, hc, neg_neg]
    show Ideal.exp x * Ideal.div 1 (1 + Ideal.exp x) = Ideal.div 1 (1 + Ideal.exp (-x))
    induction x using EReal.rec with
    | bot =>
      show (0 : EReal) * _ = Ideal.div 1 (1 + ⊤)
      rw [zero_mul, show (1 : EReal) + ⊤ = ⊤ from EReal.coe_add_top 1]
      simp [Ideal.div]
    | top => exact absurd le_top h
    | coe r =>
      show ((Real.exp r : ℝ) : EReal) * Ideal.div 1 (1 + ((Real.exp r : ℝ) : EReal)) = Ideal.div 1 (1 + ((Real.exp (-r) : ℝ) : EReal))
      have p := Real.exp_pos r
      have q := Real.exp_pos (-r)
      have e1 : (1 : EReal) + ((Real.exp r : ℝ) : EReal) = ((1 + Real.exp r : ℝ) : EReal) := by push_cast; rfl
      have e2 : (1 : EReal) + ((Real.exp (-r) : ℝ) : EReal) = ((1 + Real.exp (-r) : ℝ) : EReal) := by push_cast; rfl
      rw [e1, e2, ← EReal.coe_one, div_coe _ _ (by positivity), div_coe _ _ (by positivity), ← EReal.coe_mul]
      congr 1
      rw [Real.exp_neg]
      field_simp
      ring

end Cert.Product

end
-- ==== Proof.Product.GateBack.lean ====
/-
  THE GRADIENT OF THE OUTPUT PROJECTION'S ARGUMENT AND OF THE GATED MERGE (`gate_bwd`): each grid point takes 512 rows of the residual's gradient back
  through the weight, and gives each branch and each gate its part. The reference is the transpose of the merge's linearisation.
-/
module

public import proofs.«01_k».proof.Proof.Product.Gate
public import proofs.«01_k».proof.Proof.Gen.Kernel10Ideal.Value
public import proofs.«01_k».proof.Proof.Gen.Reference10Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.GateBack

open Cert.Kernel10Ideal Cert.Kernel10Ideal.Gen Cert.Kernel10Ideal.Value

variable {m : (ℓ : Loc nD τ sig) → Buf (Elt Ideal) ℓ} {c : Dev nD}

/-- The product in the body. -/
theorem product (x : Vec Ideal S512x1024 .bf16) (w : Vec Ideal S1024x1024 .bf16) (r : Fin 512) (s : Fin 1024) :
    (k0_pay3 x w (ix2 r s) : EReal) = ∑ k : Fin 1024, (x (ix2 r k) : EReal) * w (ix2 s k) := by
  unfold k0_pay3
  exact zero_nt (φ₁ := .bf16) (φ₂ := .bf16) none x w r s
/-- The gates in the body. -/
theorem gate_sb (g : Vec Ideal S512x1024 .f32) (y : S512x1024.Idx) : (k0_pay4 g y : EReal) = sgm (g y) := by
  unfold k0_pay4
  exact chosen_eq (g y)
theorem gate_fx (g : Vec Ideal S512x1024 .f32) (y : S512x1024.Idx) : (k0_pay5 g y : EReal) = sgm (g y) := by
  unfold k0_pay5
  exact chosen_eq (g y)
/-- A gate's part: the product with the branch and the sigmoid's derivative. -/
def slope (d b g : EReal) : EReal := d * b * sgm g * (Ideal.ofBits .f32 0x3F800000#32 - sgm g)

theorem part_6 (x : Vec Ideal S512x1024 .bf16) (w : Vec Ideal S1024x1024 .bf16) (g : Vec Ideal S512x1024 .f32) (y : S512x1024.Idx) :
    (k0_pay6 x w g y : EReal) = (k0_pay3 x w y : EReal) * sgm (g y) := by
  unfold k0_pay6
  exact congrArg (fun a : EReal => (k0_pay3 x w y : EReal) * a) (gate_sb g y)
theorem part_7 (x : Vec Ideal S512x1024 .bf16) (w : Vec Ideal S1024x1024 .bf16) (g : Vec Ideal S512x1024 .f32) (y : S512x1024.Idx) :
    (k0_pay7 x w g y : EReal) = (k0_pay3 x w y : EReal) * sgm (g y) := by
  unfold k0_pay7
  exact congrArg (fun a : EReal => (k0_pay3 x w y : EReal) * a) (gate_fx g y)
theorem part_1 (p : FVec Ideal S512x1024 .f32) (b : Vec Ideal S512x1024 .f32) (g : Vec Ideal S512x1024 .f32) (y : S512x1024.Idx) :
    (k0_pay1 p (k0_pay4 g) b y : EReal) = slope (p y) (b y) (g y) := by
  unfold k0_pay1
  exact congrArg (fun a : EReal => (p y : EReal) * b y * a * (Ideal.ofBits .f32 0x3F800000#32 - a)) (gate_sb g y)
theorem part_2 (p : FVec Ideal S512x1024 .f32) (b : Vec Ideal S512x1024 .f32) (g : Vec Ideal S512x1024 .f32) (y : S512x1024.Idx) :
    (k0_pay2 p (k0_pay5 g) b y : EReal) = slope (p y) (b y) (g y) := by
  unfold k0_pay2
  exact congrArg (fun a : EReal => (p y : EReal) * b y * a * (Ideal.ofBits .f32 0x3F800000#32 - a)) (gate_fx g y)

/-- Where the two halves of a row of 2048 lie. -/
abbrev onRight : Rect S512x2048 := Rect.unit (s := S512x2048) ![0, 1024] ![512, 1024] inb_S512x2048_S512x1024_0_1024
abbrev onLeft : Rect S512x2048 := Rect.unit (s := S512x2048) ![0, 0] ![512, 1024] inb_S512x2048_S512x1024_0_0
theorem right_at (r : Fin 512) (s : Fin 1024) : (ix2 r ⟨1024 + s.val, by omega⟩ : S512x2048.Idx) = onRight.emb (ix2 r s : S512x1024.Idx) := by
  refine funext fun d => Fin.ext ?_
  match d with
  | ⟨0, _⟩ => show r.val = 0 + 1 * r.val; omega
  | ⟨1, _⟩ => show 1024 + s.val = 1024 + 1 * s.val; omega
theorem left_at (r : Fin 512) (s : Fin 1024) : (ix2 r ⟨s.val, by omega⟩ : S512x2048.Idx) = onLeft.emb (ix2 r s : S512x1024.Idx) := by
  refine funext fun d => Fin.ext ?_
  match d with
  | ⟨0, _⟩ => show r.val = 0 + 1 * r.val; omega
  | ⟨1, _⟩ => show s.val = 0 + 1 * s.val; omega
theorem left_off (r : Fin 512) (s : Fin 1024) : (ix2 r ⟨s.val, by omega⟩ : S512x2048.Idx) ∉ onRight.set := fun h => by
  have h1 : 1024 ≤ s.val := (Rect.mem_set_unit (inb := inb_S512x2048_S512x1024_0_1024).mp h (1 : Fin 2)).1
  omega

/-- Two halves written side by side, read back. -/
theorem left_half (p q : Vec Ideal S512x1024 .bf16) (r : Fin 512) (s : Fin 1024) :
    View.canon [⟨onRight, p⟩, ⟨onLeft, q⟩] (ix2 r ⟨s.val, by omega⟩) = q (ix2 r s) := by
  rw [View.canon_cons_of_not_mem ⟨onRight, p⟩ _ (left_off r s), left_at r s]
  exact View.canon_cons_emb onLeft q [] (ix2 r s : S512x1024.Idx)
theorem right_half (p q : Vec Ideal S512x1024 .bf16) (r : Fin 512) (s : Fin 1024) :
    View.canon [⟨onRight, p⟩, ⟨onLeft, q⟩] (ix2 r ⟨1024 + s.val, by omega⟩) = p (ix2 r s) := by
  rw [right_at r s]
  exact View.canon_cons_emb onRight p [⟨onLeft, q⟩] (ix2 r s : S512x1024.Idx)

section Body

variable (i : grid0.Coords) (a1 : Memref sig .tc .vmem S512x1024 .bf16) (h1 : a1.IsWhole) (a2 : Memref sig .tc .vmem S1024x1024 .bf16) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S512x1024 .bf16) (h8 : a8.IsWhole) (a9 : Memref sig .tc .vmem S512x2048 .bf16) (h9 : a9.IsWhole)
  (x0 : Vec Ideal S512x1024 .bf16) (x1 : Vec Ideal S1024x1024 .bf16) (x2 : Vec Ideal S512x1024 .f32) (x3 : Vec Ideal S512x1024 .f32) (x4 : Vec Ideal S512x1024 .f32) (x5 : Vec Ideal S512x1024 .f32)

/-- What the body leaves. -/
theorem left_6 : out0_A_6 c i a1 h1 a2 h2 a3 h3 a4 h4 a5 h5 a6 h6 a7 h7 a8 h8 a9 h9 x0 x1 x2 x3 x4 x5 = k0_pay6 x0 x1 x4 := by
  unfold out0_A_6
  rw [View.read_writes_eq_canon _ _ _ (cover0_A_6 c i a1 h1 a2 h2 a3 h3 a4 h4 a5 h5 a6 h6 a7 h7 a8 h8 a9 h9 x0 x1 x2 x3 x4 x5)]
  unfold kernelRun0_A
  dsimp only
  rw [View.canon_unit_zero hz]
  simp only [View.readAt_eq_ld, h1.read_unread, h2.read_unread, h3.read_unread, h4.read_unread, h5.read_unread, h6.read_unread, View.ld_unit_zero (S := S1024x1024) hz, View.ld_unit_zero (S := S512x1024) hz, shapeCast_self]
theorem left_7 : out0_A_7 c i a1 h1 a2 h2 a3 h3 a4 h4 a5 h5 a6 h6 a7 h7 a8 h8 a9 h9 x0 x1 x2 x3 x4 x5 = k0_pay7 x0 x1 x5 := by
  unfold out0_A_7
  rw [View.read_writes_eq_canon _ _ _ (cover0_A_7 c i a1 h1 a2 h2 a3 h3 a4 h4 a5 h5 a6 h6 a7 h7 a8 h8 a9 h9 x0 x1 x2 x3 x4 x5)]
  unfold kernelRun0_A
  dsimp only
  rw [View.canon_unit_zero hz]
  simp only [View.readAt_eq_ld, h1.read_unread, h2.read_unread, h3.read_unread, h4.read_unread, h5.read_unread, h6.read_unread, View.ld_unit_zero (S := S1024x1024) hz, View.ld_unit_zero (S := S512x1024) hz, shapeCast_self]
theorem left_8_sb (r : Fin 512) (s : Fin 1024) :
    out0_A_8 c i a1 h1 a2 h2 a3 h3 a4 h4 a5 h5 a6 h6 a7 h7 a8 h8 a9 h9 x0 x1 x2 x3 x4 x5 (ix2 r ⟨s.val, by omega⟩) = k0_pay1 (k0_pay3 x0 x1) (k0_pay4 x4) x2 (ix2 r s) := by
  unfold out0_A_8
  rw [View.read_writes_eq_canon _ _ _ (cover0_A_8 c i a1 h1 a2 h2 a3 h3 a4 h4 a5 h5 a6 h6 a7 h7 a8 h8 a9 h9 x0 x1 x2 x3 x4 x5)]
  unfold kernelRun0_A
  dsimp only
  sl_unfold_words
  refine (left_half _ _ r s).trans ?_
  simp only [View.readAt_eq_ld, h1.read_unread, h2.read_unread, h3.read_unread, h4.read_unread, h5.read_unread, h6.read_unread, View.ld_unit_zero (S := S1024x1024) hz, View.ld_unit_zero (S := S512x1024) hz, shapeCast_self]
theorem left_8_fx (r : Fin 512) (s : Fin 1024) :
    out0_A_8 c i a1 h1 a2 h2 a3 h3 a4 h4 a5 h5 a6 h6 a7 h7 a8 h8 a9 h9 x0 x1 x2 x3 x4 x5 (ix2 r ⟨1024 + s.val, by omega⟩) = k0_pay2 (k0_pay3 x0 x1) (k0_pay5 x5) x3 (ix2 r s) := by
  unfold out0_A_8
  rw [View.read_writes_eq_canon _ _ _ (cover0_A_8 c i a1 h1 a2 h2 a3 h3 a4 h4 a5 h5 a6 h6 a7 h7 a8 h8 a9 h9 x0 x1 x2 x3 x4 x5)]
  unfold kernelRun0_A
  dsimp only
  sl_unfold_words
  refine (right_half _ _ r s).trans ?_
  simp only [View.readAt_eq_ld, h1.read_unread, h2.read_unread, h3.read_unread, h4.read_unread, h5.read_unread, h6.read_unread, View.ld_unit_zero (S := S1024x1024) hz, View.ld_unit_zero (S := S512x1024) hz, shapeCast_self]

end Body

theorem rows_0 : ∀ t : Fin cfg0.N, win0_0.index t = ![t.val, 0] := (by decide +kernel : ∀ t : Fin grid0.N, _)
theorem rows_1 : ∀ t : Fin cfg0.N, win0_1.index t = ![0, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![t.val, 0] := (by decide +kernel : ∀ t : Fin grid0.N, _)
theorem rows_4 : ∀ t : Fin cfg0.N, win0_4.index t = ![t.val, 0] := (by decide +kernel : ∀ t : Fin grid0.N, _)
theorem rows_5 : ∀ t : Fin cfg0.N, win0_5.index t = ![t.val, 1] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem rows_8 : ∀ t : Fin cfg0.N, win0_8.index t = ![t.val, 0] := (by decide +kernel : ∀ t : Fin grid0.N, _)
theorem points (t : Fin cfg0.N) : t.val < 16 := t.isLt

/-- The arguments as arrays. -/
abbrev ds (m : (ℓ : Loc nD τ sig) → Buf (Elt Ideal) ℓ) (c : Dev nD) : S8192x1024.Idx → EReal := m ((c : Thread nD τ).loc main_arg0)
abbrev w (m : (ℓ : Loc nD τ sig) → Buf (Elt Ideal) ℓ) (c : Dev nD) : S1024x1024.Idx → EReal := m ((c : Thread nD τ).loc main_arg1)
abbrev ysb (m : (ℓ : Loc nD τ sig) → Buf (Elt Ideal) ℓ) (c : Dev nD) : S8192x1024.Idx → EReal := m ((c : Thread nD τ).loc main_arg2)
abbrev yfx (m : (ℓ : Loc nD τ sig) → Buf (Elt Ideal) ℓ) (c : Dev nD) : S8192x1024.Idx → EReal := m ((c : Thread nD τ).loc main_arg3)
abbrev gs (m : (ℓ : Loc nD τ sig) → Buf (Elt Ideal) ℓ) (c : Dev nD) : S8192x2176.Idx → EReal := m ((c : Thread nD τ).loc main_arg4)

/-- The merged rows' gradient. -/
def back (d : S8192x1024.Idx → EReal) (w : S1024x1024.Idx → EReal) (a b : ℕ) : EReal := ∑ k : Fin 1024, at2 d a k.val * at2 w b k.val
/-- The gates' gradients side by side. -/
def slopes (d : S8192x1024.Idx → EReal) (w : S1024x1024.Idx → EReal) (y z : S8192x1024.Idx → EReal) (g : S8192x2176.Idx → EReal) (a b : ℕ) : EReal :=
  if b < 1024 then slope (back d w a b) (at2 y a b) (at2 g a b) else slope (back d w a (b - 1024)) (at2 z a (b - 1024)) (at2 g a b)

theorem block_d (t : Fin cfg0.N) (r : Fin 512) (s : Fin 1024) : iblk m c 0 t (ix2 r s) = at2 (ds m c) (t.val * 512 + r.val) s.val := by
  refine (by blk_simp [iblk] : iblk m c 0 t (ix2 r s) = ds m c (((cfg0.win 0).blk t).view.emb (ix2 r s))).trans (eq_at2 (ds m c) _ ?_ ?_)
  · blk_simp [rows_0 t]
  · blk_simp [rows_0 t]
theorem block_w (t : Fin cfg0.N) (r : Fin 1024) (s : Fin 1024) : iblk m c 1 t (ix2 r s) = at2 (w m c) r.val s.val := by
  refine (by blk_simp [iblk] : iblk m c 1 t (ix2 r s) = w m c (((cfg0.win 1).blk t).view.emb (ix2 r s))).trans (eq_at2 (w m c) _ ?_ ?_)
  · blk_simp [rows_1 t]
  · blk_simp [rows_1 t]
theorem block_ysb (t : Fin cfg0.N) (r : Fin 512) (s : Fin 1024) : iblk m c 2 t (ix2 r s) = at2 (ysb m c) (t.val * 512 + r.val) s.val := by
  refine (by blk_simp [iblk] : iblk m c 2 t (ix2 r s) = ysb m c (((cfg0.win 2).blk t).view.emb (ix2 r s))).trans (eq_at2 (ysb m c) _ ?_ ?_)
  · blk_simp [rows_2 t]
  · blk_simp [rows_2 t]
theorem block_yfx (t : Fin cfg0.N) (r : Fin 512) (s : Fin 1024) : iblk m c 3 t (ix2 r s) = at2 (yfx m c) (t.val * 512 + r.val) s.val := by
  refine (by blk_simp [iblk] : iblk m c 3 t (ix2 r s) = yfx m c (((cfg0.win 3).blk t).view.emb (ix2 r s))).trans (eq_at2 (yfx m c) _ ?_ ?_)
  · blk_simp [rows_3 t]
  · blk_simp [rows_3 t]
theorem block_gsb (t : Fin cfg0.N) (r : Fin 512) (s : Fin 1024) : X0_4 m c t (ix2 r s) = at2 (gs m c) (t.val * 512 + r.val) s.val := by
  unfold X0_4 Pipeline.Window.fill
  rw [dif_pos (moved0_4 t (ix2 r s))]
  have ht := points t
  blk_simp [iblk]
  refine eq_at2 (gs m c) _ ?_ ?_
  · blk_simp [rows_4 t]
  · blk_simp [rows_4 t]
theorem block_gfx (t : Fin cfg0.N) (r : Fin 512) (s : Fin 1024) : X0_5 m c t (ix2 r s) = at2 (gs m c) (t.val * 512 + r.val) (1024 + s.val) := by
  unfold X0_5 Pipeline.Window.fill
  rw [dif_pos (moved0_5 t (ix2 r s))]
  have ht := points t
  blk_simp [iblk]
  refine eq_at2 (gs m c) _ ?_ ?_
  · blk_simp [rows_5 t]
  · blk_simp [rows_5 t]
/-- The merged rows' gradient at a grid point. -/
theorem block_back (t : Fin cfg0.N) (r : Fin 512) (s : Fin 1024) :
    (k0_pay3 (iblk m c 0 t) (iblk m c 1 t) (ix2 r s) : EReal) = back (ds m c) (w m c) (t.val * 512 + r.val) s.val :=
  (product _ _ r s).trans (Finset.sum_congr rfl fun k _ => congrArg₂ (fun a b : EReal => a * b) (block_d t r k) (block_w t s k))

/-- The three arrays, element by element. -/
theorem at_6 (t : Fin cfg0.N) (r : Fin 512) (s : Fin 1024) : ((outsAt0 m c t).1 (ix2 r s) : EReal) = back (ds m c) (w m c) (t.val * 512 + r.val) s.val * sgm (at2 (gs m c) (t.val * 512 + r.val) s.val) := by
  unfold outsAt0
  dsimp only
  rw [left_6]
  exact (part_6 _ _ _ _).trans
    (congrArg₂ (fun a b : EReal => a * b) (block_back t r s) (congrArg sgm (block_gsb t r s)))
theorem array_6 (i : S8192x1024.Idx) : (dats m 0 c).arrAt 6 cfg0.N i = back (ds m c) (w m c) (i 0).val (i 1).val * sgm (at2 (gs m c) (i 0).val (i 1).val) := by
  refine (dats m 0 c).arrAt_forall_of_covers 6 (fun i v => v = back (ds m c) (w m c) (i 0).val (i 1).val * sgm (at2 (gs m c) (i 0).val (i 1).val))
    (by decide +kernel) (fun t hf y => ?_) i
  have ht := points t
  blk_simp [rows_6 t]
  rw [after0_6]
  idx_bounds y
  exact (congrArg _ (eq_ix2 (n0 := 512) (n1 := 1024) y)).trans (at_6 t (y 0) (y 1))
theorem at_7 (t : Fin cfg0.N) (r : Fin 512) (s : Fin 1024) : ((outsAt0 m c t).2.1 (ix2 r s) : EReal) = back (ds m c) (w m c) (t.val * 512 + r.val) s.val * sgm (at2 (gs m c) (t.val * 512 + r.val) (1024 + s.val)) := by
  unfold outsAt0
  dsimp only
  rw [left_7]
  exact (part_7 _ _ _ _).trans
    (congrArg₂ (fun a b : EReal => a * b) (block_back t r s) (congrArg sgm (block_gfx t r s)))
theorem array_7 (i : S8192x1024.Idx) : (dats m 0 c).arrAt 7 cfg0.N i = back (ds m c) (w m c) (i 0).val (i 1).val * sgm (at2 (gs m c) (i 0).val (1024 + (i 1).val)) := by
  refine (dats m 0 c).arrAt_forall_of_covers 7 (fun i v => v = back (ds m c) (w m c) (i 0).val (i 1).val * sgm (at2 (gs m c) (i 0).val (1024 + (i 1).val)))
    (by decide +kernel) (fun t hf y => ?_) i
  have ht := points t
  blk_simp [rows_7 t]
  rw [after0_7]
  idx_bounds y
  exact (congrArg _ (eq_ix2 (n0 := 512) (n1 := 1024) y)).trans (at_7 t (y 0) (y 1))
theorem at_8 (t : Fin cfg0.N) (r : Fin 512) (s : Fin 2048) : ((outsAt0 m c t).2.2 (ix2 r s) : EReal) = slopes (ds m c) (w m c) (ysb m c) (yfx m c) (gs m c) (t.val * 512 + r.val) s.val := by
  unfold outsAt0
  dsimp only
  unfold slopes
  by_cases h : s.val < 1024
  · rw [if_pos h]
    exact (left_8_sb (c := c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (X0_4 m c t) (X0_5 m c t) r ⟨s.val, h⟩).trans ((part_1 _ _ _ _).trans
      (congr (congr (congrArg slope (block_back t r ⟨s.val, h⟩)) (block_ysb t r ⟨s.val, h⟩)) (block_gsb t r ⟨s.val, h⟩)))
  · rw [if_neg h]
    have h2 : s.val < 2048 := s.isLt
    have h3 : s.val - 1024 < 1024 := by omega
    have h5 : 1024 + (s.val - 1024) = s.val := by omega
    have h6 := (left_8_fx (c := c) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
      (iblk m c 0 t) (iblk m c 1 t) (iblk m c 2 t) (iblk m c 3 t) (X0_4 m c t) (X0_5 m c t) r ⟨s.val - 1024, h3⟩).trans ((part_2 _ _ _ _).trans
      (congr (congr (congrArg slope (block_back t r ⟨s.val - 1024, h3⟩)) (block_yfx t r ⟨s.val - 1024, h3⟩)) (block_gfx t r ⟨s.val - 1024, h3⟩)))
    simp only [h5] at h6
    exact h6
theorem array_8 (i : S8192x2048.Idx) : (dats m 0 c).arrAt 8 cfg0.N i = slopes (ds m c) (w m c) (ysb m c) (yfx m c) (gs m c) (i 0).val (i 1).val := by
  refine (dats m 0 c).arrAt_forall_of_covers 8 (fun i v => v = slopes (ds m c) (w m c) (ysb m c) (yfx m c) (gs m c) (i 0).val (i 1).val)
    (by decide +kernel) (fun t hf y => ?_) i
  have ht := points t
  blk_simp [rows_8 t]
  rw [after0_8]
  idx_bounds y
  exact (congrArg _ (eq_ix2 (n0 := 512) (n1 := 2048) y)).trans (at_8 t (y 0) (y 1))

section Reference

open Cert.Reference10Ideal.Read

variable (d : S8192x1024.Idx → EReal) (w : S1024x1024.Idx → EReal) (y z : S8192x1024.Idx → EReal) (g : S8192x2176.Idx → EReal)

/-- The reference's gates and its merged rows' gradient. -/
theorem ref_gate_sb (i : S8192x1024.Idx) : (val_main_v7 (F := Ideal) g i : EReal) = sgm (at2 g (i 0).val (i 1).val) := by
  rw [val_main_v7_apply, val_main_v6_apply, val_main_cst_0_apply, val_main_v5_apply, val_main_v4_apply, val_main_cst_apply, val_main_v3_apply, val_main_v2_apply, val_main_v0_apply]
  exact congrArg sgm (eq_at2 g _ rfl rfl)
theorem ref_gate_fx (i : S8192x1024.Idx) : (val_main_v17 (F := Ideal) g i : EReal) = sgm (at2 g (i 0).val (1024 + (i 1).val)) := by
  rw [val_main_v17_apply, val_main_v16_apply, val_main_cst_3_apply, val_main_v15_apply, val_main_v14_apply, val_main_cst_2_apply, val_main_v13_apply, val_main_v12_apply, val_main_v1_apply]
  exact congrArg sgm (eq_at2 g _ rfl rfl)
theorem ref_back (i : S8192x1024.Idx) : (val_main_v26 (F := Ideal) d w i : EReal) = back d w (i 0).val (i 1).val := by
  rw [val_main_v26_apply]
  exact Finset.sum_congr rfl fun k _ => congrArg₂ (fun a b : EReal => a * b) (eq_at2 d _ rfl rfl) (eq_at2 w _ rfl rfl)
theorem ref_6 (i : S8192x1024.Idx) : (val_main_v30 (F := Ideal) d w g i : EReal) = back d w (i 0).val (i 1).val * sgm (at2 g (i 0).val (i 1).val) := by
  rw [val_main_v30_apply]
  exact (congrArg₂ (fun a b : EReal => a * b) (ref_gate_sb g i) (ref_back d w i)).trans (mul_comm _ _)
theorem ref_7 (i : S8192x1024.Idx) : (val_main_v27 (F := Ideal) d w g i : EReal) = back d w (i 0).val (i 1).val * sgm (at2 g (i 0).val (1024 + (i 1).val)) := by
  rw [val_main_v27_apply]
  exact (congrArg₂ (fun a b : EReal => a * b) (ref_gate_fx g i) (ref_back d w i)).trans (mul_comm _ _)
theorem ref_slope_sb (i : S8192x1024.Idx) : (val_main_v32 (F := Ideal) d w y g i : EReal)
    = slope (back d w (i 0).val (i 1).val) (at2 y (i 0).val (i 1).val) (at2 g (i 0).val (i 1).val) := by
  rw [val_main_v32_apply, val_main_v31_apply, val_main_v10_apply, val_main_v9_apply, val_main_v8_apply, val_main_cst_1_apply]
  refine (mul_assoc _ _ _).symm.trans ?_
  exact congrArg₂ (fun a b : EReal => a * b * (Ideal.ofBits .f32 0x3F800000#32 - b))
    (congrArg₂ (fun a b : EReal => a * b) (ref_back d w i) (at2_val y i).symm) (ref_gate_sb g i)
theorem ref_slope_fx (i : S8192x1024.Idx) : (val_main_v29 (F := Ideal) d w z g i : EReal)
    = slope (back d w (i 0).val (i 1).val) (at2 z (i 0).val (i 1).val) (at2 g (i 0).val (1024 + (i 1).val)) := by
  rw [val_main_v29_apply, val_main_v28_apply, val_main_v20_apply, val_main_v19_apply, val_main_v18_apply, val_main_cst_4_apply]
  refine (mul_assoc _ _ _).symm.trans ?_
  exact congrArg₂ (fun a b : EReal => a * b * (Ideal.ofBits .f32 0x3F800000#32 - b))
    (congrArg₂ (fun a b : EReal => a * b) (ref_back d w i) (at2_val z i).symm) (ref_gate_fx g i)
theorem ref_8 (i : S8192x2048.Idx) : (val_main_v35 (F := Ideal) d w y z g i : EReal) = slopes d w y z g (i 0).val (i 1).val := by
  unfold val_main_v35 slopes
  have h2 : (i 1).val < 2048 := (i 1).isLt
  by_cases h : (i 1).val < 1024
  · rw [if_pos h]
    refine (concatenate_pair_apply_left (t := S8192x2048) (s₁ := S8192x1024) (s₂ := S8192x1024) (1 : Fin 2) _ _ _ i rfl (ix2 (n0 := 8192) (n1 := 1024) (i 0) ⟨(i 1).val, h⟩) (fun b => ?_)).trans (ref_slope_sb d w y g _)
    match b with
    | ⟨0, _⟩ => rfl
    | ⟨1, _⟩ => rfl
  · rw [if_neg h]
    refine (concatenate_pair_apply_right (t := S8192x2048) (s₁ := S8192x1024) (s₂ := S8192x1024) (1 : Fin 2) _ _ _ i rfl rfl (ix2 (n0 := 8192) (n1 := 1024) (i 0) ⟨(i 1).val - 1024, by omega⟩) (fun b hb => ?_) ?_).trans
      ((ref_slope_fx d w z g _).trans (congrArg (fun b => slope (back d w (i 0).val ((i 1).val - 1024)) (at2 z (i 0).val ((i 1).val - 1024)) (at2 g (i 0).val b)) (Nat.add_sub_cancel' (not_lt.mp h))))
    · match b with
      | ⟨0, _⟩ => rfl
      | ⟨1, _⟩ => exact absurd rfl hb
    · show (i 1).val - 1024 + 1024 = (i 1).val
      omega

end Reference

/-- The reference's arrays. -/
theorem same_6 : (dats m 0 c).arrAt 6 cfg0.N = Cert.Reference10Ideal.Read.val_main_v33 (F := Ideal) (ds m c) (w m c) (gs m c) := by
  funext i
  exact (array_6 i).trans (ref_6 _ _ _ i).symm
theorem same_7 : (dats m 0 c).arrAt 7 cfg0.N = Cert.Reference10Ideal.Read.val_main_v34 (F := Ideal) (ds m c) (w m c) (gs m c) := by
  funext i
  exact (array_7 i).trans (ref_7 _ _ _ i).symm
theorem same_8 : (dats m 0 c).arrAt 8 cfg0.N = Cert.Reference10Ideal.Read.val_main_v36 (F := Ideal) (ds m c) (w m c) (ysb m c) (yfx m c) (gs m c) := by
  funext i
  exact (array_8 i).trans (ref_8 _ _ _ _ _ i).symm

end Cert.Product.GateBack

end
-- ==== Proof.Product.DWQkv.lean ====
/-
  THE GRADIENT OF THE WEIGHT OF QUERIES, KEYS AND VALUES (`dw_qkv`): gathered over four blocks of 2048 tokens in a
  buffer that the grid points hand on, once for each of three blocks of columns; the fourth point writes the sum out. The reference, the transpose of the linear map,
  is the same sum over all tokens.
-/
module

public import proofs.«01_k».proof.Proof.Product.Sums
public import proofs.«01_k».proof.Proof.Gen.Kernel11Ideal.Value
public import proofs.«01_k».proof.Proof.Gen.Reference11Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWQkv

open Cert.Kernel11Ideal Cert.Kernel11Ideal.Gen Cert.Kernel11Ideal.Value

variable {m : (ℓ : Loc nD τ sig) → Buf (Elt Ideal) ℓ} {c : Dev nD}

/-- The product of one block of tokens. -/
theorem part (x : Vec Ideal S2048x1024 .bf16) (g : Vec Ideal S2048x1024 .bf16) (r : Fin 1024) (s : Fin 1024) :
    k0_pay1 x g (ix2 r s) = ∑ k : Fin 2048, x (ix2 k r) * g (ix2 k s) := by
  unfold k0_pay1
  exact zero_tn _ none x g r s

section Cases

variable (i : grid0.Coords) (a0 : Memref sig .tc .vmem S2048x1024 .bf16) (h0 : a0.IsWhole) (a1 : Memref sig .tc .vmem S2048x1024 .bf16) (h1 : a1.IsWhole)
  (a2 : Memref sig .tc .vmem S1024x1024 .bf16) (h2 : a2.IsWhole) (a4 : Memref sig .tc .vmem S8x1024 .f32) (h4 : a4.IsWhole) (a3 : Memref sig .tc .vmem S1024x1024 .f32) (h3 : a3.IsWhole)
  (x : Vec Ideal S2048x1024 .bf16) (g : Vec Ideal S2048x1024 .bf16) (q : Vec Ideal S8x1024 .f32) (p : Vec Ideal S1024x1024 .f32)

/-- A first block starts the sum. -/
theorem first_sum (e0 : cond0_0 i) (e1 : ¬cond0_1 i) (e2 : ¬cond0_2 i) (e3 : cond0_3 i) (e4 : ¬cond0_4 i) (e5 : ¬cond0_5 i) :
    sout0_A_0 c i a0 h0 a1 h1 a2 h2 a4 h4 a3 h3 e0 e1 e2 e3 e4 e5 x g = k0_pay1 x g := by
  unfold sout0_A_0
  rw [View.read_writes_eq_canon _ _ _ (scover0_A_0 c i a0 h0 a1 h1 a2 h2 a4 h4 a3 h3 e0 e1 e2 e3 e4 e5 x g)]
  unfold kernelRun0_A
  dsimp only
  rw [View.canon_unit_zero hz]
  unfold k0_pay5
  simp only [View.readAt_eq_ld, h0.read_unread, h1.read_unread, View.ld_unit_zero (S := S2048x1024) hz, shapeCast_self]

/-- A middle block adds to it. -/
theorem next_sum (e0 : ¬cond0_0 i) (e1 : cond0_1 i) (e2 : ¬cond0_2 i) (e3 : ¬cond0_3 i) (e4 : cond0_4 i) (e5 : ¬cond0_5 i) :
    sout0_B_0 c i a0 h0 a1 h1 a2 h2 a4 h4 a3 h3 e0 e1 e2 e3 e4 e5 x g q p = addf p (k0_pay1 x g) := by
  unfold sout0_B_0
  rw [View.read_writes_eq_canon _ _ _ (scover0_B_0 c i a0 h0 a1 h1 a2 h2 a4 h4 a3 h3 e0 e1 e2 e3 e4 e5 x g q p)]
  unfold kernelRun0_B
  dsimp only
  rw [View.canon_unit_zero hz]
  unfold k0_pay6
  simp only [View.readAt_eq_ld, h0.read_unread, h1.read_unread, h3.read_unread, View.ld_unit_zero (S := S2048x1024) hz, View.ld_unit_zero (S := S1024x1024) hz, shapeCast_self]

/-- A last block writes the sum out. -/
theorem last_out (e0 : ¬cond0_0 i) (e1 : cond0_1 i) (e2 : cond0_2 i) (e3 : ¬cond0_3 i) (e4 : cond0_4 i) (e5 : cond0_5 i) :
    out0_C_2 c i a0 h0 a1 h1 a2 h2 a4 h4 a3 h3 e0 e1 e2 e3 e4 e5 x g q p = truncf .bf16 (addf p (k0_pay1 x g)) bitsLt_bf16_f32 := by
  unfold out0_C_2
  rw [View.read_writes_eq_canon _ _ _ (cover0_C_2 c i a0 h0 a1 h1 a2 h2 a4 h4 a3 h3 e0 e1 e2 e3 e4 e5 x g q p)]
  unfold kernelRun0_C
  dsimp only
  sl_unfold_words
  rw [View.canon_unit_zero hz, View.readCov_unit_zero (S := S1024x1024) _ hz]
  unfold k0_pay7 k0_pay6
  simp only [View.readAt_eq_ld, h0.read_unread, h1.read_unread, h3.read_unread, View.ld_unit_zero (S := S2048x1024) hz, View.ld_unit_zero (S := S1024x1024) hz, shapeCast_self]

end Cases

theorem points (t : Fin cfg0.N) : t.val < 12 := t.isLt
theorem left_block : ∀ t : Fin cfg0.N, win0_0.index t = ![t.val % 4, 0] := (by decide +kernel : ∀ t : Fin grid0.N, _)
theorem right_block : ∀ t : Fin cfg0.N, win0_1.index t = ![t.val % 4, t.val / 4] := (by decide +kernel : ∀ t : Fin grid0.N, _)
theorem result : ∀ t : Fin cfg0.N, win0_2.index t = ![0, t.val / 4] := (by decide +kernel : ∀ t : Fin grid0.N, _)

/-- The activations and the cotangent. -/
abbrev xs (m : (ℓ : Loc nD τ sig) → Buf (Elt Ideal) ℓ) (c : Dev nD) : S8192x1024.Idx → EReal := m ((c : Thread nD τ).loc main_arg0)
abbrev ct (m : (ℓ : Loc nD τ sig) → Buf (Elt Ideal) ℓ) (c : Dev nD) : S8192x3072.Idx → EReal := m ((c : Thread nD τ).loc main_arg1)

/-- One token's term. -/
def term (x : S8192x1024.Idx → EReal) (g : S8192x3072.Idx → EReal) (a b k : ℕ) : EReal := at2 x k a * at2 g k b

theorem block_x (t : Fin cfg0.N) (k : Fin 2048) (r : Fin 1024) : iblk m c 0 t (ix2 k r) = at2 (xs m c) (t.val % 4 * 2048 + k.val) r.val := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 1024) : iblk m c 1 t (ix2 k s) = at2 (ct m c) (t.val % 4 * 2048 + k.val) (t.val / 4 * 1024 + s.val) := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 1024) (s : Fin 1024) :
    k0_pay1 (F := Ideal) (iblk m c 0 t) (iblk m c 1 t) (ix2 r s) = ∑ k : Fin 2048, term (xs m c) (ct m c) r (t.val / 4 * 1024 + s) (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2.2 = k0_pay1 (iblk m c 0 t) (iblk m c 1 t) := by
  have ht := points t
  rw [outsAt0_A m c t h0 (by omega) (by omega) h0 (by omega) (by omega)]
  dsimp only
  rw [first_sum]
theorem at_next (t : Fin cfg0.N) (h0 : ¬t.val % 4 = 0) (h3 : ¬t.val % 4 = 3) : (outsAt0 m c t.val t.isLt).2.2
    = addf (outsAt0 m c (t.val - 1) (Nat.lt_of_le_of_lt (Nat.sub_le _ _) t.isLt)).2.2 (k0_pay1 (iblk m c 0 t) (iblk m c 1 t)) := by
  have ht := points t
  rw [outsAt0_B m c t h0 (by omega) h3 h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2.2 (k0_pay1 (iblk m c 0 t) (iblk m c 1 t))) bitsLt_bf16_f32 := by
  have ht := points t
  rw [outsAt0_C m c t (by omega) (by omega) h3 (by omega) (by omega) h3]
  dsimp only
  rw [last_out]

/-- The sum handed on after a point that is not the last of its run. -/
theorem sums (n : ℕ) (hn : n < cfg0.N) (hl : ¬n % 4 = 3) (r : Fin 1024) (s : Fin 1024) :
    (outsAt0 m c n hn).2.2 (ix2 r s) = ∑ k ∈ Finset.range (n % 4 * 2048 + 2048), term (xs m c) (ct m c) r (n / 4 * 1024 + s) k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) r (n / 4 * 1024 + s)) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e1 : n / 4 = (n + 1) / 4 := by omega
      have e2 : n % 4 * 2048 + 2048 = (n + 1) % 4 * 2048 := by omega
      rw [e1, e2]
      exact sum_next (term (xs m c) (ct m c) r ((n + 1) / 4 * 1024 + s)) ((n + 1) % 4 * 2048) 2048

/-- What a last point writes out. -/
theorem out (t : Fin cfg0.N) (hl : t.val % 4 = 3) (r : Fin 1024) (s : Fin 1024) :
    (outsAt0 m c t.val t.isLt).1 (ix2 r s) = ∑ k ∈ Finset.range 8192, term (xs m c) (ct m c) r (t.val / 4 * 1024 + s) k := by
  rw [at_last t hl]
  refine (congrArg₂ (· + ·) (sums (t.val - 1) (Nat.lt_of_le_of_lt (Nat.sub_le _ _) t.isLt) (by omega) r s) (part_at t r s)).trans ?_
  have e1 : (t.val - 1) / 4 = t.val / 4 := by omega
  have e2 : (t.val - 1) % 4 * 2048 + 2048 = t.val % 4 * 2048 := by omega
  have ht := points t
  have e3 : 8192 = t.val % 4 * 2048 + 2048 := by omega
  rw [e1, e2, e3]
  exact sum_next (term (xs m c) (ct m c) r (t.val / 4 * 1024 + s)) (t.val % 4 * 2048) 2048

/-- The call's array, element by element. -/
theorem array (i : S1024x3072.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  have ht := points t
  blk_simp [result t]
  rw [after0_2]
  idx_bounds y
  exact (congrArg _ (eq_ix2 (n0 := 1024) (n1 := 1024) y)).trans (out t hl (y 0) (y 1))

/-- The reference at an element. -/
theorem reference (x : S8192x1024.Idx → EReal) (g : S8192x3072.Idx → EReal) (i : S1024x3072.Idx) :
    (Cert.Reference11Ideal.Read.val_main_v4 (F := Ideal) x g i : EReal) = ∑ k : Fin 8192, term x g (i 0).val (i 1).val k.val :=
  (Cert.Reference11Ideal.Read.val_main_v3_apply (F := Ideal) x g i).trans ((Cert.Reference11Ideal.Read.val_main_v2_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference11Ideal.Read.val_main_v4 (F := Ideal) (xs m c) (ct m c) := by
  funext i
  exact (array i).trans ((reference (xs m c) (ct m c) i).trans (Fin.sum_univ_eq_sum_range (term (xs m c) (ct m c) (i 0).val (i 1).val) 8192)).symm

end Cert.Product.DWQkv

end
-- ==== Proof.Product.DWGate.lean ====
/-
  THE GRADIENT OF THE GATES' WEIGHT (`dw_gate`): gathered over four blocks of 2048 tokens in a
  buffer that the grid points hand on, once for each of two blocks of columns; the fourth point writes the sum out. The reference, the transpose of the linear map,
  is the same sum over all tokens.
-/
module

public import proofs.«01_k».proof.Proof.Product.Sums
public import proofs.«01_k».proof.Proof.Gen.Kernel12Ideal.Value
public import proofs.«01_k».proof.Proof.Gen.Reference12Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWGate

open Cert.Kernel12Ideal Cert.Kernel12Ideal.Gen Cert.Kernel12Ideal.Value

variable {m : (ℓ : Loc nD τ sig) → Buf (Elt Ideal) ℓ} {c : Dev nD}

/-- The product of one block of tokens. -/
theorem part (x : Vec Ideal S2048x1024 .bf16) (g : Vec Ideal S2048x1024 .bf16) (r : Fin 1024) (s : Fin 1024) :
    k0_pay1 x g (ix2 r s) = ∑ k : Fin 2048, x (ix2 k r) * g (ix2 k s) := by
  unfold k0_pay1
  exact zero_tn _ none x g r s

section Cases

variable (i : grid0.Coords) (a0 : Memref sig .tc .vmem S2048x1024 .bf16) (h0 : a0.IsWhole) (a1 : Memref sig .tc .vmem S2048x1024 .bf16) (h1 : a1.IsWhole)
  (a2 : Memref sig .tc .vmem S1024x1024 .bf16) (h2 : a2.IsWhole) (a4 : Memref sig .tc .vmem S8x1024 .f32) (h4 : a4.IsWhole) (a3 : Memref sig .tc .vmem S1024x1024 .f32) (h3 : a3.IsWhole)
  (x : Vec Ideal S2048x1024 .bf16) (g : Vec Ideal S2048x1024 .bf16) (q : Vec Ideal S8x1024 .f32) (p : Vec Ideal S1024x1024 .f32)

/-- A first block starts the sum. -/
theorem first_sum (e0 : cond0_0 i) (e1 : ¬cond0_1 i) (e2 : ¬cond0_2 i) (e3 : cond0_3 i) (e4 : ¬cond0_4 i) (e5 : ¬cond0_5 i) :
    sout0_A_0 c i a0 h0 a1 h1 a2 h2 a4 h4 a3 h3 e0 e1 e2 e3 e4 e5 x g = k0_pay1 x g := by
  unfold sout0_A_0
  rw [View.read_writes_eq_canon _ _ _ (scover0_A_0 c i a0 h0 a1 h1 a2 h2 a4 h4 a3 h3 e0 e1 e2 e3 e4 e5 x g)]
  unfold kernelRun0_A
  dsimp only
  rw [View.canon_unit_zero hz]
  unfold k0_pay5
  simp only [View.readAt_eq_ld, h0.read_unread, h1.read_unread, View.ld_unit_zero (S := S2048x1024) hz, shapeCast_self]

/-- A middle block adds to it. -/
theorem next_sum (e0 : ¬cond0_0 i) (e1 : cond0_1 i) (e2 : ¬cond0_2 i) (e3 : ¬cond0_3 i) (e4 : cond0_4 i) (e5 : ¬cond0_5 i) :
    sout0_B_0 c i a0 h0 a1 h1 a2 h2 a4 h4 a3 h3 e0 e1 e2 e3 e4 e5 x g q p = addf p (k0_pay1 x g) := by
  unfold sout0_B_0
  rw [View.read_writes_eq_canon _ _ _ (scover0_B_0 c i a0 h0 a1 h1 a2 h2 a4 h4 a3 h3 e0 e1 e2 e3 e4 e5 x g q p)]
  unfold kernelRun0_B
  dsimp only
  rw [View.canon_unit_zero hz]
  unfold k0_pay6
  simp only [View.readAt_eq_ld, h0.read_unread, h1.read_unread, h3.read_unread, View.ld_unit_zero (S := S2048x1024) hz, View.ld_unit_zero (S := S1024x1024) hz, shapeCast_self]

/-- A last block writes the sum out. -/
theorem last_out (e0 : ¬cond0_0 i) (e1 : cond0_1 i) (e2 : cond0_2 i) (e3 : ¬cond0_3 i) (e4 : cond0_4 i) (e5 : cond0_5 i) :
    out0_C_2 c i a0 h0 a1 h1 a2 h2 a4 h4 a3 h3 e0 e1 e2 e3 e4 e5 x g q p = truncf .bf16 (addf p (k0_pay1 x g)) bitsLt_bf16_f32 := by
  unfold out0_C_2
  rw [View.read_writes_eq_canon _ _ _ (cover0_C_2 c i a0 h0 a1 h1 a2 h2 a4 h4 a3 h3 e0 e1 e2 e3 e4 e5 x g q p)]
  unfold kernelRun0_C
  dsimp only
  sl_unfold_words
  rw [View.canon_unit_zero hz, View.readCov_unit_zero (S := S1024x1024) _ hz]
  unfold k0_pay7 k0_pay6
  simp only [View.readAt_eq_ld, h0.read_unread, h1.read_unread, h3.read_unread, View.ld_unit_zero (S := S2048x1024) hz, View.ld_unit_zero (S := S1024x1024) hz, shapeCast_self]

end Cases

theorem points (t : Fin cfg0.N) : t.val < 8 := t.isLt
theorem left_block : ∀ t : Fin cfg0.N, win0_0.index t = ![t.val % 4, 0] := (by decide +kernel : ∀ t : Fin grid0.N, _)
theorem right_block : ∀ t : Fin cfg0.N, win0_1.index t = ![t.val % 4, t.val / 4] := (by decide +kernel : ∀ t : Fin grid0.N, _)
theorem result : ∀ t : Fin cfg0.N, win0_2.index t = ![0, t.val / 4] := (by decide +kernel : ∀ t : Fin grid0.N, _)

/-- The activations and the cotangent. -/
abbrev xs (m : (ℓ : Loc nD τ sig) → Buf (Elt Ideal) ℓ) (c : Dev nD) : S8192x1024.Idx → EReal := m ((c : Thread nD τ).loc main_arg0)
abbrev ct (m : (ℓ : Loc nD τ sig) → Buf (Elt Ideal) ℓ) (c : Dev nD) : S8192x2048.Idx → EReal := m ((c : Thread nD τ).loc main_arg1)

/-- One token's term. -/
def term (x : S8192x1024.Idx → EReal) (g : S8192x2048.Idx → EReal) (a b k : ℕ) : EReal := at2 x k a * at2 g k b

theorem block_x (t : Fin cfg0.N) (k : Fin 2048) (r : Fin 1024) : iblk m c 0 t (ix2 k r) = at2 (xs m c) (t.val % 4 * 2048 + k.val) r.val := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 1024) : iblk m c 1 t (ix2 k s) = at2 (ct m c) (t.val % 4 * 2048 + k.val) (t.val / 4 * 1024 + s.val) := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 1024) (s : Fin 1024) :
    k0_pay1 (F := Ideal) (iblk m c 0 t) (iblk m c 1 t) (ix2 r s) = ∑ k : Fin 2048, term (xs m c) (ct m c) r (t.val / 4 * 1024 + s) (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2.2 = k0_pay1 (iblk m c 0 t) (iblk m c 1 t) := by
  have ht := points t
  rw [outsAt0_A m c t h0 (by omega) (by omega) h0 (by omega) (by omega)]
  dsimp only
  rw [first_sum]
theorem at_next (t : Fin cfg0.N) (h0 : ¬t.val % 4 = 0) (h3 : ¬t.val % 4 = 3) : (outsAt0 m c t.val t.isLt).2.2
    = addf (outsAt0 m c (t.val - 1) (Nat.lt_of_le_of_lt (Nat.sub_le _ _) t.isLt)).2.2 (k0_pay1 (iblk m c 0 t) (iblk m c 1 t)) := by
  have ht := points t
  rw [outsAt0_B m c t h0 (by omega) h3 h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2.2 (k0_pay1 (iblk m c 0 t) (iblk m c 1 t))) bitsLt_bf16_f32 := by
  have ht := points t
  rw [outsAt0_C m c t (by omega) (by omega) h3 (by omega) (by omega) h3]
  dsimp only
  rw [last_out]

/-- The sum handed on after a point that is not the last of its run. -/
theorem sums (n : ℕ) (hn : n < cfg0.N) (hl : ¬n % 4 = 3) (r : Fin 1024) (s : Fin 1024) :
    (outsAt0 m c n hn).2.2 (ix2 r s) = ∑ k ∈ Finset.range (n % 4 * 2048 + 2048), term (xs m c) (ct m c) r (n / 4 * 1024 + s) k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) r (n / 4 * 1024 + s)) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e1 : n / 4 = (n + 1) / 4 := by omega
      have e2 : n % 4 * 2048 + 2048 = (n + 1) % 4 * 2048 := by omega
      rw [e1, e2]
      exact sum_next (term (xs m c) (ct m c) r ((n + 1) / 4 * 1024 + s)) ((n + 1) % 4 * 2048) 2048

/-- What a last point writes out. -/
theorem out (t : Fin cfg0.N) (hl : t.val % 4 = 3) (r : Fin 1024) (s : Fin 1024) :
    (outsAt0 m c t.val t.isLt).1 (ix2 r s) = ∑ k ∈ Finset.range 8192, term (xs m c) (ct m c) r (t.val / 4 * 1024 + s) k := by
  rw [at_last t hl]
  refine (congrArg₂ (· + ·) (sums (t.val - 1) (Nat.lt_of_le_of_lt (Nat.sub_le _ _) t.isLt) (by omega) r s) (part_at t r s)).trans ?_
  have e1 : (t.val - 1) / 4 = t.val / 4 := by omega
  have e2 : (t.val - 1) % 4 * 2048 + 2048 = t.val % 4 * 2048 := by omega
  have ht := points t
  have e3 : 8192 = t.val % 4 * 2048 + 2048 := by omega
  rw [e1, e2, e3]
  exact sum_next (term (xs m c) (ct m c) r (t.val / 4 * 1024 + s)) (t.val % 4 * 2048) 2048

/-- The call's array, element by element. -/
theorem array (i : S1024x2048.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  have ht := points t
  blk_simp [result t]
  rw [after0_2]
  idx_bounds y
  exact (congrArg _ (eq_ix2 (n0 := 1024) (n1 := 1024) y)).trans (out t hl (y 0) (y 1))

/-- The reference at an element. -/
theorem reference (x : S8192x1024.Idx → EReal) (g : S8192x2048.Idx → EReal) (i : S1024x2048.Idx) :
    (Cert.Reference12Ideal.Read.val_main_v4 (F := Ideal) x g i : EReal) = ∑ k : Fin 8192, term x g (i 0).val (i 1).val k.val :=
  (Cert.Reference12Ideal.Read.val_main_v3_apply (F := Ideal) x g i).trans ((Cert.Reference12Ideal.Read.val_main_v2_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference12Ideal.Read.val_main_v4 (F := Ideal) (xs m c) (ct m c) := by
  funext i
  exact (array i).trans ((reference (xs m c) (ct m c) i).trans (Fin.sum_univ_eq_sum_range (term (xs m c) (ct m c) (i 0).val (i 1).val) 8192)).symm

end Cert.Product.DWGate

end
-- ==== Proof.Product.DWForget.lean ====
/-
  THE GRADIENT OF THE FORGET GATE'S WEIGHT (`dw_forget`): gathered over four blocks of 2048 tokens in a
  buffer that the grid points hand on; the fourth point writes the sum out. The reference, the transpose of the linear map,
  is the same sum over all tokens.
-/
module

public import proofs.«01_k».proof.Proof.Product.Sums
public import proofs.«01_k».proof.Proof.Gen.Kernel13Ideal.Value
public import proofs.«01_k».proof.Proof.Gen.Reference13Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DWForget

open Cert.Kernel13Ideal Cert.Kernel13Ideal.Gen Cert.Kernel13Ideal.Value

variable {m : (ℓ : Loc nD τ sig) → Buf (Elt Ideal) ℓ} {c : Dev nD}

/-- The product of one block of tokens. -/
theorem part (x : Vec Ideal S2048x1024 .bf16) (g : Vec Ideal S2048x128 .bf16) (r : Fin 1024) (s : Fin 128) :
    k0_pay1 x g (ix2 r s) = ∑ k : Fin 2048, x (ix2 k r) * g (ix2 k s) := by
  unfold k0_pay1
  exact zero_tn _ none x g r s

section Cases

variable (i : grid0.Coords) (a0 : Memref sig .tc .vmem S2048x1024 .bf16) (h0 : a0.IsWhole) (a1 : Memref sig .tc .vmem S2048x128 .bf16) (h1 : a1.IsWhole)
  (a2 : Memref sig .tc .vmem S1024x128 .bf16) (h2 : a2.IsWhole) (a4 : Memref sig .tc .vmem S8x128 .f32) (h4 : a4.IsWhole) (a3 : Memref sig .tc .vmem S1024x128 .f32) (h3 : a3.IsWhole)
  (x : Vec Ideal S2048x1024 .bf16) (g : Vec Ideal S2048x128 .bf16) (q : Vec Ideal S8x128 .f32) (p : Vec Ideal S1024x128 .f32)

/-- A first block starts the sum. -/
theorem first_sum (e0 : cond0_0 i) (e1 : ¬cond0_1 i) (e2 : ¬cond0_2 i) (e3 : cond0_3 i) (e4 : ¬cond0_4 i) (e5 : ¬cond0_5 i) :
    sout0_A_0 c i a0 h0 a1 h1 a2 h2 a4 h4 a3 h3 e0 e1 e2 e3 e4 e5 x g = k0_pay1 x g := by
  unfold sout0_A_0
  rw [View.read_writes_eq_canon _ _ _ (scover0_A_0 c i a0 h0 a1 h1 a2 h2 a4 h4 a3 h3 e0 e1 e2 e3 e4 e5 x g)]
  unfold kernelRun0_A
  dsimp only
  rw [View.canon_unit_zero hz]
  unfold k0_pay5
  simp only [View.readAt_eq_ld, h0.read_unread, h1.read_unread, View.ld_unit_zero (S := S2048x1024) hz, View.ld_unit_zero (S := S2048x128) hz, shapeCast_self]

/-- A middle block adds to it. -/
theorem next_sum (e0 : ¬cond0_0 i) (e1 : cond0_1 i) (e2 : ¬cond0_2 i) (e3 : ¬cond0_3 i) (e4 : cond0_4 i) (e5 : ¬cond0_5 i) :
    sout0_B_0 c i a0 h0 a1 h1 a2 h2 a4 h4 a3 h3 e0 e1 e2 e3 e4 e5 x g q p = addf p (k0_pay1 x g) := by
  unfold sout0_B_0
  rw [View.read_writes_eq_canon _ _ _ (scover0_B_0 c i a0 h0 a1 h1 a2 h2 a4 h4 a3 h3 e0 e1 e2 e3 e4 e5 x g q p)]
  unfold kernelRun0_B
  dsimp only
  rw [View.canon_unit_zero hz]
  unfold k0_pay6
  simp only [View.readAt_eq_ld, h0.read_unread, h1.read_unread, h3.read_unread, View.ld_unit_zero (S := S2048x1024) hz, View.ld_unit_zero (S := S2048x128) hz, View.ld_unit_zero (S := S1024x128) hz, shapeCast_self]

/-- A last block writes the sum out. -/
theorem last_out (e0 : ¬cond0_0 i) (e1 : cond0_1 i) (e2 : cond0_2 i) (e3 : ¬cond0_3 i) (e4 : cond0_4 i) (e5 : cond0_5 i) :
    out0_C_2 c i a0 h0 a1 h1 a2 h2 a4 h4 a3 h3 e0 e1 e2 e3 e4 e5 x g q p = truncf .bf16 (addf p (k0_pay1 x g)) bitsLt_bf16_f32 := by
  unfold out0_C_2
  rw [View.read_writes_eq_canon _ _ _ (cover0_C_2 c i a0 h0 a1 h1 a2 h2 a4 h4 a3 h3 e0 e1 e2 e3 e4 e5 x g q p)]
  unfold kernelRun0_C
  dsimp only
  sl_unfold_words
  rw [View.canon_unit_zero hz, View.readCov_unit_zero (S := S1024x128) _ hz]
  unfold k0_pay7 k0_pay6
  simp only [View.readAt_eq_ld, h0.read_unread, h1.read_unread, h3.read_unread, View.ld_unit_zero (S := S2048x1024) hz, View.ld_unit_zero (S := S2048x128) hz, View.ld_unit_zero (S := S1024x128) hz, shapeCast_self]

end Cases

theorem points (t : Fin cfg0.N) : t.val < 4 := t.isLt
theorem left_block : ∀ t : Fin cfg0.N, win0_0.index t = ![t.val % 4, 0] := (by decide +kernel : ∀ t : Fin grid0.N, _)
theorem right_block : ∀ t : Fin cfg0.N, win0_1.index t = ![t.val % 4, 0] := (by decide +kernel : ∀ t : Fin grid0.N, _)
theorem result : ∀ t : Fin cfg0.N, win0_2.index t = ![0, 0] := (by decide +kernel : ∀ t : Fin grid0.N, _)

/-- The activations and the cotangent. -/
abbrev xs (m : (ℓ : Loc nD τ sig) → Buf (Elt Ideal) ℓ) (c : Dev nD) : S8192x1024.Idx → EReal := m ((c : Thread nD τ).loc main_arg0)
abbrev ct (m : (ℓ : Loc nD τ sig) → Buf (Elt Ideal) ℓ) (c : Dev nD) : S8192x128.Idx → EReal := m ((c : Thread nD τ).loc main_arg1)

/-- One token's term. -/
def term (x : S8192x1024.Idx → EReal) (g : S8192x128.Idx → EReal) (a b k : ℕ) : EReal := at2 x k a * at2 g k b

theorem block_x (t : Fin cfg0.N) (k : Fin 2048) (r : Fin 1024) : iblk m c 0 t (ix2 k r) = at2 (xs m c) (t.val % 4 * 2048 + k.val) r.val := by
  refine (by blk_simp [iblk] : iblk m c 0 t (ix2 k r) = xs m c (((cfg0.win 0).blk t).view.emb (ix2 k r))).trans (eq_at2 (xs m c) _ ?_ ?_)
  · blk_simp [left_block t]
  · blk_simp [left_block t]
theorem block_ct (t : Fin cfg0.N) (k : Fin 2048) (s : Fin 128) : iblk m c 1 t (ix2 k s) = at2 (ct m c) (t.val % 4 * 2048 + k.val) s.val := by
  refine (by blk_simp [iblk] : iblk m c 1 t (ix2 k s) = ct m c (((cfg0.win 1).blk t).view.emb (ix2 k s))).trans (eq_at2 (ct m c) _ ?_ ?_)
  · blk_simp [right_block t]
  · blk_simp [right_block t]

/-- A point's product. -/
theorem part_at (t : Fin cfg0.N) (r : Fin 1024) (s : Fin 128) :
    k0_pay1 (F := Ideal) (iblk m c 0 t) (iblk m c 1 t) (ix2 r s) = ∑ k : Fin 2048, term (xs m c) (ct m c) r s (t.val % 4 * 2048 + k.val) :=
  (part _ _ r s).trans (Finset.sum_congr rfl fun k _ => congrArg₂ (· * ·) (block_x t k r) (block_ct t k s))

/-- What a first, a middle and a last point leave. -/
theorem at_first (t : Fin cfg0.N) (h0 : t.val % 4 = 0) : (outsAt0 m c t.val t.isLt).2.2 = k0_pay1 (iblk m c 0 t) (iblk m c 1 t) := by
  have ht := points t
  rw [outsAt0_A m c t h0 (by omega) (by omega) h0 (by omega) (by omega)]
  dsimp only
  rw [first_sum]
theorem at_next (t : Fin cfg0.N) (h0 : ¬t.val % 4 = 0) (h3 : ¬t.val % 4 = 3) : (outsAt0 m c t.val t.isLt).2.2
    = addf (outsAt0 m c (t.val - 1) (Nat.lt_of_le_of_lt (Nat.sub_le _ _) t.isLt)).2.2 (k0_pay1 (iblk m c 0 t) (iblk m c 1 t)) := by
  have ht := points t
  rw [outsAt0_B m c t h0 (by omega) h3 h0 (by omega) h3]
  dsimp only
  rw [next_sum]
theorem at_last (t : Fin cfg0.N) (h3 : t.val % 4 = 3) : (outsAt0 m c t.val t.isLt).1
    = truncf .bf16 (addf (outsAt0 m c (t.val - 1) (Nat.lt_of_le_of_lt (Nat.sub_le _ _) t.isLt)).2.2 (k0_pay1 (iblk m c 0 t) (iblk m c 1 t))) bitsLt_bf16_f32 := by
  have ht := points t
  rw [outsAt0_C m c t (by omega) (by omega) h3 (by omega) (by omega) h3]
  dsimp only
  rw [last_out]

/-- The sum handed on after a point that is not the last of its run. -/
theorem sums (n : ℕ) (hn : n < cfg0.N) (hl : ¬n % 4 = 3) (r : Fin 1024) (s : Fin 128) :
    (outsAt0 m c n hn).2.2 (ix2 r s) = ∑ k ∈ Finset.range (n % 4 * 2048 + 2048), term (xs m c) (ct m c) r s k := by
  by_cases h0 : n % 4 = 0
  · rw [at_first ⟨n, hn⟩ h0, part_at ⟨n, hn⟩ r s]
    dsimp only
    rw [h0, Nat.zero_mul]
    simp only [Nat.zero_add]
    exact sum_first (term (xs m c) (ct m c) r s) 2048
  · cases n with
    | zero => exact absurd rfl h0
    | succ n =>
      rw [at_next ⟨n + 1, hn⟩ h0 hl]
      refine (congrArg₂ (· + ·) (sums n (Nat.lt_of_succ_lt hn) (by omega) r s) (part_at ⟨n + 1, hn⟩ r s)).trans ?_
      have e2 : n % 4 * 2048 + 2048 = (n + 1) % 4 * 2048 := by omega
      rw [e2]
      exact sum_next (term (xs m c) (ct m c) r s) ((n + 1) % 4 * 2048) 2048

/-- What a last point writes out. -/
theorem out (t : Fin cfg0.N) (hl : t.val % 4 = 3) (r : Fin 1024) (s : Fin 128) :
    (outsAt0 m c t.val t.isLt).1 (ix2 r s) = ∑ k ∈ Finset.range 8192, term (xs m c) (ct m c) r s k := by
  rw [at_last t hl]
  refine (congrArg₂ (· + ·) (sums (t.val - 1) (Nat.lt_of_le_of_lt (Nat.sub_le _ _) t.isLt) (by omega) r s) (part_at t r s)).trans ?_
  have e2 : (t.val - 1) % 4 * 2048 + 2048 = t.val % 4 * 2048 := by omega
  have ht := points t
  have e3 : 8192 = t.val % 4 * 2048 + 2048 := by omega
  rw [e2, e3]
  exact sum_next (term (xs m c) (ct m c) r s) (t.val % 4 * 2048) 2048

/-- The call's array, element by element. -/
theorem array (i : S1024x128.Idx) : (dats m 0 c).arrAt 2 cfg0.N i = ∑ k ∈ Finset.range 8192, term (xs m c) (ct m c) (i 0).val (i 1).val k := by
  refine (dats m 0 c).arrAt_forall_of_covers 2 (fun i v => v = ∑ k ∈ Finset.range 8192, term (xs m c) (ct m c) (i 0).val (i 1).val k)
    (by decide +kernel) (fun t hf y => ?_) i
  have hl : t.val % 4 = 3 := (flush0_2 t).mp hf
  have ht := points t
  blk_simp [result t]
  rw [after0_2]
  idx_bounds y
  exact (congrArg _ (eq_ix2 (n0 := 1024) (n1 := 128) y)).trans (out t hl (y 0) (y 1))

/-- The reference at an element. -/
theorem reference (x : S8192x1024.Idx → EReal) (g : S8192x128.Idx → EReal) (i : S1024x128.Idx) :
    (Cert.Reference13Ideal.Read.val_main_v4 (F := Ideal) x g i : EReal) = ∑ k : Fin 8192, term x g (i 0).val (i 1).val k.val :=
  (Cert.Reference13Ideal.Read.val_main_v3_apply (F := Ideal) x g i).trans ((Cert.Reference13Ideal.Read.val_main_v2_apply x g _).trans
    (Finset.sum_congr rfl fun k _ => (congrArg₂ (· * ·) (eq_at2 g _ rfl rfl) (eq_at2 x _ rfl rfl)).trans (mul_comm _ _)))

/-- The reference's array. -/
theorem same : (dats m 0 c).arrAt 2 cfg0.N = Cert.Reference13Ideal.Read.val_main_v4 (F := Ideal) (xs m c) (ct m c) := by
  funext i
  exact (array i).trans ((reference (xs m c) (ct m c) i).trans (Fin.sum_univ_eq_sum_range (term (xs m c) (ct m c) (i 0).val (i 1).val) 8192)).symm

end Cert.Product.DWForget

end
-- ==== Proof.Product.FfnUp.lean ====
/-
  THE UP PRODUCT (`ffn_up`): each grid point multiplies 1024 rows of the input by 1408 columns of the weight.
-/
module

public import proofs.«01_k».proof.Proof.Product.Sums
public import proofs.«01_k».proof.Proof.Gen.Kernel14Ideal.Value
public import proofs.«01_k».proof.Proof.Gen.Reference14Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.FfnUp

open Cert.Kernel14Ideal Cert.Kernel14Ideal.Gen Cert.Kernel14Ideal.Value

variable {m : (ℓ : Loc nD τ sig) → Buf (Elt Ideal) ℓ} {c : Dev nD}

/-- What the body leaves: the product of its two blocks. -/
theorem left (x : Vec Ideal S1024x1024 .bf16) (w : Vec Ideal S1024x1408 .bf16) (r : Fin 1024) (s : Fin 1408) :
    out0_2 x w (ix2 r s) = ∑ k : Fin 1024, x (ix2 r k) * w (ix2 k s) := by
  unfold out0_2
  rw [View.canon_unit_zero hz]
  unfold k0_pay1
  simp only [View.ld_unit_zero (S := S1024x1024) hz, View.ld_unit_zero (S := S1024x1408) hz]
  exact zero_nn (φ₁ := .bf16) (φ₂ := .bf16) none x w r s

theorem rows : ∀ t : Fin cfg0.N, win0_0.index t = ![t.val % 8, 0] := (by decide +kernel : ∀ t : Fin grid0.N, _)
theorem columns : ∀ t : Fin cfg0.N, win0_1.index t = ![0, t.val / 8] := (by decide +kernel : ∀ t : Fin grid0.N, _)
theorem result : ∀ t : Fin cfg0.N, win0_2.index t = ![t.val % 8, t.val / 8] := (by decide +kernel : ∀ t : Fin grid0.N, _)
theorem points (t : Fin cfg0.N) : t.val < 32 := t.isLt

/-- The arguments as arrays. -/
abbrev xs (m : (ℓ : Loc nD τ sig) → Buf (Elt Ideal) ℓ) (c : Dev nD) : S8192x1024.Idx → EReal := m ((c : Thread nD τ).loc main_arg0)
abbrev w (m : (ℓ : Loc nD τ sig) → Buf (Elt Ideal) ℓ) (c : Dev nD) : S1024x5632.Idx → EReal := m ((c : Thread nD τ).loc main_arg1)

/-- The call's value at an element. -/
def value (x : S8192x1024.Idx → EReal) (w : S1024x5632.Idx → EReal) (a b : ℕ) : EReal := ∑ k : Fin 1024, at2 x a k * at2 w k b

/-- A row of the left block. -/
theorem block_x (t : Fin cfg0.N) (r : Fin 1024) (k : Fin 1024) : iblk m c 0 t (ix2 r k) = at2 (xs m c) (t.val % 8 * 1024 + r.val) k.val := by
  refine (by blk_simp [iblk] : iblk m c 0 t (ix2 r k) = xs m c (((cfg0.win 0).blk t).view.emb (ix2 r k))).trans (eq_at2 (xs m c) _ ?_ ?_)
  · blk_simp [rows t]
  · blk_simp [rows t]
/-- An element of the weight's block. -/
theorem block_w (t : Fin cfg0.N) (s : Fin 1408) (k : Fin 1024) : iblk m c 1 t (ix2 k s) = at2 (w m c) k.val (t.val / 8 * 1408 + s.val) := by
  refine (by blk_simp [iblk] : iblk m c 1 t (ix2 k s) = w m c (((cfg0.win 1).blk t).view.emb (ix2 k s))).trans (eq_at2 (w m c) _ ?_ ?_)
  · blk_simp [columns t]
  · blk_simp [columns t]

/-- The call's array, element by element. -/
theorem array (i : S8192x5632.Idx) : (dats m 0 c).arrAt 2 cfg0.N i = value (xs m c) (w m c) (i 0).val (i 1).val := by
  refine (dats m 0 c).arrAt_forall_of_covers 2 (fun i v => v = value (xs m c) (w m c) (i 0).val (i 1).val)
    (by decide +kernel) (fun t hf y => ?_) i
  have ht := points t
  blk_simp [result t]
  rw [after0_2]
  idx_bounds y
  refine (congrArg _ (eq_ix2 (n0 := 1024) (n1 := 1408) y)).trans ((left _ _ (y 0) (y 1)).trans (Finset.sum_congr rfl fun k _ => ?_))
  exact congrArg₂ (· * ·) (block_x t (y 0) k) (block_w t (y 1) k)

/-- The reference at an element. -/
theorem reference (x : S8192x1024.Idx → EReal) (w : S1024x5632.Idx → EReal) (i : S8192x5632.Idx) :
    (Cert.Reference14Ideal.Read.val_main_v3 (F := Ideal) x w i : EReal) = value x w (i 0).val (i 1).val :=
  (Cert.Reference14Ideal.Read.val_main_v2_apply x w i).trans (Finset.sum_congr rfl fun k _ => congrArg₂ (· * ·) (eq_at2 x _ rfl rfl) (eq_at2 w _ rfl rfl))

/-- The reference's array. -/
theorem same : (dats m 0 c).arrAt 2 cfg0.N = Cert.Reference14Ideal.Read.val_main_v3 (F := Ideal) (xs m c) (w m c) := by
  funext i
  exact (array i).trans (reference (xs m c) (w m c) i).symm

end Cert.Product.FfnUp

end
-- ==== Proof.Product.InQkv.lean ====
/-
  QUERIES, KEYS AND VALUES (`in_qkv`): each grid point multiplies 1024 rows of the input by 1024 columns of the weight and adds
  the biases of these columns.
-/
module

public import proofs.«01_k».proof.Proof.Product.Sums
public import proofs.«01_k».proof.Proof.Gen.Kernel15Ideal.Value
public import proofs.«01_k».proof.Proof.Gen.Reference15Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.InQkv

open Cert.Kernel15Ideal Cert.Kernel15Ideal.Gen Cert.Kernel15Ideal.Value

variable {m : (ℓ : Loc nD τ sig) → Buf (Elt Ideal) ℓ} {c : Dev nD}

/-- What the body leaves: the product of its two blocks, and the bias of the column. -/
theorem left (x : Vec Ideal S1024x1024 .bf16) (w : Vec Ideal S1024x1024 .bf16) (b : Vec Ideal S1x1024 .f32) (r : Fin 1024) (s : Fin 1024) :
    out0_3 x w b (ix2 r s) = ∑ k : Fin 1024, x (ix2 r k) * w (ix2 k s) + b (ix2 0 s) := by
  unfold out0_3
  rw [View.canon_unit_zero hz]
  unfold k0_pay1
  simp only [View.ld_unit_zero (S := S1024x1024) hz, View.ld_unit_zero (S := S1x1024) hz]
  exact congrArg₂ (· + ·) (zero_nn (φ₁ := .bf16) (φ₂ := .bf16) none x w r s) (Idealize.ShloMosaic.ValueIdx.broadcastTo_1b_ab_apply b _ r s)

theorem rows : ∀ t : Fin cfg0.N, win0_0.index t = ![t.val % 8, 0] := (by decide +kernel : ∀ t : Fin grid0.N, _)
theorem columns : ∀ t : Fin cfg0.N, win0_1.index t = ![0, t.val / 8] := (by decide +kernel : ∀ t : Fin grid0.N, _)
theorem biases : ∀ t : Fin cfg0.N, win0_2.index t = ![0, t.val / 8] := (by decide +kernel : ∀ t : Fin grid0.N, _)
theorem result : ∀ t : Fin cfg0.N, win0_3.index t = ![t.val % 8, t.val / 8] := (by decide +kernel : ∀ t : Fin grid0.N, _)
theorem points (t : Fin cfg0.N) : t.val < 24 := t.isLt

/-- The arguments as arrays. -/
abbrev xs (m : (ℓ : Loc nD τ sig) → Buf (Elt Ideal) ℓ) (c : Dev nD) : S8192x1024.Idx → EReal := m ((c : Thread nD τ).loc main_arg0)
abbrev w (m : (ℓ : Loc nD τ sig) → Buf (Elt Ideal) ℓ) (c : Dev nD) : S1024x3072.Idx → EReal := m ((c : Thread nD τ).loc main_arg1)
abbrev b (m : (ℓ : Loc nD τ sig) → Buf (Elt Ideal) ℓ) (c : Dev nD) : S1x3072.Idx → EReal := m ((c : Thread nD τ).loc main_arg2)

/-- The call's value at an element. -/
def value (x : S8192x1024.Idx → EReal) (w : S1024x3072.Idx → EReal) (v : S1x3072.Idx → EReal) (a b : ℕ) : EReal := ∑ k : Fin 1024, at2 x a k * at2 w k b + at2 v 0 b

/-- A row of the left block. -/
theorem block_x (t : Fin cfg0.N) (r : Fin 1024) (k : Fin 1024) : iblk m c 0 t (ix2 r k) = at2 (xs m c) (t.val % 8 * 1024 + r.val) k.val := by
  refine (by blk_simp [iblk] : iblk m c 0 t (ix2 r k) = xs m c (((cfg0.win 0).blk t).view.emb (ix2 r k))).trans (eq_at2 (xs m c) _ ?_ ?_)
  · blk_simp [rows t]
  · blk_simp [rows t]
/-- An element of the weight's block. -/
theorem block_w (t : Fin cfg0.N) (s : Fin 1024) (k : Fin 1024) : iblk m c 1 t (ix2 k s) = at2 (w m c) k.val (t.val / 8 * 1024 + s.val) := by
  refine (by blk_simp [iblk] : iblk m c 1 t (ix2 k s) = w m c (((cfg0.win 1).blk t).view.emb (ix2 k s))).trans (eq_at2 (w m c) _ ?_ ?_)
  · blk_simp [columns t]
  · blk_simp [columns t]
/-- A bias. -/
theorem block_b (t : Fin cfg0.N) (s : Fin 1024) : iblk m c 2 t (ix2 0 s) = at2 (b m c) 0 (t.val / 8 * 1024 + s.val) := by
  refine (by blk_simp [iblk] : iblk m c 2 t (ix2 0 s) = b m c (((cfg0.win 2).blk t).view.emb (ix2 0 s))).trans (eq_at2 (b m c) _ ?_ ?_)
  · blk_simp [biases t]
    rfl
  · blk_simp [biases t]

/-- The call's array, element by element. -/
theorem array (i : S8192x3072.Idx) : (dats m 0 c).arrAt 3 cfg0.N i = value (xs m c) (w m c) (b m c) (i 0).val (i 1).val := by
  refine (dats m 0 c).arrAt_forall_of_covers 3 (fun i v => v = value (xs m c) (w m c) (b m c) (i 0).val (i 1).val)
    (by decide +kernel) (fun t hf y => ?_) i
  have ht := points t
  blk_simp [result t]
  rw [after0_3]
  idx_bounds y
  refine (congrArg _ (eq_ix2 (n0 := 1024) (n1 := 1024) y)).trans ((left _ _ _ (y 0) (y 1)).trans (congrArg₂ (· + ·) (Finset.sum_congr rfl fun k _ => ?_) (block_b t (y 1))))
  exact congrArg₂ (· * ·) (block_x t (y 0) k) (block_w t (y 1) k)

/-- The reference at an element. -/
theorem reference (x : S8192x1024.Idx → EReal) (w : S1024x3072.Idx → EReal) (b : S1x3072.Idx → EReal) (i : S8192x3072.Idx) :
    (Cert.Reference15Ideal.Read.val_main_v5 (F := Ideal) x w b i : EReal) = value x w b (i 0).val (i 1).val :=
  (Cert.Reference15Ideal.Read.val_main_v4_apply (F := Ideal) x w b i).trans (congrArg₂ (· + ·) ((Cert.Reference15Ideal.Read.val_main_v2_apply x w i).trans (Finset.sum_congr rfl fun k _ => congrArg₂ (· * ·) (eq_at2 x _ rfl rfl) (eq_at2 w _ rfl rfl)))
    ((Cert.Reference15Ideal.Read.val_main_v3_apply (F := Ideal) b i).trans (eq_at2 b _ rfl rfl)))

/-- The reference's array. -/
theorem same : (dats m 0 c).arrAt 3 cfg0.N = Cert.Reference15Ideal.Read.val_main_v5 (F := Ideal) (xs m c) (w m c) (b m c) := by
  funext i
  exact (array i).trans (reference (xs m c) (w m c) (b m c) i).symm

end Cert.Product.InQkv

end
-- ==== Proof.Product.InGate.lean ====
/-
  THE GATES (`in_gate`): each grid point multiplies 1024 rows of the input by the whole weight and adds the biases.
-/
module

public import proofs.«01_k».proof.Proof.Product.Sums
public import proofs.«01_k».proof.Proof.Gen.Kernel16Ideal.Value
public import proofs.«01_k».proof.Proof.Gen.Reference16Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.InGate

open Cert.Kernel16Ideal Cert.Kernel16Ideal.Gen Cert.Kernel16Ideal.Value

variable {m : (ℓ : Loc nD τ sig) → Buf (Elt Ideal) ℓ} {c : Dev nD}

/-- What the body leaves: the product of its two blocks, and the bias of the column. -/
theorem left (x : Vec Ideal S1024x1024 .bf16) (w : Vec Ideal S1024x2176 .bf16) (b : Vec Ideal S1x2176 .f32) (r : Fin 1024) (s : Fin 2176) :
    out0_3 x w b (ix2 r s) = ∑ k : Fin 1024, x (ix2 r k) * w (ix2 k s) + b (ix2 0 s) := by
  unfold out0_3
  rw [View.canon_unit_zero hz]
  unfold k0_pay1
  simp only [View.ld_unit_zero (S := S1024x1024) hz, View.ld_unit_zero (S := S1024x2176) hz, View.ld_unit_zero (S := S1x2176) hz]
  exact congrArg₂ (· + ·) (zero_nn (φ₁ := .bf16) (φ₂ := .bf16) none x w r s) (Idealize.ShloMosaic.ValueIdx.broadcastTo_1b_ab_apply b _ r s)

theorem rows : ∀ t : Fin cfg0.N, win0_0.index t = ![t.val, 0] := (by decide +kernel : ∀ t : Fin grid0.N, _)
theorem columns : ∀ t : Fin cfg0.N, win0_1.index t = ![0, 0] := (by decide +kernel : ∀ t : Fin grid0.N, _)
theorem biases : ∀ t : Fin cfg0.N, win0_2.index t = ![0, 0] := (by decide +kernel : ∀ t : Fin grid0.N, _)
theorem result : ∀ t : Fin cfg0.N, win0_3.index t = ![t.val, 0] := (by decide +kernel : ∀ t : Fin grid0.N, _)
theorem points (t : Fin cfg0.N) : t.val < 8 := t.isLt

/-- The arguments as arrays. -/
abbrev xs (m : (ℓ : Loc nD τ sig) → Buf (Elt Ideal) ℓ) (c : Dev nD) : S8192x1024.Idx → EReal := m ((c : Thread nD τ).loc main_arg0)
abbrev w (m : (ℓ : Loc nD τ sig) → Buf (Elt Ideal) ℓ) (c : Dev nD) : S1024x2176.Idx → EReal := m ((c : Thread nD τ).loc main_arg1)
abbrev b (m : (ℓ : Loc nD τ sig) → Buf (Elt Ideal) ℓ) (c : Dev nD) : S1x2176.Idx → EReal := m ((c : Thread nD τ).loc main_arg2)

/-- The call's value at an element. -/
def value (x : S8192x1024.Idx → EReal) (w : S1024x2176.Idx → EReal) (v : S1x2176.Idx → EReal) (a b : ℕ) : EReal := ∑ k : Fin 1024, at2 x a k * at2 w k b + at2 v 0 b

/-- A row of the left block. -/
theorem block_x (t : Fin cfg0.N) (r : Fin 1024) (k : Fin 1024) : iblk m c 0 t (ix2 r k) = at2 (xs m c) (t.val * 1024 + r.val) k.val := by
  refine (by blk_simp [iblk] : iblk m c 0 t (ix2 r k) = xs m c (((cfg0.win 0).blk t).view.emb (ix2 r k))).trans (eq_at2 (xs m c) _ ?_ ?_)
  · blk_simp [rows t]
  · blk_simp [rows t]
/-- An element of the weight's block. -/
theorem block_w (t : Fin cfg0.N) (s : Fin 2176) (k : Fin 1024) : iblk m c 1 t (ix2 k s) = at2 (w m c) k.val (s.val) := by
  refine (by blk_simp [iblk] : iblk m c 1 t (ix2 k s) = w m c (((cfg0.win 1).blk t).view.emb (ix2 k s))).trans (eq_at2 (w m c) _ ?_ ?_)
  · blk_simp [columns t]
  · blk_simp [columns t]
/-- A bias. -/
theorem block_b (t : Fin cfg0.N) (s : Fin 2176) : iblk m c 2 t (ix2 0 s) = at2 (b m c) 0 (s.val) := by
  refine (by blk_simp [iblk] : iblk m c 2 t (ix2 0 s) = b m c (((cfg0.win 2).blk t).view.emb (ix2 0 s))).trans (eq_at2 (b m c) _ ?_ ?_)
  · blk_simp [biases t]
    rfl
  · blk_simp [biases t]

/-- The call's array, element by element. -/
theorem array (i : S8192x2176.Idx) : (dats m 0 c).arrAt 3 cfg0.N i = value (xs m c) (w m c) (b m c) (i 0).val (i 1).val := by
  refine (dats m 0 c).arrAt_forall_of_covers 3 (fun i v => v = value (xs m c) (w m c) (b m c) (i 0).val (i 1).val)
    (by decide +kernel) (fun t hf y => ?_) i
  have ht := points t
  blk_simp [result t]
  rw [after0_3]
  idx_bounds y
  refine (congrArg _ (eq_ix2 (n0 := 1024) (n1 := 2176) y)).trans ((left _ _ _ (y 0) (y 1)).trans (congrArg₂ (· + ·) (Finset.sum_congr rfl fun k _ => ?_) (block_b t (y 1))))
  exact congrArg₂ (· * ·) (block_x t (y 0) k) (block_w t (y 1) k)

/-- The reference at an element. -/
theorem reference (x : S8192x1024.Idx → EReal) (w : S1024x2176.Idx → EReal) (b : S1x2176.Idx → EReal) (i : S8192x2176.Idx) :
    (Cert.Reference16Ideal.Read.val_main_v4 (F := Ideal) x w b i : EReal) = value x w b (i 0).val (i 1).val :=
  (Cert.Reference16Ideal.Read.val_main_v4_apply (F := Ideal) x w b i).trans (congrArg₂ (· + ·) ((Cert.Reference16Ideal.Read.val_main_v2_apply x w i).trans (Finset.sum_congr rfl fun k _ => congrArg₂ (· * ·) (eq_at2 x _ rfl rfl) (eq_at2 w _ rfl rfl)))
    ((Cert.Reference16Ideal.Read.val_main_v3_apply (F := Ideal) b i).trans (eq_at2 b _ rfl rfl)))

/-- The reference's array. -/
theorem same : (dats m 0 c).arrAt 3 cfg0.N = Cert.Reference16Ideal.Read.val_main_v4 (F := Ideal) (xs m c) (w m c) (b m c) := by
  funext i
  exact (array i).trans (reference (xs m c) (w m c) (b m c) i).symm

end Cert.Product.InGate

end
-- ==== Proof.Product.Merge.lean ====
/-
  THE BRANCH PROJECTIONS AND THE GATED MERGE (`proj_gate_fwd`): each grid point projects 512 rows of both branches and merges them under their gates.
-/
module

public import proofs.«01_k».proof.Proof.Product.Gate
public import proofs.«01_k».proof.Proof.Gen.Kernel17Ideal.Value
public import proofs.«01_k».proof.Proof.Gen.Reference17Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.Merge

open Cert.Kernel17Ideal Cert.Kernel17Ideal.Gen Cert.Kernel17Ideal.Value

variable {m : (ℓ : Loc nD τ sig) → Buf (Elt Ideal) ℓ} {c : Dev nD}

/-- The products in the body. -/
theorem first_product (x : Vec Ideal S512x512 .bf16) (w : Vec Ideal S512x1024 .bf16) (r : Fin 512) (s : Fin 1024) :
    (k0_pay2 x w (ix2 r s) : EReal) = ∑ k : Fin 512, (x (ix2 r k) : EReal) * w (ix2 k s) := by
  unfold k0_pay2
  exact zero_nn (φ₁ := .bf16) (φ₂ := .bf16) none x w r s
theorem second_product (x : Vec Ideal S512x512 .f32) (w : Vec Ideal S512x1024 .bf16) (r : Fin 512) (s : Fin 1024) :
    (k0_pay3 x w (ix2 r s) : EReal) = ∑ k : Fin 512, (x (ix2 r k) : EReal) * w (ix2 k s) := by
  unfold k0_pay3
  exact zero_nn (φ₁ := .bf16) (φ₂ := .bf16) none (truncf .bf16 x bitsLt_bf16_f32) w r s
/-- The merge in the body. -/
theorem merge (x : Vec Ideal S512x512 .bf16) (w : Vec Ideal S512x1024 .bf16) (p : FVec Ideal S512x1024 .f32) (g h : Vec Ideal S512x1024 .f32) (y : S512x1024.Idx) :
    (k0_pay1 p (k0_pay4 x w g) h (k0_pay5 h) (k0_pay6 h) y : EReal) = sgm (g y) * (k0_pay2 x w y : EReal) + sgm (h y) * (p y : EReal) := by
  unfold k0_pay1 k0_pay4 k0_pay6 k0_pay5
  exact congrArg₂ (fun a b : EReal => a + b) (congrArg (fun a : EReal => a * (k0_pay2 x w y : EReal)) (chosen_eq (g y)))
    (congrArg (fun a : EReal => a * (p y : EReal)) (chosen_eq (h y)))

section Body

variable (i : grid0.Coords) (a1 : Memref sig .tc .vmem S512x512 .bf16) (h1 : a1.IsWhole) (a2 : Memref sig .tc .vmem S512x512 .f32) (h2 : a2.IsWhole) (a3 : Memref sig .tc .vmem S512x1024 .bf16) (h3 : a3.IsWhole) (a4 : Memref sig .tc .vmem S512x1024 .bf16) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S512x1024 .f32) (h8 : a8.IsWhole) (a9 : Memref sig .tc .vmem S512x1024 .f32) (h9 : a9.IsWhole)
  (x0 : Vec Ideal S512x512 .bf16) (x1 : Vec Ideal S512x512 .f32) (x2 : Vec Ideal S512x1024 .bf16) (x3 : Vec Ideal S512x1024 .bf16) (x4 : Vec Ideal S512x1024 .f32) (x5 : Vec Ideal S512x1024 .f32)

/-- What the body leaves. -/
theorem left_6 : out0_A_6 c i a1 h1 a2 h2 a3 h3 a4 h4 a5 h5 a6 h6 a7 h7 a8 h8 a9 h9 x0 x1 x2 x3 x4 x5 = k0_pay1 (k0_pay3 x1 x3) (k0_pay4 x0 x2 x4) x5 (k0_pay5 x5) (k0_pay6 x5) := by
  unfold out0_A_6
  rw [View.read_writes_eq_canon _ _ _ (cover0_A_6 c i a1 h1 a2 h2 a3 h3 a4 h4 a5 h5 a6 h6 a7 h7 a8 h8 a9 h9 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x512) hz, View.ld_unit_zero (S := S512x1024) hz, shapeCast_self]
theorem left_7 : out0_A_7 c i a1 h1 a2 h2 a3 h3 a4 h4 a5 h5 a6 h6 a7 h7 a8 h8 a9 h9 x0 x1 x2 x3 x4 x5 = k0_pay2 x0 x2 := by
  unfold out0_A_7
  rw [View.read_writes_eq_canon _ _ _ (cover0_A_7 c i a1 h1 a2 h2 a3 h3 a4 h4 a5 h5 a6 h6 a7 h7 a8 h8 a9 h9 x0 x1 x2 x3 x4 x5)]
  unfold kernelRun0_A
  dsimp only
  rw [View.canon_unit_zero hz]
  simp only [View.readAt_eq_ld, h1.read_unread, h2.read_unread, h3.read_unread, h4.read_unread, h5.read_unread, h6.read_unread, View.ld_unit_zero (S := S512x512) hz, View.ld_unit_zero (S := S512x1024) hz, shapeCast_self]
theorem left_8 : out0_A_8 c i a1 h1 a2 h2 a3 h3 a4 h4 a5 h5 a6 h6 a7 h7 a8 h8 a9 h9 x0 x1 x2 x3 x4 x5 = k0_pay3 x1 x3 := by
  unfold out0_A_8
  rw [View.read_writes_eq_canon _ _ _ (cover0_A_8 c i a1 h1 a2 h2 a3 h3 a4 h4 a5 h5 a6 h6 a7 h7 a8 h8 a9 h9 x0 x1 x2 x3 x4 x5)]
  unfold kernelRun0_A
  dsimp only
  rw [View.canon_unit_zero hz]
  simp only [View.readAt_eq_ld, h1.read_unread, h2.read_unread, h3.read_unread, h4.read_unread, h5.read_unread, h6.read_unread, View.ld_unit_zero (S := S512x512) hz, View.ld_unit_zero (S := S512x1024) hz, shapeCast_self]

end Body

theorem rows_0 : ∀ t : Fin cfg0.N, win0_0.index t = ![t.val, 0] := (by decide +kernel : ∀ t : Fin grid0.N, _)
theorem rows_1 : ∀ t : Fin cfg0.N, win0_1.index t = ![t.val, 0] := (by decide +kernel : ∀ t : Fin grid0.N, _)
theorem rows_2 : ∀ t : Fin cfg0.N, win0_2.index t = ![0, 0] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![t.val, 0] := (by decide +kernel : ∀ t : Fin grid0.N, _)
theorem rows_5 : ∀ t : Fin cfg0.N, win0_5.index t = ![t.val, 1] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem rows_8 : ∀ t : Fin cfg0.N, win0_8.index t = ![t.val, 0] := (by decide +kernel : ∀ t : Fin grid0.N, _)
theorem points (t : Fin cfg0.N) : t.val < 16 := t.isLt

/-- The arguments as arrays. -/
abbrev osb (m : (ℓ : Loc nD τ sig) → Buf (Elt Ideal) ℓ) (c : Dev nD) : S8192x512.Idx → EReal := m ((c : Thread nD τ).loc main_arg0)
abbrev ofx (m : (ℓ : Loc nD τ sig) → Buf (Elt Ideal) ℓ) (c : Dev nD) : S8192x512.Idx → EReal := m ((c : Thread nD τ).loc main_arg1)
abbrev wsb (m : (ℓ : Loc nD τ sig) → Buf (Elt Ideal) ℓ) (c : Dev nD) : S512x1024.Idx → EReal := m ((c : Thread nD τ).loc main_arg2)
abbrev wfx (m : (ℓ : Loc nD τ sig) → Buf (Elt Ideal) ℓ) (c : Dev nD) : S512x1024.Idx → EReal := m ((c : Thread nD τ).loc main_arg3)
abbrev gs (m : (ℓ : Loc nD τ sig) → Buf (Elt Ideal) ℓ) (c : Dev nD) : S8192x2176.Idx → EReal := m ((c : Thread nD τ).loc main_arg4)

/-- A branch's projection. -/
def proj (x : S8192x512.Idx → EReal) (w : S512x1024.Idx → EReal) (a b : ℕ) : EReal := ∑ k : Fin 512, at2 x a k.val * at2 w k.val b
/-- The merge. -/
def merged (x z : S8192x512.Idx → EReal) (w v : S512x1024.Idx → EReal) (g : S8192x2176.Idx → EReal) (a b : ℕ) : EReal :=
  sgm (at2 g a b) * proj x w a b + sgm (at2 g a (1024 + b)) * proj z v a b

theorem block_osb (t : Fin cfg0.N) (r : Fin 512) (s : Fin 512) : iblk m c 0 t (ix2 r s) = at2 (osb m c) (t.val * 512 + r.val) s.val := by
  refine (by blk_simp [iblk] : iblk m c 0 t (ix2 r s) = osb m c (((cfg0.win 0).blk t).view.emb (ix2 r s))).trans (eq_at2 (osb m c) _ ?_ ?_)
  · blk_simp [rows_0 t]
  · blk_simp [rows_0 t]
theorem block_ofx (t : Fin cfg0.N) (r : Fin 512) (s : Fin 512) : iblk m c 1 t (ix2 r s) = at2 (ofx m c) (t.val * 512 + r.val) s.val := by
  refine (by blk_simp [iblk] : iblk m c 1 t (ix2 r s) = ofx m c (((cfg0.win 1).blk t).view.emb (ix2 r s))).trans (eq_at2 (ofx m c) _ ?_ ?_)
  · blk_simp [rows_1 t]
  · blk_simp [rows_1 t]
theorem block_wsb (t : Fin cfg0.N) (r : Fin 512) (s : Fin 1024) : iblk m c 2 t (ix2 r s) = at2 (wsb m c) r.val s.val := by
  refine (by blk_simp [iblk] : iblk m c 2 t (ix2 r s) = wsb m c (((cfg0.win 2).blk t).view.emb (ix2 r s))).trans (eq_at2 (wsb m c) _ ?_ ?_)
  · blk_simp [rows_2 t]
  · blk_simp [rows_2 t]
theorem block_wfx (t : Fin cfg0.N) (r : Fin 512) (s : Fin 1024) : iblk m c 3 t (ix2 r s) = at2 (wfx m c) r.val s.val := by
  refine (by blk_simp [iblk] : iblk m c 3 t (ix2 r s) = wfx m c (((cfg0.win 3).blk t).view.emb (ix2 r s))).trans (eq_at2 (wfx m c) _ ?_ ?_)
  · blk_simp [rows_3 t]
  · blk_simp [rows_3 t]
theorem block_gsb (t : Fin cfg0.N) (r : Fin 512) (s : Fin 1024) : X0_4 m c t (ix2 r s) = at2 (gs m c) (t.val * 512 + r.val) s.val := by
  unfold X0_4 Pipeline.Window.fill
  rw [dif_pos (moved0_4 t (ix2 r s))]
  have ht := points t
  blk_simp [iblk]
  refine eq_at2 (gs m c) _ ?_ ?_
  · blk_simp [rows_4 t]
  · blk_simp [rows_4 t]
theorem block_gfx (t : Fin cfg0.N) (r : Fin 512) (s : Fin 1024) : X0_5 m c t (ix2 r s) = at2 (gs m c) (t.val * 512 + r.val) (1024 + s.val) := by
  unfold X0_5 Pipeline.Window.fill
  rw [dif_pos (moved0_5 t (ix2 r s))]
  have ht := points t
  blk_simp [iblk]
  refine eq_at2 (gs m c) _ ?_ ?_
  · blk_simp [rows_5 t]
  · blk_simp [rows_5 t]
/-- The projections of a grid point. -/
theorem block_first (t : Fin cfg0.N) (r : Fin 512) (s : Fin 1024) :
    (k0_pay2 (iblk m c 0 t) (iblk m c 2 t) (ix2 r s) : EReal) = proj (osb m c) (wsb m c) (t.val * 512 + r.val) s.val :=
  (first_product _ _ r s).trans (Finset.sum_congr rfl fun k _ => congrArg₂ (fun a b : EReal => a * b) (block_osb t r k) (block_wsb t k s))
theorem block_second (t : Fin cfg0.N) (r : Fin 512) (s : Fin 1024) :
    (k0_pay3 (iblk m c 1 t) (iblk m c 3 t) (ix2 r s) : EReal) = proj (ofx m c) (wfx m c) (t.val * 512 + r.val) s.val :=
  (second_product _ _ r s).trans (Finset.sum_congr rfl fun k _ => congrArg₂ (fun a b : EReal => a * b) (block_ofx t r k) (block_wfx t k s))

/-- The three arrays, element by element. -/
theorem at_6 (t : Fin cfg0.N) (r : Fin 512) (s : Fin 1024) : ((outsAt0 m c t).1 (ix2 r s) : EReal) = merged (osb m c) (ofx m c) (wsb m c) (wfx m c) (gs m c) (t.val * 512 + r.val) s.val := by
  unfold outsAt0
  dsimp only
  rw [left_6]
  exact (merge _ _ _ _ _ _).trans
    (congrArg₂ (fun a b : EReal => a + b)
      (congrArg₂ (fun a b : EReal => a * b) (congrArg sgm (block_gsb t r s)) (block_first t r s))
      (congrArg₂ (fun a b : EReal => a * b) (congrArg sgm (block_gfx t r s)) (block_second t r s)))
theorem array_6 (i : S8192x1024.Idx) : (dats m 0 c).arrAt 6 cfg0.N i = merged (osb m c) (ofx m c) (wsb m c) (wfx m c) (gs m c) (i 0).val (i 1).val := by
  refine (dats m 0 c).arrAt_forall_of_covers 6 (fun i v => v = merged (osb m c) (ofx m c) (wsb m c) (wfx m c) (gs m c) (i 0).val (i 1).val)
    (by decide +kernel) (fun t hf y => ?_) i
  have ht := points t
  blk_simp [rows_6 t]
  rw [after0_6]
  idx_bounds y
  exact (congrArg _ (eq_ix2 (n0 := 512) (n1 := 1024) y)).trans (at_6 t (y 0) (y 1))
theorem at_7 (t : Fin cfg0.N) (r : Fin 512) (s : Fin 1024) : ((outsAt0 m c t).2.1 (ix2 r s) : EReal) = proj (osb m c) (wsb m c) (t.val * 512 + r.val) s.val := by
  unfold outsAt0
  dsimp only
  rw [left_7]
  exact block_first t r s
theorem array_7 (i : S8192x1024.Idx) : (dats m 0 c).arrAt 7 cfg0.N i = proj (osb m c) (wsb m c) (i 0).val (i 1).val := by
  refine (dats m 0 c).arrAt_forall_of_covers 7 (fun i v => v = proj (osb m c) (wsb m c) (i 0).val (i 1).val)
    (by decide +kernel) (fun t hf y => ?_) i
  have ht := points t
  blk_simp [rows_7 t]
  rw [after0_7]
  idx_bounds y
  exact (congrArg _ (eq_ix2 (n0 := 512) (n1 := 1024) y)).trans (at_7 t (y 0) (y 1))
theorem at_8 (t : Fin cfg0.N) (r : Fin 512) (s : Fin 1024) : ((outsAt0 m c t).2.2 (ix2 r s) : EReal) = proj (ofx m c) (wfx m c) (t.val * 512 + r.val) s.val := by
  unfold outsAt0
  dsimp only
  rw [left_8]
  exact block_second t r s
theorem array_8 (i : S8192x1024.Idx) : (dats m 0 c).arrAt 8 cfg0.N i = proj (ofx m c) (wfx m c) (i 0).val (i 1).val := by
  refine (dats m 0 c).arrAt_forall_of_covers 8 (fun i v => v = proj (ofx m c) (wfx m c) (i 0).val (i 1).val)
    (by decide +kernel) (fun t hf y => ?_) i
  have ht := points t
  blk_simp [rows_8 t]
  rw [after0_8]
  idx_bounds y
  exact (congrArg _ (eq_ix2 (n0 := 512) (n1 := 1024) y)).trans (at_8 t (y 0) (y 1))

section Reference

open Cert.Reference17Ideal.Read

variable (x z : S8192x512.Idx → EReal) (w v : S512x1024.Idx → EReal) (g : S8192x2176.Idx → EReal)

/-- The reference's gates and projections. -/
theorem ref_gate_sb (i : S8192x1024.Idx) : (val_main_v12 (F := Ideal) g i : EReal) = sgm (at2 g (i 0).val (i 1).val) := by
  rw [val_main_v12_apply, val_main_v11_apply, val_main_cst_0_apply, val_main_v10_apply, val_main_v9_apply, val_main_cst_apply, val_main_v8_apply, val_main_v7_apply, val_main_v5_apply]
  exact congrArg sgm (eq_at2 g _ rfl rfl)
theorem ref_gate_fx (i : S8192x1024.Idx) : (val_main_v19 (F := Ideal) g i : EReal) = sgm (at2 g (i 0).val (1024 + (i 1).val)) := by
  rw [val_main_v19_apply, val_main_v18_apply, val_main_cst_2_apply, val_main_v17_apply, val_main_v16_apply, val_main_cst_1_apply, val_main_v15_apply, val_main_v14_apply, val_main_v6_apply]
  exact congrArg sgm (eq_at2 g _ rfl rfl)
theorem ref_first (i : S8192x1024.Idx) : (val_main_v2 (F := Ideal) x w i : EReal) = proj x w (i 0).val (i 1).val := by
  rw [val_main_v2_apply]
  exact Finset.sum_congr rfl fun k _ => congrArg₂ (fun a b : EReal => a * b) (eq_at2 x _ rfl rfl) (eq_at2 w _ rfl rfl)
theorem ref_second (i : S8192x1024.Idx) : (val_main_v4 (F := Ideal) z v i : EReal) = proj z v (i 0).val (i 1).val := by
  rw [val_main_v4_apply]
  exact Finset.sum_congr rfl fun k _ => congrArg₂ (fun a b : EReal => a * b) (eq_at2 z _ rfl rfl) (eq_at2 v _ rfl rfl)
theorem ref_merged (i : S8192x1024.Idx) : (val_main_v21 (F := Ideal) x z w v g i : EReal) = merged x z w v g (i 0).val (i 1).val := by
  rw [val_main_v21_apply, val_main_v13_apply, val_main_v20_apply]
  exact congrArg₂ (fun a b : EReal => a + b) (congrArg₂ (fun a b : EReal => a * b) (ref_gate_sb g i) (ref_first x w i))
    (congrArg₂ (fun a b : EReal => a * b) (ref_gate_fx g i) (ref_second z v i))

end Reference

/-- The reference's arrays. -/
theorem same_6 : (dats m 0 c).arrAt 6 cfg0.N = Cert.Reference17Ideal.Read.val_main_v22 (F := Ideal) (osb m c) (ofx m c) (wsb m c) (wfx m c) (gs m c) := by
  funext i
  exact (array_6 i).trans (ref_merged _ _ _ _ _ i).symm
theorem same_7 : (dats m 0 c).arrAt 7 cfg0.N = Cert.Reference17Ideal.Read.val_main_v2 (F := Ideal) (osb m c) (wsb m c) := by
  funext i
  exact (array_7 i).trans (ref_first _ _ i).symm
theorem same_8 : (dats m 0 c).arrAt 8 cfg0.N = Cert.Reference17Ideal.Read.val_main_v4 (F := Ideal) (ofx m c) (wfx m c) := by
  funext i
  exact (array_8 i).trans (ref_second _ _ i).symm

end Cert.Product.Merge

end
-- ==== Proof.Product.OutLn.lean ====
/-
  THE OUTPUT PROJECTION WITH THE FIRST NORMALISATION (`out_ln1`): each grid point multiplies 512 rows by the weight, adds the scaled residual and normalises the rows.
-/
module

public import proofs.«01_k».proof.Proof.Product.Norm
public import proofs.«01_k».proof.Proof.Gen.Kernel18Ideal.Value
public import proofs.«01_k».proof.Proof.Gen.Reference18Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.OutLn

open Cert.Kernel18Ideal Cert.Kernel18Ideal.Gen Cert.Kernel18Ideal.Value

variable {m : (ℓ : Loc nD τ sig) → Buf (Elt Ideal) ℓ} {c : Dev nD}

section Body

variable (x0 : Vec Ideal S512x1024 .bf16) (x1 : Vec Ideal S1024x1024 .bf16) (x2 : Vec Ideal S512x1024 .f32) (x3 x4 : Vec Ideal S1x1024 .f32)
  (r : Fin 512) (f : ℕ → EReal)
  (hf : ∀ s : Fin 1024, Ideal.ofBits .f32 0x3F9837F0#32 * (x2 (ix2 r s) : EReal) + ∑ k : Fin 1024, (x0 (ix2 r k) : EReal) * x1 (ix2 k s) = f s.val)
include hf

/-- The row less its mean, in the body. -/
theorem body_1 (s : Fin 1024) : (k0_pay1 x2 x0 x1 (ix2 r s) : EReal) = centred f s.val := by
  have hv : ∀ s : Fin 1024, Ideal.ofBits .f32 0x3F9837F0#32 * (x2 (ix2 r s) : EReal)
      + FloatOps.matmul (DotDims.plain 512 1024 1024) none x0 x1 (constant ⟨2, ![512, 1024]⟩ .f32 0x00000000#32) (ix2 r s) = f s.val := fun s =>
    (congrArg (fun a : EReal => Ideal.ofBits .f32 0x3F9837F0#32 * (x2 (ix2 r s) : EReal) + a) (zero_nn (φ₁ := .bf16) (φ₂ := .bf16) none x0 x1 r s)).trans (hf s)
  unfold k0_pay1
  exact congrArg₂ (fun a b : EReal => a - b) (hv s) ((spread _ _ r s).trans (mean_read _ _ _ _ _ r 0 f hv))
/-- Its reciprocal deviation. -/
theorem body_2 (u : Fin 1) : (k0_pay2 x2 x0 x1 (ix2 r u) : EReal) = scale (centred f) := by
  unfold k0_pay2
  exact congrArg (fun a : EReal => Ideal.rsqrt (a + Ideal.ofBits .f32 0x3727C5AC#32)) (mean_read _ _ _ _ _ r u (fun k => centred f k * centred f k)
    fun k => congrArg₂ (fun a b : EReal => a * b) (body_1 x0 x1 x2 r f hf k) (body_1 x0 x1 x2 r f hf k))
/-- The normalised row. -/
theorem body_3 (s : Fin 1024) : (k0_pay3 x2 x0 x1 (ix2 r s) : EReal) = normed f s.val := by
  unfold k0_pay3
  exact congrArg₂ (fun a b : EReal => a * b) (body_1 x0 x1 x2 r f hf s) ((spread _ _ r s).trans (body_2 x0 x1 x2 r f hf 0))
/-- The normalised row scaled and shifted. -/
theorem body_4 (g h : ℕ → EReal) (hg : ∀ s : Fin 1024, (x3 (ix2 0 s) : EReal) = g s.val) (hh : ∀ s : Fin 1024, (x4 (ix2 0 s) : EReal) = h s.val) (s : Fin 1024) :
    (k0_pay4 x2 x0 x1 x3 x4 (ix2 r s) : EReal) = scaled f g h s.val := by
  unfold k0_pay4
  exact congrArg₂ (fun a b : EReal => a + b) (congrArg₂ (fun a b : EReal => a * b) (body_3 x0 x1 x2 r f hf s)
    ((ValueIdx.broadcastTo_1b_ab_apply _ _ r s).trans (hg s))) ((ValueIdx.broadcastTo_1b_ab_apply _ _ r s).trans (hh s))

end Body

/-- What the body leaves. -/
theorem left_5 (x0 : Vec Ideal S512x1024 .bf16) (x1 : Vec Ideal S1024x1024 .bf16) (x2 : Vec Ideal S512x1024 .f32) (x3 x4 : Vec Ideal S1x1024 .f32) :
    out0_5 x0 x1 x2 x3 x4 = k0_pay4 x2 x0 x1 x3 x4 := by
  unfold out0_5
  rw [View.canon_unit_zero hz]
  simp only [View.ld_unit_zero (S := S512x1024) hz, View.ld_unit_zero (S := S1x1024) hz, View.ld_unit_zero (S := S1024x1024) hz]
theorem left_6 (x0 : Vec Ideal S512x1024 .bf16) (x1 : Vec Ideal S1024x1024 .bf16) (x2 : Vec Ideal S512x1024 .f32) (x3 x4 : Vec Ideal S1x1024 .f32) :
    out0_6 x0 x1 x2 x3 x4 = k0_pay3 x2 x0 x1 := by
  unfold out0_6
  rw [View.canon_unit_zero hz]
  simp only [View.ld_unit_zero (S := S512x1024) hz, View.ld_unit_zero (S := S1x1024) hz, View.ld_unit_zero (S := S1024x1024) hz]
theorem left_7 (x0 : Vec Ideal S512x1024 .bf16) (x1 : Vec Ideal S1024x1024 .bf16) (x2 : Vec Ideal S512x1024 .f32) (x3 x4 : Vec Ideal S1x1024 .f32) :
    out0_7 x0 x1 x2 x3 x4 = k0_pay2 x2 x0 x1 := by
  unfold out0_7
  rw [View.canon_unit_zero hz]
  simp only [View.ld_unit_zero (S := S512x1024) hz, View.ld_unit_zero (S := S1x1024) hz, View.ld_unit_zero (S := S1024x1024) hz]
theorem left_8 (x0 : Vec Ideal S512x1024 .bf16) (x1 : Vec Ideal S1024x1024 .bf16) (x2 : Vec Ideal S512x1024 .f32) (x3 x4 : Vec Ideal S1x1024 .f32) (y : S512x1024.Idx) :
    (out0_8 x0 x1 x2 x3 x4 y : EReal) = (k0_pay4 x2 x0 x1 x3 x4 y : EReal) := by
  unfold out0_8
  rw [View.canon_unit_zero hz]
  simp only [View.ld_unit_zero (S := S512x1024) hz, View.ld_unit_zero (S := S1x1024) hz, View.ld_unit_zero (S := S1024x1024) hz]
  rfl

theorem rows_0 : ∀ t : Fin cfg0.N, win0_0.index t = ![t.val, 0] := (by decide +kernel : ∀ t : Fin grid0.N, _)
theorem rows_1 : ∀ t : Fin cfg0.N, win0_1.index t = ![0, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![0, 0] := (by decide +kernel : ∀ t : Fin grid0.N, _)
theorem rows_5 : ∀ t : Fin cfg0.N, win0_5.index t = ![t.val, 0] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem rows_8 : ∀ t : Fin cfg0.N, win0_8.index t = ![t.val, 0] := (by decide +kernel : ∀ t : Fin grid0.N, _)
theorem points (t : Fin cfg0.N) : t.val < 16 := t.isLt

/-- The arguments as arrays. -/
abbrev xs (m : (ℓ : Loc nD τ sig) → Buf (Elt Ideal) ℓ) (c : Dev nD) : S8192x1024.Idx → EReal := m ((c : Thread nD τ).loc main_arg0)
abbrev w (m : (ℓ : Loc nD τ sig) → Buf (Elt Ideal) ℓ) (c : Dev nD) : S1024x1024.Idx → EReal := m ((c : Thread nD τ).loc main_arg1)
abbrev res (m : (ℓ : Loc nD τ sig) → Buf (Elt Ideal) ℓ) (c : Dev nD) : S8192x1024.Idx → EReal := m ((c : Thread nD τ).loc main_arg2)
abbrev gs (m : (ℓ : Loc nD τ sig) → Buf (Elt Ideal) ℓ) (c : Dev nD) : S1x1024.Idx → EReal := m ((c : Thread nD τ).loc main_arg3)
abbrev bs (m : (ℓ : Loc nD τ sig) → Buf (Elt Ideal) ℓ) (c : Dev nD) : S1x1024.Idx → EReal := m ((c : Thread nD τ).loc main_arg4)

/-- A row before its normalisation: the scaled residual and the product. -/
def row (x : S8192x1024.Idx → EReal) (w : S1024x1024.Idx → EReal) (z : S8192x1024.Idx → EReal) (a b : ℕ) : EReal :=
  Ideal.ofBits .f32 0x3F9837F0#32 * at2 z a b + ∑ k : Fin 1024, at2 x a k * at2 w k b

theorem block_x (t : Fin cfg0.N) (r : Fin 512) (k : Fin 1024) : iblk m c 0 t (ix2 r k) = at2 (xs m c) (t.val * 512 + r.val) k.val := by
  refine (by blk_simp [iblk] : iblk m c 0 t (ix2 r k) = xs m c (((cfg0.win 0).blk t).view.emb (ix2 r k))).trans (eq_at2 (xs m c) _ ?_ ?_)
  · blk_simp [rows_0 t]
  · blk_simp [rows_0 t]
theorem block_w (t : Fin cfg0.N) (k : Fin 1024) (s : Fin 1024) : iblk m c 1 t (ix2 k s) = at2 (w m c) k.val s.val := by
  refine (by blk_simp [iblk] : iblk m c 1 t (ix2 k s) = w m c (((cfg0.win 1).blk t).view.emb (ix2 k s))).trans (eq_at2 (w m c) _ ?_ ?_)
  · blk_simp [rows_1 t]
  · blk_simp [rows_1 t]
theorem block_r (t : Fin cfg0.N) (r : Fin 512) (s : Fin 1024) : iblk m c 2 t (ix2 r s) = at2 (res m c) (t.val * 512 + r.val) s.val := by
  refine (by blk_simp [iblk] : iblk m c 2 t (ix2 r s) = res m c (((cfg0.win 2).blk t).view.emb (ix2 r s))).trans (eq_at2 (res m c) _ ?_ ?_)
  · blk_simp [rows_2 t]
  · blk_simp [rows_2 t]
theorem block_g (t : Fin cfg0.N) (s : Fin 1024) : iblk m c 3 t (ix2 0 s) = at2 (gs m c) 0 s.val := by
  refine (by blk_simp [iblk] : iblk m c 3 t (ix2 0 s) = gs m c (((cfg0.win 3).blk t).view.emb (ix2 0 s))).trans (eq_at2 (gs m c) _ ?_ ?_)
  · blk_simp [rows_3 t]
    rfl
  · blk_simp [rows_3 t]
theorem block_b (t : Fin cfg0.N) (s : Fin 1024) : iblk m c 4 t (ix2 0 s) = at2 (bs m c) 0 s.val := by
  refine (by blk_simp [iblk] : iblk m c 4 t (ix2 0 s) = bs m c (((cfg0.win 4).blk t).view.emb (ix2 0 s))).trans (eq_at2 (bs m c) _ ?_ ?_)
  · blk_simp [rows_4 t]
    rfl
  · blk_simp [rows_4 t]
/-- The rows of a grid point. -/
theorem block_row (t : Fin cfg0.N) (r : Fin 512) (s : Fin 1024) :
    Ideal.ofBits .f32 0x3F9837F0#32 * (show EReal from iblk m c 2 t (ix2 r s)) + ∑ k : Fin 1024, (show EReal from iblk m c 0 t (ix2 r k)) * (show EReal from iblk m c 1 t (ix2 k s))
      = row (xs m c) (w m c) (res m c) (t.val * 512 + r.val) s.val :=
  congrArg₂ (fun a b : EReal => a + b) (congrArg (fun a : EReal => Ideal.ofBits .f32 0x3F9837F0#32 * a) (block_r t r s))
    (Finset.sum_congr rfl fun k _ => congrArg₂ (fun a b : EReal => a * b) (block_x t r k) (block_w t k s))

/-- The four arrays, element by element. -/
theorem array_5 (i : S8192x1024.Idx) : (dats m 0 c).arrAt 5 cfg0.N i
    = scaled (row (xs m c) (w m c) (res m c) (i 0).val) (at2 (gs m c) 0) (at2 (bs m c) 0) (i 1).val := by
  refine (dats m 0 c).arrAt_forall_of_covers 5 (fun i v => v = scaled (row (xs m c) (w m c) (res m c) (i 0).val) (at2 (gs m c) 0) (at2 (bs m c) 0) (i 1).val)
    (by decide +kernel) (fun t hf y => ?_) i
  have ht := points t
  blk_simp [rows_5 t]
  rw [after0_5]
  idx_bounds y
  exact (congrArg _ (eq_ix2 (n0 := 512) (n1 := 1024) y)).trans ((congrFun (left_5 _ _ _ _ _) _).trans
    (body_4 _ _ _ _ _ (y 0) _ (block_row t (y 0)) _ _ (block_g t) (block_b t) (y 1)))
theorem array_6 (i : S8192x1024.Idx) : (dats m 0 c).arrAt 6 cfg0.N i = normed (row (xs m c) (w m c) (res m c) (i 0).val) (i 1).val := by
  refine (dats m 0 c).arrAt_forall_of_covers 6 (fun i v => v = normed (row (xs m c) (w m c) (res m c) (i 0).val) (i 1).val)
    (by decide +kernel) (fun t hf y => ?_) i
  have ht := points t
  blk_simp [rows_6 t]
  rw [after0_6]
  idx_bounds y
  exact (congrArg _ (eq_ix2 (n0 := 512) (n1 := 1024) y)).trans ((congrFun (left_6 _ _ _ _ _) _).trans (body_3 _ _ _ (y 0) _ (block_row t (y 0)) (y 1)))
theorem array_7 (i : S8192x1.Idx) : (dats m 0 c).arrAt 7 cfg0.N i = scale (centred (row (xs m c) (w m c) (res m c) (i 0).val)) := by
  refine (dats m 0 c).arrAt_forall_of_covers 7 (fun i v => v = scale (centred (row (xs m c) (w m c) (res m c) (i 0).val)))
    (by decide +kernel) (fun t hf y => ?_) i
  have ht := points t
  blk_simp [rows_7 t]
  rw [after0_7]
  idx_bounds y
  exact (congrArg _ (eq_ix2 (n0 := 512) (n1 := 1) y)).trans ((congrFun (left_7 _ _ _ _ _) _).trans (body_2 _ _ _ (y 0) _ (block_row t (y 0)) (y 1)))
theorem array_8 (i : S8192x1024.Idx) : (dats m 0 c).arrAt 8 cfg0.N i
    = scaled (row (xs m c) (w m c) (res m c) (i 0).val) (at2 (gs m c) 0) (at2 (bs m c) 0) (i 1).val := by
  refine (dats m 0 c).arrAt_forall_of_covers 8 (fun i v => v = scaled (row (xs m c) (w m c) (res m c) (i 0).val) (at2 (gs m c) 0) (at2 (bs m c) 0) (i 1).val)
    (by decide +kernel) (fun t hf y => ?_) i
  have ht := points t
  blk_simp [rows_8 t]
  rw [after0_8]
  idx_bounds y
  exact (congrArg _ (eq_ix2 (n0 := 512) (n1 := 1024) y)).trans ((left_8 _ _ _ _ _ _).trans
    (body_4 _ _ _ _ _ (y 0) _ (block_row t (y 0)) _ _ (block_g t) (block_b t) (y 1)))

section Reference

open Cert.Reference18Ideal.Read

variable (x : S8192x1024.Idx → EReal) (w : S1024x1024.Idx → EReal) (z : S8192x1024.Idx → EReal) (g b : S1x1024.Idx → EReal)

/-- The reference's rows. -/
theorem ref_row (i : S8192x1024.Idx) : (val_main_v5 (F := Ideal) x w z i : EReal) = row x w z (i 0).val (i 1).val :=
  congrArg₂ (fun a b : EReal => a + b) (congrArg (fun a : EReal => Ideal.ofBits .f32 0x3F9837F0#32 * a) (at2_val z i).symm)
    ((val_main_v4_apply x w i).trans (Finset.sum_congr rfl fun k _ => congrArg₂ (fun a b : EReal => a * b) (eq_at2 x _ rfl rfl) (eq_at2 w _ rfl rfl)))
theorem ref_sum (i : S8192x1.Idx) : (val_main_v7 (F := Ideal) x w z i : EReal) = ∑ k : Fin 1024, row x w z (i 0).val k.val := by
  rw [val_main_v7_apply, val_main_v6_apply, val_main_cst_0_apply]
  show Ideal.ofBits .f32 0x00000000#32 + _ = _
  rw [Ideal.ofBits_zero_f32, zero_add]
  exact Finset.sum_congr rfl fun k _ => ref_row x w z _
theorem ref_mean (i : S8192x1.Idx) : (val_main_v9 (F := Ideal) x w z i : EReal) = mean (row x w z (i 0).val) := by
  rw [val_main_v9_apply, val_main_v8_apply, val_main_cst_1_apply]
  exact congrArg (fun a : EReal => Ideal.div a (Ideal.ofBits .f32 0x44800000#32)) (ref_sum x w z i)
theorem ref_centred (i : S8192x1024.Idx) : (val_main_v11 (F := Ideal) x w z i : EReal) = centred (row x w z (i 0).val) (i 1).val := by
  rw [val_main_v11_apply, val_main_v10_apply]
  exact congrArg₂ (fun a b : EReal => a - b) (ref_row x w z i) (ref_mean x w z _)
theorem ref_squares (i : S8192x1.Idx) : (val_main_v14 (F := Ideal) x w z i : EReal)
    = ∑ k : Fin 1024, centred (row x w z (i 0).val) k.val * centred (row x w z (i 0).val) k.val := by
  rw [val_main_v14_apply, val_main_v13_apply, val_main_cst_2_apply]
  show Ideal.ofBits .f32 0x00000000#32 + _ = _
  rw [Ideal.ofBits_zero_f32, zero_add]
  refine Finset.sum_congr rfl fun k _ => ?_
  rw [val_main_v12_apply]
  exact congrArg₂ (fun a b : EReal => a * b) (ref_centred x w z _) (ref_centred x w z _)
theorem ref_scale (i : S8192x1.Idx) : (val_main_v19 (F := Ideal) x w z i : EReal) = scale (centred (row x w z (i 0).val)) := by
  rw [val_main_v19_apply, val_main_v18_apply, val_main_v16_apply, val_main_v15_apply, val_main_v17_apply, val_main_cst_3_apply, val_main_cst_4_apply]
  exact congrArg (fun a : EReal => Ideal.rsqrt (Ideal.div a (Ideal.ofBits .f32 0x44800000#32) + Ideal.ofBits .f32 0x3727C5AC#32)) (ref_squares x w z i)
theorem ref_normed (i : S8192x1024.Idx) : (val_main_v23 (F := Ideal) x w z i : EReal) = normed (row x w z (i 0).val) (i 1).val := by
  rw [val_main_v23_apply, val_main_v21_apply, val_main_v20_apply, val_main_v22_apply]
  exact congrArg₂ (fun a b : EReal => a * b) (congrArg₂ (fun a b : EReal => a - b) (ref_row x w z i) (ref_mean x w z _)) (ref_scale x w z _)
theorem ref_scaled (i : S8192x1024.Idx) : (val_main_v27 (F := Ideal) x w z g b i : EReal) = scaled (row x w z (i 0).val) (at2 g 0) (at2 b 0) (i 1).val := by
  rw [val_main_v27_apply, val_main_v25_apply, val_main_v24_apply, val_main_v26_apply]
  exact congrArg₂ (fun a b : EReal => a + b) (congrArg₂ (fun a b : EReal => a * b) (ref_normed x w z i) (eq_at2 g _ rfl rfl)) (eq_at2 b _ rfl rfl)

end Reference

/-- The reference's arrays. -/
theorem same_5 : (dats m 0 c).arrAt 5 cfg0.N = Cert.Reference18Ideal.Read.val_main_v27 (F := Ideal) (xs m c) (w m c) (res m c) (gs m c) (bs m c) := by
  funext i
  exact (array_5 i).trans (ref_scaled _ _ _ _ _ i).symm
theorem same_6 : (dats m 0 c).arrAt 6 cfg0.N = Cert.Reference18Ideal.Read.val_main_v23 (F := Ideal) (xs m c) (w m c) (res m c) := by
  funext i
  exact (array_6 i).trans (ref_normed _ _ _ i).symm
theorem same_7 : (dats m 0 c).arrAt 7 cfg0.N = Cert.Reference18Ideal.Read.val_main_v19 (F := Ideal) (xs m c) (w m c) (res m c) := by
  funext i
  exact (array_7 i).trans (ref_scale _ _ _ i).symm
theorem same_8 : (dats m 0 c).arrAt 8 cfg0.N = Cert.Reference18Ideal.Read.val_main_v28 (F := Ideal) (xs m c) (w m c) (res m c) (gs m c) (bs m c) := by
  funext i
  exact (array_8 i).trans (ref_scaled _ _ _ _ _ i).symm

end Cert.Product.OutLn

end
-- ==== Proof.Product.DownLn.lean ====
/-
  THE DOWN PRODUCT WITH THE SECOND NORMALISATION (`down_ln2`): each grid point multiplies 512 rows by the weight, adds the scaled residual and normalises the rows.
-/
module

public import proofs.«01_k».proof.Proof.Product.Norm
public import proofs.«01_k».proof.Proof.Gen.Kernel19Ideal.Value
public import proofs.«01_k».proof.Proof.Gen.Reference19Ideal.Read

@[expose] public section

set_option maxRecDepth 16384

noncomputable section

open Idealize.ShloMosaic Idealize.ShloMosaic.TcCoe Idealize.ShloMosaic.Tactic Idealize.SL.Sem
open Idealize.ShloMosaic.Pipeline (Dat)

namespace Cert.Product.DownLn

open Cert.Kernel19Ideal Cert.Kernel19Ideal.Gen Cert.Kernel19Ideal.Value

variable {m : (ℓ : Loc nD τ sig) → Buf (Elt Ideal) ℓ} {c : Dev nD}

section Body

variable (x0 : Vec Ideal S512x2816 .bf16) (x1 : Vec Ideal S2816x1024 .bf16) (x2 : Vec Ideal S512x1024 .f32) (x3 x4 : Vec Ideal S1x1024 .f32)
  (r : Fin 512) (f : ℕ → EReal)
  (hf : ∀ s : Fin 1024, Ideal.ofBits .f32 0x3F9837F0#32 * (x2 (ix2 r s) : EReal) + ∑ k : Fin 2816, (x0 (ix2 r k) : EReal) * x1 (ix2 k s) = f s.val)
include hf

/-- The row less its mean, in the body. -/
theorem body_1 (s : Fin 1024) : (k0_pay1 x2 x0 x1 (ix2 r s) : EReal) = centred f s.val := by
  have hv : ∀ s : Fin 1024, Ideal.ofBits .f32 0x3F9837F0#32 * (x2 (ix2 r s) : EReal)
      + FloatOps.matmul (DotDims.plain 512 2816 1024) none x0 x1 (constant ⟨2, ![512, 1024]⟩ .f32 0x00000000#32) (ix2 r s) = f s.val := fun s =>
    (congrArg (fun a : EReal => Ideal.ofBits .f32 0x3F9837F0#32 * (x2 (ix2 r s) : EReal) + a) (zero_nn (φ₁ := .bf16) (φ₂ := .bf16) none x0 x1 r s)).trans (hf s)
  unfold k0_pay1
  exact congrArg₂ (fun a b : EReal => a - b) (hv s) ((spread _ _ r s).trans (mean_read _ _ _ _ _ r 0 f hv))
/-- Its reciprocal deviation. -/
theorem body_2 (u : Fin 1) : (k0_pay2 x2 x0 x1 (ix2 r u) : EReal) = scale (centred f) := by
  unfold k0_pay2
  exact congrArg (fun a : EReal => Ideal.rsqrt (a + Ideal.ofBits .f32 0x3727C5AC#32)) (mean_read _ _ _ _ _ r u (fun k => centred f k * centred f k)
    fun k => congrArg₂ (fun a b : EReal => a * b) (body_1 x0 x1 x2 r f hf k) (body_1 x0 x1 x2 r f hf k))
/-- The normalised row. -/
theorem body_3 (s : Fin 1024) : (k0_pay3 x2 x0 x1 (ix2 r s) : EReal) = normed f s.val := by
  unfold k0_pay3
  exact congrArg₂ (fun a b : EReal => a * b) (body_1 x0 x1 x2 r f hf s) ((spread _ _ r s).trans (body_2 x0 x1 x2 r f hf 0))
/-- The normalised row scaled and shifted. -/
theorem body_4 (g h : ℕ → EReal) (hg : ∀ s : Fin 1024, (x3 (ix2 0 s) : EReal) = g s.val) (hh : ∀ s : Fin 1024, (x4 (ix2 0 s) : EReal) = h s.val) (s : Fin 1024) :
    (k0_pay4 x2 x0 x1 x3 x4 (ix2 r s) : EReal) = scaled f g h s.val := by
  unfold k0_pay4
  exact congrArg₂ (fun a b : EReal => a + b) (congrArg₂ (fun a b : EReal => a * b) (body_3 x0 x1 x2 r f hf s)
    ((ValueIdx.broadcastTo_1b_ab_apply _ _ r s).trans (hg s))) ((ValueIdx.broadcastTo_1b_ab_apply _ _ r s).trans (hh s))

end Body

/-- What the body leaves. -/
theorem left_5 (x0 : Vec Ideal S512x2816 .bf16) (x1 : Vec Ideal S2816x1024 .bf16) (x2 : Vec Ideal S512x1024 .f32) (x3 x4 : Vec Ideal S1x1024 .f32) :
    out0_5 x0 x1 x2 x3 x4 = k0_pay4 x2 x0 x1 x3 x4 := by
  unfold out0_5
  rw [View.canon_unit_zero hz]
  simp only [View.ld_unit_zero (S := S512x1024) hz, View.ld_unit_zero (S := S1x1024) hz, View.ld_unit_zero (S := S512x2816) hz, View.ld_unit_zero (S := S2816x1024) hz]
theorem left_6 (x0 : Vec Ideal S512x2816 .bf16) (x1 : Vec Ideal S2816x1024 .bf16) (x2 : Vec Ideal S512x1024 .f32) (x3 x4 : Vec Ideal S1x1024 .f32) :
    out0_6 x0 x1 x2 x3 x4 = k0_pay3 x2 x0 x1 := by
  unfold out0_6
  rw [View.canon_unit_zero hz]
  simp only [View.ld_unit_zero (S := S512x1024) hz, View.ld_unit_zero (S := S1x1024) hz, View.ld_unit_zero (S := S512x2816) hz, View.ld_unit_zero (S := S2816x1024) hz]
theorem left_7 (x0 : Vec Ideal S512x2816 .bf16) (x1 : Vec Ideal S2816x1024 .bf16) (x2 : Vec Ideal S512x1024 .f32) (x3 x4 : Vec Ideal S1x1024 .f32) :
    out0_7 x0 x1 x2 x3 x4 = k0_pay2 x2 x0 x1 := by
  unfold out0_7
  rw [View.canon_unit_zero hz]
  simp only [View.ld_unit_zero (S := S512x1024) hz, View.ld_unit_zero (S := S1x1024) hz, View.ld_unit_zero (S := S512x2816) hz, View.ld_unit_zero (S := S2816x1024) hz]
theorem left_8 (x0 : Vec Ideal S512x2816 .bf16) (x1 : Vec Ideal S2816x1024 .bf16) (x2 : Vec Ideal S512x1024 .f32) (x3 x4 : Vec Ideal S1x1024 .f32) (y : S512x1024.Idx) :
    (out0_8 x0 x1 x2 x3 x4 y : EReal) = (k0_pay4 x2 x0 x1 x3 x4 y : EReal) := by
  unfold out0_8
  rw [View.canon_unit_zero hz]
  simp only [View.ld_unit_zero (S := S512x1024) hz, View.ld_unit_zero (S := S1x1024) hz, View.ld_unit_zero (S := S512x2816) hz, View.ld_unit_zero (S := S2816x1024) hz]
  rfl

theorem rows_0 : ∀ t : Fin cfg0.N, win0_0.index t = ![t.val, 0] := (by decide +kernel : ∀ t : Fin grid0.N, _)
theorem rows_1 : ∀ t : Fin cfg0.N, win0_1.index t = ![0, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![0, 0] := (by decide +kernel : ∀ t : Fin grid0.N, _)
theorem rows_5 : ∀ t : Fin cfg0.N, win0_5.index t = ![t.val, 0] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem rows_8 : ∀ t : Fin cfg0.N, win0_8.index t = ![t.val, 0] := (by decide +kernel : ∀ t : Fin grid0.N, _)
theorem points (t : Fin cfg0.N) : t.val < 16 := t.isLt

/-- The arguments as arrays. -/
abbrev xs (m : (ℓ : Loc nD τ sig) → Buf (Elt Ideal) ℓ) (c : Dev nD) : S8192x2816.Idx → EReal := m ((c : Thread nD τ).loc main_arg0)
abbrev w (m : (ℓ : Loc nD τ sig) → Buf (Elt Ideal) ℓ) (c : Dev nD) : S2816x1024.Idx → EReal := m ((c : Thread nD τ).loc main_arg1)
abbrev res (m : (ℓ : Loc nD τ sig) → Buf (Elt Ideal) ℓ) (c : Dev nD) : S8192x1024.Idx → EReal := m ((c : Thread nD τ).loc main_arg2)
abbrev gs (m : (ℓ : Loc nD τ sig) → Buf (Elt Ideal) ℓ) (c : Dev nD) : S1x1024.Idx → EReal := m ((c : Thread nD τ).loc main_arg3)
abbrev bs (m : (ℓ : Loc nD τ sig) → Buf (Elt Ideal) ℓ) (c : Dev nD) : S1x1024.Idx → EReal := m ((c : Thread nD τ).loc main_arg4)

/-- A row before its normalisation: the scaled residual and the product. -/
def row (x : S8192x2816.Idx → EReal) (w : S2816x1024.Idx → EReal) (z : S8192x1024.Idx → EReal) (a b : ℕ) : EReal :=
  Ideal.ofBits .f32 0x3F9837F0#32 * at2 z a b + ∑ k : Fin 2816, at2 x a k * at2 w k b

theorem block_x (t : Fin cfg0.N) (r : Fin 512) (k : Fin 2816) : iblk m c 0 t (ix2 r k) = at2 (xs m c) (t.val * 512 + r.val) k.val := by
  refine (by blk_simp [iblk] : iblk m c 0 t (ix2 r k) = xs m c (((cfg0.win 0).blk t).view.emb (ix2 r k))).trans (eq_at2 (xs m c) _ ?_ ?_)
  · blk_simp [rows_0 t]
  · blk_simp [rows_0 t]
theorem block_w (t : Fin cfg0.N) (k : Fin 2816) (s : Fin 1024) : iblk m c 1 t (ix2 k s) = at2 (w m c) k.val s.val := by
  refine (by blk_simp [iblk] : iblk m c 1 t (ix2 k s) = w m c (((cfg0.win 1).blk t).view.emb (ix2 k s))).trans (eq_at2 (w m c) _ ?_ ?_)
  · blk_simp [rows_1 t]
  · blk_simp [rows_1 t]
theorem block_r (t : Fin cfg0.N) (r : Fin 512) (s : Fin 1024) : iblk m c 2 t (ix2 r s) = at2 (res m c) (t.val * 512 + r.val) s.val := by
  refine (by blk_simp [iblk] : iblk m c 2 t (ix2 r s) = res m c (((cfg0.win 2).blk t).view.emb (ix2 r s))).trans (eq_at2 (res m c) _ ?_ ?_)
  · blk_simp [rows_2 t]
  · blk_simp [rows_2 t]
theorem block_g (t : Fin cfg0.N) (s : Fin 1024) : iblk m c 3 t (ix2 0 s) = at2 (gs m c) 0 s.val := by
  refine (by blk_simp [iblk] : iblk m c 3 t (ix2 0 s) = gs m c (((cfg0.win 3).blk t).view.emb (ix2 0 s))).trans (eq_at2 (gs m c) _ ?_ ?_)
  · blk_simp [rows_3 t]
    rfl
  · blk_simp [rows_3 t]
theorem block_b (t : Fin cfg0.N) (s : Fin 1024) : iblk m c 4 t (ix2 0 s) = at2 (bs m c) 0 s.val := by
  refine (by blk_simp [iblk] : iblk m c 4 t (ix2 0 s) = bs m c (((cfg0.win 4).blk t).view.emb (ix2 0 s))).trans (eq_at2 (bs m c) _ ?_ ?_)
  · blk_simp [rows_4 t]
    rfl
  · blk_simp [rows_4 t]
/-- The rows of a grid point. -/
theorem block_row (t : Fin cfg0.N) (r : Fin 512) (s : Fin 1024) :
    Ideal.ofBits .f32 0x3F9837F0#32 * (show EReal from iblk m c 2 t (ix2 r s)) + ∑ k : Fin 2816, (show EReal from iblk m c 0 t (ix2 r k)) * (show EReal from iblk m c 1 t (ix2 k s))
      = row (xs m c) (w m c) (res m c) (t.val * 512 + r.val) s.val :=
  congrArg₂ (fun a b : EReal => a + b) (congrArg (fun a : EReal => Ideal.ofBits .f32 0x3F9837F0#32 * a) (block_r t r s))
    (Finset.sum_congr rfl fun k _ => congrArg₂ (fun a b : EReal => a * b) (block_x t r k) (block_w t k s))

/-- The four arrays, element by element. -/
theorem array_5 (i : S8192x1024.Idx) : (dats m 0 c).arrAt 5 cfg0.N i
    = scaled (row (xs m c) (w m c) (res m c) (i 0).val) (at2 (gs m c) 0) (at2 (bs m c) 0) (i 1).val := by
  refine (dats m 0 c).arrAt_forall_of_covers 5 (fun i v => v = scaled (row (xs m c) (w m c) (res m c) (i 0).val) (at2 (gs m c) 0) (at2 (bs m c) 0) (i 1).val)
    (by decide +kernel) (fun t hf y => ?_) i
  have ht := points t
  blk_simp [rows_5 t]
  rw [after0_5]
  idx_bounds y
  exact (congrArg _ (eq_ix2 (n0 := 512) (n1 := 1024) y)).trans ((congrFun (left_5 _ _ _ _ _) _).trans
    (body_4 _ _ _ _ _ (y 0) _ (block_row t (y 0)) _ _ (block_g t) (block_b t) (y 1)))
theorem array_6 (i : S8192x1024.Idx) : (dats m 0 c).arrAt 6 cfg0.N i = normed (row (xs m c) (w m c) (res m c) (i 0).val) (i 1).val := by
  refine (dats m 0 c).arrAt_forall_of_covers 6 (fun i v => v = normed (row (xs m c) (w m c) (res m c) (i 0).val) (i 1).val)
    (by decide +kernel) (fun t hf y => ?_) i
  have ht := points t
  blk_simp [rows_6 t]
  rw [after0_6]
  idx_bounds y
  exact (congrArg _ (eq_ix2 (n0 := 512) (n1 := 1024) y)).trans ((congrFun (left_6 _ _ _ _ _) _).trans (body_3 _ _ _ (y 0) _ (block_row t (y 0)) (y 1)))
theorem array_7 (i : S8192x1.Idx) : (dats m 0 c).arrAt 7 cfg0.N i = scale (centred (row (xs m c) (w m c) (res m c) (i 0).val)) := by
  refine (dats m 0 c).arrAt_forall_of_covers 7 (fun i v => v = scale (centred (row (xs m c) (w m c) (res m c) (i 0).val)))
    (by decide +kernel) (fun t hf y => ?_) i
  have ht := points t
  blk_simp [rows_7 t]
  rw [after0_7]
  idx_bounds y
  exact (congrArg _ (eq_ix2 (n0 := 512) (n1 := 1) y)).trans ((congrFun (left_7 _ _ _ _ _) _).trans (body_2 _ _ _ (y 0) _ (block_row t (y 0)) (y 1)))
theorem array_8 (i : S8192x1024.Idx) : (dats m 0 c).arrAt 8 cfg0.N i
    = scaled (row (xs m c) (w m c) (res m c) (i 0).val) (at2 (gs m c) 0) (at2 (bs m c) 0) (i 1).val := by
  refine (dats m 0 c).arrAt_forall_of_covers 8 (fun i v => v = scaled (row (xs m c) (w m c) (res m c) (i 0).val) (at2 (gs m c) 0) (at2 (bs m c) 0) (i 1).val)
    (by decide +kernel) (fun t hf y => ?_) i
  have ht := points t
  blk_simp [rows_8 t]
  rw [after0_8]
  idx_bounds y
  exact (congrArg _ (eq_ix2 (n0 := 512) (n1 := 1024) y)).trans ((left_8 _ _ _ _ _ _).trans
    (body_4 _ _ _ _ _ (y 0) _ (block_row t (y 0)) _ _ (block_g t) (block_b t) (y 1)))

section Reference

open Cert.Reference19Ideal.Read

variable (x : S8192x2816.Idx → EReal) (w : S2816x1024.Idx → EReal) (z : S8192x1024.Idx → EReal) (g b : S1x1024.Idx → EReal)

/-- The reference's rows. -/
theorem ref_row (i : S8192x1024.Idx) : (val_main_v5 (F := Ideal) x w z i : EReal) = row x w z (i 0).val (i 1).val :=
  congrArg₂ (fun a b : EReal => a + b) (congrArg (fun a : EReal => Ideal.ofBits .f32 0x3F9837F0#32 * a) (at2_val z i).symm)
    ((val_main_v4_apply x w i).trans (Finset.sum_congr rfl fun k _ => congrArg₂ (fun a b : EReal => a * b) (eq_at2 x _ rfl rfl) (eq_at2 w _ rfl rfl)))
theorem ref_sum (i : S8192x1.Idx) : (val_main_v7 (F := Ideal) x w z i : EReal) = ∑ k : Fin 1024, row x w z (i 0).val k.val := by
  rw [val_main_v7_apply, val_main_v6_apply, val_main_cst_0_apply]
  show Ideal.ofBits .f32 0x00000000#32 + _ = _
  rw [Ideal.ofBits_zero_f32, zero_add]
  exact Finset.sum_congr rfl fun k _ => ref_row x w z _
theorem ref_mean (i : S8192x1.Idx) : (val_main_v9 (F := Ideal) x w z i : EReal) = mean (row x w z (i 0).val) := by
  rw [val_main_v9_apply, val_main_v8_apply, val_main_cst_1_apply]
  exact congrArg (fun a : EReal => Ideal.div a (Ideal.ofBits .f32 0x44800000#32)) (ref_sum x w z i)
theorem ref_centred (i : S8192x1024.Idx) : (val_main_v11 (F := Ideal) x w z i : EReal) = centred (row x w z (i 0).val) (i 1).val := by
  rw [val_main_v11_apply, val_main_v10_apply]
  exact congrArg₂ (fun a b : EReal => a - b) (ref_row x w z i) (ref_mean x w z _)
theorem ref_squares (i : S8192x1.Idx) : (val_main_v14 (F := Ideal) x w z i : EReal)
    = ∑ k : Fin 1024, centred (row x w z (i 0).val) k.val * centred (row x w z (i 0).val) k.val := by
  rw [val_main_v14_apply, val_main_v13_apply, val_main_cst_2_apply]
  show Ideal.ofBits .f32 0x00000000#32 + _ = _
  rw [Ideal.ofBits_zero_f32, zero_add]
  refine Finset.sum_congr rfl fun k _ => ?_
  rw [val_main_v12_apply]
  exact congrArg₂ (fun a b : EReal => a * b) (ref_centred x w z _) (ref_centred x w z _)
theorem ref_scale (i : S8192x1.Idx) : (val_main_v19 (F := Ideal) x w z i : EReal) = scale (centred (row x w z (i 0).val)) := by
  rw [val_main_v19_apply, val_main_v18_apply, val_main_v16_apply, val_main_v15_apply, val_main_v17_apply, val_main_cst_3_apply, val_main_cst_4_apply]
  exact congrArg (fun a : EReal => Ideal.rsqrt (Ideal.div a (Ideal.ofBits .f32 0x44800000#32) + Ideal.ofBits .f32 0x3727C5AC#32)) (ref_squares x w z i)
theorem ref_normed (i : S8192x1024.Idx) : (val_main_v23 (F := Ideal) x w z i : EReal) = normed (row x w z (i 0).val) (i 1).val := by
  rw [val_main_v23_apply, val_main_v21_apply, val_main_v20_apply, val_main_v22_apply]
  exact congrArg₂ (fun a b : EReal => a * b) (congrArg₂ (fun a b : EReal => a - b) (ref_row x w z i) (ref_mean x w z _)) (ref_scale x w z _)
theorem ref_scaled (i : S8192x1024.Idx) : (val_main_v27 (F := Ideal) x w z g b i : EReal) = scaled (row x w z (i 0).val) (at2 g 0) (at2 b 0) (i 1).val := by
  rw [val_main_v27_apply, val_main_v25_apply, val_main_v24_apply, val_main_v26_apply]
  exact congrArg₂ (fun a b : EReal => a + b) (congrArg₂ (fun a b : EReal => a * b) (ref_normed x w z i) (eq_at2 g _ rfl rfl)) (eq_at2 b _ rfl rfl)

end Reference

/-- The reference's arrays. -/
theorem same_5 : (dats m 0 c).arrAt 5 cfg0.N = Cert.Reference19Ideal.Read.val_main_v27 (F := Ideal) (xs m c) (w m c) (res m c) (gs m c) (bs m c) := by
  funext i
  exact (array_5 i).trans (ref_scaled _ _ _ _ _ i).symm
theorem same_6 : (dats m 0 c).arrAt 6 cfg0.N = Cert.Reference19Ideal.Read.val_main_v23 (F := Ideal) (xs m c) (w m c) (res m c) := by
  funext i
  exact (array_6 i).trans (ref_normed _ _ _ i).symm
theorem same_7 : (dats m 0 c).arrAt 7 cfg0.N = Cert.Reference19Ideal.Read.val_main_v19 (F := Ideal) (xs m c) (w m c) (res m c) := by
  funext i
  exact (array_7 i).trans (ref_scale _ _ _ i).symm
theorem same_8 : (dats m 0 c).arrAt 8 cfg0.N = Cert.Reference19Ideal.Read.val_main_v28 (F := Ideal) (xs m c) (w m c) (res m c) (gs m c) (bs m c) := by
  funext i
  exact (array_8 i).trans (ref_scaled _ _ _ _ _ i).symm

end Cert.Product.DownLn

end
-- ==== Proof.Adam.Step.lean ====
/-
  ONE ADAMW STEP, over the extended reals: of one entry of a weight, and the sum of the parts that the devices hold of its gradient. No
  program is named here.
-/
module

public import proofs.«01_k».proof.Proof.Product.Sums

@[expose] public section

noncomputable section

open Idealize.ShloMosaic Idealize.ShloMosaic.Tactic

namespace Cert.Adam

/-- The new first moment of an entry, from its gradient and the old moment. -/
def first (g m : EReal) : EReal := Ideal.ofBits .f32 0x3F666666#32 * m + Ideal.ofBits .f32 0x3DCCCCCD#32 * g
/-- The new second moment. -/
def second (g v : EReal) : EReal := Ideal.ofBits .f32 0x3F7FBE77#32 * v + Ideal.ofBits .f32 0x3A83126F#32 * (g * g)
/-- The update of the entry. -/
def update (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

/-- An element of an array by its three coordinates as numbers; zero outside. -/
def at3 {n0 n1 n2 : ℕ} (x : (⟨3, ![n0, n1, n2]⟩ : Shape).Idx → EReal) (i j k : ℕ) : EReal :=
  if h : i < n0 ∧ j < n1 ∧ k < n2 then x (ix3 ⟨i, h.1⟩ ⟨j, h.2.1⟩ ⟨k, h.2.2⟩) else 0

/-- An element whose coordinates are known. -/
theorem eq_at3 {n0 n1 n2 : ℕ} (x : (⟨3, ![n0, n1, n2]⟩ : Shape).Idx → EReal) (y : (⟨3, ![n0, n1, n2]⟩ : Shape).Idx) {i j k : ℕ}
    (hi : (y 0).val = i) (hj : (y 1).val = j) (hk : (y 2).val = k) : x y = at3 x i j k := by
  subst hi hj hk
  unfold at3
  rw [dif_pos ⟨(y 0).isLt, (y 1).isLt, (y 2).isLt⟩]
  exact congrArg x (eq_ix3 y)

/-- One device's part, read on its own. -/
theorem part {n a b : ℕ} {e : EltTy} (x : Vec Ideal ⟨3, ![n, a, b]⟩ e) {k : ℕ} (hk : k < n)
    (inb : ∀ d, (![k, 0, 0] : Fin 3 → ℕ) d + (⟨3, ![1, a, b]⟩ : Shape).size d ≤ (⟨3, ![n, a, b]⟩ : Shape).size d)
    (h : (⟨3, ![1, a, b]⟩ : Shape).ShapeCasts ⟨2, ![a, b]⟩) (r : Fin a) (s : Fin b) :
    shapeCast ⟨2, ![a, b]⟩ (View.ld x (Rect.unit (s := ⟨3, ![n, a, b]⟩) ![k, 0, 0] (⟨3, ![1, a, b]⟩ : Shape).size inb)) h (ix2 r s)
      = x (ix3 ⟨k, hk⟩ r s) := by
  refine (ValueIdx.shapeCast_1ab_ab_apply _ h r s).trans (congrArg x (funext fun d => Fin.ext ?_))
  match d with
  | ⟨0, _⟩ => show k + 1 * 0 = k; omega
  | ⟨1, _⟩ => show 0 + 1 * r.val = r.val; omega
  | ⟨2, _⟩ => show 0 + 1 * s.val = s.val; omega

end Cert.Adam

end
-- ==== Proof.Adam.WIn.lean ====
/-
  THE OPTIMISER CALL `adamw_w_in`: each grid point sums the eight parts of 128 rows of the gradient and makes the step of these rows.
-/
module

public import proofs.«01_k».proof.Proof.Adam.Step
public import proofs.«01_k».proof.Proof.Gen.Kernel20Ideal.Value
public import proofs.«01_k».proof.Proof.Gen.Reference20Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.WIn

open Cert.Kernel20Ideal Cert.Kernel20Ideal.Gen Cert.Kernel20Ideal.Value

variable {m : (ℓ : Loc nD τ sig) → Buf (Elt Ideal) ℓ} {c : Dev nD}

/-- The gradient that the body leaves: the eight parts summed. -/
theorem left_grad (x0 : Vec Ideal S128x641 .f32) (x1 : Vec Ideal S8x128x641 .bf16) (x2 x3 : Vec Ideal S128x641 .f32) (r : Fin 128) (s : Fin 641) :
    k0_pay5 x0 x1 x2 x3 (ix2 r s) = ∑ k : Fin 8, x1 (ix3 k r s) := by
  unfold k0_pay5 k0_pay4
  refine Eq.trans ?_ (Fin.sum_univ_eight fun k : Fin 8 => (x1 (ix3 k r s) : EReal)).symm
  have p (k : ℕ) (hk : k < 8) inb h := part (n := 8) (a := 128) (b := 641) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S128x641 .f32) (x1 : Vec Ideal S8x128x641 .bf16) (x2 x3 : Vec Ideal S128x641 .f32) : out0_4 x0 x1 x2 x3 = k0_pay5 x0 x1 x2 x3 := by
  unfold out0_4
  rw [View.canon_unit_zero hz]
/-- The moments and the update that it leaves, from that gradient. -/
theorem left_6 (x0 : Vec Ideal S128x641 .f32) (x1 : Vec Ideal S8x128x641 .bf16) (x2 x3 : Vec Ideal S128x641 .f32) (y : S128x641.Idx) :
    out0_6 x0 x1 x2 x3 y = first (k0_pay5 x0 x1 x2 x3 y) (x2 y) := by
  unfold out0_6
  rw [View.canon_unit_zero hz]
  simp only [View.ld_unit_zero (S := S128x641) hz]
  rfl
theorem left_7 (x0 : Vec Ideal S128x641 .f32) (x1 : Vec Ideal S8x128x641 .bf16) (x2 x3 : Vec Ideal S128x641 .f32) (y : S128x641.Idx) :
    out0_7 x0 x1 x2 x3 y = second (k0_pay5 x0 x1 x2 x3 y) (x3 y) := by
  unfold out0_7
  rw [View.canon_unit_zero hz]
  simp only [View.ld_unit_zero (S := S128x641) hz]
  rfl
theorem left_5 (x0 : Vec Ideal S128x641 .f32) (x1 : Vec Ideal S8x128x641 .bf16) (x2 x3 : Vec Ideal S128x641 .f32) (y : S128x641.Idx) :
    out0_5 x0 x1 x2 x3 y = update (k0_pay5 x0 x1 x2 x3 y) (x0 y) (x2 y) (x3 y) := by
  unfold out0_5
  rw [View.canon_unit_zero hz]
  simp only [View.ld_unit_zero (S := S128x641) hz]
  rfl

theorem rows_0 : ∀ t : Fin cfg0.N, win0_0.index t = ![t.val, 0] := (by decide +kernel : ∀ t : Fin grid0.N, _)
theorem rows_1 : ∀ t : Fin cfg0.N, win0_1.index t = ![0, t.val, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![t.val, 0] := (by decide +kernel : ∀ t : Fin grid0.N, _)
theorem rows_4 : ∀ t : Fin cfg0.N, win0_4.index t = ![t.val, 0] := (by decide +kernel : ∀ t : Fin grid0.N, _)
theorem rows_5 : ∀ t : Fin cfg0.N, win0_5.index t = ![t.val, 0] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem points (t : Fin cfg0.N) : t.val < 8 := t.isLt

/-- The arguments as arrays. -/
abbrev w (m : (ℓ : Loc nD τ sig) → Buf (Elt Ideal) ℓ) (c : Dev nD) : S1024x641.Idx → EReal := m ((c : Thread nD τ).loc main_arg0)
abbrev parts (m : (ℓ : Loc nD τ sig) → Buf (Elt Ideal) ℓ) (c : Dev nD) : S8x1024x641.Idx → EReal := m ((c : Thread nD τ).loc main_arg1)
abbrev mom (m : (ℓ : Loc nD τ sig) → Buf (Elt Ideal) ℓ) (c : Dev nD) : S1024x641.Idx → EReal := m ((c : Thread nD τ).loc main_arg2)
abbrev var (m : (ℓ : Loc nD τ sig) → Buf (Elt Ideal) ℓ) (c : Dev nD) : S1024x641.Idx → EReal := m ((c : Thread nD τ).loc main_arg3)

/-- The gradient at an entry. -/
def grad (p : S8x1024x641.Idx → EReal) (a b : ℕ) : EReal := ∑ k : Fin 8, at3 p k a b

theorem block_w (t : Fin cfg0.N) (r : Fin 128) (s : Fin 641) : iblk m c 0 t (ix2 r s) = at2 (w m c) (t.val * 128 + r.val) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 128) (s : Fin 641) : iblk m c 2 t (ix2 r s) = at2 (mom m c) (t.val * 128 + r.val) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 128) (s : Fin 641) : iblk m c 3 t (ix2 r s) = at2 (var m c) (t.val * 128 + r.val) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 128) (s : Fin 641) : iblk m c 1 t (ix3 k r s) = at3 (parts m c) k.val (t.val * 128 + r.val) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 128) (s : Fin 641) :
    k0_pay5 (iblk m c 0 t) (iblk m c 1 t) (iblk m c 2 t) (iblk m c 3 t) (ix2 r s) = grad (parts m c) (t.val * 128 + r.val) s.val :=
  (left_grad _ _ _ _ r s).trans (Finset.sum_congr rfl fun k _ => block_p t k r s)

/-- The four arrays, entry by entry. -/
theorem array_4 (i : S1024x641.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 128) (n1 := 641) y)).trans ((congrFun (left_4 _ _ _ _) _).trans (block_grad t (y 0) (y 1)))
theorem array_6 (i : S1024x641.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 128) (n1 := 641) y)).trans ((left_6 _ _ _ _ _).trans (congrArg₂ first (block_grad t (y 0) (y 1)) (block_m t (y 0) (y 1))))
theorem array_7 (i : S1024x641.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 128) (n1 := 641) y)).trans ((left_7 _ _ _ _ _).trans (congrArg₂ second (block_grad t (y 0) (y 1)) (block_v t (y 0) (y 1))))
theorem array_5 (i : S1024x641.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 128) (n1 := 641) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x1024x641.Idx → EReal) (i : S1024x641.Idx) : (Cert.Reference20Ideal.Read.val_main_v1 (F := Ideal) p i : EReal) = grad p (i 0).val (i 1).val := by
  refine (Cert.Reference20Ideal.Read.val_main_v1_apply p i).trans ?_
  rw [Cert.Reference20Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference20Ideal.Read.val_main_v1 (F := Ideal) (parts m c) := by
  funext i
  exact (array_4 i).trans (reference (parts m c) i).symm
theorem m_same : (dats m 0 c).arrAt 6 cfg0.N = Cert.Reference20Ideal.Read.val_main_v6 (F := Ideal) (parts m c) (mom m c) := by
  funext i
  refine (array_6 i).trans ?_
  rw [← reference (parts m c) i, at2_val (mom m c) i]
  rfl
theorem v_same : (dats m 0 c).arrAt 7 cfg0.N = Cert.Reference20Ideal.Read.val_main_v12 (F := Ideal) (parts m c) (var m c) := by
  funext i
  refine (array_7 i).trans ?_
  rw [← reference (parts m c) i, at2_val (var m c) i]
  rfl
theorem delta_same : (dats m 0 c).arrAt 5 cfg0.N = Cert.Reference20Ideal.Read.val_main_v25 (F := Ideal) (w m c) (parts m c) (mom m c) (var m c) := by
  funext i
  refine (array_5 i).trans ?_
  rw [← reference (parts m c) i, at2_val (w m c) i, at2_val (mom m c) i, at2_val (var m c) i]
  rfl

end Cert.Adam.WIn

end
-- ==== Proof.Adam.BIn.lean ====
/-
  THE OPTIMISER CALL `adamw_b_in`: one grid point sums the eight parts of the gradient and makes the step.
-/
module

public import proofs.«01_k».proof.Proof.Adam.Step
public import proofs.«01_k».proof.Proof.Gen.Kernel21Ideal.Value
public import proofs.«01_k».proof.Proof.Gen.Reference21Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.BIn

open Cert.Kernel21Ideal Cert.Kernel21Ideal.Gen Cert.Kernel21Ideal.Value

variable {m : (ℓ : Loc nD τ sig) → Buf (Elt Ideal) ℓ} {c : Dev nD}

/-- The gradient that the body leaves: the eight parts summed. -/
theorem left_grad (x0 : Vec Ideal S1x5128 .f32) (x1 : Vec Ideal S8x1x5128 .f32) (x2 x3 : Vec Ideal S1x5128 .f32) (r : Fin 1) (s : Fin 5128) :
    k0_pay5 x0 x1 x2 x3 (ix2 r s) = ∑ k : Fin 8, x1 (ix3 k r s) := by
  unfold k0_pay5 k0_pay3
  refine Eq.trans ?_ (Fin.sum_univ_eight fun k : Fin 8 => (x1 (ix3 k r s) : EReal)).symm
  have p (k : ℕ) (hk : k < 8) inb h := part (n := 8) (a := 1) (b := 5128) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S1x5128 .f32) (x1 : Vec Ideal S8x1x5128 .f32) (x2 x3 : Vec Ideal S1x5128 .f32) : out0_4 x0 x1 x2 x3 = k0_pay5 x0 x1 x2 x3 := by
  unfold out0_4
  rw [View.canon_unit_zero hz]
/-- The moments and the update that it leaves, from that gradient. -/
theorem left_6 (x0 : Vec Ideal S1x5128 .f32) (x1 : Vec Ideal S8x1x5128 .f32) (x2 x3 : Vec Ideal S1x5128 .f32) (y : S1x5128.Idx) :
    out0_6 x0 x1 x2 x3 y = first (k0_pay5 x0 x1 x2 x3 y) (x2 y) := by
  unfold out0_6
  rw [View.canon_unit_zero hz]
  unfold k0_pay6
  simp only [View.ld_unit_zero (S := S1x5128) hz]
  rfl
theorem left_7 (x0 : Vec Ideal S1x5128 .f32) (x1 : Vec Ideal S8x1x5128 .f32) (x2 x3 : Vec Ideal S1x5128 .f32) (y : S1x5128.Idx) :
    out0_7 x0 x1 x2 x3 y = second (k0_pay5 x0 x1 x2 x3 y) (x3 y) := by
  unfold out0_7
  rw [View.canon_unit_zero hz]
  simp only [View.ld_unit_zero (S := S1x5128) hz]
  rfl
theorem left_5 (x0 : Vec Ideal S1x5128 .f32) (x1 : Vec Ideal S8x1x5128 .f32) (x2 x3 : Vec Ideal S1x5128 .f32) (y : S1x5128.Idx) :
    out0_5 x0 x1 x2 x3 y = update (k0_pay5 x0 x1 x2 x3 y) (x0 y) (x2 y) (x3 y) := by
  unfold out0_5
  rw [View.canon_unit_zero hz]
  unfold k0_pay6
  simp only [View.ld_unit_zero (S := S1x5128) hz]
  rfl

theorem rows_0 : ∀ t : Fin cfg0.N, win0_0.index t = ![0, 0] := (by decide +kernel : ∀ t : Fin grid0.N, _)
theorem rows_1 : ∀ t : Fin cfg0.N, win0_1.index t = ![0, 0, 0] := (by decide +kernel : ∀ t : Fin grid0.N, _)
theorem rows_2 : ∀ t : Fin cfg0.N, win0_2.index t = ![0, 0] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![0, 0] := (by decide +kernel : ∀ t : Fin grid0.N, _)
theorem rows_5 : ∀ t : Fin cfg0.N, win0_5.index t = ![0, 0] := (by decide +kernel : ∀ t : Fin grid0.N, _)
theorem rows_6 : ∀ t : Fin cfg0.N, win0_6.index t = ![0, 0] := (by decide +kernel : ∀ t : Fin grid0.N, _)
theorem rows_7 : ∀ t : Fin cfg0.N, win0_7.index t = ![0, 0] := (by decide +kernel : ∀ t : Fin grid0.N, _)
theorem points (t : Fin cfg0.N) : t.val < 1 := t.isLt

/-- The arguments as arrays. -/
abbrev w (m : (ℓ : Loc nD τ sig) → Buf (Elt Ideal) ℓ) (c : Dev nD) : S1x5128.Idx → EReal := m ((c : Thread nD τ).loc main_arg0)
abbrev parts (m : (ℓ : Loc nD τ sig) → Buf (Elt Ideal) ℓ) (c : Dev nD) : S8x1x5128.Idx → EReal := m ((c : Thread nD τ).loc main_arg1)
abbrev mom (m : (ℓ : Loc nD τ sig) → Buf (Elt Ideal) ℓ) (c : Dev nD) : S1x5128.Idx → EReal := m ((c : Thread nD τ).loc main_arg2)
abbrev var (m : (ℓ : Loc nD τ sig) → Buf (Elt Ideal) ℓ) (c : Dev nD) : S1x5128.Idx → EReal := m ((c : Thread nD τ).loc main_arg3)

/-- The gradient at an entry. -/
def grad (p : S8x1x5128.Idx → EReal) (a b : ℕ) : EReal := ∑ k : Fin 8, at3 p k a b

theorem block_w (t : Fin cfg0.N) (r : Fin 1) (s : Fin 5128) : iblk m c 0 t (ix2 r s) = at2 (w m c) (0) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 1) (s : Fin 5128) : iblk m c 2 t (ix2 r s) = at2 (mom m c) (0) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 1) (s : Fin 5128) : iblk m c 3 t (ix2 r s) = at2 (var m c) (0) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 1) (s : Fin 5128) : iblk m c 1 t (ix3 k r s) = at3 (parts m c) k.val (0) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 1) (s : Fin 5128) :
    k0_pay5 (iblk m c 0 t) (iblk m c 1 t) (iblk m c 2 t) (iblk m c 3 t) (ix2 r s) = grad (parts m c) (0) s.val :=
  (left_grad _ _ _ _ r s).trans (Finset.sum_congr rfl fun k _ => block_p t k r s)

/-- The four arrays, entry by entry. -/
theorem array_4 (i : S1x5128.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 1) (n1 := 5128) y)).trans ((congrFun (left_4 _ _ _ _) _).trans (block_grad t (y 0) (y 1)))
theorem array_6 (i : S1x5128.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 1) (n1 := 5128) y)).trans ((left_6 _ _ _ _ _).trans (congrArg₂ first (block_grad t (y 0) (y 1)) (block_m t (y 0) (y 1))))
theorem array_7 (i : S1x5128.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 1) (n1 := 5128) y)).trans ((left_7 _ _ _ _ _).trans (congrArg₂ second (block_grad t (y 0) (y 1)) (block_v t (y 0) (y 1))))
theorem array_5 (i : S1x5128.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 1) (n1 := 5128) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x1x5128.Idx → EReal) (i : S1x5128.Idx) : (Cert.Reference21Ideal.Read.val_main_v0 (F := Ideal) p i : EReal) = grad p (i 0).val (i 1).val := by
  refine (Cert.Reference21Ideal.Read.val_main_v0_apply p i).trans ?_
  rw [Cert.Reference21Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference21Ideal.Read.val_main_v0 (F := Ideal) (parts m c) := by
  funext i
  exact (array_4 i).trans (reference (parts m c) i).symm
theorem m_same : (dats m 0 c).arrAt 6 cfg0.N = Cert.Reference21Ideal.Read.val_main_v5 (F := Ideal) (parts m c) (mom m c) := by
  funext i
  refine (array_6 i).trans ?_
  rw [← reference (parts m c) i, at2_val (mom m c) i]
  rfl
theorem v_same : (dats m 0 c).arrAt 7 cfg0.N = Cert.Reference21Ideal.Read.val_main_v11 (F := Ideal) (parts m c) (var m c) := by
  funext i
  refine (array_7 i).trans ?_
  rw [← reference (parts m c) i, at2_val (var m c) i]
  rfl
theorem delta_same : (dats m 0 c).arrAt 5 cfg0.N = Cert.Reference21Ideal.Read.val_main_v24 (F := Ideal) (w m c) (parts m c) (mom m c) (var m c) := by
  funext i
  refine (array_5 i).trans ?_
  rw [← reference (parts m c) i, at2_val (w m c) i, at2_val (mom m c) i, at2_val (var m c) i]
  rfl

end Cert.Adam.BIn

end
-- ==== Proof.Adam.WProj.lean ====
/-
  THE OPTIMISER CALL `adamw_w_proj_sb and adamw_w_proj_fox`: each grid point sums the eight parts of 128 rows of the gradient and makes the step of these rows.
-/
module

public import proofs.«01_k».proof.Proof.Adam.Step
public import proofs.«01_k».proof.Proof.Gen.Kernel22Ideal.Value
public import proofs.«01_k».proof.Proof.Gen.Reference22Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.WProj

open Cert.Kernel22Ideal Cert.Kernel22Ideal.Gen Cert.Kernel22Ideal.Value

variable {m : (ℓ : Loc nD τ sig) → Buf (Elt Ideal) ℓ} {c : Dev nD}

/-- The gradient that the body leaves: the eight parts summed. -/
theorem left_grad (x0 : Vec Ideal S128x128 .f32) (x1 : Vec Ideal S8x128x128 .bf16) (x2 x3 : Vec Ideal S128x128 .f32) (r : Fin 128) (s : Fin 128) :
    k0_pay5 x0 x1 x2 x3 (ix2 r s) = ∑ k : Fin 8, x1 (ix3 k r s) := by
  unfold k0_pay5 k0_pay4
  refine Eq.trans ?_ (Fin.sum_univ_eight fun k : Fin 8 => (x1 (ix3 k r s) : EReal)).symm
  have p (k : ℕ) (hk : k < 8) inb h := part (n := 8) (a := 128) (b := 128) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S128x128 .f32) (x1 : Vec Ideal S8x128x128 .bf16) (x2 x3 : Vec Ideal S128x128 .f32) : out0_4 x0 x1 x2 x3 = k0_pay5 x0 x1 x2 x3 := by
  unfold out0_4
  rw [View.canon_unit_zero hz]
/-- The moments and the update that it leaves, from that gradient. -/
theorem left_6 (x0 : Vec Ideal S128x128 .f32) (x1 : Vec Ideal S8x128x128 .bf16) (x2 x3 : Vec Ideal S128x128 .f32) (y : S128x128.Idx) :
    out0_6 x0 x1 x2 x3 y = first (k0_pay5 x0 x1 x2 x3 y) (x2 y) := by
  unfold out0_6
  rw [View.canon_unit_zero hz]
  simp only [View.ld_unit_zero (S := S128x128) hz]
  rfl
theorem left_7 (x0 : Vec Ideal S128x128 .f32) (x1 : Vec Ideal S8x128x128 .bf16) (x2 x3 : Vec Ideal S128x128 .f32) (y : S128x128.Idx) :
    out0_7 x0 x1 x2 x3 y = second (k0_pay5 x0 x1 x2 x3 y) (x3 y) := by
  unfold out0_7
  rw [View.canon_unit_zero hz]
  simp only [View.ld_unit_zero (S := S128x128) hz]
  rfl
theorem left_5 (x0 : Vec Ideal S128x128 .f32) (x1 : Vec Ideal S8x128x128 .bf16) (x2 x3 : Vec Ideal S128x128 .f32) (y : S128x128.Idx) :
    out0_5 x0 x1 x2 x3 y = update (k0_pay5 x0 x1 x2 x3 y) (x0 y) (x2 y) (x3 y) := by
  unfold out0_5
  rw [View.canon_unit_zero hz]
  simp only [View.ld_unit_zero (S := S128x128) hz]
  rfl

theorem rows_0 : ∀ t : Fin cfg0.N, win0_0.index t = ![t.val, 0] := (by decide +kernel : ∀ t : Fin grid0.N, _)
theorem rows_1 : ∀ t : Fin cfg0.N, win0_1.index t = ![0, t.val, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![t.val, 0] := (by decide +kernel : ∀ t : Fin grid0.N, _)
theorem rows_4 : ∀ t : Fin cfg0.N, win0_4.index t = ![t.val, 0] := (by decide +kernel : ∀ t : Fin grid0.N, _)
theorem rows_5 : ∀ t : Fin cfg0.N, win0_5.index t = ![t.val, 0] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem points (t : Fin cfg0.N) : t.val < 4 := t.isLt

/-- The arguments as arrays. -/
abbrev w (m : (ℓ : Loc nD τ sig) → Buf (Elt Ideal) ℓ) (c : Dev nD) : S512x128.Idx → EReal := m ((c : Thread nD τ).loc main_arg0)
abbrev parts (m : (ℓ : Loc nD τ sig) → Buf (Elt Ideal) ℓ) (c : Dev nD) : S8x512x128.Idx → EReal := m ((c : Thread nD τ).loc main_arg1)
abbrev mom (m : (ℓ : Loc nD τ sig) → Buf (Elt Ideal) ℓ) (c : Dev nD) : S512x128.Idx → EReal := m ((c : Thread nD τ).loc main_arg2)
abbrev var (m : (ℓ : Loc nD τ sig) → Buf (Elt Ideal) ℓ) (c : Dev nD) : S512x128.Idx → EReal := m ((c : Thread nD τ).loc main_arg3)

/-- The gradient at an entry. -/
def grad (p : S8x512x128.Idx → EReal) (a b : ℕ) : EReal := ∑ k : Fin 8, at3 p k a b

theorem block_w (t : Fin cfg0.N) (r : Fin 128) (s : Fin 128) : iblk m c 0 t (ix2 r s) = at2 (w m c) (t.val * 128 + r.val) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 128) (s : Fin 128) : iblk m c 2 t (ix2 r s) = at2 (mom m c) (t.val * 128 + r.val) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 128) (s : Fin 128) : iblk m c 3 t (ix2 r s) = at2 (var m c) (t.val * 128 + r.val) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 128) (s : Fin 128) : iblk m c 1 t (ix3 k r s) = at3 (parts m c) k.val (t.val * 128 + r.val) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 128) (s : Fin 128) :
    k0_pay5 (iblk m c 0 t) (iblk m c 1 t) (iblk m c 2 t) (iblk m c 3 t) (ix2 r s) = grad (parts m c) (t.val * 128 + r.val) s.val :=
  (left_grad _ _ _ _ r s).trans (Finset.sum_congr rfl fun k _ => block_p t k r s)

/-- The four arrays, entry by entry. -/
theorem array_4 (i : S512x128.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 128) (n1 := 128) y)).trans ((congrFun (left_4 _ _ _ _) _).trans (block_grad t (y 0) (y 1)))
theorem array_6 (i : S512x128.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 128) (n1 := 128) y)).trans ((left_6 _ _ _ _ _).trans (congrArg₂ first (block_grad t (y 0) (y 1)) (block_m t (y 0) (y 1))))
theorem array_7 (i : S512x128.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 128) (n1 := 128) y)).trans ((left_7 _ _ _ _ _).trans (congrArg₂ second (block_grad t (y 0) (y 1)) (block_v t (y 0) (y 1))))
theorem array_5 (i : S512x128.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 128) (n1 := 128) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x512x128.Idx → EReal) (i : S512x128.Idx) : (Cert.Reference22Ideal.Read.val_main_v1 (F := Ideal) p i : EReal) = grad p (i 0).val (i 1).val := by
  refine (Cert.Reference22Ideal.Read.val_main_v1_apply p i).trans ?_
  rw [Cert.Reference22Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference22Ideal.Read.val_main_v1 (F := Ideal) (parts m c) := by
  funext i
  exact (array_4 i).trans (reference (parts m c) i).symm
theorem m_same : (dats m 0 c).arrAt 6 cfg0.N = Cert.Reference22Ideal.Read.val_main_v6 (F := Ideal) (parts m c) (mom m c) := by
  funext i
  refine (array_6 i).trans ?_
  rw [← reference (parts m c) i, at2_val (mom m c) i]
  rfl
theorem v_same : (dats m 0 c).arrAt 7 cfg0.N = Cert.Reference22Ideal.Read.val_main_v12 (F := Ideal) (parts m c) (var m c) := by
  funext i
  refine (array_7 i).trans ?_
  rw [← reference (parts m c) i, at2_val (var m c) i]
  rfl
theorem delta_same : (dats m 0 c).arrAt 5 cfg0.N = Cert.Reference22Ideal.Read.val_main_v25 (F := Ideal) (w m c) (parts m c) (mom m c) (var m c) := by
  funext i
  refine (array_5 i).trans ?_
  rw [← reference (parts m c) i, at2_val (w m c) i, at2_val (mom m c) i, at2_val (var m c) i]
  rfl

end Cert.Adam.WProj

end
-- ==== Proof.Adam.WOut.lean ====
/-
  THE OPTIMISER CALL `adamw_w_out`: each grid point sums the eight parts of 64 rows of the gradient and makes the step of these rows.
-/
module

public import proofs.«01_k».proof.Proof.Adam.Step
public import proofs.«01_k».proof.Proof.Gen.Kernel23Ideal.Value
public import proofs.«01_k».proof.Proof.Gen.Reference23Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.WOut

open Cert.Kernel23Ideal Cert.Kernel23Ideal.Gen Cert.Kernel23Ideal.Value

variable {m : (ℓ : Loc nD τ sig) → Buf (Elt Ideal) ℓ} {c : Dev nD}

/-- The gradient that the body leaves: the eight parts summed. -/
theorem left_grad (x0 : Vec Ideal S64x1024 .f32) (x1 : Vec Ideal S8x64x1024 .bf16) (x2 x3 : Vec Ideal S64x1024 .f32) (r : Fin 64) (s : Fin 1024) :
    k0_pay5 x0 x1 x2 x3 (ix2 r s) = ∑ k : Fin 8, x1 (ix3 k r s) := by
  unfold k0_pay5 k0_pay4
  refine Eq.trans ?_ (Fin.sum_univ_eight fun k : Fin 8 => (x1 (ix3 k r s) : EReal)).symm
  have p (k : ℕ) (hk : k < 8) inb h := part (n := 8) (a := 64) (b := 1024) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S64x1024 .f32) (x1 : Vec Ideal S8x64x1024 .bf16) (x2 x3 : Vec Ideal S64x1024 .f32) : out0_4 x0 x1 x2 x3 = k0_pay5 x0 x1 x2 x3 := by
  unfold out0_4
  rw [View.canon_unit_zero hz]
/-- The moments and the update that it leaves, from that gradient. -/
theorem left_6 (x0 : Vec Ideal S64x1024 .f32) (x1 : Vec Ideal S8x64x1024 .bf16) (x2 x3 : Vec Ideal S64x1024 .f32) (y : S64x1024.Idx) :
    out0_6 x0 x1 x2 x3 y = first (k0_pay5 x0 x1 x2 x3 y) (x2 y) := by
  unfold out0_6
  rw [View.canon_unit_zero hz]
  simp only [View.ld_unit_zero (S := S64x1024) hz]
  rfl
theorem left_7 (x0 : Vec Ideal S64x1024 .f32) (x1 : Vec Ideal S8x64x1024 .bf16) (x2 x3 : Vec Ideal S64x1024 .f32) (y : S64x1024.Idx) :
    out0_7 x0 x1 x2 x3 y = second (k0_pay5 x0 x1 x2 x3 y) (x3 y) := by
  unfold out0_7
  rw [View.canon_unit_zero hz]
  simp only [View.ld_unit_zero (S := S64x1024) hz]
  rfl
theorem left_5 (x0 : Vec Ideal S64x1024 .f32) (x1 : Vec Ideal S8x64x1024 .bf16) (x2 x3 : Vec Ideal S64x1024 .f32) (y : S64x1024.Idx) :
    out0_5 x0 x1 x2 x3 y = update (k0_pay5 x0 x1 x2 x3 y) (x0 y) (x2 y) (x3 y) := by
  unfold out0_5
  rw [View.canon_unit_zero hz]
  simp only [View.ld_unit_zero (S := S64x1024) hz]
  rfl

theorem rows_0 : ∀ t : Fin cfg0.N, win0_0.index t = ![t.val, 0] := (by decide +kernel : ∀ t : Fin grid0.N, _)
theorem rows_1 : ∀ t : Fin cfg0.N, win0_1.index t = ![0, t.val, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![t.val, 0] := (by decide +kernel : ∀ t : Fin grid0.N, _)
theorem rows_4 : ∀ t : Fin cfg0.N, win0_4.index t = ![t.val, 0] := (by decide +kernel : ∀ t : Fin grid0.N, _)
theorem rows_5 : ∀ t : Fin cfg0.N, win0_5.index t = ![t.val, 0] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem points (t : Fin cfg0.N) : t.val < 2 := t.isLt

/-- The arguments as arrays. -/
abbrev w (m : (ℓ : Loc nD τ sig) → Buf (Elt Ideal) ℓ) (c : Dev nD) : S128x1024.Idx → EReal := m ((c : Thread nD τ).loc main_arg0)
abbrev parts (m : (ℓ : Loc nD τ sig) → Buf (Elt Ideal) ℓ) (c : Dev nD) : S8x128x1024.Idx → EReal := m ((c : Thread nD τ).loc main_arg1)
abbrev mom (m : (ℓ : Loc nD τ sig) → Buf (Elt Ideal) ℓ) (c : Dev nD) : S128x1024.Idx → EReal := m ((c : Thread nD τ).loc main_arg2)
abbrev var (m : (ℓ : Loc nD τ sig) → Buf (Elt Ideal) ℓ) (c : Dev nD) : S128x1024.Idx → EReal := m ((c : Thread nD τ).loc main_arg3)

/-- The gradient at an entry. -/
def grad (p : S8x128x1024.Idx → EReal) (a b : ℕ) : EReal := ∑ k : Fin 8, at3 p k a b

theorem block_w (t : Fin cfg0.N) (r : Fin 64) (s : Fin 1024) : iblk m c 0 t (ix2 r s) = at2 (w m c) (t.val * 64 + r.val) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 64) (s : Fin 1024) : iblk m c 2 t (ix2 r s) = at2 (mom m c) (t.val * 64 + r.val) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 64) (s : Fin 1024) : iblk m c 3 t (ix2 r s) = at2 (var m c) (t.val * 64 + r.val) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 64) (s : Fin 1024) : iblk m c 1 t (ix3 k r s) = at3 (parts m c) k.val (t.val * 64 + r.val) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 64) (s : Fin 1024) :
    k0_pay5 (iblk m c 0 t) (iblk m c 1 t) (iblk m c 2 t) (iblk m c 3 t) (ix2 r s) = grad (parts m c) (t.val * 64 + r.val) s.val :=
  (left_grad _ _ _ _ r s).trans (Finset.sum_congr rfl fun k _ => block_p t k r s)

/-- The four arrays, entry by entry. -/
theorem array_4 (i : S128x1024.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 64) (n1 := 1024) y)).trans ((congrFun (left_4 _ _ _ _) _).trans (block_grad t (y 0) (y 1)))
theorem array_6 (i : S128x1024.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 64) (n1 := 1024) y)).trans ((left_6 _ _ _ _ _).trans (congrArg₂ first (block_grad t (y 0) (y 1)) (block_m t (y 0) (y 1))))
theorem array_7 (i : S128x1024.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 64) (n1 := 1024) y)).trans ((left_7 _ _ _ _ _).trans (congrArg₂ second (block_grad t (y 0) (y 1)) (block_v t (y 0) (y 1))))
theorem array_5 (i : S128x1024.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 64) (n1 := 1024) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x128x1024.Idx → EReal) (i : S128x1024.Idx) : (Cert.Reference23Ideal.Read.val_main_v1 (F := Ideal) p i : EReal) = grad p (i 0).val (i 1).val := by
  refine (Cert.Reference23Ideal.Read.val_main_v1_apply p i).trans ?_
  rw [Cert.Reference23Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference23Ideal.Read.val_main_v1 (F := Ideal) (parts m c) := by
  funext i
  exact (array_4 i).trans (reference (parts m c) i).symm
theorem m_same : (dats m 0 c).arrAt 6 cfg0.N = Cert.Reference23Ideal.Read.val_main_v6 (F := Ideal) (parts m c) (mom m c) := by
  funext i
  refine (array_6 i).trans ?_
  rw [← reference (parts m c) i, at2_val (mom m c) i]
  rfl
theorem v_same : (dats m 0 c).arrAt 7 cfg0.N = Cert.Reference23Ideal.Read.val_main_v12 (F := Ideal) (parts m c) (var m c) := by
  funext i
  refine (array_7 i).trans ?_
  rw [← reference (parts m c) i, at2_val (var m c) i]
  rfl
theorem delta_same : (dats m 0 c).arrAt 5 cfg0.N = Cert.Reference23Ideal.Read.val_main_v25 (F := Ideal) (w m c) (parts m c) (mom m c) (var m c) := by
  funext i
  refine (array_5 i).trans ?_
  rw [← reference (parts m c) i, at2_val (w m c) i, at2_val (mom m c) i, at2_val (var m c) i]
  rfl

end Cert.Adam.WOut

end
-- ==== Proof.Adam.Ln.lean ====
/-
  THE OPTIMISER CALL `adamw_ln1_g, ln1_b, ln2_g and ln2_b`: one grid point sums the eight parts of the gradient and makes the step.
-/
module

public import proofs.«01_k».proof.Proof.Adam.Step
public import proofs.«01_k».proof.Proof.Gen.Kernel24Ideal.Value
public import proofs.«01_k».proof.Proof.Gen.Reference24Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.Ln

open Cert.Kernel24Ideal Cert.Kernel24Ideal.Gen Cert.Kernel24Ideal.Value

variable {m : (ℓ : Loc nD τ sig) → Buf (Elt Ideal) ℓ} {c : Dev nD}

/-- The gradient that the body leaves: the eight parts summed. -/
theorem left_grad (x0 : Vec Ideal S1x1024 .f32) (x1 : Vec Ideal S8x1x1024 .f32) (x2 x3 : Vec Ideal S1x1024 .f32) (r : Fin 1) (s : Fin 1024) :
    k0_pay5 x0 x1 x2 x3 (ix2 r s) = ∑ k : Fin 8, x1 (ix3 k r s) := by
  unfold k0_pay5 k0_pay3
  refine Eq.trans ?_ (Fin.sum_univ_eight fun k : Fin 8 => (x1 (ix3 k r s) : EReal)).symm
  have p (k : ℕ) (hk : k < 8) inb h := part (n := 8) (a := 1) (b := 1024) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S1x1024 .f32) (x1 : Vec Ideal S8x1x1024 .f32) (x2 x3 : Vec Ideal S1x1024 .f32) : out0_4 x0 x1 x2 x3 = k0_pay5 x0 x1 x2 x3 := by
  unfold out0_4
  rw [View.canon_unit_zero hz]
/-- The moments and the update that it leaves, from that gradient. -/
theorem left_6 (x0 : Vec Ideal S1x1024 .f32) (x1 : Vec Ideal S8x1x1024 .f32) (x2 x3 : Vec Ideal S1x1024 .f32) (y : S1x1024.Idx) :
    out0_6 x0 x1 x2 x3 y = first (k0_pay5 x0 x1 x2 x3 y) (x2 y) := by
  unfold out0_6
  rw [View.canon_unit_zero hz]
  unfold k0_pay6
  simp only [View.ld_unit_zero (S := S1x1024) hz]
  rfl
theorem left_7 (x0 : Vec Ideal S1x1024 .f32) (x1 : Vec Ideal S8x1x1024 .f32) (x2 x3 : Vec Ideal S1x1024 .f32) (y : S1x1024.Idx) :
    out0_7 x0 x1 x2 x3 y = second (k0_pay5 x0 x1 x2 x3 y) (x3 y) := by
  unfold out0_7
  rw [View.canon_unit_zero hz]
  simp only [View.ld_unit_zero (S := S1x1024) hz]
  rfl
theorem left_5 (x0 : Vec Ideal S1x1024 .f32) (x1 : Vec Ideal S8x1x1024 .f32) (x2 x3 : Vec Ideal S1x1024 .f32) (y : S1x1024.Idx) :
    out0_5 x0 x1 x2 x3 y = update (k0_pay5 x0 x1 x2 x3 y) (x0 y) (x2 y) (x3 y) := by
  unfold out0_5
  rw [View.canon_unit_zero hz]
  unfold k0_pay6
  simp only [View.ld_unit_zero (S := S1x1024) hz]
  rfl

theorem rows_0 : ∀ t : Fin cfg0.N, win0_0.index t = ![0, 0] := (by decide +kernel : ∀ t : Fin grid0.N, _)
theorem rows_1 : ∀ t : Fin cfg0.N, win0_1.index t = ![0, 0, 0] := (by decide +kernel : ∀ t : Fin grid0.N, _)
theorem rows_2 : ∀ t : Fin cfg0.N, win0_2.index t = ![0, 0] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![0, 0] := (by decide +kernel : ∀ t : Fin grid0.N, _)
theorem rows_5 : ∀ t : Fin cfg0.N, win0_5.index t = ![0, 0] := (by decide +kernel : ∀ t : Fin grid0.N, _)
theorem rows_6 : ∀ t : Fin cfg0.N, win0_6.index t = ![0, 0] := (by decide +kernel : ∀ t : Fin grid0.N, _)
theorem rows_7 : ∀ t : Fin cfg0.N, win0_7.index t = ![0, 0] := (by decide +kernel : ∀ t : Fin grid0.N, _)
theorem points (t : Fin cfg0.N) : t.val < 1 := t.isLt

/-- The arguments as arrays. -/
abbrev w (m : (ℓ : Loc nD τ sig) → Buf (Elt Ideal) ℓ) (c : Dev nD) : S1x1024.Idx → EReal := m ((c : Thread nD τ).loc main_arg0)
abbrev parts (m : (ℓ : Loc nD τ sig) → Buf (Elt Ideal) ℓ) (c : Dev nD) : S8x1x1024.Idx → EReal := m ((c : Thread nD τ).loc main_arg1)
abbrev mom (m : (ℓ : Loc nD τ sig) → Buf (Elt Ideal) ℓ) (c : Dev nD) : S1x1024.Idx → EReal := m ((c : Thread nD τ).loc main_arg2)
abbrev var (m : (ℓ : Loc nD τ sig) → Buf (Elt Ideal) ℓ) (c : Dev nD) : S1x1024.Idx → EReal := m ((c : Thread nD τ).loc main_arg3)

/-- The gradient at an entry. -/
def grad (p : S8x1x1024.Idx → EReal) (a b : ℕ) : EReal := ∑ k : Fin 8, at3 p k a b

theorem block_w (t : Fin cfg0.N) (r : Fin 1) (s : Fin 1024) : iblk m c 0 t (ix2 r s) = at2 (w m c) (0) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 1) (s : Fin 1024) : iblk m c 2 t (ix2 r s) = at2 (mom m c) (0) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 1) (s : Fin 1024) : iblk m c 3 t (ix2 r s) = at2 (var m c) (0) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 1) (s : Fin 1024) : iblk m c 1 t (ix3 k r s) = at3 (parts m c) k.val (0) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 1) (s : Fin 1024) :
    k0_pay5 (iblk m c 0 t) (iblk m c 1 t) (iblk m c 2 t) (iblk m c 3 t) (ix2 r s) = grad (parts m c) (0) s.val :=
  (left_grad _ _ _ _ r s).trans (Finset.sum_congr rfl fun k _ => block_p t k r s)

/-- The four arrays, entry by entry. -/
theorem array_4 (i : S1x1024.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 1) (n1 := 1024) y)).trans ((congrFun (left_4 _ _ _ _) _).trans (block_grad t (y 0) (y 1)))
theorem array_6 (i : S1x1024.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 1) (n1 := 1024) y)).trans ((left_6 _ _ _ _ _).trans (congrArg₂ first (block_grad t (y 0) (y 1)) (block_m t (y 0) (y 1))))
theorem array_7 (i : S1x1024.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 1) (n1 := 1024) y)).trans ((left_7 _ _ _ _ _).trans (congrArg₂ second (block_grad t (y 0) (y 1)) (block_v t (y 0) (y 1))))
theorem array_5 (i : S1x1024.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 1) (n1 := 1024) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x1x1024.Idx → EReal) (i : S1x1024.Idx) : (Cert.Reference24Ideal.Read.val_main_v0 (F := Ideal) p i : EReal) = grad p (i 0).val (i 1).val := by
  refine (Cert.Reference24Ideal.Read.val_main_v0_apply p i).trans ?_
  rw [Cert.Reference24Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference24Ideal.Read.val_main_v0 (F := Ideal) (parts m c) := by
  funext i
  exact (array_4 i).trans (reference (parts m c) i).symm
theorem m_same : (dats m 0 c).arrAt 6 cfg0.N = Cert.Reference24Ideal.Read.val_main_v5 (F := Ideal) (parts m c) (mom m c) := by
  funext i
  refine (array_6 i).trans ?_
  rw [← reference (parts m c) i, at2_val (mom m c) i]
  rfl
theorem v_same : (dats m 0 c).arrAt 7 cfg0.N = Cert.Reference24Ideal.Read.val_main_v11 (F := Ideal) (parts m c) (var m c) := by
  funext i
  refine (array_7 i).trans ?_
  rw [← reference (parts m c) i, at2_val (var m c) i]
  rfl
theorem delta_same : (dats m 0 c).arrAt 5 cfg0.N = Cert.Reference24Ideal.Read.val_main_v24 (F := Ideal) (w m c) (parts m c) (mom m c) (var m c) := by
  funext i
  refine (array_5 i).trans ?_
  rw [← reference (parts m c) i, at2_val (w m c) i, at2_val (mom m c) i, at2_val (var m c) i]
  rfl

end Cert.Adam.Ln

end
-- ==== Proof.Adam.WUp.lean ====
/-
  THE OPTIMISER CALL `adamw_w_up`: each grid point sums the eight parts of 128 rows of the gradient and makes the step of these rows.
-/
module

public import proofs.«01_k».proof.Proof.Adam.Step
public import proofs.«01_k».proof.Proof.Gen.Kernel25Ideal.Value
public import proofs.«01_k».proof.Proof.Gen.Reference25Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.WUp

open Cert.Kernel25Ideal Cert.Kernel25Ideal.Gen Cert.Kernel25Ideal.Value

variable {m : (ℓ : Loc nD τ sig) → Buf (Elt Ideal) ℓ} {c : Dev nD}

/-- The gradient that the body leaves: the eight parts summed. -/
theorem left_grad (x0 : Vec Ideal S128x704 .f32) (x1 : Vec Ideal S8x128x704 .bf16) (x2 x3 : Vec Ideal S128x704 .f32) (r : Fin 128) (s : Fin 704) :
    k0_pay5 x0 x1 x2 x3 (ix2 r s) = ∑ k : Fin 8, x1 (ix3 k r s) := by
  unfold k0_pay5 k0_pay4
  refine Eq.trans ?_ (Fin.sum_univ_eight fun k : Fin 8 => (x1 (ix3 k r s) : EReal)).symm
  have p (k : ℕ) (hk : k < 8) inb h := part (n := 8) (a := 128) (b := 704) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S128x704 .f32) (x1 : Vec Ideal S8x128x704 .bf16) (x2 x3 : Vec Ideal S128x704 .f32) : out0_4 x0 x1 x2 x3 = k0_pay5 x0 x1 x2 x3 := by
  unfold out0_4
  rw [View.canon_unit_zero hz]
/-- The moments and the update that it leaves, from that gradient. -/
theorem left_6 (x0 : Vec Ideal S128x704 .f32) (x1 : Vec Ideal S8x128x704 .bf16) (x2 x3 : Vec Ideal S128x704 .f32) (y : S128x704.Idx) :
    out0_6 x0 x1 x2 x3 y = first (k0_pay5 x0 x1 x2 x3 y) (x2 y) := by
  unfold out0_6
  rw [View.canon_unit_zero hz]
  simp only [View.ld_unit_zero (S := S128x704) hz]
  rfl
theorem left_7 (x0 : Vec Ideal S128x704 .f32) (x1 : Vec Ideal S8x128x704 .bf16) (x2 x3 : Vec Ideal S128x704 .f32) (y : S128x704.Idx) :
    out0_7 x0 x1 x2 x3 y = second (k0_pay5 x0 x1 x2 x3 y) (x3 y) := by
  unfold out0_7
  rw [View.canon_unit_zero hz]
  simp only [View.ld_unit_zero (S := S128x704) hz]
  rfl
theorem left_5 (x0 : Vec Ideal S128x704 .f32) (x1 : Vec Ideal S8x128x704 .bf16) (x2 x3 : Vec Ideal S128x704 .f32) (y : S128x704.Idx) :
    out0_5 x0 x1 x2 x3 y = update (k0_pay5 x0 x1 x2 x3 y) (x0 y) (x2 y) (x3 y) := by
  unfold out0_5
  rw [View.canon_unit_zero hz]
  simp only [View.ld_unit_zero (S := S128x704) hz]
  rfl

theorem rows_0 : ∀ t : Fin cfg0.N, win0_0.index t = ![t.val, 0] := (by decide +kernel : ∀ t : Fin grid0.N, _)
theorem rows_1 : ∀ t : Fin cfg0.N, win0_1.index t = ![0, t.val, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![t.val, 0] := (by decide +kernel : ∀ t : Fin grid0.N, _)
theorem rows_4 : ∀ t : Fin cfg0.N, win0_4.index t = ![t.val, 0] := (by decide +kernel : ∀ t : Fin grid0.N, _)
theorem rows_5 : ∀ t : Fin cfg0.N, win0_5.index t = ![t.val, 0] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem points (t : Fin cfg0.N) : t.val < 8 := t.isLt

/-- The arguments as arrays. -/
abbrev w (m : (ℓ : Loc nD τ sig) → Buf (Elt Ideal) ℓ) (c : Dev nD) : S1024x704.Idx → EReal := m ((c : Thread nD τ).loc main_arg0)
abbrev parts (m : (ℓ : Loc nD τ sig) → Buf (Elt Ideal) ℓ) (c : Dev nD) : S8x1024x704.Idx → EReal := m ((c : Thread nD τ).loc main_arg1)
abbrev mom (m : (ℓ : Loc nD τ sig) → Buf (Elt Ideal) ℓ) (c : Dev nD) : S1024x704.Idx → EReal := m ((c : Thread nD τ).loc main_arg2)
abbrev var (m : (ℓ : Loc nD τ sig) → Buf (Elt Ideal) ℓ) (c : Dev nD) : S1024x704.Idx → EReal := m ((c : Thread nD τ).loc main_arg3)

/-- The gradient at an entry. -/
def grad (p : S8x1024x704.Idx → EReal) (a b : ℕ) : EReal := ∑ k : Fin 8, at3 p k a b

theorem block_w (t : Fin cfg0.N) (r : Fin 128) (s : Fin 704) : iblk m c 0 t (ix2 r s) = at2 (w m c) (t.val * 128 + r.val) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 128) (s : Fin 704) : iblk m c 2 t (ix2 r s) = at2 (mom m c) (t.val * 128 + r.val) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 128) (s : Fin 704) : iblk m c 3 t (ix2 r s) = at2 (var m c) (t.val * 128 + r.val) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 128) (s : Fin 704) : iblk m c 1 t (ix3 k r s) = at3 (parts m c) k.val (t.val * 128 + r.val) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 128) (s : Fin 704) :
    k0_pay5 (iblk m c 0 t) (iblk m c 1 t) (iblk m c 2 t) (iblk m c 3 t) (ix2 r s) = grad (parts m c) (t.val * 128 + r.val) s.val :=
  (left_grad _ _ _ _ r s).trans (Finset.sum_congr rfl fun k _ => block_p t k r s)

/-- The four arrays, entry by entry. -/
theorem array_4 (i : S1024x704.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 128) (n1 := 704) y)).trans ((congrFun (left_4 _ _ _ _) _).trans (block_grad t (y 0) (y 1)))
theorem array_6 (i : S1024x704.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 128) (n1 := 704) y)).trans ((left_6 _ _ _ _ _).trans (congrArg₂ first (block_grad t (y 0) (y 1)) (block_m t (y 0) (y 1))))
theorem array_7 (i : S1024x704.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 128) (n1 := 704) y)).trans ((left_7 _ _ _ _ _).trans (congrArg₂ second (block_grad t (y 0) (y 1)) (block_v t (y 0) (y 1))))
theorem array_5 (i : S1024x704.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 128) (n1 := 704) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x1024x704.Idx → EReal) (i : S1024x704.Idx) : (Cert.Reference25Ideal.Read.val_main_v1 (F := Ideal) p i : EReal) = grad p (i 0).val (i 1).val := by
  refine (Cert.Reference25Ideal.Read.val_main_v1_apply p i).trans ?_
  rw [Cert.Reference25Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference25Ideal.Read.val_main_v1 (F := Ideal) (parts m c) := by
  funext i
  exact (array_4 i).trans (reference (parts m c) i).symm
theorem m_same : (dats m 0 c).arrAt 6 cfg0.N = Cert.Reference25Ideal.Read.val_main_v6 (F := Ideal) (parts m c) (mom m c) := by
  funext i
  refine (array_6 i).trans ?_
  rw [← reference (parts m c) i, at2_val (mom m c) i]
  rfl
theorem v_same : (dats m 0 c).arrAt 7 cfg0.N = Cert.Reference25Ideal.Read.val_main_v12 (F := Ideal) (parts m c) (var m c) := by
  funext i
  refine (array_7 i).trans ?_
  rw [← reference (parts m c) i, at2_val (var m c) i]
  rfl
theorem delta_same : (dats m 0 c).arrAt 5 cfg0.N = Cert.Reference25Ideal.Read.val_main_v25 (F := Ideal) (w m c) (parts m c) (mom m c) (var m c) := by
  funext i
  refine (array_5 i).trans ?_
  rw [← reference (parts m c) i, at2_val (w m c) i, at2_val (mom m c) i, at2_val (var m c) i]
  rfl

end Cert.Adam.WUp

end
-- ==== Proof.Adam.WConv.lean ====
/-
  THE OPTIMISER CALL `adamw_w_conv`: one grid point sums the eight parts of the gradient and makes the step.
-/
module

public import proofs.«01_k».proof.Proof.Adam.Step
public import proofs.«01_k».proof.Proof.Gen.Kernel26Ideal.Value
public import proofs.«01_k».proof.Proof.Gen.Reference26Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.WConv

open Cert.Kernel26Ideal Cert.Kernel26Ideal.Gen Cert.Kernel26Ideal.Value

variable {m : (ℓ : Loc nD τ sig) → Buf (Elt Ideal) ℓ} {c : Dev nD}

/-- The gradient that the body leaves: the eight parts summed. -/
theorem left_grad (x0 : Vec Ideal S3x352 .f32) (x1 : Vec Ideal S8x3x352 .f32) (x2 x3 : Vec Ideal S3x352 .f32) (r : Fin 3) (s : Fin 352) :
    k0_pay5 x0 x1 x2 x3 (ix2 r s) = ∑ k : Fin 8, x1 (ix3 k r s) := by
  unfold k0_pay5 k0_pay3
  refine Eq.trans ?_ (Fin.sum_univ_eight fun k : Fin 8 => (x1 (ix3 k r s) : EReal)).symm
  have p (k : ℕ) (hk : k < 8) inb h := part (n := 8) (a := 3) (b := 352) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S3x352 .f32) (x1 : Vec Ideal S8x3x352 .f32) (x2 x3 : Vec Ideal S3x352 .f32) : out0_4 x0 x1 x2 x3 = k0_pay5 x0 x1 x2 x3 := by
  unfold out0_4
  rw [View.canon_unit_zero hz]
/-- The moments and the update that it leaves, from that gradient. -/
theorem left_6 (x0 : Vec Ideal S3x352 .f32) (x1 : Vec Ideal S8x3x352 .f32) (x2 x3 : Vec Ideal S3x352 .f32) (y : S3x352.Idx) :
    out0_6 x0 x1 x2 x3 y = first (k0_pay5 x0 x1 x2 x3 y) (x2 y) := by
  unfold out0_6
  rw [View.canon_unit_zero hz]
  unfold k0_pay6
  simp only [View.ld_unit_zero (S := S3x352) hz]
  rfl
theorem left_7 (x0 : Vec Ideal S3x352 .f32) (x1 : Vec Ideal S8x3x352 .f32) (x2 x3 : Vec Ideal S3x352 .f32) (y : S3x352.Idx) :
    out0_7 x0 x1 x2 x3 y = second (k0_pay5 x0 x1 x2 x3 y) (x3 y) := by
  unfold out0_7
  rw [View.canon_unit_zero hz]
  simp only [View.ld_unit_zero (S := S3x352) hz]
  rfl
theorem left_5 (x0 : Vec Ideal S3x352 .f32) (x1 : Vec Ideal S8x3x352 .f32) (x2 x3 : Vec Ideal S3x352 .f32) (y : S3x352.Idx) :
    out0_5 x0 x1 x2 x3 y = update (k0_pay5 x0 x1 x2 x3 y) (x0 y) (x2 y) (x3 y) := by
  unfold out0_5
  rw [View.canon_unit_zero hz]
  unfold k0_pay6
  simp only [View.ld_unit_zero (S := S3x352) hz]
  rfl

theorem rows_0 : ∀ t : Fin cfg0.N, win0_0.index t = ![0, 0] := (by decide +kernel : ∀ t : Fin grid0.N, _)
theorem rows_1 : ∀ t : Fin cfg0.N, win0_1.index t = ![0, 0, 0] := (by decide +kernel : ∀ t : Fin grid0.N, _)
theorem rows_2 : ∀ t : Fin cfg0.N, win0_2.index t = ![0, 0] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![0, 0] := (by decide +kernel : ∀ t : Fin grid0.N, _)
theorem rows_5 : ∀ t : Fin cfg0.N, win0_5.index t = ![0, 0] := (by decide +kernel : ∀ t : Fin grid0.N, _)
theorem rows_6 : ∀ t : Fin cfg0.N, win0_6.index t = ![0, 0] := (by decide +kernel : ∀ t : Fin grid0.N, _)
theorem rows_7 : ∀ t : Fin cfg0.N, win0_7.index t = ![0, 0] := (by decide +kernel : ∀ t : Fin grid0.N, _)
theorem points (t : Fin cfg0.N) : t.val < 1 := t.isLt

/-- The arguments as arrays. -/
abbrev w (m : (ℓ : Loc nD τ sig) → Buf (Elt Ideal) ℓ) (c : Dev nD) : S3x352.Idx → EReal := m ((c : Thread nD τ).loc main_arg0)
abbrev parts (m : (ℓ : Loc nD τ sig) → Buf (Elt Ideal) ℓ) (c : Dev nD) : S8x3x352.Idx → EReal := m ((c : Thread nD τ).loc main_arg1)
abbrev mom (m : (ℓ : Loc nD τ sig) → Buf (Elt Ideal) ℓ) (c : Dev nD) : S3x352.Idx → EReal := m ((c : Thread nD τ).loc main_arg2)
abbrev var (m : (ℓ : Loc nD τ sig) → Buf (Elt Ideal) ℓ) (c : Dev nD) : S3x352.Idx → EReal := m ((c : Thread nD τ).loc main_arg3)

/-- The gradient at an entry. -/
def grad (p : S8x3x352.Idx → EReal) (a b : ℕ) : EReal := ∑ k : Fin 8, at3 p k a b

theorem block_w (t : Fin cfg0.N) (r : Fin 3) (s : Fin 352) : iblk m c 0 t (ix2 r s) = at2 (w m c) (r.val) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 3) (s : Fin 352) : iblk m c 2 t (ix2 r s) = at2 (mom m c) (r.val) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 3) (s : Fin 352) : iblk m c 3 t (ix2 r s) = at2 (var m c) (r.val) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 3) (s : Fin 352) : iblk m c 1 t (ix3 k r s) = at3 (parts m c) k.val (r.val) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 3) (s : Fin 352) :
    k0_pay5 (iblk m c 0 t) (iblk m c 1 t) (iblk m c 2 t) (iblk m c 3 t) (ix2 r s) = grad (parts m c) (r.val) s.val :=
  (left_grad _ _ _ _ r s).trans (Finset.sum_congr rfl fun k _ => block_p t k r s)

/-- The four arrays, entry by entry. -/
theorem array_4 (i : S3x352.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 3) (n1 := 352) y)).trans ((congrFun (left_4 _ _ _ _) _).trans (block_grad t (y 0) (y 1)))
theorem array_6 (i : S3x352.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 3) (n1 := 352) y)).trans ((left_6 _ _ _ _ _).trans (congrArg₂ first (block_grad t (y 0) (y 1)) (block_m t (y 0) (y 1))))
theorem array_7 (i : S3x352.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 3) (n1 := 352) y)).trans ((left_7 _ _ _ _ _).trans (congrArg₂ second (block_grad t (y 0) (y 1)) (block_v t (y 0) (y 1))))
theorem array_5 (i : S3x352.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 3) (n1 := 352) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x3x352.Idx → EReal) (i : S3x352.Idx) : (Cert.Reference26Ideal.Read.val_main_v0 (F := Ideal) p i : EReal) = grad p (i 0).val (i 1).val := by
  refine (Cert.Reference26Ideal.Read.val_main_v0_apply p i).trans ?_
  rw [Cert.Reference26Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference26Ideal.Read.val_main_v0 (F := Ideal) (parts m c) := by
  funext i
  exact (array_4 i).trans (reference (parts m c) i).symm
theorem m_same : (dats m 0 c).arrAt 6 cfg0.N = Cert.Reference26Ideal.Read.val_main_v5 (F := Ideal) (parts m c) (mom m c) := by
  funext i
  refine (array_6 i).trans ?_
  rw [← reference (parts m c) i, at2_val (mom m c) i]
  rfl
theorem v_same : (dats m 0 c).arrAt 7 cfg0.N = Cert.Reference26Ideal.Read.val_main_v11 (F := Ideal) (parts m c) (var m c) := by
  funext i
  refine (array_7 i).trans ?_
  rw [← reference (parts m c) i, at2_val (var m c) i]
  rfl
theorem delta_same : (dats m 0 c).arrAt 5 cfg0.N = Cert.Reference26Ideal.Read.val_main_v24 (F := Ideal) (w m c) (parts m c) (mom m c) (var m c) := by
  funext i
  refine (array_5 i).trans ?_
  rw [← reference (parts m c) i, at2_val (w m c) i, at2_val (mom m c) i, at2_val (var m c) i]
  rfl

end Cert.Adam.WConv

end
-- ==== Proof.Adam.BConv.lean ====
/-
  THE OPTIMISER CALL `adamw_b_conv`: one grid point sums the eight parts of the gradient and makes the step.
-/
module

public import proofs.«01_k».proof.Proof.Adam.Step
public import proofs.«01_k».proof.Proof.Gen.Kernel27Ideal.Value
public import proofs.«01_k».proof.Proof.Gen.Reference27Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.BConv

open Cert.Kernel27Ideal Cert.Kernel27Ideal.Gen Cert.Kernel27Ideal.Value

variable {m : (ℓ : Loc nD τ sig) → Buf (Elt Ideal) ℓ} {c : Dev nD}

/-- The gradient that the body leaves: the eight parts summed. -/
theorem left_grad (x0 : Vec Ideal S1x2816 .f32) (x1 : Vec Ideal S8x1x2816 .f32) (x2 x3 : Vec Ideal S1x2816 .f32) (r : Fin 1) (s : Fin 2816) :
    k0_pay5 x0 x1 x2 x3 (ix2 r s) = ∑ k : Fin 8, x1 (ix3 k r s) := by
  unfold k0_pay5 k0_pay3
  refine Eq.trans ?_ (Fin.sum_univ_eight fun k : Fin 8 => (x1 (ix3 k r s) : EReal)).symm
  have p (k : ℕ) (hk : k < 8) inb h := part (n := 8) (a := 1) (b := 2816) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S1x2816 .f32) (x1 : Vec Ideal S8x1x2816 .f32) (x2 x3 : Vec Ideal S1x2816 .f32) : out0_4 x0 x1 x2 x3 = k0_pay5 x0 x1 x2 x3 := by
  unfold out0_4
  rw [View.canon_unit_zero hz]
/-- The moments and the update that it leaves, from that gradient. -/
theorem left_6 (x0 : Vec Ideal S1x2816 .f32) (x1 : Vec Ideal S8x1x2816 .f32) (x2 x3 : Vec Ideal S1x2816 .f32) (y : S1x2816.Idx) :
    out0_6 x0 x1 x2 x3 y = first (k0_pay5 x0 x1 x2 x3 y) (x2 y) := by
  unfold out0_6
  rw [View.canon_unit_zero hz]
  unfold k0_pay6
  simp only [View.ld_unit_zero (S := S1x2816) hz]
  rfl
theorem left_7 (x0 : Vec Ideal S1x2816 .f32) (x1 : Vec Ideal S8x1x2816 .f32) (x2 x3 : Vec Ideal S1x2816 .f32) (y : S1x2816.Idx) :
    out0_7 x0 x1 x2 x3 y = second (k0_pay5 x0 x1 x2 x3 y) (x3 y) := by
  unfold out0_7
  rw [View.canon_unit_zero hz]
  simp only [View.ld_unit_zero (S := S1x2816) hz]
  rfl
theorem left_5 (x0 : Vec Ideal S1x2816 .f32) (x1 : Vec Ideal S8x1x2816 .f32) (x2 x3 : Vec Ideal S1x2816 .f32) (y : S1x2816.Idx) :
    out0_5 x0 x1 x2 x3 y = update (k0_pay5 x0 x1 x2 x3 y) (x0 y) (x2 y) (x3 y) := by
  unfold out0_5
  rw [View.canon_unit_zero hz]
  unfold k0_pay6
  simp only [View.ld_unit_zero (S := S1x2816) hz]
  rfl

theorem rows_0 : ∀ t : Fin cfg0.N, win0_0.index t = ![0, 0] := (by decide +kernel : ∀ t : Fin grid0.N, _)
theorem rows_1 : ∀ t : Fin cfg0.N, win0_1.index t = ![0, 0, 0] := (by decide +kernel : ∀ t : Fin grid0.N, _)
theorem rows_2 : ∀ t : Fin cfg0.N, win0_2.index t = ![0, 0] := (by decide +kernel : ∀ t : Fin grid0.N, _)
theorem rows_3 : ∀ t : Fin cfg0.N, win0_3.index t = ![0, 0] := (by decide +kernel : ∀ t : Fin grid0.N, _)
theorem rows_4 : ∀ t : Fin cfg0.N, win0_4.index t = ![0, 0] := (by decide +kernel : ∀ t : Fin grid0.N, _)
theorem rows_5 : ∀ t : Fin cfg0.N, win0_5.index t = ![0, 0] := (by decide +kernel : ∀ t : Fin grid0.N, _)
theorem rows_6 : ∀ t : Fin cfg0.N, win0_6.index t = ![0, 0] := (by decide +kernel : ∀ t : Fin grid0.N, _)
theorem rows_7 : ∀ t : Fin cfg0.N, win0_7.index t = ![0, 0] := (by decide +kernel : ∀ t : Fin grid0.N, _)
theorem points (t : Fin cfg0.N) : t.val < 1 := t.isLt

/-- The arguments as arrays. -/
abbrev w (m : (ℓ : Loc nD τ sig) → Buf (Elt Ideal) ℓ) (c : Dev nD) : S1x2816.Idx → EReal := m ((c : Thread nD τ).loc main_arg0)
abbrev parts (m : (ℓ : Loc nD τ sig) → Buf (Elt Ideal) ℓ) (c : Dev nD) : S8x1x2816.Idx → EReal := m ((c : Thread nD τ).loc main_arg1)
abbrev mom (m : (ℓ : Loc nD τ sig) → Buf (Elt Ideal) ℓ) (c : Dev nD) : S1x2816.Idx → EReal := m ((c : Thread nD τ).loc main_arg2)
abbrev var (m : (ℓ : Loc nD τ sig) → Buf (Elt Ideal) ℓ) (c : Dev nD) : S1x2816.Idx → EReal := m ((c : Thread nD τ).loc main_arg3)

/-- The gradient at an entry. -/
def grad (p : S8x1x2816.Idx → EReal) (a b : ℕ) : EReal := ∑ k : Fin 8, at3 p k a b

theorem block_w (t : Fin cfg0.N) (r : Fin 1) (s : Fin 2816) : iblk m c 0 t (ix2 r s) = at2 (w m c) (0) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 1) (s : Fin 2816) : iblk m c 2 t (ix2 r s) = at2 (mom m c) (0) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 1) (s : Fin 2816) : iblk m c 3 t (ix2 r s) = at2 (var m c) (0) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 1) (s : Fin 2816) : iblk m c 1 t (ix3 k r s) = at3 (parts m c) k.val (0) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 1) (s : Fin 2816) :
    k0_pay5 (iblk m c 0 t) (iblk m c 1 t) (iblk m c 2 t) (iblk m c 3 t) (ix2 r s) = grad (parts m c) (0) s.val :=
  (left_grad _ _ _ _ r s).trans (Finset.sum_congr rfl fun k _ => block_p t k r s)

/-- The four arrays, entry by entry. -/
theorem array_4 (i : S1x2816.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 1) (n1 := 2816) y)).trans ((congrFun (left_4 _ _ _ _) _).trans (block_grad t (y 0) (y 1)))
theorem array_6 (i : S1x2816.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 1) (n1 := 2816) y)).trans ((left_6 _ _ _ _ _).trans (congrArg₂ first (block_grad t (y 0) (y 1)) (block_m t (y 0) (y 1))))
theorem array_7 (i : S1x2816.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 1) (n1 := 2816) y)).trans ((left_7 _ _ _ _ _).trans (congrArg₂ second (block_grad t (y 0) (y 1)) (block_v t (y 0) (y 1))))
theorem array_5 (i : S1x2816.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 1) (n1 := 2816) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x1x2816.Idx → EReal) (i : S1x2816.Idx) : (Cert.Reference27Ideal.Read.val_main_v0 (F := Ideal) p i : EReal) = grad p (i 0).val (i 1).val := by
  refine (Cert.Reference27Ideal.Read.val_main_v0_apply p i).trans ?_
  rw [Cert.Reference27Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference27Ideal.Read.val_main_v0 (F := Ideal) (parts m c) := by
  funext i
  exact (array_4 i).trans (reference (parts m c) i).symm
theorem m_same : (dats m 0 c).arrAt 6 cfg0.N = Cert.Reference27Ideal.Read.val_main_v5 (F := Ideal) (parts m c) (mom m c) := by
  funext i
  refine (array_6 i).trans ?_
  rw [← reference (parts m c) i, at2_val (mom m c) i]
  rfl
theorem v_same : (dats m 0 c).arrAt 7 cfg0.N = Cert.Reference27Ideal.Read.val_main_v11 (F := Ideal) (parts m c) (var m c) := by
  funext i
  refine (array_7 i).trans ?_
  rw [← reference (parts m c) i, at2_val (var m c) i]
  rfl
theorem delta_same : (dats m 0 c).arrAt 5 cfg0.N = Cert.Reference27Ideal.Read.val_main_v24 (F := Ideal) (w m c) (parts m c) (mom m c) (var m c) := by
  funext i
  refine (array_5 i).trans ?_
  rw [← reference (parts m c) i, at2_val (w m c) i, at2_val (mom m c) i, at2_val (var m c) i]
  rfl

end Cert.Adam.BConv

end
-- ==== Proof.Adam.WDown.lean ====
/-
  THE OPTIMISER CALL `adamw_w_down`: each grid point sums the eight parts of 32 rows of the gradient and makes the step of these rows.
-/
module

public import proofs.«01_k».proof.Proof.Adam.Step
public import proofs.«01_k».proof.Proof.Gen.Kernel28Ideal.Value
public import proofs.«01_k».proof.Proof.Gen.Reference28Ideal.Read

@[expose] public section

set_option maxRecDepth 16384

noncomputable section

open Idealize.ShloMosaic Idealize.ShloMosaic.TcCoe Idealize.ShloMosaic.Tactic Idealize.SL.Sem
open Idealize.ShloMosaic.Pipeline (Dat)
open Cert.Product (hz at2 eq_at2 at2_val)

namespace Cert.Adam.WDown

open Cert.Kernel28Ideal Cert.Kernel28Ideal.Gen Cert.Kernel28Ideal.Value

variable {m : (ℓ : Loc nD τ sig) → Buf (Elt Ideal) ℓ} {c : Dev nD}

/-- The gradient that the body leaves: the eight parts summed. -/
theorem left_grad (x0 : Vec Ideal S32x1024 .f32) (x1 : Vec Ideal S8x32x1024 .bf16) (x2 x3 : Vec Ideal S32x1024 .f32) (r : Fin 32) (s : Fin 1024) :
    k0_pay5 x0 x1 x2 x3 (ix2 r s) = ∑ k : Fin 8, x1 (ix3 k r s) := by
  unfold k0_pay5 k0_pay4
  refine Eq.trans ?_ (Fin.sum_univ_eight fun k : Fin 8 => (x1 (ix3 k r s) : EReal)).symm
  have p (k : ℕ) (hk : k < 8) inb h := part (n := 8) (a := 32) (b := 1024) x1 (k := k) hk inb h r s
  exact congrArg₂ (fun a b : EReal => a + b) (congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b) (p 0 (by decide) _ _) (p 1 (by decide) _ _))
    (p 2 (by decide) _ _)) (p 3 (by decide) _ _)) (p 4 (by decide) _ _)) (p 5 (by decide) _ _)) (p 6 (by decide) _ _)) (p 7 (by decide) _ _)
theorem left_4 (x0 : Vec Ideal S32x1024 .f32) (x1 : Vec Ideal S8x32x1024 .bf16) (x2 x3 : Vec Ideal S32x1024 .f32) : out0_4 x0 x1 x2 x3 = k0_pay5 x0 x1 x2 x3 := by
  unfold out0_4
  rw [View.canon_unit_zero hz]
/-- The moments and the update that it leaves, from that gradient. -/
theorem left_6 (x0 : Vec Ideal S32x1024 .f32) (x1 : Vec Ideal S8x32x1024 .bf16) (x2 x3 : Vec Ideal S32x1024 .f32) (y : S32x1024.Idx) :
    out0_6 x0 x1 x2 x3 y = first (k0_pay5 x0 x1 x2 x3 y) (x2 y) := by
  unfold out0_6
  rw [View.canon_unit_zero hz]
  simp only [View.ld_unit_zero (S := S32x1024) hz]
  rfl
theorem left_7 (x0 : Vec Ideal S32x1024 .f32) (x1 : Vec Ideal S8x32x1024 .bf16) (x2 x3 : Vec Ideal S32x1024 .f32) (y : S32x1024.Idx) :
    out0_7 x0 x1 x2 x3 y = second (k0_pay5 x0 x1 x2 x3 y) (x3 y) := by
  unfold out0_7
  rw [View.canon_unit_zero hz]
  simp only [View.ld_unit_zero (S := S32x1024) hz]
  rfl
theorem left_5 (x0 : Vec Ideal S32x1024 .f32) (x1 : Vec Ideal S8x32x1024 .bf16) (x2 x3 : Vec Ideal S32x1024 .f32) (y : S32x1024.Idx) :
    out0_5 x0 x1 x2 x3 y = update (k0_pay5 x0 x1 x2 x3 y) (x0 y) (x2 y) (x3 y) := by
  unfold out0_5
  rw [View.canon_unit_zero hz]
  simp only [View.ld_unit_zero (S := S32x1024) hz]
  rfl

theorem rows_0 : ∀ t : Fin cfg0.N, win0_0.index t = ![t.val, 0] := (by decide +kernel : ∀ t : Fin grid0.N, _)
theorem rows_1 : ∀ t : Fin cfg0.N, win0_1.index t = ![0, t.val, 0] := (by decide +kernel : ∀ t : Fin grid0.N, _)
theorem rows_2 : ∀ t : Fin cfg0.N, win0_2.index t = ![t.val, 0] := (by decide +kernel : ∀ t : Fin grid0.N, _)
theorem rows_3 : ∀ t : Fin cfg0.N, win0_3.index t = ![t.val, 0] := (by decide +kernel : ∀ t : Fin grid0.N, _)
theorem rows_4 : ∀ t : Fin cfg0.N, win0_4.index t = ![t.val, 0] := (by decide +kernel : ∀ t : Fin grid0.N, _)
theorem rows_5 : ∀ t : Fin cfg0.N, win0_5.index t = ![t.val, 0] := (by decide +kernel : ∀ t : Fin grid0.N, _)
theorem rows_6 : ∀ t : Fin cfg0.N, win0_6.index t = ![t.val, 0] := (by decide +kernel : ∀ t : Fin grid0.N, _)
theorem rows_7 : ∀ t : Fin cfg0.N, win0_7.index t = ![t.val, 0] := (by decide +kernel : ∀ t : Fin grid0.N, _)
theorem points (t : Fin cfg0.N) : t.val < 11 := t.isLt

/-- The arguments as arrays. -/
abbrev w (m : (ℓ : Loc nD τ sig) → Buf (Elt Ideal) ℓ) (c : Dev nD) : S352x1024.Idx → EReal := m ((c : Thread nD τ).loc main_arg0)
abbrev parts (m : (ℓ : Loc nD τ sig) → Buf (Elt Ideal) ℓ) (c : Dev nD) : S8x352x1024.Idx → EReal := m ((c : Thread nD τ).loc main_arg1)
abbrev mom (m : (ℓ : Loc nD τ sig) → Buf (Elt Ideal) ℓ) (c : Dev nD) : S352x1024.Idx → EReal := m ((c : Thread nD τ).loc main_arg2)
abbrev var (m : (ℓ : Loc nD τ sig) → Buf (Elt Ideal) ℓ) (c : Dev nD) : S352x1024.Idx → EReal := m ((c : Thread nD τ).loc main_arg3)

/-- The gradient at an entry. -/
def grad (p : S8x352x1024.Idx → EReal) (a b : ℕ) : EReal := ∑ k : Fin 8, at3 p k a b

theorem block_w (t : Fin cfg0.N) (r : Fin 32) (s : Fin 1024) : iblk m c 0 t (ix2 r s) = at2 (w m c) (t.val * 32 + r.val) s.val := by
  refine (by blk_simp [iblk] : iblk m c 0 t (ix2 r s) = w m c (((cfg0.win 0).blk t).view.emb (ix2 r s))).trans (eq_at2 (w m c) _ ?_ ?_)
  · blk_simp [rows_0 t]
  · blk_simp [rows_0 t]
theorem block_m (t : Fin cfg0.N) (r : Fin 32) (s : Fin 1024) : iblk m c 2 t (ix2 r s) = at2 (mom m c) (t.val * 32 + r.val) s.val := by
  refine (by blk_simp [iblk] : iblk m c 2 t (ix2 r s) = mom m c (((cfg0.win 2).blk t).view.emb (ix2 r s))).trans (eq_at2 (mom m c) _ ?_ ?_)
  · blk_simp [rows_2 t]
  · blk_simp [rows_2 t]
theorem block_v (t : Fin cfg0.N) (r : Fin 32) (s : Fin 1024) : iblk m c 3 t (ix2 r s) = at2 (var m c) (t.val * 32 + r.val) s.val := by
  refine (by blk_simp [iblk] : iblk m c 3 t (ix2 r s) = var m c (((cfg0.win 3).blk t).view.emb (ix2 r s))).trans (eq_at2 (var m c) _ ?_ ?_)
  · blk_simp [rows_3 t]
  · blk_simp [rows_3 t]
theorem block_p (t : Fin cfg0.N) (k : Fin 8) (r : Fin 32) (s : Fin 1024) : iblk m c 1 t (ix3 k r s) = at3 (parts m c) k.val (t.val * 32 + r.val) s.val := by
  refine (by blk_simp [iblk] : iblk m c 1 t (ix3 k r s) = parts m c (((cfg0.win 1).blk t).view.emb (ix3 k r s))).trans (eq_at3 (parts m c) _ ?_ ?_ ?_)
  · blk_simp [rows_1 t]
  · blk_simp [rows_1 t]
  · blk_simp [rows_1 t]
/-- The gradient that a grid point leaves. -/
theorem block_grad (t : Fin cfg0.N) (r : Fin 32) (s : Fin 1024) :
    k0_pay5 (iblk m c 0 t) (iblk m c 1 t) (iblk m c 2 t) (iblk m c 3 t) (ix2 r s) = grad (parts m c) (t.val * 32 + r.val) s.val :=
  (left_grad _ _ _ _ r s).trans (Finset.sum_congr rfl fun k _ => block_p t k r s)

/-- The four arrays, entry by entry. -/
theorem array_4 (i : S352x1024.Idx) : (dats m 0 c).arrAt 4 cfg0.N i = grad (parts m c) (i 0).val (i 1).val := by
  refine (dats m 0 c).arrAt_forall_of_covers 4 (fun i v => v = grad (parts m c) (i 0).val (i 1).val)
    (by decide +kernel) (fun t hf y => ?_) i
  have ht := points t
  blk_simp [rows_4 t]
  rw [after0_4]
  idx_bounds y
  exact (congrArg _ (eq_ix2 (n0 := 32) (n1 := 1024) y)).trans ((congrFun (left_4 _ _ _ _) _).trans (block_grad t (y 0) (y 1)))
theorem array_6 (i : S352x1024.Idx) : (dats m 0 c).arrAt 6 cfg0.N i = first (grad (parts m c) (i 0).val (i 1).val) (at2 (mom m c) (i 0).val (i 1).val) := by
  refine (dats m 0 c).arrAt_forall_of_covers 6 (fun i v => v = first (grad (parts m c) (i 0).val (i 1).val) (at2 (mom m c) (i 0).val (i 1).val))
    (by decide +kernel) (fun t hf y => ?_) i
  have ht := points t
  blk_simp [rows_6 t]
  rw [after0_6]
  idx_bounds y
  exact (congrArg _ (eq_ix2 (n0 := 32) (n1 := 1024) y)).trans ((left_6 _ _ _ _ _).trans (congrArg₂ first (block_grad t (y 0) (y 1)) (block_m t (y 0) (y 1))))
theorem array_7 (i : S352x1024.Idx) : (dats m 0 c).arrAt 7 cfg0.N i = second (grad (parts m c) (i 0).val (i 1).val) (at2 (var m c) (i 0).val (i 1).val) := by
  refine (dats m 0 c).arrAt_forall_of_covers 7 (fun i v => v = second (grad (parts m c) (i 0).val (i 1).val) (at2 (var m c) (i 0).val (i 1).val))
    (by decide +kernel) (fun t hf y => ?_) i
  have ht := points t
  blk_simp [rows_7 t]
  rw [after0_7]
  idx_bounds y
  exact (congrArg _ (eq_ix2 (n0 := 32) (n1 := 1024) y)).trans ((left_7 _ _ _ _ _).trans (congrArg₂ second (block_grad t (y 0) (y 1)) (block_v t (y 0) (y 1))))
theorem array_5 (i : S352x1024.Idx) : (dats m 0 c).arrAt 5 cfg0.N i
    = update (grad (parts m c) (i 0).val (i 1).val) (at2 (w m c) (i 0).val (i 1).val) (at2 (mom m c) (i 0).val (i 1).val) (at2 (var m c) (i 0).val (i 1).val) := by
  refine (dats m 0 c).arrAt_forall_of_covers 5 (fun i v => v
      = update (grad (parts m c) (i 0).val (i 1).val) (at2 (w m c) (i 0).val (i 1).val) (at2 (mom m c) (i 0).val (i 1).val) (at2 (var m c) (i 0).val (i 1).val))
    (by decide +kernel) (fun t hf y => ?_) i
  have ht := points t
  blk_simp [rows_5 t]
  rw [after0_5]
  idx_bounds y
  refine (congrArg _ (eq_ix2 (n0 := 32) (n1 := 1024) y)).trans ((left_5 _ _ _ _ _).trans ?_)
  have e := block_grad (m := m) (c := c) t (y 0) (y 1)
  have e0 := block_w (m := m) (c := c) t (y 0) (y 1)
  have e2 := block_m (m := m) (c := c) t (y 0) (y 1)
  have e3 := block_v (m := m) (c := c) t (y 0) (y 1)
  exact (congrArg (fun g => update g _ _ _) e).trans ((congrArg (fun a => update _ a _ _) e0).trans ((congrArg (fun a => update _ _ a _) e2).trans (congrArg (fun a => update _ _ _ a) e3)))

/-- The reference's gradient at an entry. -/
theorem reference (p : S8x352x1024.Idx → EReal) (i : S352x1024.Idx) : (Cert.Reference28Ideal.Read.val_main_v1 (F := Ideal) p i : EReal) = grad p (i 0).val (i 1).val := by
  refine (Cert.Reference28Ideal.Read.val_main_v1_apply p i).trans ?_
  rw [Cert.Reference28Ideal.Read.val_main_cst_apply]
  show Ideal.ofBits .f32 0x00000000#32 + _ = _
  rw [Ideal.ofBits_zero_f32, zero_add]
  exact Finset.sum_congr rfl fun k _ => eq_at3 p _ rfl rfl rfl

/-- The reference's arrays. -/
theorem grad_same : (dats m 0 c).arrAt 4 cfg0.N = Cert.Reference28Ideal.Read.val_main_v1 (F := Ideal) (parts m c) := by
  funext i
  exact (array_4 i).trans (reference (parts m c) i).symm
theorem m_same : (dats m 0 c).arrAt 6 cfg0.N = Cert.Reference28Ideal.Read.val_main_v6 (F := Ideal) (parts m c) (mom m c) := by
  funext i
  refine (array_6 i).trans ?_
  rw [← reference (parts m c) i, at2_val (mom m c) i]
  rfl
theorem v_same : (dats m 0 c).arrAt 7 cfg0.N = Cert.Reference28Ideal.Read.val_main_v12 (F := Ideal) (parts m c) (var m c) := by
  funext i
  refine (array_7 i).trans ?_
  rw [← reference (parts m c) i, at2_val (var m c) i]
  rfl
theorem delta_same : (dats m 0 c).arrAt 5 cfg0.N = Cert.Reference28Ideal.Read.val_main_v25 (F := Ideal) (w m c) (parts m c) (mom m c) (var m c) := by
  funext i
  refine (array_5 i).trans ?_
  rw [← reference (parts m c) i, at2_val (w m c) i, at2_val (mom m c) i, at2_val (var m c) i]
  rfl

end Cert.Adam.WDown

end
-- ==== Proof.Fox.Trip.lean ====
/-
  ONE TRIP OF THE KERNEL'S LOOP over the key blocks below the diagonal: what it yields and what it writes, as the
  kernel's block expressions of the blocks it loads.
-/
module

public import proofs.«01_k».proof.Proof.Gen.KernelIdeal.Loops

@[expose] public section

set_option maxRecDepth 16384

noncomputable section

open Idealize.ShloMosaic Idealize.ShloMosaic.TcCoe Idealize.ShloMosaic.Tactic Idealize.SL.Sem

namespace Cert.Fox

open Cert.KernelIdeal Cert.KernelIdeal.Gen

variable {F : FTy → Type} [FloatOps F]

/-- The key rows of trip `k`. -/
abbrev keyRows (i : grid0.Coords) (k : Fin (k0_t1_loop i).trips) : Rect S4096x128 :=
  Rect.unit (s := S4096x128) (k0_off3 i k) ![512, 128] (Gen.k0_off3_inb i k)
/-- Head 0's positions of trip `k`. -/
abbrev keyPos0 (i : grid0.Coords) (k : Fin (k0_t1_loop i).trips) : Rect S2x1x4096 :=
  Rect.unit (s := S2x1x4096) (k0_off4 i k) ![1, 1, 512] (Gen.k0_off4_inb i k)
/-- Head 1's positions of trip `k`. -/
abbrev keyPos1 (i : grid0.Coords) (k : Fin (k0_t1_loop i).trips) : Rect S2x1x4096 :=
  Rect.unit (s := S2x1x4096) (k0_off5 i k) ![1, 1, 512] (Gen.k0_off5_inb i k)

variable (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x1x4096 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S2x512x1 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S2x1x4096 .f32) (harg13 : arg13.IsWhole) (arg14 : Memref sig .tc .vmem S4096x128 .f32) (harg14 : arg14.IsWhole) (arg15 : Memref sig .tc .vmem S4096x128 .f32) (harg15 : arg15.IsWhole) (arg2 : BitVec 32) (v13 : FVec F S1024x128 .bf16) (v22 : FVec F S1024x128 .bf16) (v33 : FVec F S512x1 .f32) (v37 : FVec F S512x1 .f32) (v51 : FVec F S512x1 .f32) (v65 : FVec F S512x1 .f32) (v67 : FVec F S512x1 .f32) (v69 : FVec F S512x1 .f32) (v72 : IVec S512x512 1) (v73 : FVec F S512x128 .f32) (c0_i32_29 : BitVec 32) (v78 : BitVec 32) (X_arg4 : BufTy.Contents (Elt F) arg4.view.ty) (X_arg5 : BufTy.Contents (Elt F) arg5.view.ty) (X_arg6 : BufTy.Contents (Elt F) arg6.view.ty) (G_arg13 : BufTy.Contents (Elt F) arg13.view.ty) (G_arg14 : BufTy.Contents (Elt F) arg14.view.ty) (G_arg15 : BufTy.Contents (Elt F) arg15.view.ty)

/-- What a trip yields: the row block's gradient of q with this key block's terms added. -/
theorem tripR_eq (k : Fin (k0_t1_loop i).trips) (acc : FVec F S512x128 .f32) :
    tripR_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 k acc G_arg13 G_arg14 G_arg15
      = k0_pay60 acc (k0_pay4 (arg4.view.readAt (Elt F) (keyRows i k).toLoadRect X_arg4))
          (k0_pay20
            (k0_pay11 v13 v22 v33 v51 v67 (arg4.view.readAt (Elt F) (keyRows i k).toLoadRect X_arg4) (arg5.view.readAt (Elt F) (keyRows i k).toLoadRect X_arg5) (arg6.view.readAt (Elt F) (keyPos0 i k).toLoadRect X_arg6))
            (k0_pay12 v13 v22 v37 v65 v69 (arg4.view.readAt (Elt F) (keyRows i k).toLoadRect X_arg4) (arg5.view.readAt (Elt F) (keyRows i k).toLoadRect X_arg5) (arg6.view.readAt (Elt F) (keyPos1 i k).toLoadRect X_arg6)))
          k0_pay21 (k0_pay22 (F := F)) (k0_pay23 (k0_pay4 (arg4.view.readAt (Elt F) (keyRows i k).toLoadRect X_arg4))) := by
  unfold tripR_k0_t1 trip_k0_t1
  rfl

/-- What a trip writes: the sums' blocks of rows with this block's terms added, and the log-gates' row of each head with
the column sums taken off. -/
theorem tripL_eq (k : Fin (k0_t1_loop i).trips) (acc : FVec F S512x128 .f32) :
    tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 k acc G_arg13 G_arg14 G_arg15
      = ([⟨keyPos1 i k, k0_pay19
            (k0_pay10 v13 v22 v37 v65 v69 (arg4.view.readAt (Elt F) (keyRows i k).toLoadRect X_arg4) (arg5.view.readAt (Elt F) (keyRows i k).toLoadRect X_arg5) (arg6.view.readAt (Elt F) (keyPos1 i k).toLoadRect X_arg6))
            (arg13.view.readAt (Elt F) (keyPos1 i k).toLoadRect G_arg13)⟩,
          ⟨keyPos0 i k, k0_pay18
            (k0_pay9 v13 v22 v33 v51 v67 (arg4.view.readAt (Elt F) (keyRows i k).toLoadRect X_arg4) (arg5.view.readAt (Elt F) (keyRows i k).toLoadRect X_arg5) (arg6.view.readAt (Elt F) (keyPos0 i k).toLoadRect X_arg6))
            (arg13.view.readAt (Elt F) (keyPos0 i k).toLoadRect G_arg13)⟩],
        [⟨keyRows i k, k0_pay16 (arg14.view.readAt (Elt F) (keyRows i k).toLoadRect G_arg14)
            (k0_pay15 v13 v22 v33 v37 v51 v65 v67 v69 (arg4.view.readAt (Elt F) (keyRows i k).toLoadRect X_arg4) (arg5.view.readAt (Elt F) (keyRows i k).toLoadRect X_arg5)
              (arg6.view.readAt (Elt F) (keyPos0 i k).toLoadRect X_arg6) (arg6.view.readAt (Elt F) (keyPos1 i k).toLoadRect X_arg6))⟩],
        [⟨keyRows i k, k0_pay17 v22
            (k0_pay13 v13 v51 v67 (arg4.view.readAt (Elt F) (keyRows i k).toLoadRect X_arg4) (arg6.view.readAt (Elt F) (keyPos0 i k).toLoadRect X_arg6))
            (k0_pay14 v13 v65 v69 (arg4.view.readAt (Elt F) (keyRows i k).toLoadRect X_arg4) (arg6.view.readAt (Elt F) (keyPos1 i k).toLoadRect X_arg6))
            (arg15.view.readAt (Elt F) (keyRows i k).toLoadRect G_arg15)⟩]) := by
  unfold tripL_k0_t1 trip_k0_t1
  rfl

end Cert.Fox

end
-- ==== Proof.Fox.Math.lean ====
/-
  THE MATHEMATICS OF ONE PAIR OF HEADS, in real numbers. A pair of heads shares 128 lanes: head 0 has lanes 0 to 63,
  head 1 lanes 64 to 127. `Pair` holds what the gradient reads for one batch entry and one pair: the rows of q, k, v, of
  the cotangent and of the saved output, the running log-gates and the saved log-sums. The definitions below are the
  attention's weights (`P`), the gradient at the scores (`DS`) and the sums that the four gradients are (`dk`, `dv`,
  `dq`, `dc`), each with the number of rows summed as its first argument, because the kernel gathers them block by
  block.
-/
module

public import Mathlib.Analysis.SpecialFunctions.Exp
public import Mathlib.Data.EReal.Operations

@[expose] public section

noncomputable section

namespace Cert.Fox

open Finset

/-- What the gradient of one pair of heads reads: rows are positions, columns lanes; `c` and `lse` by head and position. -/
structure Pair where
  q : ℕ → ℕ → ℝ
  k : ℕ → ℕ → ℝ
  v : ℕ → ℕ → ℝ
  g : ℕ → ℕ → ℝ
  o : ℕ → ℕ → ℝ
  c : ℕ → ℕ → ℝ
  lse : ℕ → ℕ → ℝ

namespace Pair

variable (D : Pair)

/-- The scaled queries on the lanes of head `h`, zero on the other head's. -/
def qm (h t d : ℕ) : ℝ := if d / 64 = h then D.q t d * (1 / 8) else 0
/-- The keys on the lanes of head `h`. -/
def km (h s d : ℕ) : ℝ := if d / 64 = h then D.k s d else 0
/-- The cotangent on the lanes of head `h`. -/
def gm (h t d : ℕ) : ℝ := if d / 64 = h then D.g t d else 0
/-- The row's product of cotangent and output, over the lanes of head `h`. -/
def delta (h t : ℕ) : ℝ := ∑ d : Fin 128, if d / 64 = h then D.g t d * D.o t d else 0
/-- The exponential of score less log-sum. -/
def E (h t s : ℕ) : ℝ := Real.exp (∑ d : Fin 128, D.qm h t d * D.k s d + (D.c h t - D.c h s) - D.lse h t)
/-- The attention's weight of position `s` for position `t`: zero after `t`. -/
def P (h t s : ℕ) : ℝ := if s ≤ t then D.E h t s else 0
/-- The gradient at the weights. -/
def DP (h t s : ℕ) : ℝ := ∑ d : Fin 128, D.gm h t d * D.v s d
/-- The gradient at the scores. -/
def DS (h t s : ℕ) : ℝ := D.P h t s * (D.DP h t s - D.delta h t)
/-- The gradient of k from the first `n` rows. -/
def dk (n s d : ℕ) : ℝ := ∑ t ∈ range n, (D.DS 0 t s * D.qm 0 t d + D.DS 1 t s * D.qm 1 t d)
/-- The gradient of v from the first `n` rows. -/
def dv (n s d : ℕ) : ℝ := ∑ t ∈ range n, (D.P 0 t s * D.gm 0 t d + D.P 1 t s * D.gm 1 t d)
/-- The column sums of the gradient at the scores over the first `n` rows. -/
def dc (n h s : ℕ) : ℝ := ∑ t ∈ range n, D.DS h t s
/-- The gradient of q, before its scale, from the first `n` keys. -/
def dq (n t d : ℕ) : ℝ := ∑ s ∈ range n, (D.DS 0 t s * D.km 0 s d + D.DS 1 t s * D.km 1 s d)

variable {D}

theorem P_of_le {h t s : ℕ} (hs : s ≤ t) : D.P h t s = D.E h t s := if_pos hs
theorem P_of_lt {h t s : ℕ} (hs : t < s) : D.P h t s = 0 := if_neg (by omega)
theorem DS_of_lt {h t s : ℕ} (hs : t < s) : D.DS h t s = 0 := by rw [DS, P_of_lt hs, zero_mul]

/-- One block of 512 rows more. -/
theorem dk_block (i s d : ℕ) : D.dk (512 * (i + 1)) s d = D.dk (512 * i) s d
    + ∑ r : Fin 512, (D.DS 0 (512 * i + r) s * D.qm 0 (512 * i + r) d + D.DS 1 (512 * i + r) s * D.qm 1 (512 * i + r) d) := by
  rw [dk, Nat.mul_succ, sum_range_add, sum_range (n := 512)]; rfl
theorem dv_block (i s d : ℕ) : D.dv (512 * (i + 1)) s d = D.dv (512 * i) s d
    + ∑ r : Fin 512, (D.P 0 (512 * i + r) s * D.gm 0 (512 * i + r) d + D.P 1 (512 * i + r) s * D.gm 1 (512 * i + r) d) := by
  rw [dv, Nat.mul_succ, sum_range_add, sum_range (n := 512)]; rfl
theorem dc_block (i h s : ℕ) : D.dc (512 * (i + 1)) h s = D.dc (512 * i) h s
    + ∑ r : Fin 512, D.DS h (512 * i + r) s := by
  rw [dc, Nat.mul_succ, sum_range_add, sum_range (n := 512)]; rfl
theorem dq_block (j t d : ℕ) : D.dq (512 * (j + 1)) t d = D.dq (512 * j) t d
    + ∑ r : Fin 512, (D.DS 0 t (512 * j + r) * D.km 0 (512 * j + r) d + D.DS 1 t (512 * j + r) * D.km 1 (512 * j + r) d) := by
  rw [dq, Nat.mul_succ, sum_range_add, sum_range (n := 512)]; rfl

/-- Rows before position `s` give it nothing: the sums up to there are equal. -/
theorem dk_of_le {m n s : ℕ} (hmn : m ≤ n) (hn : n ≤ s) (d : ℕ) : D.dk n s d = D.dk m s d := by
  obtain ⟨k, rfl⟩ := Nat.exists_eq_add_of_le hmn
  rw [dk, sum_range_add, dk, add_eq_left]
  refine sum_eq_zero fun x hx => ?_
  have := mem_range.mp hx
  rw [DS_of_lt (by omega), DS_of_lt (by omega), zero_mul, zero_mul, add_zero]
theorem dv_of_le {m n s : ℕ} (hmn : m ≤ n) (hn : n ≤ s) (d : ℕ) : D.dv n s d = D.dv m s d := by
  obtain ⟨k, rfl⟩ := Nat.exists_eq_add_of_le hmn
  rw [dv, sum_range_add, dv, add_eq_left]
  refine sum_eq_zero fun x hx => ?_
  have := mem_range.mp hx
  rw [P_of_lt (by omega), P_of_lt (by omega), zero_mul, zero_mul, add_zero]
theorem dc_of_le {m n s : ℕ} (hmn : m ≤ n) (hn : n ≤ s) (h : ℕ) : D.dc n h s = D.dc m h s := by
  obtain ⟨k, rfl⟩ := Nat.exists_eq_add_of_le hmn
  rw [dc, sum_range_add, dc, add_eq_left]
  refine sum_eq_zero fun x hx => ?_
  have := mem_range.mp hx
  exact DS_of_lt (by omega)
/-- Keys after position `t` give its row nothing. -/
theorem dq_of_lt {m n t : ℕ} (hm : t < m) (hmn : m ≤ n) (d : ℕ) : D.dq n t d = D.dq m t d := by
  obtain ⟨k, rfl⟩ := Nat.exists_eq_add_of_le hmn
  rw [dq, sum_range_add, dq, add_eq_left]
  refine sum_eq_zero fun x hx => ?_
  have := mem_range.mp hx
  rw [DS_of_lt (by omega), DS_of_lt (by omega), zero_mul, zero_mul, add_zero]

end Pair

/-- A finite sum of real numbers, as extended reals. -/
theorem coe_sum {ι : Type} (s : Finset ι) (f : ι → ℝ) : ((∑ i ∈ s, f i : ℝ) : EReal) = ∑ i ∈ s, ((f i : ℝ) : EReal) := by
  classical
  induction s using Finset.induction_on with
  | empty => rfl
  | insert a s ha ih => rw [sum_insert ha, sum_insert ha, EReal.coe_add, ih]

end Cert.Fox

end
-- ==== Proof.Fox.Pay.lean ====
/-
  THE KERNEL'S BLOCK EXPRESSIONS AT AN INDEX, over the reals. Query block `i` holds rows `512 i + r`, key block `j` rows
  `512 j + s`. Each lemma takes what the operands hold (`Cert.Fox.Pair`, Math.lean) and says what one expression of the
  kernel's body holds: the weights, the gradient at the scores, and what each adds to the sums that the kernel carries.
-/
module

public import proofs.«01_k».proof.Proof.Gen.KernelIdeal.Skeleton
public import proofs.«01_k».proof.Proof.Fox.Math
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Fox

open Cert.KernelIdeal Cert.KernelIdeal.Gen

/-- A selection by a one-bit word is an `if`. -/
theorem sel_eq {α : Type} (c : BitVec 1) (a b : α) : Scalar.select c a b = if c = 1#1 then a else b := rfl

/-- The lane mask: lanes before 64. -/
theorem lane_lt (d : Fin 128) : IntOp.cmpi .slt (BitVec.ofNat 32 d.val) 64#32 = 1#1 ↔ d.val / 64 = 0 := by
  revert d; decide

theorem lane_div (d : Fin 128) : ¬ d.val / 64 = 0 ↔ d.val / 64 = 1 := by omega

theorem toInt_small (r : Fin 512) : (BitVec.ofNat 32 r.val).toInt = r.val := by
  have := r.isLt
  rw [BitVec.toInt_eq_toNat_of_lt] <;> rw [BitVec.toNat_ofNat, Nat.mod_eq_of_lt] <;> omega

/-- The causal mask of a diagonal block. -/
theorem causal_le (r s : Fin 512) :
    IntOp.cmpi .sle (BitVec.ofNat 32 s.val) (BitVec.ofNat 32 r.val) = 1#1 ↔ s.val ≤ r.val := by
  rw [IntOp.cmpi_sle, toInt_small, toInt_small]; omega

theorem diag_eq (r s : Fin 512) :
    IntOp.cmpi .eq (BitVec.ofNat 32 r.val) (BitVec.ofNat 32 s.val) = 1#1 ↔ r = s := by
  rw [IntOp.cmpi_eq, ← BitVec.toInt_inj, toInt_small, toInt_small]; omega

variable {D : Pair} {i j : ℕ}

/-- What the two halves of a stacked block of rows hold: head 0's rows, then head 1's. -/
def Stacked (x : FVec Ideal S1024x128 .bf16) (f : ℕ → ℕ → ℕ → ℝ) (i : ℕ) : Prop :=
  ∀ (r : Fin 512) (d : Fin 128), x (ix2 ⟨r.val, by omega⟩ d) = ((f 0 (512 * i + r) d : ℝ) : EReal)
    ∧ x (ix2 ⟨512 + r.val, by omega⟩ d) = ((f 1 (512 * i + r) d : ℝ) : EReal)

/-- What a block of rows holds. -/
def Rows (x : Vec Ideal S512x128 .bf16) (f : ℕ → ℕ → ℝ) (i : ℕ) : Prop :=
  ∀ (r : Fin 512) (d : Fin 128), x (ix2 r d) = ((f (512 * i + r) d : ℝ) : EReal)

/-- What a column of row values holds. -/
def Col (x : FVec Ideal S512x1 .f32) (f : ℕ → ℝ) (i : ℕ) : Prop :=
  ∀ r : Fin 512, x (ix2 r 0) = ((f (512 * i + r) : ℝ) : EReal)

/-- What a row of position values holds. -/
def Row (x : Vec Ideal S1x1x512 .f32) (f : ℕ → ℝ) (j : ℕ) : Prop :=
  ∀ s : Fin 512, x (ix3 0 0 s) = ((f (512 * j + s) : ℝ) : EReal)

/-- What a score block holds. -/
def Sq {φ : FTy} (x : FVec Ideal S512x512 φ) (f : ℕ → ℕ → ℝ) (i j : ℕ) : Prop :=
  ∀ r s : Fin 512, x (ix2 r s) = ((f (512 * i + r) (512 * j + s) : ℝ) : EReal)

/-! ## The operands of a grid point -/

theorem bf16_eighth : Ideal.ofBits FTy.bf16 0x3E00#16 = ((1 / 8 : ℝ) : EReal) := by
  simp [Ideal.ofBits, Ideal.ieee, -EReal.coe_mul]; norm_num
theorem f32_eighth : Ideal.ofBits FTy.f32 0x3E000000#32 = ((1 / 8 : ℝ) : EReal) := by
  simp [Ideal.ofBits, Ideal.ieee, -EReal.coe_mul]; norm_num

/-- A selection on the lane mask between a real number and zero, head 0's lanes. -/
theorem sel_low (d : Fin 128) (a : ℝ) :
    Scalar.select (IntOp.cmpi .slt (BitVec.ofNat 32 d.val) 64#32) (a : EReal) 0
      = ((if d.val / 64 = 0 then a else 0 : ℝ) : EReal) := by
  rw [sel_eq, apply_ite (fun x : ℝ => (x : EReal))]
  exact if_congr (lane_lt d) rfl EReal.coe_zero.symm

/-- The same, head 1's lanes. -/
theorem sel_high (d : Fin 128) (a : ℝ) :
    Scalar.select (IntOp.cmpi .slt (BitVec.ofNat 32 d.val) 64#32) 0 (a : EReal)
      = ((if d.val / 64 = 1 then a else 0 : ℝ) : EReal) := by
  rw [sel_eq, apply_ite (fun x : ℝ => (x : EReal)), EReal.coe_zero]
  by_cases h : d.val / 64 = 0
  · rw [if_pos ((lane_lt d).mpr h), if_neg (by omega)]
  · rw [if_neg (fun h' => h ((lane_lt d).mp h')), if_pos ((lane_div d).mp h)]

theorem pay47_eq {x : Vec Ideal S512x128 .bf16} (hx : Rows x D.q i) : Stacked (k0_pay47 x) D.qm i := by
  intro r d
  constructor
  · pointwise [k0_pay47]
    rw [hx, bf16_eighth, ← EReal.coe_mul, sel_low]
    rfl
  · pointwise [k0_pay47]
    rw [hx, bf16_eighth, ← EReal.coe_mul, sel_high]
    rfl

theorem pay49_eq {x : Vec Ideal S512x128 .bf16} (hx : Rows x D.g i) : Stacked (k0_pay49 x) D.gm i := by
  intro r d
  constructor
  · pointwise [k0_pay49, k0_pay48]
    rw [hx, sel_low]
    rfl
  · pointwise [k0_pay49, k0_pay48]
    rw [hx, sel_high]
    rfl

theorem pay52_eq {x : Vec Ideal S512x128 .bf16} {y : Vec Ideal S512x128 .f32} (hx : Rows x D.g i)
    (hy : ∀ (r : Fin 512) (d : Fin 128), y (ix2 r d) = ((D.o (512 * i + r) d : ℝ) : EReal)) :
    Col (k0_pay52 x y) (D.delta 0) i := by
  intro r
  pointwise [k0_pay52, k0_pay50, k0_pay51, k0_pay48]
  simp only [hx _ _, hy, ← EReal.coe_mul, sel_low, ← coe_sum]
  rfl

theorem pay53_eq {x : Vec Ideal S512x128 .bf16} {y : Vec Ideal S512x128 .f32} (hx : Rows x D.g i)
    (hy : ∀ (r : Fin 512) (d : Fin 128), y (ix2 r d) = ((D.o (512 * i + r) d : ℝ) : EReal)) :
    Col (k0_pay53 x y) (D.delta 1) i := by
  intro r
  pointwise [k0_pay53, k0_pay50, k0_pay51, k0_pay48]
  simp only [hx _ _, hy, ← EReal.coe_mul, sel_high, ← coe_sum]
  rfl

/-- A row's diagonal, summed: the entry itself. -/
theorem diag_sum (r : Fin 512) (f : Fin 512 → EReal) :
    ∑ x, Scalar.select (IntOp.cmpi .eq (BitVec.ofNat 32 r.val) (BitVec.ofNat 32 x.val)) (f x) 0 = f r := by
  simp only [sel_eq, diag_eq, Finset.sum_ite_eq, Finset.mem_univ, if_true]

theorem pay54_eq {x : Vec Ideal S1x1x512 .f32} (hx : Row x (D.c 0) i) : Col (k0_pay54 x) (D.c 0) i := by
  intro r
  pointwise [k0_pay54]
  rw [diag_sum r fun x_1 => x (ix3 0 0 x_1), hx]

theorem pay55_eq {x : Vec Ideal S1x1x512 .f32} (hx : Row x (D.c 1) i) : Col (k0_pay55 x) (D.c 1) i := by
  intro r
  pointwise [k0_pay55]
  rw [diag_sum r fun x_1 => x (ix3 0 0 x_1), hx]

theorem pay56_eq {x : Vec Ideal S1x512x1 .f32} {f : ℕ → ℝ}
    (hx : ∀ r : Fin 512, x (ix3 0 r 0) = ((f (512 * i + r) : ℝ) : EReal)) : Col (k0_pay56 x) f i := by
  intro r
  pointwise [k0_pay56]
  exact hx r

theorem pay57_eq {x : Vec Ideal S1x512x1 .f32} {f : ℕ → ℝ}
    (hx : ∀ r : Fin 512, x (ix3 0 r 0) = ((f (512 * i + r) : ℝ) : EReal)) : Col (k0_pay57 x) f i := by
  intro r
  pointwise [k0_pay57]
  exact hx r

/-! ## A score block: the weights and the gradient at the scores -/

theorem pay7_eq {q : FVec Ideal S1024x128 .bf16} {c l : FVec Ideal S512x1 .f32} {k : Vec Ideal S512x128 .bf16}
    {ck : Vec Ideal S1x1x512 .f32} (hq : Stacked q D.qm i) (hc : Col c (D.c 0) i) (hl : Col l (D.lse 0) i)
    (hk : Rows k D.k j) (hck : Row ck (D.c 0) j) : Sq (k0_pay7 q c l k ck) (D.E 0) i j := by
  intro r s
  pointwise [k0_pay7, k0_pay5, k0_pay4]
  simp only [(hq _ _).1, hc _, hl _, hk _ _, hck _, ← EReal.coe_mul, ← coe_sum, ← EReal.coe_sub, ← EReal.coe_add, Ideal.exp_coe]
  rfl

theorem pay8_eq {q : FVec Ideal S1024x128 .bf16} {c l : FVec Ideal S512x1 .f32} {k : Vec Ideal S512x128 .bf16}
    {ck : Vec Ideal S1x1x512 .f32} (hq : Stacked q D.qm i) (hc : Col c (D.c 1) i) (hl : Col l (D.lse 1) i)
    (hk : Rows k D.k j) (hck : Row ck (D.c 1) j) : Sq (k0_pay8 q c l k ck) (D.E 1) i j := by
  intro r s
  pointwise [k0_pay8, k0_pay5, k0_pay4]
  simp only [(hq _ _).2, hc _, hl _, hk _ _, hck _, ← EReal.coe_mul, ← coe_sum, ← EReal.coe_sub, ← EReal.coe_add, Ideal.exp_coe]
  rfl

section Weights

variable {q g : FVec Ideal S1024x128 .bf16} {c l e : FVec Ideal S512x1 .f32} {k v : Vec Ideal S512x128 .bf16}
  {ck : Vec Ideal S1x1x512 .f32}

/-- A block of keys strictly before the block of queries lies below the diagonal. -/
theorem sq_P {φ : FTy} {x : FVec Ideal S512x512 φ} {h : ℕ} (hx : Sq x (D.E h) i j) (hij : j < i) : Sq x (D.P h) i j := by
  intro r s
  rw [hx, Pair.P_of_le (by have := s.isLt; omega)]

theorem pay9_eq (hp : Sq (k0_pay7 q c l k ck) (D.P 0) i j) (hg : Stacked g D.gm i) (he : Col e (D.delta 0) i)
    (hv : Rows v D.v j) : Sq (k0_pay9 q g e c l k v ck) (D.DS 0) i j := by
  intro r s
  pointwise [k0_pay9, k0_pay6]
  rw [hp r s]
  simp only [(hg _ _).1, he _, hv _ _, ← EReal.coe_mul, ← coe_sum, ← EReal.coe_sub]
  rfl

theorem pay10_eq (hp : Sq (k0_pay8 q c l k ck) (D.P 1) i j) (hg : Stacked g D.gm i) (he : Col e (D.delta 1) i)
    (hv : Rows v D.v j) : Sq (k0_pay10 q g e c l k v ck) (D.DS 1) i j := by
  intro r s
  pointwise [k0_pay10, k0_pay6]
  rw [hp r s]
  simp only [(hg _ _).2, he _, hv _ _, ← EReal.coe_mul, ← coe_sum, ← EReal.coe_sub]
  rfl

theorem pay65_eq (hq : Stacked q D.qm i) (hc : Col c (D.c 0) i) (hl : Col l (D.lse 0) i)
    (hk : Rows k D.k i) (hck : Row ck (D.c 0) i) : Sq (k0_pay65 q c l k0_pay58 k ck) (D.P 0) i i := by
  intro r s
  pointwise [k0_pay65, k0_pay63, k0_pay62, k0_pay58]
  simp only [(hq _ _).1, hc _, hl _, hk _ _, hck _, ← EReal.coe_mul, ← coe_sum, ← EReal.coe_sub, ← EReal.coe_add, Ideal.exp_coe]
  rw [sel_eq, Pair.P, apply_ite (fun x : ℝ => (x : EReal))]
  exact if_congr ((causal_le r s).trans (by omega)) rfl EReal.coe_zero.symm

theorem pay66_eq (hq : Stacked q D.qm i) (hc : Col c (D.c 1) i) (hl : Col l (D.lse 1) i)
    (hk : Rows k D.k i) (hck : Row ck (D.c 1) i) : Sq (k0_pay66 q c l k0_pay58 k ck) (D.P 1) i i := by
  intro r s
  pointwise [k0_pay66, k0_pay63, k0_pay62, k0_pay58]
  simp only [(hq _ _).2, hc _, hl _, hk _ _, hck _, ← EReal.coe_mul, ← coe_sum, ← EReal.coe_sub, ← EReal.coe_add, Ideal.exp_coe]
  rw [sel_eq, Pair.P, apply_ite (fun x : ℝ => (x : EReal))]
  exact if_congr ((causal_le r s).trans (by omega)) rfl EReal.coe_zero.symm

theorem pay67_eq {w : IVec S512x512 1} (hp : Sq (k0_pay65 q c l w k ck) (D.P 0) i j) (hg : Stacked g D.gm i) (he : Col e (D.delta 0) i)
    (hv : Rows v D.v j) : Sq (k0_pay67 q g e c l w k v ck) (D.DS 0) i j := by
  intro r s
  pointwise [k0_pay67, k0_pay64]
  rw [hp r s]
  simp only [(hg _ _).1, he _, hv _ _, ← EReal.coe_mul, ← coe_sum, ← EReal.coe_sub]
  rfl

theorem pay68_eq {w : IVec S512x512 1} (hp : Sq (k0_pay66 q c l w k ck) (D.P 1) i j) (hg : Stacked g D.gm i) (he : Col e (D.delta 1) i)
    (hv : Rows v D.v j) : Sq (k0_pay68 q g e c l w k v ck) (D.DS 1) i j := by
  intro r s
  pointwise [k0_pay68, k0_pay64]
  rw [hp r s]
  simp only [(hg _ _).2, he _, hv _ _, ← EReal.coe_mul, ← coe_sum, ← EReal.coe_sub]
  rfl

end Weights

/-! ## What a score block adds to the sums -/

/-- A block product of two stacked operands adds to a sum the terms of both heads. -/
theorem two_heads (A B : ℕ → ℕ → ℕ → ℝ) (old new : ℝ) (i s d : ℕ)
    (h : new = old + ∑ r : Fin 512, (A 0 (512 * i + r) s * B 0 (512 * i + r) d + A 1 (512 * i + r) s * B 1 (512 * i + r) d)) :
    (old : EReal) + ((∑ x : Fin 512, ((A 0 (512 * i + x) s * B 0 (512 * i + x) d : ℝ) : EReal))
      + ∑ x : Fin 512, ((A 1 (512 * i + x) s * B 1 (512 * i + x) d : ℝ) : EReal)) = (new : EReal) := by
  rw [h, Finset.sum_add_distrib, ← coe_sum, ← coe_sum, ← EReal.coe_add, ← EReal.coe_add]

section Adds

variable {q g : FVec Ideal S1024x128 .bf16} {a b : FVec Ideal S512x512 .f32} {old : Vec Ideal S512x128 .f32}

theorem pay71_eq (hq : Stacked q D.qm i) (ha : Sq a (D.DS 0) i j) (hb : Sq b (D.DS 1) i j)
    {a' : FVec Ideal S512x512 .bf16} (ha' : ∀ x, a' x = a x)
    (s : Fin 512) (d : Fin 128) (ho : old (ix2 s d) = ((D.dk (512 * i) (512 * j + s) d : ℝ) : EReal)) :
    k0_pay71 q b a' old (ix2 s d) = ((D.dk (512 * (i + 1)) (512 * j + s) d : ℝ) : EReal) := by
  pointwise [k0_pay71, k0_pay70]
  simp only [ha', ha _ _, hb _ _, (hq _ _).1, (hq _ _).2, ho, ← EReal.coe_mul]
  exact two_heads D.DS D.qm _ _ i _ _ (Pair.dk_block ..)

/-- The gradient of k, a block below the diagonal. -/
theorem pay16_eq {g : FVec Ideal S1024x128 .bf16} {c0 c1 l0 l1 e0 e1 : FVec Ideal S512x1 .f32} {k v : Vec Ideal S512x128 .bf16}
    {ck0 ck1 : Vec Ideal S1x1x512 .f32} (hq : Stacked q D.qm i)
    (ha : Sq (k0_pay9 q g e0 c0 l0 k v ck0) (D.DS 0) i j) (hb : Sq (k0_pay10 q g e1 c1 l1 k v ck1) (D.DS 1) i j)
    (s : Fin 512) (d : Fin 128) (ho : old (ix2 s d) = ((D.dk (512 * i) (512 * j + s) d : ℝ) : EReal)) :
    k0_pay16 old (k0_pay15 q g e0 e1 c0 c1 l0 l1 k v ck0 ck1) (ix2 s d)
      = ((D.dk (512 * (i + 1)) (512 * j + s) d : ℝ) : EReal) := by
  pointwise [k0_pay16, k0_pay15, k0_pay11, k0_pay12]
  simp only [ha _ _, hb _ _, (hq _ _).1, (hq _ _).2, ho, ← EReal.coe_mul]
  exact two_heads D.DS D.qm _ _ i _ _ (Pair.dk_block ..)

/-- The gradient of v, a block below the diagonal. -/
theorem pay17_eq {a' b' : FVec Ideal S512x512 .bf16} (hq : Stacked q D.gm i) (ha : Sq a' (D.P 0) i j) (hb : Sq b' (D.P 1) i j)
    (s : Fin 512) (d : Fin 128) (ho : old (ix2 s d) = ((D.dv (512 * i) (512 * j + s) d : ℝ) : EReal)) :
    k0_pay17 q a' b' old (ix2 s d) = ((D.dv (512 * (i + 1)) (512 * j + s) d : ℝ) : EReal) := by
  pointwise [k0_pay17]
  simp only [ha _ _, hb _ _, (hq _ _).1, (hq _ _).2, ho, ← EReal.coe_mul]
  exact two_heads D.P D.gm _ _ i _ _ (Pair.dv_block ..)

/-- The gradient of v, the diagonal block. -/
theorem pay72_eq (hq : Stacked q D.gm i) (ha : Sq a (D.P 0) i j) (hb : Sq b (D.P 1) i j)
    (s : Fin 512) (d : Fin 128) (ho : old (ix2 s d) = ((D.dv (512 * i) (512 * j + s) d : ℝ) : EReal)) :
    k0_pay72 q a b old (ix2 s d) = ((D.dv (512 * (i + 1)) (512 * j + s) d : ℝ) : EReal) := by
  pointwise [k0_pay72]
  simp only [ha _ _, hb _ _, (hq _ _).1, (hq _ _).2, ho, ← EReal.coe_mul]
  exact two_heads D.P D.gm _ _ i _ _ (Pair.dv_block ..)

/-- The gradient of the log-gates: the column sums go off what the row held. -/
theorem col_sub {h : ℕ} (s : Fin 512) (x : EReal) (hx : x = ((- D.dc (512 * i) h (512 * j + s) : ℝ) : EReal)) :
    x - ∑ r : Fin 512, ((D.DS h (512 * i + r) (512 * j + s) : ℝ) : EReal)
      = ((- D.dc (512 * (i + 1)) h (512 * j + s) : ℝ) : EReal) := by
  rw [hx, ← coe_sum, ← EReal.coe_sub, Pair.dc_block, neg_add, sub_eq_add_neg]

variable {ct : Vec Ideal S1x1x512 .f32} {h : ℕ}

theorem pay18_eq (ha : Sq a (D.DS h) i j) (s : Fin 512)
    (ho : ct (ix3 0 0 s) = ((- D.dc (512 * i) h (512 * j + s) : ℝ) : EReal)) :
    k0_pay18 a ct (ix3 0 0 s) = ((- D.dc (512 * (i + 1)) h (512 * j + s) : ℝ) : EReal) := by
  pointwise [k0_pay18]
  simp only [ha _ _]
  exact col_sub s _ ho
theorem pay19_eq (ha : Sq a (D.DS h) i j) (s : Fin 512)
    (ho : ct (ix3 0 0 s) = ((- D.dc (512 * i) h (512 * j + s) : ℝ) : EReal)) :
    k0_pay19 a ct (ix3 0 0 s) = ((- D.dc (512 * (i + 1)) h (512 * j + s) : ℝ) : EReal) := by
  pointwise [k0_pay19]
  simp only [ha _ _]
  exact col_sub s _ ho
theorem pay73_eq (ha : Sq a (D.DS h) i j) (s : Fin 512)
    (ho : ct (ix3 0 0 s) = ((- D.dc (512 * i) h (512 * j + s) : ℝ) : EReal)) :
    k0_pay73 a ct (ix3 0 0 s) = ((- D.dc (512 * (i + 1)) h (512 * j + s) : ℝ) : EReal) := by
  pointwise [k0_pay73]
  simp only [ha _ _]
  exact col_sub s _ ho
theorem pay74_eq (ha : Sq a (D.DS h) i j) (s : Fin 512)
    (ho : ct (ix3 0 0 s) = ((- D.dc (512 * i) h (512 * j + s) : ℝ) : EReal)) :
    k0_pay74 a ct (ix3 0 0 s) = ((- D.dc (512 * (i + 1)) h (512 * j + s) : ℝ) : EReal) := by
  pointwise [k0_pay74]
  simp only [ha _ _]
  exact col_sub s _ ho

/-- The terms of both heads that a key block adds to a row of the gradient of q. -/
theorem two_heads_row (A : ℕ → ℕ → ℕ → ℝ) (B : ℕ → ℕ → ℝ) (old new : ℝ) (t j : ℕ) (d : Fin 128)
    (h : new = old + ∑ s : Fin 512, (A 0 t (512 * j + s) * (if d.val / 64 = 0 then B (512 * j + s) d else 0)
      + A 1 t (512 * j + s) * (if d.val / 64 = 1 then B (512 * j + s) d else 0))) :
    (old : EReal) + ((∑ x : Fin 512, ((if d.val / 64 = 0 then A 0 t (512 * j + x) * B (512 * j + x) d else 0 : ℝ) : EReal))
      + ∑ x : Fin 512, ((if d.val / 64 = 1 then A 1 t (512 * j + x) * B (512 * j + x) d else 0 : ℝ) : EReal)) = (new : EReal) := by
  rw [h, Finset.sum_add_distrib, ← coe_sum, ← coe_sum, ← EReal.coe_add, ← EReal.coe_add]
  simp only [mul_ite, mul_zero]

/-- The gradient of q, a block below the diagonal. -/
theorem pay60_eq {acc : FVec Ideal S512x128 .f32} {a' b' : FVec Ideal S512x512 .bf16} {k : Vec Ideal S512x128 .bf16}
    (ha : Sq a' (D.DS 0) i j) (hb : Sq b' (D.DS 1) i j) (hk : Rows k D.k j) (r : Fin 512) (d : Fin 128)
    (ho : acc (ix2 r d) = ((D.dq (512 * j) (512 * i + r) d : ℝ) : EReal)) :
    k0_pay60 acc (k0_pay4 k) (k0_pay20 a' b') k0_pay21 (k0_pay22 (F := Ideal)) (k0_pay23 (k0_pay4 k)) (ix2 r d)
      = ((D.dq (512 * (j + 1)) (512 * i + r) d : ℝ) : EReal) := by
  pointwise [k0_pay60, k0_pay4, k0_pay20, k0_pay21, k0_pay22, k0_pay23]
  simp only [ha _ _, hb _ _, hk _ _, ho, ← EReal.coe_mul, sel_low, sel_high]
  exact two_heads_row D.DS D.k _ _ _ j _ (Pair.dq_block ..)

/-- The gradient of q: the diagonal block, and the scale. -/
theorem pay1_eq {acc : FVec Ideal S512x128 .f32} {a' b' : FVec Ideal S512x512 .bf16} {k : Vec Ideal S512x128 .bf16}
    (ha : Sq a' (D.DS 0) i j) (hb : Sq b' (D.DS 1) i j) (hk : Rows k D.k j) (r : Fin 512) (d : Fin 128)
    (ho : acc (ix2 r d) = ((D.dq (512 * j) (512 * i + r) d : ℝ) : EReal)) :
    k0_pay1 acc (k0_pay62 k) a' b' (ix2 r d) = ((D.dq (512 * (j + 1)) (512 * i + r) d * (1 / 8) : ℝ) : EReal) := by
  pointwise [k0_pay1, k0_pay62]
  simp only [ha _ _, hb _ _, hk _ _, ho, ← EReal.coe_mul, sel_low, sel_high]
  rw [two_heads_row D.DS D.k _ _ _ j _ (Pair.dq_block ..), f32_eighth, ← EReal.coe_mul]

end Adds

end Cert.Fox

end
-- ==== Proof.Fox.Mem.lean ====
/-
  BLOCKS OF THE ARRAYS A PROGRAM POINT HOLDS: loads of 512 rows (or positions) and stores of them, over the reals. `All`
  and `Heads` say what a whole array holds; a load of block `j` holds the function at `512 j + r`; a store of block `j`
  leaves the other rows alone.
-/
module

public import proofs.«01_k».proof.Proof.Fox.Pay
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem

namespace Cert.Fox

open Cert.KernelIdeal Cert.KernelIdeal.Gen

/-- What a whole array of 4096 rows holds. -/
def All {φ : FTy} (x : FVec Ideal S4096x128 φ) (f : ℕ → ℕ → ℝ) : Prop :=
  ∀ (s : Fin 4096) (d : Fin 128), x (ix2 s d) = ((f s d : ℝ) : EReal)

/-- What the two heads' values hold, position by position. -/
def Heads (x : FVec Ideal S2x1x4096 .f32) (f : ℕ → ℕ → ℝ) : Prop :=
  ∀ (h : Fin 2) (s : Fin 4096), x (ix3 h 0 s) = ((f h s : ℝ) : EReal)

variable {sig : RefSig} {κ : Kind} {sp : Space}

/-- A load of 512 rows of an array. -/
theorem ld_rows {e : EltTy} (v : View sig κ sp S4096x128 e) (f : v.ty.Contents (Elt Ideal)) {off : Fin 2 → ℕ} {j : ℕ} (hj : j < 8)
    (hoff : off = ![512 * j, 0]) (inb : ∀ a, off a + (![512, 128] : Fin 2 → ℕ) a ≤ S4096x128.size a) (r : Fin 512) (d : Fin 128) :
    v.readAt (Elt Ideal) (Rect.unit (s := S4096x128) off ![512, 128] inb).toLoadRect f (ix2 r d)
      = v.read (Elt Ideal) f (ix2 ⟨512 * j + r.val, by omega⟩ d) := by
  subst hoff
  refine congrArg (v.read (Elt Ideal) f) (funext fun a => Fin.ext ?_)
  match a with
  | ⟨0, _⟩ => show 512 * j + 1 * r.val = 512 * j + r.val; omega
  | ⟨1, _⟩ => show 0 + 1 * d.val = d.val; omega

/-- A load of 512 positions of one head. -/
theorem ld_pos {e : EltTy} (v : View sig κ sp S2x1x4096 e) (f : v.ty.Contents (Elt Ideal)) {off : Fin 3 → ℕ} {j : ℕ} (hj : j < 8) (h : Fin 2)
    (hoff : off = ![h.val, 0, 512 * j]) (inb : ∀ a, off a + (![1, 1, 512] : Fin 3 → ℕ) a ≤ S2x1x4096.size a) (s : Fin 512) :
    v.readAt (Elt Ideal) (Rect.unit (s := S2x1x4096) off ![1, 1, 512] inb).toLoadRect f (ix3 0 0 s)
      = v.read (Elt Ideal) f (ix3 h 0 ⟨512 * j + s.val, by omega⟩) := by
  subst hoff
  refine congrArg (v.read (Elt Ideal) f) (funext fun a => Fin.ext ?_)
  match a with
  | ⟨0, _⟩ => show h.val + 1 * 0 = h.val; omega
  | ⟨1, _⟩ => show 0 + 1 * 0 = 0; omega
  | ⟨2, _⟩ => show 512 * j + 1 * s.val = 512 * j + s.val; omega

/-- A row under a store of 512 rows reads the payload. -/
theorem st_rows_mem {e : EltTy} (v : View sig κ sp S4096x128 e) (f : v.ty.Contents (Elt Ideal)) {off : Fin 2 → ℕ} {j : ℕ}
    (hoff : off = ![512 * j, 0]) (inb : ∀ a, off a + (![512, 128] : Fin 2 → ℕ) a ≤ S4096x128.size a)
    (w : (Rect.unit (s := S4096x128) off ![512, 128] inb).shape.Idx → Elt Ideal e) (L : List (View.Piece (Elt Ideal) S4096x128 e))
    (s : Fin 4096) (d : Fin 128) (r : Fin 512) (hs : s.val = 512 * j + r.val) :
    v.read (Elt Ideal) (v.writes (Elt Ideal) f ((⟨Rect.unit (s := S4096x128) off ![512, 128] inb, w⟩ : View.Piece (Elt Ideal) S4096x128 e) :: L))
      (ix2 s d) = w (ix2 r d) :=
  View.read_writes_cons_rows_of_mem v f inb w L (ix2 s d) (ix2 r d) hoff hs rfl

/-- A row outside a store of 512 rows keeps what it held. -/
theorem st_rows_not_mem {e : EltTy} (v : View sig κ sp S4096x128 e) (f : v.ty.Contents (Elt Ideal)) {off : Fin 2 → ℕ} {j : ℕ}
    (hoff : off = ![512 * j, 0]) (inb : ∀ a, off a + (![512, 128] : Fin 2 → ℕ) a ≤ S4096x128.size a)
    (w : (Rect.unit (s := S4096x128) off ![512, 128] inb).shape.Idx → Elt Ideal e) (L : List (View.Piece (Elt Ideal) S4096x128 e))
    (s : Fin 4096) (d : Fin 128) (hs : s.val < 512 * j ∨ 512 * j + 512 ≤ s.val) :
    v.read (Elt Ideal) (v.writes (Elt Ideal) f ((⟨Rect.unit (s := S4096x128) off ![512, 128] inb, w⟩ : View.Piece (Elt Ideal) S4096x128 e) :: L))
      (ix2 s d) = v.read (Elt Ideal) (v.writes (Elt Ideal) f L) (ix2 s d) :=
  View.read_writes_cons_rows_of_not_mem v f inb w L (ix2 s d) hoff rfl hs

/-- A position under a store of 512 positions of its head reads the payload. -/
theorem st_pos_mem {e : EltTy} (v : View sig κ sp S2x1x4096 e) (f : v.ty.Contents (Elt Ideal)) {off : Fin 3 → ℕ} {j : ℕ} (h : Fin 2)
    (hoff : off = ![h.val, 0, 512 * j]) (inb : ∀ a, off a + (![1, 1, 512] : Fin 3 → ℕ) a ≤ S2x1x4096.size a)
    (w : (Rect.unit (s := S2x1x4096) off ![1, 1, 512] inb).shape.Idx → Elt Ideal e) (L : List (View.Piece (Elt Ideal) S2x1x4096 e))
    (s : Fin 4096) (r : Fin 512) (hs : s.val = 512 * j + r.val) :
    v.read (Elt Ideal) (v.writes (Elt Ideal) f ((⟨Rect.unit (s := S2x1x4096) off ![1, 1, 512] inb, w⟩ : View.Piece (Elt Ideal) S2x1x4096 e) :: L))
      (ix3 h 0 s) = w (ix3 0 0 r) :=
  View.read_writes_cons_unit_of_mem v f inb w L (ix3 h 0 s) (ix3 0 0 r) hoff fun a =>
    match a with
    | ⟨0, _⟩ => rfl
    | ⟨1, _⟩ => rfl
    | ⟨2, _⟩ => hs

/-- A position outside a store of 512 positions, or of the other head, keeps what it held. -/
theorem st_pos_not_mem {e : EltTy} (v : View sig κ sp S2x1x4096 e) (f : v.ty.Contents (Elt Ideal)) {off : Fin 3 → ℕ} {j : ℕ} (h' h : Fin 2)
    (hoff : off = ![h'.val, 0, 512 * j]) (inb : ∀ a, off a + (![1, 1, 512] : Fin 3 → ℕ) a ≤ S2x1x4096.size a)
    (w : (Rect.unit (s := S2x1x4096) off ![1, 1, 512] inb).shape.Idx → Elt Ideal e) (L : List (View.Piece (Elt Ideal) S2x1x4096 e))
    (s : Fin 4096) (hs : h ≠ h' ∨ s.val < 512 * j ∨ 512 * j + 512 ≤ s.val) :
    v.read (Elt Ideal) (v.writes (Elt Ideal) f ((⟨Rect.unit (s := S2x1x4096) off ![1, 1, 512] inb, w⟩ : View.Piece (Elt Ideal) S2x1x4096 e) :: L))
      (ix3 h 0 s) = v.read (Elt Ideal) (v.writes (Elt Ideal) f L) (ix3 h 0 s) := by
  rcases hs with hs | hs
  · refine View.read_writes_cons_unit_of_not_mem v f inb w L (ix3 h 0 s) hoff ⟨0, by decide⟩ ?_
    show h.val < h'.val ∨ h'.val + 1 ≤ h.val
    have : h.val ≠ h'.val := fun e => hs (Fin.ext e)
    omega
  · refine View.read_writes_cons_unit_of_not_mem v f inb w L (ix3 h 0 s) hoff ⟨2, by decide⟩ ?_
    exact hs

end Cert.Fox

end
-- ==== Proof.Fox.Loop.lean ====
/-
  THE LOOP OVER THE KEY BLOCKS BELOW THE DIAGONAL, over the reals: before trip `k` the row block's gradient of q sums
  the keys of `k` blocks, and the three arrays the loop adds to hold the sums up to this row block for the rows of the
  blocks already met, and up to the row block before for the others.
-/
module

public import proofs.«01_k».proof.Proof.Fox.Trip
public import proofs.«01_k».proof.Proof.Fox.Mem

@[expose] public section

set_option maxRecDepth 16384

noncomputable section

open Idealize.ShloMosaic Idealize.ShloMosaic.TcCoe Idealize.ShloMosaic.Tactic Idealize.SL.Sem

namespace Cert.Fox

open Cert.KernelIdeal Cert.KernelIdeal.Gen

variable {D : Pair}

/-- The number of rows summed at position `s` once row block `i` has met `k` key blocks. -/
def upTo (i k s : ℕ) : ℕ := if s < 512 * k then 512 * (i + 1) else 512 * i

/-- What holds before trip `k` of row block `i`. -/
structure Inv (D : Pair) (i k : ℕ) (acc : FVec Ideal S512x128 .f32) (x13 : FVec Ideal S2x1x4096 .f32)
    (x14 x15 : FVec Ideal S4096x128 .f32) : Prop where
  dq : ∀ (r : Fin 512) (d : Fin 128), acc (ix2 r d) = ((D.dq (512 * k) (512 * i + r) d : ℝ) : EReal)
  dc : Heads x13 fun h s => - D.dc (upTo i k s) h s
  dk : All x14 fun s d => D.dk (upTo i k s) s d
  dv : All x15 fun s d => D.dv (upTo i k s) s d

theorem upTo_old {i k s r : ℕ} (h : s = 512 * k + r) : upTo i k s = 512 * i := if_neg (by omega)
theorem upTo_new {i k s r : ℕ} (h : s = 512 * k + r) (hr : r < 512) : upTo i (k + 1) s = 512 * (i + 1) := if_pos (by omega)
theorem upTo_other {i k s : ℕ} (h : s < 512 * k ∨ 512 * k + 512 ≤ s) : upTo i (k + 1) s = upTo i k s := by
  unfold upTo; split <;> split <;> first | rfl | omega

/-- A position is in a block of 512 or outside it. -/
theorem in_or_out (j s : ℕ) : (∃ r : Fin 512, s = 512 * j + r.val) ∨ (s < 512 * j ∨ 512 * j + 512 ≤ s) := by
  by_cases h : s < 512 * j ∨ 512 * j + 512 ≤ s
  · exact Or.inr h
  · exact Or.inl ⟨⟨s - 512 * j, by omega⟩, by show s = 512 * j + (s - 512 * j); omega⟩

/-- What a row block's loop reads: its own rows and columns, and the whole of k, v and the log-gates. -/
structure Ops (D : Pair) (i : ℕ) (v13 v22 : FVec Ideal S1024x128 .bf16) (v33 v37 v51 v65 v67 v69 : FVec Ideal S512x1 .f32)
    (x4 x5 : FVec Ideal S4096x128 .bf16) (x6 : FVec Ideal S2x1x4096 .f32) : Prop where
  q : Stacked v13 D.qm i
  g : Stacked v22 D.gm i
  e0 : Col v33 (D.delta 0) i
  e1 : Col v37 (D.delta 1) i
  c0 : Col v51 (D.c 0) i
  c1 : Col v65 (D.c 1) i
  l0 : Col v67 (D.lse 0) i
  l1 : Col v69 (D.lse 1) i
  k : All x4 D.k
  v : All x5 D.v
  c : Heads x6 D.c

section Loads
variable {sig : RefSig} {κ : Kind} {sp : Space} {j : ℕ}

theorem load_rows {v : View sig κ sp S4096x128 .bf16} {f : v.ty.Contents (Elt Ideal)} {g : ℕ → ℕ → ℝ}
    (hx : All (φ := .bf16) (v.read (Elt Ideal) f) g) (hj : j < 8) {off : Fin 2 → ℕ} (hoff : off = ![512 * j, 0])
    (inb : ∀ a, off a + (![512, 128] : Fin 2 → ℕ) a ≤ S4096x128.size a) :
    Rows (v.readAt (Elt Ideal) (Rect.unit (s := S4096x128) off ![512, 128] inb).toLoadRect f) g j :=
  fun r d => (ld_rows v f hj hoff inb r d).trans (hx _ _)

theorem load_acc {v : View sig κ sp S4096x128 .f32} {f : v.ty.Contents (Elt Ideal)} {g : ℕ → ℕ → ℝ}
    (hx : All (φ := .f32) (v.read (Elt Ideal) f) g) (hj : j < 8) {off : Fin 2 → ℕ} (hoff : off = ![512 * j, 0])
    (inb : ∀ a, off a + (![512, 128] : Fin 2 → ℕ) a ≤ S4096x128.size a) (r : Fin 512) (d : Fin 128) :
    v.readAt (Elt Ideal) (Rect.unit (s := S4096x128) off ![512, 128] inb).toLoadRect f (ix2 r d) = ((g (512 * j + r) d : ℝ) : EReal) :=
  (ld_rows v f hj hoff inb r d).trans (hx _ _)

theorem load_pos {v : View sig κ sp S2x1x4096 .f32} {f : v.ty.Contents (Elt Ideal)} {g : ℕ → ℕ → ℝ}
    (hx : Heads (v.read (Elt Ideal) f) g) (hj : j < 8) (h : Fin 2) {off : Fin 3 → ℕ} (hoff : off = ![h.val, 0, 512 * j])
    (inb : ∀ a, off a + (![1, 1, 512] : Fin 3 → ℕ) a ≤ S2x1x4096.size a) :
    Row (v.readAt (Elt Ideal) (Rect.unit (s := S2x1x4096) off ![1, 1, 512] inb).toLoadRect f) (g h) j :=
  fun s => (ld_pos v f hj h hoff inb s).trans (hx _ _)

end Loads

variable (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x1x4096 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S2x512x1 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S2x1x4096 .f32) (harg13 : arg13.IsWhole) (arg14 : Memref sig .tc .vmem S4096x128 .f32) (harg14 : arg14.IsWhole) (arg15 : Memref sig .tc .vmem S4096x128 .f32) (harg15 : arg15.IsWhole) (arg2 : BitVec 32) (v13 : FVec Ideal S1024x128 .bf16) (v22 : FVec Ideal S1024x128 .bf16) (v33 : FVec Ideal S512x1 .f32) (v37 : FVec Ideal S512x1 .f32) (v51 : FVec Ideal S512x1 .f32) (v65 : FVec Ideal S512x1 .f32) (v67 : FVec Ideal S512x1 .f32) (v69 : FVec Ideal S512x1 .f32) (v72 : IVec S512x512 1) (v73 : FVec Ideal S512x128 .f32) (c0_i32_29 : BitVec 32) (v78 : BitVec 32) (X_arg4 : BufTy.Contents (Elt Ideal) arg4.view.ty) (X_arg5 : BufTy.Contents (Elt Ideal) arg5.view.ty) (X_arg6 : BufTy.Contents (Elt Ideal) arg6.view.ty) (G_arg13 : BufTy.Contents (Elt Ideal) arg13.view.ty) (G_arg14 : BufTy.Contents (Elt Ideal) arg14.view.ty) (G_arg15 : BufTy.Contents (Elt Ideal) arg15.view.ty)

/-- One trip keeps what holds. -/
theorem trip_inv
    (O : Ops D (i 2).val v13 v22 v33 v37 v51 v65 v67 v69 (arg4.view.read (Elt Ideal) X_arg4) (arg5.view.read (Elt Ideal) X_arg5) (arg6.view.read (Elt Ideal) X_arg6))
    (k : Fin (k0_t1_loop i).trips) (hk : k.val < (i 2).val) (acc : FVec Ideal S512x128 .f32)
    (p13 : List (View.Piece (Elt Ideal) S2x1x4096 .f32)) (p14 p15 : List (View.Piece (Elt Ideal) S4096x128 .f32))
    (H : Inv D (i 2).val k.val acc (arg13.view.read (Elt Ideal) (arg13.view.writes (Elt Ideal) G_arg13 p13))
      (arg14.view.read (Elt Ideal) (arg14.view.writes (Elt Ideal) G_arg14 p14)) (arg15.view.read (Elt Ideal) (arg15.view.writes (Elt Ideal) G_arg15 p15))) :
    Inv D (i 2).val (k.val + 1)
      (tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 k acc (arg13.view.writes (Elt Ideal) G_arg13 p13) (arg14.view.writes (Elt Ideal) G_arg14 p14) (arg15.view.writes (Elt Ideal) G_arg15 p15))
      (arg13.view.read (Elt Ideal) (arg13.view.writes (Elt Ideal) G_arg13
        ((tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 k acc (arg13.view.writes (Elt Ideal) G_arg13 p13) (arg14.view.writes (Elt Ideal) G_arg14 p14) (arg15.view.writes (Elt Ideal) G_arg15 p15)).1 ++ p13)))
      (arg14.view.read (Elt Ideal) (arg14.view.writes (Elt Ideal) G_arg14
        ((tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 k acc (arg13.view.writes (Elt Ideal) G_arg13 p13) (arg14.view.writes (Elt Ideal) G_arg14 p14) (arg15.view.writes (Elt Ideal) G_arg15 p15)).2.1 ++ p14)))
      (arg15.view.read (Elt Ideal) (arg15.view.writes (Elt Ideal) G_arg15
        ((tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 k acc (arg13.view.writes (Elt Ideal) G_arg13 p13) (arg14.view.writes (Elt Ideal) G_arg14 p14) (arg15.view.writes (Elt Ideal) G_arg15 p15)).2.2 ++ p15))) := by
  have hi : (i 2).val < 8 := (i 2).isLt
  have k8 : k.val < 8 := by omega
  have o3 := Gen.k0_off3_eq i k
  have o4 := Gen.k0_off4_eq i k
  have o5 := Gen.k0_off5_eq i k
  have hK := load_rows O.k k8 o3 (Gen.k0_off3_inb i k)
  have hV := load_rows O.v k8 o3 (Gen.k0_off3_inb i k)
  have hC0 := load_pos O.c k8 0 o4 (Gen.k0_off4_inb i k)
  have hC1 := load_pos O.c k8 1 o5 (Gen.k0_off5_inb i k)
  have E0 := sq_P (pay7_eq O.q O.c0 O.l0 hK hC0) hk
  have E1 := sq_P (pay8_eq O.q O.c1 O.l1 hK hC1) hk
  have S0 := pay9_eq E0 O.g O.e0 hV
  have S1 := pay10_eq E1 O.g O.e1 hV
  rw [tripR_eq, tripL_eq]
  refine ⟨fun r d => pay60_eq S0 S1 hK r d (H.dq r d), fun h s => ?_, fun s d => ?_, fun s d => ?_⟩
  · simp only [List.cons_append, List.nil_append]
    rcases in_or_out k.val s.val with ⟨r, hr⟩ | hout
    · match h with
      | ⟨0, _⟩ =>
        refine (st_pos_not_mem (j := k.val) _ _ 1 0 o5 _ _ _ s (Or.inl (by decide))).trans ?_
        refine (st_pos_mem (j := k.val) _ _ 0 o4 _ _ _ s r hr).trans ?_
        refine (pay18_eq S0 r ((load_pos H.dc k8 0 o4 _ r).trans ?_)).trans ?_
        · rw [upTo_old rfl]; rfl
        · simp only [upTo_new hr r.isLt]; rw [hr]
      | ⟨1, _⟩ =>
        refine (st_pos_mem (j := k.val) _ _ 1 o5 _ _ _ s r hr).trans ?_
        refine (pay19_eq S1 r ((load_pos H.dc k8 1 o5 _ r).trans ?_)).trans ?_
        · rw [upTo_old rfl]; rfl
        · simp only [upTo_new hr r.isLt]; rw [hr]
    · rw [st_pos_not_mem (j := k.val) _ _ 1 h o5 _ _ _ s (Or.inr hout), st_pos_not_mem (j := k.val) _ _ 0 h o4 _ _ _ s (Or.inr hout)]
      simp only [upTo_other hout]
      exact H.dc h s
  · simp only [List.cons_append, List.nil_append]
    rcases in_or_out k.val s.val with ⟨r, hr⟩ | hout
    · rw [st_rows_mem (j := k.val) _ _ o3 _ _ _ s d r hr]
      refine (pay16_eq O.q S0 S1 r d ((load_acc H.dk k8 o3 _ r d).trans ?_)).trans ?_
      · rw [upTo_old rfl]
      · simp only [upTo_new hr r.isLt]; rw [hr]
    · rw [st_rows_not_mem (j := k.val) _ _ o3 _ _ _ s d hout]
      simp only [upTo_other hout]
      exact H.dk s d
  · simp only [List.cons_append, List.nil_append]
    rcases in_or_out k.val s.val with ⟨r, hr⟩ | hout
    · rw [st_rows_mem (j := k.val) _ _ o3 _ _ _ s d r hr]
      refine (pay17_eq O.g E0 E1 r d ((load_acc H.dv k8 o3 _ r d).trans ?_)).trans ?_
      · rw [upTo_old rfl]
      · simp only [upTo_new hr r.isLt]; rw [hr]
    · rw [st_rows_not_mem (j := k.val) _ _ o3 _ _ _ s d hout]
      simp only [upTo_other hout]
      exact H.dv s d

/-- Before trip `k` of the loop. -/
theorem loop_inv (init : FVec Ideal S512x128 .f32)
    (O : Ops D (i 2).val v13 v22 v33 v37 v51 v65 v67 v69 (arg4.view.read (Elt Ideal) X_arg4) (arg5.view.read (Elt Ideal) X_arg5) (arg6.view.read (Elt Ideal) X_arg6))
    (H : Inv D (i 2).val 0 init (arg13.view.read (Elt Ideal) G_arg13) (arg14.view.read (Elt Ideal) G_arg14) (arg15.view.read (Elt Ideal) G_arg15))
    (k : ℕ) (hk : k ≤ (k0_t1_loop i).trips) (hi : k ≤ (i 2).val) :
    Inv D (i 2).val k
      (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init k).1
      (arg13.view.read (Elt Ideal) (arg13.view.writes (Elt Ideal) G_arg13 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init k).2.1))
      (arg14.view.read (Elt Ideal) (arg14.view.writes (Elt Ideal) G_arg14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init k).2.2.1))
      (arg15.view.read (Elt Ideal) (arg15.view.writes (Elt Ideal) G_arg15 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init k).2.2.2)) := by
  induction k with
  | zero => exact H
  | succ k ih =>
    have := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init ⟨k, hk⟩
    rw [this]
    exact trip_inv 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 O ⟨k, hk⟩ hi _ _ _ _ (ih (by omega) (by omega))

end Cert.Fox

end
-- ==== Proof.Fox.Diag.lean ====
/-
  THE BLOCK ON THE DIAGONAL, and with it a whole row block, over the reals: after it the three sums hold this row block's
  terms at every position, and the row block of the gradient of q is finished.
-/
module

public import proofs.«01_k».proof.Proof.Fox.Loop

@[expose] public section

set_option maxRecDepth 16384

noncomputable section

open Idealize.ShloMosaic Idealize.ShloMosaic.TcCoe Idealize.ShloMosaic.Tactic Idealize.SL.Sem

namespace Cert.Fox

open Cert.KernelIdeal Cert.KernelIdeal.Gen

variable {D : Pair}

/-- The loop below the diagonal makes as many trips as the row block's number; -/
theorem trips1 : ∀ i : grid0.Coords, (k0_t1_loop i).trips = (i 2).val := by decide +kernel
/-- the remainder loop makes none. -/
theorem trips2 (i : grid0.Coords) : (k0_t2_loop i).trips = 0 := Nat.le_zero.mp (Gen.k0_t2_abs i).2.1

/-- What the three sums hold after row block `i`. -/
structure Sums (D : Pair) (n : ℕ) (x13 : FVec Ideal S2x1x4096 .f32) (x14 x15 : FVec Ideal S4096x128 .f32) : Prop where
  dc : Heads x13 fun h s => - D.dc n h s
  dk : All x14 fun s d => D.dk n s d
  dv : All x15 fun s d => D.dv n s d

theorem upTo_zero (i s : ℕ) : upTo i 0 s = 512 * i := if_neg (by omega)

/-- Before a row block's loop the sums hold the blocks before. -/
theorem Sums.inv {i : ℕ} {acc : FVec Ideal S512x128 .f32} {x13 : FVec Ideal S2x1x4096 .f32} {x14 x15 : FVec Ideal S4096x128 .f32}
    (h : Sums D (512 * i) x13 x14 x15) (ha : ∀ (r : Fin 512) (d : Fin 128), acc (ix2 r d) = 0) : Inv D i 0 acc x13 x14 x15 where
  dq r d := by rw [ha, Nat.mul_zero, Pair.dq, Finset.range_zero, Finset.sum_empty]; rfl
  dc h' s := by simp only [upTo_zero]; exact h.dc h' s
  dk s d := by simp only [upTo_zero]; exact h.dk s d
  dv s d := by simp only [upTo_zero]; exact h.dv s d

section Diag

variable {sig : RefSig} {κ : Kind} {sp : Space} {sp' : Space} {sp'' : Space} {spk : Space} {spv : Space} {spc : Space} {i : ℕ}
variable {v13 v22 : FVec Ideal S1024x128 .bf16} {v33 v37 v51 v65 v67 v69 : FVec Ideal S512x1 .f32}
variable {k v : Vec Ideal S512x128 .bf16} {c0 c1 : Vec Ideal S1x1x512 .f32}

/-- What a row block's diagonal reads: its rows and columns, and its own block of k, v and the log-gates. -/
structure Own (D : Pair) (i : ℕ) (v13 v22 : FVec Ideal S1024x128 .bf16) (v33 v37 v51 v65 v67 v69 : FVec Ideal S512x1 .f32)
    (k v : Vec Ideal S512x128 .bf16) (c0 c1 : Vec Ideal S1x1x512 .f32) : Prop where
  q : Stacked v13 D.qm i
  g : Stacked v22 D.gm i
  e0 : Col v33 (D.delta 0) i
  e1 : Col v37 (D.delta 1) i
  a0 : Col v51 (D.c 0) i
  a1 : Col v65 (D.c 1) i
  l0 : Col v67 (D.lse 0) i
  l1 : Col v69 (D.lse 1) i
  hk : Rows k D.k i
  hv : Rows v D.v i
  b0 : Row c0 (D.c 0) i
  b1 : Row c1 (D.c 1) i

theorem Own.P0 (O : Own D i v13 v22 v33 v37 v51 v65 v67 v69 k v c0 c1) : Sq (k0_pay65 v13 v51 v67 k0_pay58 k c0) (D.P 0) i i :=
  pay65_eq O.q O.a0 O.l0 O.hk O.b0
theorem Own.P1 (O : Own D i v13 v22 v33 v37 v51 v65 v67 v69 k v c0 c1) : Sq (k0_pay66 v13 v65 v69 k0_pay58 k c1) (D.P 1) i i :=
  pay66_eq O.q O.a1 O.l1 O.hk O.b1
theorem Own.S0 (O : Own D i v13 v22 v33 v37 v51 v65 v67 v69 k v c0 c1) : Sq (k0_pay67 v13 v22 v33 v51 v67 k0_pay58 k v c0) (D.DS 0) i i :=
  pay67_eq O.P0 O.g O.e0 O.hv
theorem Own.S1 (O : Own D i v13 v22 v33 v37 v51 v65 v67 v69 k v c0 c1) : Sq (k0_pay68 v13 v22 v37 v65 v69 k0_pay58 k v c1) (D.DS 1) i i :=
  pay68_eq O.P1 O.g O.e1 O.hv

/-- Beyond row block `i`'s rows the sums up to it are those up to the one before. -/
theorem upTo_high {s : ℕ} (h : 512 * i + 512 ≤ s) : upTo i i s = 512 * i := if_neg (by omega)
theorem upTo_low {s : ℕ} (h : s < 512 * i) : upTo i i s = 512 * (i + 1) := if_pos h

/-- The row block of the gradient of q. -/
theorem diag_dq (O : Own D i v13 v22 v33 v37 v51 v65 v67 v69 k v c0 c1) {acc : FVec Ideal S512x128 .f32} {x13 : FVec Ideal S2x1x4096 .f32}
    {x14 x15 : FVec Ideal S4096x128 .f32} (H : Inv D i i acc x13 x14 x15) (r : Fin 512) (d : Fin 128) :
    k0_pay1 acc (k0_pay62 k) (k0_pay69 v13 v22 v33 v51 v67 k0_pay58 k v c0) (k0_pay70 (k0_pay68 v13 v22 v37 v65 v69 k0_pay58 k v c1)) (ix2 r d)
      = ((D.dq (512 * (i + 1)) (512 * i + r) d * (1 / 8) : ℝ) : EReal) :=
  pay1_eq (a' := k0_pay69 v13 v22 v33 v51 v67 k0_pay58 k v c0) (b' := k0_pay70 (k0_pay68 v13 v22 v37 v65 v69 k0_pay58 k v c1))
    (fun r s => O.S0 r s) (fun r s => O.S1 r s) O.hk r d (H.dq r d)

/-- The gradient of k's sum. -/
theorem diag_dk (hi : i < 8) (O : Own D i v13 v22 v33 v37 v51 v65 v67 v69 k v c0 c1) (w : View sig κ sp S4096x128 .f32) (f : w.ty.Contents (Elt Ideal))
    (p : List (View.Piece (Elt Ideal) S4096x128 .f32)) {acc : FVec Ideal S512x128 .f32} {x13 : FVec Ideal S2x1x4096 .f32}
    {x15 : FVec Ideal S4096x128 .f32} (H : Inv D i i acc x13 (w.read (Elt Ideal) (w.writes (Elt Ideal) f p)) x15)
    {off : Fin 2 → ℕ} (hoff : off = ![512 * i, 0]) (inb : ∀ a, off a + (![512, 128] : Fin 2 → ℕ) a ≤ S4096x128.size a) :
    All (φ := .f32) (w.read (Elt Ideal) (w.writes (Elt Ideal) f ((⟨Rect.unit (s := S4096x128) off ![512, 128] inb,
      k0_pay71 v13 (k0_pay68 v13 v22 v37 v65 v69 k0_pay58 k v c1) (k0_pay69 v13 v22 v33 v51 v67 k0_pay58 k v c0)
        (w.readAt (Elt Ideal) (Rect.unit (s := S4096x128) off ![512, 128] inb).toLoadRect (w.writes (Elt Ideal) f p))⟩ : View.Piece (Elt Ideal) S4096x128 .f32) :: p)))
      fun s d => D.dk (512 * (i + 1)) s d := by
  intro s d
  rcases in_or_out i s.val with ⟨r, hr⟩ | hout
  · refine (st_rows_mem (j := i) w f hoff inb _ p s d r hr).trans ?_
    refine (pay71_eq O.q O.S0 O.S1 (fun _ => rfl) r d ((load_acc H.dk hi hoff inb r d).trans ?_)).trans ?_
    · rw [upTo_old rfl]
    · rw [hr]
  · refine (st_rows_not_mem (j := i) w f hoff inb _ p s d hout).trans ((H.dk s d).trans ?_)
    rcases hout with h | h
    · simp only [upTo_low h]
    · simp only [upTo_high h]
      rw [Pair.dk_of_le (m := 512 * i) (n := 512 * (i + 1)) (by omega) (by omega)]

/-- The gradient of v's sum. -/
theorem diag_dv (hi : i < 8) (O : Own D i v13 v22 v33 v37 v51 v65 v67 v69 k v c0 c1) (w : View sig κ sp S4096x128 .f32) (f : w.ty.Contents (Elt Ideal))
    (p : List (View.Piece (Elt Ideal) S4096x128 .f32)) {acc : FVec Ideal S512x128 .f32} {x13 : FVec Ideal S2x1x4096 .f32}
    {x14 : FVec Ideal S4096x128 .f32} (H : Inv D i i acc x13 x14 (w.read (Elt Ideal) (w.writes (Elt Ideal) f p)))
    {off : Fin 2 → ℕ} (hoff : off = ![512 * i, 0]) (inb : ∀ a, off a + (![512, 128] : Fin 2 → ℕ) a ≤ S4096x128.size a) :
    All (φ := .f32) (w.read (Elt Ideal) (w.writes (Elt Ideal) f ((⟨Rect.unit (s := S4096x128) off ![512, 128] inb,
      k0_pay72 v22 (k0_pay65 v13 v51 v67 k0_pay58 k c0) (k0_pay66 v13 v65 v69 k0_pay58 k c1)
        (w.readAt (Elt Ideal) (Rect.unit (s := S4096x128) off ![512, 128] inb).toLoadRect (w.writes (Elt Ideal) f p))⟩ : View.Piece (Elt Ideal) S4096x128 .f32) :: p)))
      fun s d => D.dv (512 * (i + 1)) s d := by
  intro s d
  rcases in_or_out i s.val with ⟨r, hr⟩ | hout
  · refine (st_rows_mem (j := i) w f hoff inb _ p s d r hr).trans ?_
    refine (pay72_eq O.g O.P0 O.P1 r d ((load_acc H.dv hi hoff inb r d).trans ?_)).trans ?_
    · rw [upTo_old rfl]
    · rw [hr]
  · refine (st_rows_not_mem (j := i) w f hoff inb _ p s d hout).trans ((H.dv s d).trans ?_)
    rcases hout with h | h
    · simp only [upTo_low h]
    · simp only [upTo_high h]
      rw [Pair.dv_of_le (m := 512 * i) (n := 512 * (i + 1)) (by omega) (by omega)]

/-- The log-gates' column sums. -/
theorem diag_dc (hi : i < 8) (O : Own D i v13 v22 v33 v37 v51 v65 v67 v69 k v c0 c1) (w : View sig κ sp S2x1x4096 .f32) (f : w.ty.Contents (Elt Ideal))
    (p : List (View.Piece (Elt Ideal) S2x1x4096 .f32)) {acc : FVec Ideal S512x128 .f32} {x14 x15 : FVec Ideal S4096x128 .f32}
    (H : Inv D i i acc (w.read (Elt Ideal) (w.writes (Elt Ideal) f p)) x14 x15)
    {off off' : Fin 3 → ℕ} (hoff : off = ![0, 0, 512 * i]) (hoff' : off' = ![1, 0, 512 * i])
    (inb : ∀ a, off a + (![1, 1, 512] : Fin 3 → ℕ) a ≤ S2x1x4096.size a) (inb' : ∀ a, off' a + (![1, 1, 512] : Fin 3 → ℕ) a ≤ S2x1x4096.size a) :
    Heads (w.read (Elt Ideal) (w.writes (Elt Ideal) f
      ((⟨Rect.unit (s := S2x1x4096) off' ![1, 1, 512] inb',
          k0_pay74 (k0_pay68 v13 v22 v37 v65 v69 k0_pay58 k v c1)
            (w.readAt (Elt Ideal) (Rect.unit (s := S2x1x4096) off' ![1, 1, 512] inb').toLoadRect (w.writes (Elt Ideal) f
              ((⟨Rect.unit (s := S2x1x4096) off ![1, 1, 512] inb,
                k0_pay73 (k0_pay67 v13 v22 v33 v51 v67 k0_pay58 k v c0)
                  (w.readAt (Elt Ideal) (Rect.unit (s := S2x1x4096) off ![1, 1, 512] inb).toLoadRect (w.writes (Elt Ideal) f p))⟩ : View.Piece (Elt Ideal) S2x1x4096 .f32) :: p)))⟩ : View.Piece (Elt Ideal) S2x1x4096 .f32)
        :: (⟨Rect.unit (s := S2x1x4096) off ![1, 1, 512] inb,
                k0_pay73 (k0_pay67 v13 v22 v33 v51 v67 k0_pay58 k v c0)
                  (w.readAt (Elt Ideal) (Rect.unit (s := S2x1x4096) off ![1, 1, 512] inb).toLoadRect (w.writes (Elt Ideal) f p))⟩ : View.Piece (Elt Ideal) S2x1x4096 .f32) :: p)))
      fun h s => - D.dc (512 * (i + 1)) h s := by
  intro h s
  rcases in_or_out i s.val with ⟨r, hr⟩ | hout
  · match h with
    | ⟨0, _⟩ =>
      refine (st_pos_not_mem (j := i) w f 1 0 hoff' inb' _ _ s (Or.inl (by decide))).trans ?_
      refine (st_pos_mem (j := i) w f 0 hoff inb _ _ s r hr).trans ?_
      refine (pay73_eq O.S0 r ((load_pos H.dc hi 0 hoff inb r).trans ?_)).trans ?_
      · rw [upTo_old rfl]; rfl
      · rw [hr]
    | ⟨1, _⟩ =>
      refine (st_pos_mem (j := i) w f 1 hoff' inb' _ _ s r hr).trans ?_
      refine (pay74_eq O.S1 r ((ld_pos w _ hi 1 hoff' inb' r).trans
        ((st_pos_not_mem (j := i) w f 0 1 hoff inb _ _ _ (Or.inl (by decide))).trans ((H.dc 1 _).trans ?_)))).trans ?_
      · simp only [upTo_old rfl]; rfl
      · rw [hr]
  · refine (st_pos_not_mem (j := i) w f 1 h hoff' inb' _ _ s (Or.inr hout)).trans ?_
    refine (st_pos_not_mem (j := i) w f 0 h hoff inb _ _ s (Or.inr hout)).trans ((H.dc h s).trans ?_)
    rcases hout with h | h
    · simp only [upTo_low h]
    · simp only [upTo_high h]
      rw [Pair.dc_of_le (m := 512 * i) (n := 512 * (i + 1)) (by omega) (by omega)]

end Diag

end Cert.Fox

end
-- ==== Proof.Fox.Point.lean ====
/-
  WHAT ONE GRID POINT LEAVES, over the reals, in each of the body's three cases: the first row block of a pair of heads
  (the sums start from zero), the last one (the sums are written out), and those between.
-/
module

public import proofs.«01_k».proof.Proof.Fox.Diag
public import proofs.«01_k».proof.Proof.Gen.KernelIdeal.Frame
public import Idealize.ShloMosaic.Lib.VecWindow

@[expose] public section

set_option maxRecDepth 16384

noncomputable section

open Idealize.ShloMosaic Idealize.ShloMosaic.TcCoe Idealize.ShloMosaic.Tactic Idealize.SL.Sem

namespace Cert.Fox

open Cert.KernelIdeal Cert.KernelIdeal.Gen

variable {D : Pair}

/-- The invariant at an equal count. -/
theorem Inv.at {j k l : ℕ} {acc : FVec Ideal S512x128 .f32} {x13 : FVec Ideal S2x1x4096 .f32} {x14 x15 : FVec Ideal S4096x128 .f32}
    (h : Inv D j k acc x13 x14 x15) (e : k = l) : Inv D j l acc x13 x14 x15 := e ▸ h

section Rest

variable (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x1x4096 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S2x512x1 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S2x1x4096 .f32) (harg13 : arg13.IsWhole) (arg14 : Memref sig .tc .vmem S4096x128 .f32) (harg14 : arg14.IsWhole) (arg15 : Memref sig .tc .vmem S4096x128 .f32) (harg15 : arg15.IsWhole) (arg2 : BitVec 32) (v13 : FVec Ideal S1024x128 .bf16) (v22 : FVec Ideal S1024x128 .bf16) (v33 : FVec Ideal S512x1 .f32) (v37 : FVec Ideal S512x1 .f32) (v51 : FVec Ideal S512x1 .f32) (v65 : FVec Ideal S512x1 .f32) (v67 : FVec Ideal S512x1 .f32) (v69 : FVec Ideal S512x1 .f32) (v72 : IVec S512x512 1) (v73 : FVec Ideal S512x128 .f32) (c0_i32_29 : BitVec 32) (v78 : BitVec 32) (X_arg4 : BufTy.Contents (Elt Ideal) arg4.view.ty) (X_arg5 : BufTy.Contents (Elt Ideal) arg5.view.ty) (X_arg6 : BufTy.Contents (Elt Ideal) arg6.view.ty) (G_arg13 : BufTy.Contents (Elt Ideal) arg13.view.ty) (G_arg14 : BufTy.Contents (Elt Ideal) arg14.view.ty) (G_arg15 : BufTy.Contents (Elt Ideal) arg15.view.ty)

/-- The remainder loop, of no trips, changes nothing. -/
theorem rest_inv {j : ℕ} (init : FVec Ideal S512x128 .f32) {n : ℕ} (hn : n = 0)
    {f13 : BufTy.Contents (Elt Ideal) arg13.view.ty} {f14 : BufTy.Contents (Elt Ideal) arg14.view.ty} {f15 : BufTy.Contents (Elt Ideal) arg15.view.ty}
    {p13 : List (View.Piece (Elt Ideal) S2x1x4096 .f32)} {p14 p15 : List (View.Piece (Elt Ideal) S4096x128 .f32)}
    (H : Inv D j j init (arg13.view.read (Elt Ideal) (arg13.view.writes (Elt Ideal) f13 p13))
      (arg14.view.read (Elt Ideal) (arg14.view.writes (Elt Ideal) f14 p14)) (arg15.view.read (Elt Ideal) (arg15.view.writes (Elt Ideal) f15 p15))) :
    Inv D j j (st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init n).1
      (arg13.view.read (Elt Ideal) (arg13.view.writes (Elt Ideal) f13 ((st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init n).2.1 ++ p13)))
      (arg14.view.read (Elt Ideal) (arg14.view.writes (Elt Ideal) f14 ((st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init n).2.2.1 ++ p14)))
      (arg15.view.read (Elt Ideal) (arg15.view.writes (Elt Ideal) f15 ((st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v13 v22 v33 v37 v51 v65 v67 v69 v72 v73 c0_i32_29 v78 X_arg4 X_arg5 X_arg6 G_arg13 G_arg14 G_arg15 init n).2.2.2 ++ p15))) := by
  subst hn
  exact H

end Rest

/-- The zero row block a loop starts from. -/
theorem pay59_eq (r : Fin 512) (d : Fin 128) : k0_pay59 (F := Ideal) (ix2 r d) = 0 := by pointwise [k0_pay59]

section Full
variable {sig : RefSig} {κ : Kind} {sp : Space}
/-- A store over a whole block of rows reads its payload. -/
theorem st_full2 {a b : ℕ} {e : EltTy} (v : View sig κ sp ⟨2, ![a, b]⟩ e) (f : v.ty.Contents (Elt Ideal))
    (inb : ∀ x, (![0, 0] : Fin 2 → ℕ) x + (![a, b] : Fin 2 → ℕ) x ≤ (⟨2, ![a, b]⟩ : Shape).size x)
    (w : (Rect.unit (s := ⟨2, ![a, b]⟩) ![0, 0] ![a, b] inb).shape.Idx → Elt Ideal e) (L : List (View.Piece (Elt Ideal) ⟨2, ![a, b]⟩ e))
    (r : Fin a) (d : Fin b) :
    v.read (Elt Ideal) (v.writes (Elt Ideal) f ((⟨Rect.unit (s := ⟨2, ![a, b]⟩) ![0, 0] ![a, b] inb, w⟩ : View.Piece (Elt Ideal) ⟨2, ![a, b]⟩ e) :: L))
      (ix2 r d) = w (ix2 r d) :=
  View.read_writes_cons_hit_of_coords v f _ w L (ix2 r d) (ix2 r d) fun x =>
    match x with
    | ⟨0, _⟩ => by show r.val = 0 + 1 * r.val; omega
    | ⟨1, _⟩ => by show d.val = 0 + 1 * d.val; omega
/-- The same over the two heads' rows. -/
theorem st_full3 {e : EltTy} (v : View sig κ sp S2x1x4096 e) (f : v.ty.Contents (Elt Ideal))
    (inb : ∀ x, (![0, 0, 0] : Fin 3 → ℕ) x + S2x1x4096.size x ≤ S2x1x4096.size x)
    (w : (Rect.unit (s := S2x1x4096) ![0, 0, 0] S2x1x4096.size inb).shape.Idx → Elt Ideal e) (L : List (View.Piece (Elt Ideal) S2x1x4096 e))
    (h : Fin 2) (s : Fin 4096) :
    v.read (Elt Ideal) (v.writes (Elt Ideal) f ((⟨Rect.unit (s := S2x1x4096) ![0, 0, 0] S2x1x4096.size inb, w⟩ : View.Piece (Elt Ideal) S2x1x4096 e) :: L))
      (ix3 h 0 s) = w (ix3 h 0 s) :=
  View.read_writes_cons_hit_of_coords v f _ w L (ix3 h 0 s) (ix3 h 0 s) fun x =>
    match x with
    | ⟨0, _⟩ => by show h.val = 0 + 1 * h.val; omega
    | ⟨1, _⟩ => rfl
    | ⟨2, _⟩ => by show s.val = 0 + 1 * s.val; omega
/-- A load of a whole block of rows. -/
theorem ld_full2 {a b : ℕ} {e : EltTy} (v : View sig κ sp ⟨2, ![a, b]⟩ e) (f : v.ty.Contents (Elt Ideal)) (inb) (r : Fin a) (d : Fin b) :
    v.readAt (Elt Ideal) (Rect.unit (s := ⟨2, ![a, b]⟩) ![0, 0] ![a, b] inb).toLoadRect f (ix2 r d) = v.read (Elt Ideal) f (ix2 r d) :=
  congrFun (View.readAt_full v f inb) _
/-- A load of one head's column of row values. -/
theorem ld_head {e : EltTy} (v : View sig κ sp S2x512x1 e) (f : v.ty.Contents (Elt Ideal)) (h : Fin 2) {off : Fin 3 → ℕ} (hoff : off = ![h.val, 0, 0])
    (inb : ∀ a, off a + (![1, 512, 1] : Fin 3 → ℕ) a ≤ S2x512x1.size a) (r : Fin 512) :
    v.readAt (Elt Ideal) (Rect.unit (s := S2x512x1) off ![1, 512, 1] inb).toLoadRect f (ix3 0 r 0) = v.read (Elt Ideal) f (ix3 h r 0) := by
  subst hoff
  refine congrArg (v.read (Elt Ideal) f) (funext fun a => Fin.ext ?_)
  match a with
  | ⟨0, _⟩ => show h.val + 1 * 0 = h.val; omega
  | ⟨1, _⟩ => show 0 + 1 * r.val = r.val; omega
  | ⟨2, _⟩ => rfl
end Full

theorem pay2_eq (x : Vec Ideal S4096x128 .f32) (s : Fin 4096) (d : Fin 128) : k0_pay2 x (ix2 s d) = x (ix2 s d) := by pointwise [k0_pay2]
theorem pay3_eq (x : Vec Ideal S4096x128 .f32) (s : Fin 4096) (d : Fin 128) : k0_pay3 x (ix2 s d) = x (ix2 s d) := by pointwise [k0_pay3]

/-- The sums start from zero. -/
theorem Sums.start : Sums D 0 k0_pay46 k0_pay44 k0_pay45 where
  dc h s := by pointwise [k0_pay46]; simp [Pair.dc]
  dk s d := by pointwise [k0_pay44]; simp [Pair.dk]
  dv s d := by pointwise [k0_pay45]; simp [Pair.dv]

/-- What a grid point of row block `i` finds in its input windows. -/
structure Blocks (D : Pair) (i : ℕ) (x0 : Vec Ideal S512x128 .bf16) (x1 x2 : Vec Ideal S4096x128 .bf16) (x3 : Vec Ideal S2x1x4096 .f32)
    (x4 : Vec Ideal S512x128 .bf16) (x5 : Vec Ideal S512x128 .f32) (x6 : Vec Ideal S2x512x1 .f32) : Prop where
  q : Rows x0 D.q i
  k : All (φ := .bf16) x1 D.k
  v : All (φ := .bf16) x2 D.v
  c : Heads x3 D.c
  g : Rows x4 D.g i
  o : ∀ (r : Fin 512) (d : Fin 128), x5 (ix2 r d) = ((D.o (512 * i + r) d : ℝ) : EReal)
  lse : ∀ (h : Fin 2) (r : Fin 512), x6 (ix3 h r 0) = ((D.lse h (512 * i + r) : ℝ) : EReal)

section Points

variable (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S2x1x4096 .f32) (harg6 : arg6.IsWhole) (arg7 : Memref sig .tc .vmem S512x128 .bf16) (harg7 : arg7.IsWhole) (arg8 : Memref sig .tc .vmem S512x128 .f32) (harg8 : arg8.IsWhole) (arg9 : Memref sig .tc .vmem S2x512x1 .f32) (harg9 : arg9.IsWhole) (arg10 : Memref sig .tc .vmem S512x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S2x1x4096 .f32) (harg13 : arg13.IsWhole) (arg14 : Memref sig .tc .vmem S4096x128 .f32) (harg14 : arg14.IsWhole) (arg15 : Memref sig .tc .vmem S4096x128 .f32) (harg15 : arg15.IsWhole)
  (x0 : Vec Ideal S512x128 .bf16) (x1 x2 : Vec Ideal S4096x128 .bf16) (x3 : Vec Ideal S2x1x4096 .f32) (x4 : Vec Ideal S512x128 .bf16) (x5 : Vec Ideal S512x128 .f32) (x6 : Vec Ideal S2x512x1 .f32)

variable {x0 x1 x2 x3 x4 x5 x6} in
/-- The operands of a point's body. -/
theorem Blocks.ops (H : Blocks D (i 2).val x0 x1 x2 x3 x4 x5 x6) :
    Ops D (i 2).val (kernelRun0_B.sl.r (F := Ideal) c arg3 harg3 x0) (kernelRun0_B.sl.r_1 c arg7 harg7 x4)
      (kernelRun0_B.sl.r_2 c arg7 harg7 arg8 harg8 x4 x5) (kernelRun0_B.sl.r_3 c arg7 harg7 arg8 harg8 x4 x5)
      (kernelRun0_B.sl.r_4 c i arg6 harg6 x3) (kernelRun0_B.sl.r_5 c i arg6 harg6 x3) (kernelRun0_B.sl.r_6 c arg9 harg9 x6)
      (kernelRun0_B.sl.r_7 c arg9 harg9 x6) (arg4.view.read (Elt Ideal) (harg4.unread x1)) (arg5.view.read (Elt Ideal) (harg5.unread x2))
      (arg6.view.read (Elt Ideal) (harg6.unread x3)) := by
  have hi : (i 2).val < 8 := (i 2).isLt
  have hg : Rows (arg7.view.readAt (Elt Ideal) (Rect.unit (s := S512x128) ![0, 0] S512x128.size inb_S512x128_S512x128_0_0).toLoadRect (harg7.unread x4)) D.g (i 2).val :=
    fun r d => (ld_full2 arg7.view _ _ r d).trans ((congrFun (harg7.read_unread x4) _).trans (H.g r d))
  have ho : ∀ (r : Fin 512) (d : Fin 128), arg8.view.readAt (Elt Ideal) (Rect.unit (s := S512x128) ![0, 0] S512x128.size inb_S512x128_S512x128_0_0).toLoadRect (harg8.unread x5) (ix2 r d) = ((D.o (512 * (i 2).val + r) d : ℝ) : EReal) :=
    fun r d => (ld_full2 arg8.view _ _ r d).trans ((congrFun (harg8.read_unread x5) _).trans (H.o r d))
  have hc : Heads (arg6.view.read (Elt Ideal) (harg6.unread x3)) D.c := fun h s => (congrFun (harg6.read_unread x3) _).trans (H.c h s)
  refine ⟨pay47_eq fun r d => (ld_full2 arg3.view _ _ r d).trans ((congrFun (harg3.read_unread x0) _).trans (H.q r d)), pay49_eq hg, pay52_eq hg ho, pay53_eq hg ho,
    pay54_eq (load_pos hc hi 0 (k0_off1_eq i) _), pay55_eq (load_pos hc hi 1 (k0_off2_eq i) _),
    pay56_eq fun r => (ld_head arg9.view _ 0 rfl _ r).trans ((congrFun (harg9.read_unread x6) _).trans (H.lse 0 r)),
    pay57_eq fun r => (ld_head arg9.view _ 1 rfl _ r).trans ((congrFun (harg9.read_unread x6) _).trans (H.lse 1 r)),
    fun s d => (congrFun (harg4.read_unread x1) _).trans (H.k s d), fun s d => (congrFun (harg5.read_unread x2) _).trans (H.v s d), hc⟩

/-- The operands with the diagonal block's own rows and positions. -/
theorem Ops.own {v13 v22 : FVec Ideal S1024x128 .bf16} {v33 v37 v51 v65 v67 v69 : FVec Ideal S512x1 .f32}
    {X4 : arg4.view.ty.Contents (Elt Ideal)} {X5 : arg5.view.ty.Contents (Elt Ideal)} {X6 : arg6.view.ty.Contents (Elt Ideal)}
    (O : Ops D (i 2).val v13 v22 v33 v37 v51 v65 v67 v69 (arg4.view.read (Elt Ideal) X4) (arg5.view.read (Elt Ideal) X5) (arg6.view.read (Elt Ideal) X6)) :
    Own D (i 2).val v13 v22 v33 v37 v51 v65 v67 v69
      (arg4.view.readAt (Elt Ideal) (Rect.unit (s := S4096x128) (k0_off9 i) S512x128.size (k0_off9_inb i)).toLoadRect X4)
      (arg5.view.readAt (Elt Ideal) (Rect.unit (s := S4096x128) (k0_off9 i) S512x128.size (k0_off9_inb i)).toLoadRect X5)
      (arg6.view.readAt (Elt Ideal) (Rect.unit (s := S2x1x4096) (k0_off1 i) S1x1x512.size (k0_off1_inb i)).toLoadRect X6)
      (arg6.view.readAt (Elt Ideal) (Rect.unit (s := S2x1x4096) (k0_off2 i) S1x1x512.size (k0_off2_inb i)).toLoadRect X6) :=
  have hi : (i 2).val < 8 := (i 2).isLt
  ⟨O.q, O.g, O.e0, O.e1, O.c0, O.c1, O.l0, O.l1, load_rows O.k hi (k0_off9_eq i) _, load_rows O.v hi (k0_off9_eq i) _,
    load_pos O.c hi 0 (k0_off1_eq i) _, load_pos O.c hi 1 (k0_off2_eq i) _⟩

variable (hc0 : ¬cond0_0 i) (hc1 : ¬cond0_1 i) (xo10 : Vec Ideal S2x1x4096 .f32) (xs0 xs1 : Vec Ideal S4096x128 .f32)

variable {x0 x1 x2 x3 x4 x5 x6 xo10 xs0 xs1} in
/-- A point between the first and the last row block. -/
theorem point_B {j : ℕ} (hj : (i 2).val = j) (H : Blocks D j x0 x1 x2 x3 x4 x5 x6) (hs : Sums D (512 * j) xo10 xs0 xs1) :
    (∀ (r : Fin 512) (d : Fin 128), out0_B_7 (F := Ideal) c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs0 xs1 (ix2 r d)
        = ((D.dq (512 * (j + 1)) (512 * j + r) d * (1 / 8) : ℝ) : EReal))
      ∧ Sums D (512 * (j + 1)) (out0_B_10 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs0 xs1)
        (sout0_B_0 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs0 xs1) (sout0_B_1 c i arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 xo10 xs0 xs1) := by
  subst hj
  have hi : (i 2).val < 8 := (i 2).isLt
  have O := H.ops c i arg3 harg3 arg4 harg4 arg5 harg5 arg6 harg6 arg7 harg7 arg8 harg8 arg9 harg9
  have W := O.own i arg4 arg5 arg6
  have h0 : Sums D (512 * (i 2).val) (arg13.view.read (Elt Ideal) (harg13.unread xo10)) (arg14.view.read (Elt Ideal) (harg14.unread xs0)) (arg15.view.read (Elt Ideal) (harg15.unread xs1)) := by
    rw [harg13.read_unread, harg14.read_unread, harg15.read_unread]; exact hs
  have I1 := (loop_inv Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_B.sl.r c arg3 harg3 x0) (kernelRun0_B.sl.r_1 c arg7 harg7 x4)
      (kernelRun0_B.sl.r_2 c arg7 harg7 arg8 harg8 x4 x5) (kernelRun0_B.sl.r_3 c arg7 harg7 arg8 harg8 x4 x5)
      (kernelRun0_B.sl.r_4 c i arg6 harg6 x3) (kernelRun0_B.sl.r_5 c i arg6 harg6 x3) (kernelRun0_B.sl.r_6 c arg9 harg9 x6)
      (kernelRun0_B.sl.r_7 c arg9 harg9 x6) k0_pay58 k0_pay59 (0#32) (kernelRun0_B.sl.v78 i)
    (harg4.unread x1) (harg5.unread x2) (harg6.unread x3) (harg13.unread xo10) (harg14.unread xs0) (harg15.unread xs1) k0_pay59 O (h0.inv pay59_eq)
    _ le_rfl (trips1 i).le).at (trips1 i)
  have I2 := fun g13 g14 g15 => rest_inv Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_B.sl.r c arg3 harg3 x0) (kernelRun0_B.sl.r_1 c arg7 harg7 x4)
      (kernelRun0_B.sl.r_2 c arg7 harg7 arg8 harg8 x4 x5) (kernelRun0_B.sl.r_3 c arg7 harg7 arg8 harg8 x4 x5)
      (kernelRun0_B.sl.r_4 c i arg6 harg6 x3) (kernelRun0_B.sl.r_5 c i arg6 harg6 x3) (kernelRun0_B.sl.r_6 c arg9 harg9 x6)
      (kernelRun0_B.sl.r_7 c arg9 harg9 x6) k0_pay58 k0_pay59 (0#32) (kernelRun0_B.sl.v78 i)
    (harg4.unread x1) (harg5.unread x2) (harg6.unread x3) g13 g14 g15 _ (trips2 i) I1
  refine ⟨fun r d => ?_, ?_, ?_, ?_⟩
  · refine (st_full2 _ _ _ _ _ r d).trans ?_
    exact diag_dq W (I2 _ _ _) r d
  · exact diag_dc hi W arg13.view _ _ (I2 _ _ _) (k0_off1_eq i) (k0_off2_eq i) _ _
  · exact diag_dk hi W arg14.view _ _ (I2 _ _ _) (k0_off9_eq i) _
  · exact diag_dv hi W arg15.view _ _ (I2 _ _ _) (k0_off9_eq i) _

variable (hd0 : ¬cond0_0 i) (hd1 : cond0_1 i)

variable {x0 x1 x2 x3 x4 x5 x6 xo10 xs0 xs1} in
/-- The last row block's point, which also writes the gradients of k and v. -/
theorem point_C {j : ℕ} (hj : (i 2).val = j) (H : Blocks D j x0 x1 x2 x3 x4 x5 x6) (hs : Sums D (512 * j) xo10 xs0 xs1) :
    (∀ (r : Fin 512) (d : Fin 128), out0_C_7 (F := Ideal) c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1 (ix2 r d)
        = ((D.dq (512 * (j + 1)) (512 * j + r) d * (1 / 8) : ℝ) : EReal))
      ∧ Sums D (512 * (j + 1)) (out0_C_10 c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1)
        (sout0_C_0 c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1) (sout0_C_1 c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1)
      ∧ (∀ (s : Fin 4096) (d : Fin 128), out0_C_8 (F := Ideal) c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1 (ix2 s d) = ((D.dk (512 * (j + 1)) s d : ℝ) : EReal))
      ∧ ∀ (s : Fin 4096) (d : Fin 128), out0_C_9 (F := Ideal) c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1 (ix2 s d) = ((D.dv (512 * (j + 1)) s d : ℝ) : EReal) := by
  subst hj
  have hi : (i 2).val < 8 := (i 2).isLt
  have O := H.ops c i arg3 harg3 arg4 harg4 arg5 harg5 arg6 harg6 arg7 harg7 arg8 harg8 arg9 harg9
  have W := O.own i arg4 arg5 arg6
  have h0 : Sums D (512 * (i 2).val) (arg13.view.read (Elt Ideal) (harg13.unread xo10)) (arg14.view.read (Elt Ideal) (harg14.unread xs0)) (arg15.view.read (Elt Ideal) (harg15.unread xs1)) := by
    rw [harg13.read_unread, harg14.read_unread, harg15.read_unread]; exact hs
  have I1 := (loop_inv Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_B.sl.r c arg3 harg3 x0) (kernelRun0_B.sl.r_1 c arg7 harg7 x4)
      (kernelRun0_B.sl.r_2 c arg7 harg7 arg8 harg8 x4 x5) (kernelRun0_B.sl.r_3 c arg7 harg7 arg8 harg8 x4 x5)
      (kernelRun0_B.sl.r_4 c i arg6 harg6 x3) (kernelRun0_B.sl.r_5 c i arg6 harg6 x3) (kernelRun0_B.sl.r_6 c arg9 harg9 x6)
      (kernelRun0_B.sl.r_7 c arg9 harg9 x6) k0_pay58 k0_pay59 (0#32) (kernelRun0_B.sl.v78 i)
    (harg4.unread x1) (harg5.unread x2) (harg6.unread x3) (harg13.unread xo10) (harg14.unread xs0) (harg15.unread xs1) k0_pay59 O (h0.inv pay59_eq)
    _ le_rfl (trips1 i).le).at (trips1 i)
  have I2 := fun g13 g14 g15 => rest_inv Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_B.sl.r c arg3 harg3 x0) (kernelRun0_B.sl.r_1 c arg7 harg7 x4)
      (kernelRun0_B.sl.r_2 c arg7 harg7 arg8 harg8 x4 x5) (kernelRun0_B.sl.r_3 c arg7 harg7 arg8 harg8 x4 x5)
      (kernelRun0_B.sl.r_4 c i arg6 harg6 x3) (kernelRun0_B.sl.r_5 c i arg6 harg6 x3) (kernelRun0_B.sl.r_6 c arg9 harg9 x6)
      (kernelRun0_B.sl.r_7 c arg9 harg9 x6) k0_pay58 k0_pay59 (0#32) (kernelRun0_B.sl.v78 i)
    (harg4.unread x1) (harg5.unread x2) (harg6.unread x3) g13 g14 g15 _ (trips2 i) I1
  have S : Sums D (512 * ((i 2).val + 1)) (out0_C_10 (F := Ideal) c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1) (sout0_C_0 (F := Ideal) c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1) (sout0_C_1 (F := Ideal) c i arg3 harg3 arg4 harg4 arg5 harg5 arg6 harg6 arg7 harg7 arg8 harg8 arg9 harg9 arg10 harg10 arg11 harg11 arg12 harg12 arg13 harg13 arg14 harg14 arg15 harg15 hd0 hd1 x0 x1 x2 x3 x4 x5 x6 xo10 xs0 xs1) :=
    ⟨diag_dc hi W arg13.view _ _ (I2 _ _ _) (k0_off1_eq i) (k0_off2_eq i) _ _, diag_dk hi W arg14.view _ _ (I2 _ _ _) (k0_off9_eq i) _,
      diag_dv hi W arg15.view _ _ (I2 _ _ _) (k0_off9_eq i) _⟩
  refine ⟨fun r d => ?_, S, fun s d => ?_, fun s d => ?_⟩
  · refine (st_full2 _ _ _ _ _ r d).trans ?_
    exact diag_dq W (I2 _ _ _) r d
  · refine (st_full2 _ _ _ _ _ s d).trans ((pay2_eq _ s d).trans ?_)
    exact (ld_full2 arg14.view _ _ s d).trans (S.dk s d)
  · refine (st_full2 _ _ _ _ _ s d).trans ((pay3_eq _ s d).trans ?_)
    exact (ld_full2 arg15.view _ _ s d).trans (S.dv s d)

variable (he0 : cond0_0 i) (he1 : ¬cond0_1 i)

variable {x0 x1 x2 x3 x4 x5 x6} in
/-- The first row block's point, whose sums start from zero. -/
theorem point_A {j : ℕ} (hj : (i 2).val = j) (H : Blocks D j x0 x1 x2 x3 x4 x5 x6) (h2 : j = 0) :
    (∀ (r : Fin 512) (d : Fin 128), out0_A_7 (F := Ideal) c i arg3 harg3 arg4 harg4 arg5 harg5 arg6 harg6 arg7 harg7 arg8 harg8 arg9 harg9 arg10 harg10 arg11 harg11 arg12 harg12 arg13 harg13 arg14 harg14 arg15 harg15 he0 he1 x0 x1 x2 x3 x4 x5 x6 (ix2 r d)
        = ((D.dq (512 * (j + 1)) (512 * j + r) d * (1 / 8) : ℝ) : EReal))
      ∧ Sums D (512 * (j + 1)) (out0_A_10 c i arg3 harg3 arg4 harg4 arg5 harg5 arg6 harg6 arg7 harg7 arg8 harg8 arg9 harg9 arg10 harg10 arg11 harg11 arg12 harg12 arg13 harg13 arg14 harg14 arg15 harg15 he0 he1 x0 x1 x2 x3 x4 x5 x6)
        (sout0_A_0 c i arg3 harg3 arg4 harg4 arg5 harg5 arg6 harg6 arg7 harg7 arg8 harg8 arg9 harg9 arg10 harg10 arg11 harg11 arg12 harg12 arg13 harg13 arg14 harg14 arg15 harg15 he0 he1 x0 x1 x2 x3 x4 x5 x6) (sout0_A_1 c i arg3 harg3 arg4 harg4 arg5 harg5 arg6 harg6 arg7 harg7 arg8 harg8 arg9 harg9 arg10 harg10 arg11 harg11 arg12 harg12 arg13 harg13 arg14 harg14 arg15 harg15 he0 he1 x0 x1 x2 x3 x4 x5 x6) := by
  subst hj
  have hi : (i 2).val < 8 := (i 2).isLt
  have O := H.ops c i arg3 harg3 arg4 harg4 arg5 harg5 arg6 harg6 arg7 harg7 arg8 harg8 arg9 harg9
  have W := O.own i arg4 arg5 arg6
  have h0 : Sums D (512 * (i 2).val) (arg13.view.read (Elt Ideal) (arg13.view.writes (Elt Ideal) arg13.view.junk [⟨Rect.unit (s := S2x1x4096) ![0, 0, 0] S2x1x4096.size inb_S2x1x4096_S2x1x4096_0_0_0, k0_pay46 (F := Ideal)⟩]))
      (arg14.view.read (Elt Ideal) (arg14.view.writes (Elt Ideal) arg14.view.junk [⟨Rect.unit (s := S4096x128) ![0, 0] S4096x128.size inb_S4096x128_S4096x128_0_0, k0_pay44 (F := Ideal)⟩]))
      (arg15.view.read (Elt Ideal) (arg15.view.writes (Elt Ideal) arg15.view.junk [⟨Rect.unit (s := S4096x128) ![0, 0] S4096x128.size inb_S4096x128_S4096x128_0_0, k0_pay45 (F := Ideal)⟩])) := by
    rw [h2]
    exact ⟨fun h s => (st_full3 arg13.view _ _ _ _ h s).trans (Sums.start.dc h s), fun s d => (st_full2 arg14.view _ _ _ _ s d).trans (Sums.start.dk s d),
      fun s d => (st_full2 arg15.view _ _ _ _ s d).trans (Sums.start.dv s d)⟩
  have I1 := (loop_inv Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_B.sl.r c arg3 harg3 x0) (kernelRun0_B.sl.r_1 c arg7 harg7 x4)
      (kernelRun0_B.sl.r_2 c arg7 harg7 arg8 harg8 x4 x5) (kernelRun0_B.sl.r_3 c arg7 harg7 arg8 harg8 x4 x5)
      (kernelRun0_B.sl.r_4 c i arg6 harg6 x3) (kernelRun0_B.sl.r_5 c i arg6 harg6 x3) (kernelRun0_B.sl.r_6 c arg9 harg9 x6)
      (kernelRun0_B.sl.r_7 c arg9 harg9 x6) k0_pay58 k0_pay59 (0#32) (kernelRun0_B.sl.v78 i)
    (harg4.unread x1) (harg5.unread x2) (harg6.unread x3) (arg13.view.writes (Elt Ideal) arg13.view.junk [⟨Rect.unit (s := S2x1x4096) ![0, 0, 0] S2x1x4096.size inb_S2x1x4096_S2x1x4096_0_0_0, k0_pay46 (F := Ideal)⟩]) (arg14.view.writes (Elt Ideal) arg14.view.junk [⟨Rect.unit (s := S4096x128) ![0, 0] S4096x128.size inb_S4096x128_S4096x128_0_0, k0_pay44 (F := Ideal)⟩]) (arg15.view.writes (Elt Ideal) arg15.view.junk [⟨Rect.unit (s := S4096x128) ![0, 0] S4096x128.size inb_S4096x128_S4096x128_0_0, k0_pay45 (F := Ideal)⟩]) k0_pay59 O (h0.inv pay59_eq)
    _ le_rfl (trips1 i).le).at (trips1 i)
  rw [← View.writes_append, ← View.writes_append, ← View.writes_append] at I1
  have I2 := fun g13 g14 g15 => rest_inv Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) (kernelRun0_B.sl.r c arg3 harg3 x0) (kernelRun0_B.sl.r_1 c arg7 harg7 x4)
      (kernelRun0_B.sl.r_2 c arg7 harg7 arg8 harg8 x4 x5) (kernelRun0_B.sl.r_3 c arg7 harg7 arg8 harg8 x4 x5)
      (kernelRun0_B.sl.r_4 c i arg6 harg6 x3) (kernelRun0_B.sl.r_5 c i arg6 harg6 x3) (kernelRun0_B.sl.r_6 c arg9 harg9 x6)
      (kernelRun0_B.sl.r_7 c arg9 harg9 x6) k0_pay58 k0_pay59 (0#32) (kernelRun0_B.sl.v78 i)
    (harg4.unread x1) (harg5.unread x2) (harg6.unread x3) g13 g14 g15 _ (trips2 i) I1
  refine ⟨fun r d => ?_, fun h s => ?_, fun s d => ?_, fun s d => ?_⟩
  · refine (st_full2 _ _ _ _ _ r d).trans ?_
    exact diag_dq W (I2 _ _ _) r d
  · refine (congrFun ((View.read_writes_junk_eq_canon VO0_10 _).trans (View.read_writes_junk_eq_canon arg13.view _).symm) _).trans ?_
    exact diag_dc hi W arg13.view _ _ (I2 _ _ _) (k0_off1_eq i) (k0_off2_eq i) _ _ h s
  · refine (congrFun ((View.read_writes_junk_eq_canon VS0_0 _).trans (View.read_writes_junk_eq_canon arg14.view _).symm) _).trans ?_
    exact diag_dk hi W arg14.view _ _ (I2 _ _ _) (k0_off9_eq i) _ s d
  · refine (congrFun ((View.read_writes_junk_eq_canon VS0_1 _).trans (View.read_writes_junk_eq_canon arg15.view _).symm) _).trans ?_
    exact diag_dv hi W arg15.view _ _ (I2 _ _ _) (k0_off9_eq i) _ s d

end Points

end Cert.Fox

end
-- ==== Proof.Fox.Grid.lean ====
/-
  THE KERNEL'S FOUR ARRAYS, over the reals: from what its operands hold (`Held`) to the gradients in the arrays it writes.
  Grid point `t` is row block `t % 8` of the pair of heads `t / 8`; the eight points of a pair follow each other, and the sums are
  carried from one to the next (`after`).
-/
module

public import proofs.«01_k».proof.Proof.Fox.Point
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.ShloMosaic.Tactic Idealize.SL.Sem
open Idealize.ShloMosaic.Pipeline (Dat)

namespace Cert.Fox

open Cert.KernelIdeal Cert.KernelIdeal.Gen Cert.KernelIdeal.Value

/-- Real arrays: the joint projection's rows, the cotangent's and the saved output's, and by head the running log-gates and log-sums. -/
structure Src where
  x : ℕ → ℕ → ℝ
  g : ℕ → ℕ → ℝ
  o : ℕ → ℕ → ℝ
  c : ℕ → ℕ → ℝ
  lse : ℕ → ℕ → ℝ

/-- Pair of heads `u`: batch entry `u / 4`, lanes `128 (u % 4)` on. -/
def Src.pair (S : Src) (u : ℕ) : Pair where
  q t d := S.x (4096 * (u / 4) + t) (1536 + (128 * (u % 4) + d))
  k t d := S.x (4096 * (u / 4) + t) (2048 + (128 * (u % 4) + d))
  v t d := S.x (4096 * (u / 4) + t) (2560 + (128 * (u % 4) + d))
  g t d := S.g (4096 * (u / 4) + t) (128 * (u % 4) + d)
  o t d := S.o (4096 * (u / 4) + t) (128 * (u % 4) + d)
  c h s := S.c (2 * u + h) s
  lse h t := S.lse (2 * u + h) t

variable (m : (ℓ : Loc nD τ sig) → Buf (Elt Ideal) ℓ) (c : Dev nD)

/-- What the kernel's operands hold. -/
structure Held (S : Src) : Prop where
  x : ∀ (a : Fin 8192) (b : Fin 3072), 1536 ≤ b.val → V m c main_v78 (ix2 a b) = ((S.x a b : ℝ) : EReal)
  gates : ∀ (e : Fin 16) (s : Fin 4096), V m c main_v79 (ix3 e 0 s) = ((S.c e s : ℝ) : EReal)
  g : ∀ (a : Fin 8192) (b : Fin 512), V m c main_v80 (ix2 a b) = ((S.g a b : ℝ) : EReal)
  o : ∀ (a : Fin 8192) (b : Fin 512), V m c main_v45 (ix2 a b) = ((S.o a b : ℝ) : EReal)
  lse : ∀ (e : Fin 16) (t : Fin 4096), V m c main_v77 (ix3 e t 0) = ((S.lse e t : ℝ) : EReal)

theorem coord2 : ∀ t : Fin cfg0.N, (grid0.coords t 2).val = t.val % 8 :=
  (by decide +kernel : ∀ t : Fin grid0.N, (grid0.coords t 2).val = t.val % 8)
theorem idx0 : ∀ t : Fin cfg0.N, win0_0.index t = ![8 * (t.val / 32) + t.val % 8, 12 + t.val / 8 % 4] :=
  (by decide +kernel : ∀ t : Fin grid0.N, win0_0.index t = ![8 * (t.val / 32) + t.val % 8, 12 + t.val / 8 % 4])
theorem idx1 : ∀ t : Fin cfg0.N, win0_1.index t = ![t.val / 32, 16 + t.val / 8 % 4] :=
  (by decide +kernel : ∀ t : Fin grid0.N, win0_1.index t = ![t.val / 32, 16 + t.val / 8 % 4])
theorem idx2 : ∀ t : Fin cfg0.N, win0_2.index t = ![t.val / 32, 20 + t.val / 8 % 4] :=
  (by decide +kernel : ∀ t : Fin grid0.N, win0_2.index t = ![t.val / 32, 20 + t.val / 8 % 4])
theorem idx3 : ∀ t : Fin cfg0.N, win0_3.index t = ![t.val / 8, 0, 0] :=
  (by decide +kernel : ∀ t : Fin grid0.N, win0_3.index t = ![t.val / 8, 0, 0])
theorem idx4 : ∀ t : Fin cfg0.N, win0_4.index t = ![8 * (t.val / 32) + t.val % 8, t.val / 8 % 4] :=
  (by decide +kernel : ∀ t : Fin grid0.N, win0_4.index t = ![8 * (t.val / 32) + t.val % 8, t.val / 8 % 4])
theorem idx5 : ∀ t : Fin cfg0.N, win0_5.index t = ![8 * (t.val / 32) + t.val % 8, t.val / 8 % 4] :=
  (by decide +kernel : ∀ t : Fin grid0.N, win0_5.index t = ![8 * (t.val / 32) + t.val % 8, t.val / 8 % 4])
theorem idx6 : ∀ t : Fin cfg0.N, win0_6.index t = ![t.val / 8, t.val % 8, 0] :=
  (by decide +kernel : ∀ t : Fin grid0.N, win0_6.index t = ![t.val / 8, t.val % 8, 0])
theorem idx7 : ∀ t : Fin cfg0.N, win0_7.index t = ![8 * (t.val / 32) + t.val % 8, t.val / 8 % 4] :=
  (by decide +kernel : ∀ t : Fin grid0.N, win0_7.index t = ![8 * (t.val / 32) + t.val % 8, t.val / 8 % 4])
theorem idx8 : ∀ t : Fin cfg0.N, win0_8.index t = ![t.val / 32, t.val / 8 % 4] :=
  (by decide +kernel : ∀ t : Fin grid0.N, win0_8.index t = ![t.val / 32, t.val / 8 % 4])
theorem idx9 : ∀ t : Fin cfg0.N, win0_9.index t = ![t.val / 32, t.val / 8 % 4] :=
  (by decide +kernel : ∀ t : Fin grid0.N, win0_9.index t = ![t.val / 32, t.val / 8 % 4])
theorem idx10 : ∀ t : Fin cfg0.N, win0_10.index t = ![t.val / 8, 0, 0] :=
  (by decide +kernel : ∀ t : Fin grid0.N, win0_10.index t = ![t.val / 8, 0, 0])
theorem last_point : ∀ t : Fin cfg0.N, (cfg0.win 8).flush t = true → t.val % 8 = 7 :=
  (by decide +kernel : ∀ t : Fin grid0.N, win0_8.flush t = true → t.val % 8 = 7)
theorem last_point9 : ∀ t : Fin cfg0.N, (cfg0.win 9).flush t = true → t.val % 8 = 7 :=
  (by decide +kernel : ∀ t : Fin grid0.N, win0_9.flush t = true → t.val % 8 = 7)
theorem last_point10 : ∀ t : Fin cfg0.N, (cfg0.win 10).flush t = true → t.val % 8 = 7 :=
  (by decide +kernel : ∀ t : Fin grid0.N, win0_10.flush t = true → t.val % 8 = 7)
theorem points (t : Fin cfg0.N) : t.val < 64 := t.isLt

section Reads
variable (t : Fin cfg0.N)

theorem block0 (X : Buf (Elt Ideal) ((c.tc : Thread nD τ).loc main_v78)) (r : Fin 512) (d : Fin 128) : ((cfg0.win 0).blk t).view.read (Elt Ideal) X (ix2 r d)
    = X (ix2 ⟨512 * (8 * (t.val / 32) + t.val % 8) + r, by have := points t; omega⟩ ⟨128 * (12 + t.val / 8 % 4) + d, by omega⟩) := by
  blk_ext [idx0 t]
theorem read0 (r : Fin 512) (d : Fin 128) : iblk m c 0 t (ix2 r d)
    = V m c main_v78 (ix2 ⟨512 * (8 * (t.val / 32) + t.val % 8) + r, by have := points t; omega⟩ ⟨128 * (12 + t.val / 8 % 4) + d, by omega⟩) :=
  block0 c t (V m c main_v78) r d
theorem block1 (X : Buf (Elt Ideal) ((c.tc : Thread nD τ).loc main_v78)) (r : Fin 4096) (d : Fin 128) : ((cfg0.win 1).blk t).view.read (Elt Ideal) X (ix2 r d)
    = X (ix2 ⟨4096 * (t.val / 32) + r, by have := points t; omega⟩ ⟨128 * (16 + t.val / 8 % 4) + d, by omega⟩) := by
  blk_ext [idx1 t]
theorem read1 (r : Fin 4096) (d : Fin 128) : iblk m c 1 t (ix2 r d)
    = V m c main_v78 (ix2 ⟨4096 * (t.val / 32) + r, by have := points t; omega⟩ ⟨128 * (16 + t.val / 8 % 4) + d, by omega⟩) :=
  block1 c t (V m c main_v78) r d
theorem block2 (X : Buf (Elt Ideal) ((c.tc : Thread nD τ).loc main_v78)) (r : Fin 4096) (d : Fin 128) : ((cfg0.win 2).blk t).view.read (Elt Ideal) X (ix2 r d)
    = X (ix2 ⟨4096 * (t.val / 32) + r, by have := points t; omega⟩ ⟨128 * (20 + t.val / 8 % 4) + d, by omega⟩) := by
  blk_ext [idx2 t]
theorem read2 (r : Fin 4096) (d : Fin 128) : iblk m c 2 t (ix2 r d)
    = V m c main_v78 (ix2 ⟨4096 * (t.val / 32) + r, by have := points t; omega⟩ ⟨128 * (20 + t.val / 8 % 4) + d, by omega⟩) :=
  block2 c t (V m c main_v78) r d
theorem block3 (X : Buf (Elt Ideal) ((c.tc : Thread nD τ).loc main_v79)) (h : Fin 2) (s : Fin 4096) : ((cfg0.win 3).blk t).view.read (Elt Ideal) X (ix3 h 0 s)
    = X (ix3 ⟨2 * (t.val / 8) + h, by have := points t; omega⟩ 0 s) := by
  blk_ext [idx3 t]
theorem read3 (h : Fin 2) (s : Fin 4096) : iblk m c 3 t (ix3 h 0 s)
    = V m c main_v79 (ix3 ⟨2 * (t.val / 8) + h, by have := points t; omega⟩ 0 s) :=
  block3 c t (V m c main_v79) h s
theorem block4 (X : Buf (Elt Ideal) ((c.tc : Thread nD τ).loc main_v80)) (r : Fin 512) (d : Fin 128) : ((cfg0.win 4).blk t).view.read (Elt Ideal) X (ix2 r d)
    = X (ix2 ⟨512 * (8 * (t.val / 32) + t.val % 8) + r, by have := points t; omega⟩ ⟨128 * (t.val / 8 % 4) + d, by omega⟩) := by
  blk_ext [idx4 t]
theorem read4 (r : Fin 512) (d : Fin 128) : iblk m c 4 t (ix2 r d)
    = V m c main_v80 (ix2 ⟨512 * (8 * (t.val / 32) + t.val % 8) + r, by have := points t; omega⟩ ⟨128 * (t.val / 8 % 4) + d, by omega⟩) :=
  block4 c t (V m c main_v80) r d
theorem block5 (X : Buf (Elt Ideal) ((c.tc : Thread nD τ).loc main_v45)) (r : Fin 512) (d : Fin 128) : ((cfg0.win 5).blk t).view.read (Elt Ideal) X (ix2 r d)
    = X (ix2 ⟨512 * (8 * (t.val / 32) + t.val % 8) + r, by have := points t; omega⟩ ⟨128 * (t.val / 8 % 4) + d, by omega⟩) := by
  blk_ext [idx5 t]
theorem read5 (r : Fin 512) (d : Fin 128) : iblk m c 5 t (ix2 r d)
    = V m c main_v45 (ix2 ⟨512 * (8 * (t.val / 32) + t.val % 8) + r, by have := points t; omega⟩ ⟨128 * (t.val / 8 % 4) + d, by omega⟩) :=
  block5 c t (V m c main_v45) r d
theorem block6 (X : Buf (Elt Ideal) ((c.tc : Thread nD τ).loc main_v77)) (h : Fin 2) (r : Fin 512) : ((cfg0.win 6).blk t).view.read (Elt Ideal) X (ix3 h r 0)
    = X (ix3 ⟨2 * (t.val / 8) + h, by have := points t; omega⟩ ⟨512 * (t.val % 8) + r, by omega⟩ 0) := by
  blk_ext [idx6 t]
theorem read6 (h : Fin 2) (r : Fin 512) : iblk m c 6 t (ix3 h r 0)
    = V m c main_v77 (ix3 ⟨2 * (t.val / 8) + h, by have := points t; omega⟩ ⟨512 * (t.val % 8) + r, by omega⟩ 0) :=
  block6 c t (V m c main_v77) h r

end Reads

/-- Equal places hold equal reals. -/
theorem real_at {f : ℕ → ℕ → ℝ} {a a' b b' : ℕ} (ha : a = a') (hb : b = b') : ((f a b : ℝ) : EReal) = ((f a' b' : ℝ) : EReal) := by
  rw [ha, hb]

variable {m c} {S : Src} (H : Held m c S)

include H in
/-- What a point's windows hold. -/
theorem blocks (t : Fin cfg0.N) {i : ℕ} (hi : i = t.val % 8) : Blocks (S.pair (t.val / 8)) i (iblk m c 0 t) (iblk m c 1 t) (iblk m c 2 t)
    (iblk m c 3 t) (iblk m c 4 t) (iblk m c 5 t) (iblk m c 6 t) := by
  have ht := points t
  subst hi
  exact ⟨fun r d => ((read0 m c t r d).trans (H.x _ _ (by dsimp only; omega))).trans (real_at (f := S.x) (by dsimp only; omega) (by dsimp only; omega)),
    fun r d => ((read1 m c t r d).trans (H.x _ _ (by dsimp only; omega))).trans (real_at (f := S.x) (by dsimp only; omega) (by dsimp only; omega)),
    fun r d => ((read2 m c t r d).trans (H.x _ _ (by dsimp only; omega))).trans (real_at (f := S.x) (by dsimp only; omega) (by dsimp only; omega)),
    fun h s => (read3 m c t h s).trans (H.gates _ _),
    fun r d => ((read4 m c t r d).trans (H.g _ _)).trans (real_at (f := S.g) (by dsimp only; omega) (by dsimp only)),
    fun r d => ((read5 m c t r d).trans (H.o _ _)).trans (real_at (f := S.o) (by dsimp only; omega) (by dsimp only)),
    fun h r => (read6 m c t h r).trans (H.lse _ _)⟩

/-- What the body leaves at a point: its row block of the gradient of q, and the sums of the row blocks up to it. -/
def Left (S : Src) (n : ℕ) (x : Vec Ideal S512x128 .bf16 × Vec Ideal S4096x128 .bf16 × Vec Ideal S4096x128 .bf16 × Vec Ideal S2x1x4096 .f32 × Vec Ideal S4096x128 .f32 × Vec Ideal S4096x128 .f32) : Prop :=
  (∀ (r : Fin 512) (d : Fin 128), x.1 (ix2 r d) = (((S.pair (n / 8)).dq (512 * (n % 8 + 1)) (512 * (n % 8) + r) d * (1 / 8) : ℝ) : EReal))
    ∧ Sums (S.pair (n / 8)) (512 * (n % 8 + 1)) x.2.2.2.1 x.2.2.2.2.1 x.2.2.2.2.2
    ∧ (n % 8 = 7 → (∀ (s : Fin 4096) (d : Fin 128), x.2.1 (ix2 s d) = (((S.pair (n / 8)).dk 4096 s d : ℝ) : EReal))
        ∧ ∀ (s : Fin 4096) (d : Fin 128), x.2.2.1 (ix2 s d) = (((S.pair (n / 8)).dv 4096 s d : ℝ) : EReal))

section Mk
variable {n : ℕ} {a : Vec Ideal S512x128 .bf16} {b b' : Vec Ideal S4096x128 .bf16} {x13 : Vec Ideal S2x1x4096 .f32} {x14 x15 : Vec Ideal S4096x128 .f32}

theorem Left.mk (h7 : ¬n % 8 = 7)
    (h : (∀ (r : Fin 512) (d : Fin 128), a (ix2 r d) = (((S.pair (n / 8)).dq (512 * (n % 8 + 1)) (512 * (n % 8) + r) d * (1 / 8) : ℝ) : EReal))
      ∧ Sums (S.pair (n / 8)) (512 * (n % 8 + 1)) x13 x14 x15) : Left S n (a, b, b', x13, x14, x15) :=
  ⟨h.1, h.2, fun h => absurd h h7⟩

theorem Left.mk_last (h7 : n % 8 = 7)
    (h : (∀ (r : Fin 512) (d : Fin 128), a (ix2 r d) = (((S.pair (n / 8)).dq (512 * (n % 8 + 1)) (512 * (n % 8) + r) d * (1 / 8) : ℝ) : EReal))
      ∧ Sums (S.pair (n / 8)) (512 * (n % 8 + 1)) x13 x14 x15
      ∧ (∀ (s : Fin 4096) (d : Fin 128), b (ix2 s d) = (((S.pair (n / 8)).dk (512 * (n % 8 + 1)) s d : ℝ) : EReal))
      ∧ ∀ (s : Fin 4096) (d : Fin 128), b' (ix2 s d) = (((S.pair (n / 8)).dv (512 * (n % 8 + 1)) s d : ℝ) : EReal)) : Left S n (a, b, b', x13, x14, x15) := by
  rw [h7] at h
  exact ⟨by rw [h7]; exact h.1, by rw [h7]; exact h.2.1, fun _ => h.2.2⟩

end Mk

include H in
theorem left_first (T : Fin cfg0.N) (h0 : T.val % 8 = 0) (h1 : ¬T.val % 8 = 7) : Left S T.val (outsAt0 m c T.val T.isLt) := by
  rw [outsAt0_A m c T h0 h1]
  exact Left.mk h1 (point_A c (grid0.coords T) (ms0_0 T) (hs0_0 T) (ms0_1 T) (hs0_1 T) (ms0_2 T) (hs0_2 T) (ms0_3 T) (hs0_3 T)
      (ms0_4 T) (hs0_4 T) (ms0_5 T) (hs0_5 T) (ms0_6 T) (hs0_6 T) (ms0_7 T) (hs0_7 T)
      (ms0_8 T) (hs0_8 T) (ms0_9 T) (hs0_9 T) (ms0_10 T) (hs0_10 T)
      scM0_0 (Memref.isWhole_whole _) scM0_1 (Memref.isWhole_whole _)
    ((hcond0_0 T).mpr h0) (fun h => h1 ((hcond0_1 T).mp h)) (coord2 T) (blocks H T rfl) h0)

/-- What the point before leaves, as a point's start. -/
def Before (S : Src) (m : (ℓ : Loc nD τ sig) → Buf (Elt Ideal) ℓ) (c : Dev nD) (T : Fin cfg0.N) : Prop :=
  Sums (S.pair (T.val / 8)) (512 * (T.val % 8)) (outsAt0 m c (T.val - 1) (Nat.lt_of_le_of_lt (Nat.sub_le _ _) T.isLt)).2.2.2.1
      (outsAt0 m c (T.val - 1) (Nat.lt_of_le_of_lt (Nat.sub_le _ _) T.isLt)).2.2.2.2.1
      (outsAt0 m c (T.val - 1) (Nat.lt_of_le_of_lt (Nat.sub_le _ _) T.isLt)).2.2.2.2.2

include H in
theorem left_mid (T : Fin cfg0.N) (h0 : ¬T.val % 8 = 0) (h1 : ¬T.val % 8 = 7) (hs : Before S m c T) : Left S T.val (outsAt0 m c T.val T.isLt) := by
  rw [outsAt0_B m c T h0 h1]
  exact Left.mk h1 (point_B c (grid0.coords T) (ms0_0 T) (hs0_0 T) (ms0_1 T) (hs0_1 T) (ms0_2 T) (hs0_2 T) (ms0_3 T) (hs0_3 T)
      (ms0_4 T) (hs0_4 T) (ms0_5 T) (hs0_5 T) (ms0_6 T) (hs0_6 T) (ms0_7 T) (hs0_7 T)
      (ms0_8 T) (hs0_8 T) (ms0_9 T) (hs0_9 T) (ms0_10 T) (hs0_10 T)
      scM0_0 (Memref.isWhole_whole _) scM0_1 (Memref.isWhole_whole _)
      (fun h => h0 ((hcond0_0 T).mp h)) (fun h => h1 ((hcond0_1 T).mp h)) (coord2 T) (blocks H T rfl) hs)

include H in
theorem left_last (T : Fin cfg0.N) (h0 : ¬T.val % 8 = 0) (h1 : T.val % 8 = 7) (hs : Before S m c T) : Left S T.val (outsAt0 m c T.val T.isLt) := by
  rw [outsAt0_C m c T h0 h1]
  exact Left.mk_last h1 (point_C c (grid0.coords T) (ms0_0 T) (hs0_0 T) (ms0_1 T) (hs0_1 T) (ms0_2 T) (hs0_2 T) (ms0_3 T) (hs0_3 T)
      (ms0_4 T) (hs0_4 T) (ms0_5 T) (hs0_5 T) (ms0_6 T) (hs0_6 T) (ms0_7 T) (hs0_7 T)
      (ms0_8 T) (hs0_8 T) (ms0_9 T) (hs0_9 T) (ms0_10 T) (hs0_10 T)
      scM0_0 (Memref.isWhole_whole _) scM0_1 (Memref.isWhole_whole _)
      (fun h => h0 ((hcond0_0 T).mp h)) ((hcond0_1 T).mpr h1) (coord2 T) (blocks H T rfl) hs)

include H in
/-- What every point leaves. -/
theorem left (n : ℕ) (hn : n < cfg0.N) : Left S n (outsAt0 m c n hn) := by
  induction n with
  | zero => exact left_first H ⟨0, hn⟩ rfl (show ¬0 % 8 = 7 by decide)
  | succ n ih =>
    by_cases h0 : (n + 1) % 8 = 0
    · exact left_first H ⟨n + 1, hn⟩ h0 (show ¬(n + 1) % 8 = 7 by omega)
    · have hs := (ih (by omega)).2.1
      rw [show n / 8 = (n + 1) / 8 by omega, show n % 8 + 1 = (n + 1) % 8 by omega] at hs
      by_cases h1 : (n + 1) % 8 = 7
      · exact left_last H ⟨n + 1, hn⟩ h0 h1 hs
      · exact left_mid H ⟨n + 1, hn⟩ h0 h1 hs

end Cert.Fox

end
-- ==== Proof.Fox.Arrays.lean ====
/-
  THE KERNEL'S ARRAYS after the run, element by element, from what every grid point leaves (`left`).
-/
module

public import proofs.«01_k».proof.Proof.Fox.Grid

@[expose] public section

set_option maxRecDepth 16384

noncomputable section

open Idealize.ShloMosaic Idealize.ShloMosaic.TcCoe Idealize.ShloMosaic.Tactic Idealize.SL.Sem
open Idealize.ShloMosaic.Pipeline (Dat)

namespace Cert.Fox

open Cert.KernelIdeal Cert.KernelIdeal.Gen Cert.KernelIdeal.Value

variable {m : (ℓ : Loc nD τ sig) → Buf (Elt Ideal) ℓ} {c : Dev nD} {S : Src} (H : Held m c S)

/-- The pair of heads of an array element: by its row's batch entry and its lane. -/
def pairOf (a b : ℕ) : ℕ := 4 * (a / 4096) + b / 128

theorem dq_eq {u u' n n' t t' d d' : ℕ} (hu : u = u') (hn : (S.pair u').dq n t' d' = (S.pair u').dq n' t' d') (ht : t = t') (hd : d = d') :
    (((S.pair u).dq n t d * (1 / 8) : ℝ) : EReal) = (((S.pair u').dq n' t' d' * (1 / 8) : ℝ) : EReal) := by
  subst hu ht hd
  rw [hn]
theorem dk_eq {u u' s s' d d' : ℕ} (hu : u = u') (hs : s = s') (hd : d = d') :
    (((S.pair u).dk 4096 s d : ℝ) : EReal) = (((S.pair u').dk 4096 s' d' : ℝ) : EReal) := by
  subst hu hs hd
  rfl
theorem dv_eq {u u' s s' d d' : ℕ} (hu : u = u') (hs : s = s') (hd : d = d') :
    (((S.pair u).dv 4096 s d : ℝ) : EReal) = (((S.pair u').dv 4096 s' d' : ℝ) : EReal) := by
  subst hu hs hd
  rfl
theorem dc_eq {u u' n h h' s s' : ℕ} (hu : u = u') (hn : n = 4096) (hh : h = h') (hs : s = s') :
    ((-(S.pair u).dc n h s : ℝ) : EReal) = ((-(S.pair u').dc 4096 h' s' : ℝ) : EReal) := by
  subst hu hn hh hs
  rfl

include H

/-- The gradient of q. -/
theorem array_dq (a : Fin 8192) (b : Fin 512) : (dats m 0 c).arrAt 7 cfg0.N (ix2 a b)
    = (((S.pair (pairOf a b)).dq 4096 (a % 4096) (b % 128) * (1 / 8) : ℝ) : EReal) := by
  refine (dats m 0 c).arrAt_forall_of_covers 7 (fun i v => v = (((S.pair (pairOf (i 0).val (i 1).val)).dq 4096 ((i 0).val % 4096) ((i 1).val % 128) * (1 / 8) : ℝ) : EReal))
    (by decide +kernel) (fun t hf y => ?_) (ix2 a b)
  have ht := points t
  blk_simp [idx7 t]
  rw [after0_7]
  idx_bounds y
  refine (congrArg _ (eq_ix2 (n0 := 512) (n1 := 128) y)).trans (((left H t.val t.isLt).1 (y 0) (y 1)).trans (dq_eq ?_ ?_ ?_ ?_))
  · unfold pairOf; omega
  · exact (Pair.dq_of_lt (by omega) (by omega) _).symm
  · omega
  · omega

/-- The gradient of k. -/
theorem array_dk (a : Fin 8192) (b : Fin 512) : (dats m 0 c).arrAt 8 cfg0.N (ix2 a b)
    = (((S.pair (pairOf a b)).dk 4096 (a % 4096) (b % 128) : ℝ) : EReal) := by
  refine (dats m 0 c).arrAt_forall_of_covers 8 (fun i v => v = (((S.pair (pairOf (i 0).val (i 1).val)).dk 4096 ((i 0).val % 4096) ((i 1).val % 128) : ℝ) : EReal))
    (by decide +kernel) (fun t hf y => ?_) (ix2 a b)
  have ht := points t
  have h7 := last_point t hf
  blk_simp [idx8 t]
  rw [after0_8]
  idx_bounds y
  refine (congrArg _ (eq_ix2 (n0 := 4096) (n1 := 128) y)).trans ((((left H t.val t.isLt).2.2 h7).1 (y 0) (y 1)).trans (dk_eq ?_ ?_ ?_))
  · unfold pairOf; omega
  · omega
  · omega

/-- The gradient of v. -/
theorem array_dv (a : Fin 8192) (b : Fin 512) : (dats m 0 c).arrAt 9 cfg0.N (ix2 a b)
    = (((S.pair (pairOf a b)).dv 4096 (a % 4096) (b % 128) : ℝ) : EReal) := by
  refine (dats m 0 c).arrAt_forall_of_covers 9 (fun i v => v = (((S.pair (pairOf (i 0).val (i 1).val)).dv 4096 ((i 0).val % 4096) ((i 1).val % 128) : ℝ) : EReal))
    (by decide +kernel) (fun t hf y => ?_) (ix2 a b)
  have ht := points t
  have h7 := last_point9 t hf
  blk_simp [idx9 t]
  rw [after0_9]
  idx_bounds y
  refine (congrArg _ (eq_ix2 (n0 := 4096) (n1 := 128) y)).trans ((((left H t.val t.isLt).2.2 h7).2 (y 0) (y 1)).trans (dv_eq ?_ ?_ ?_))
  · unfold pairOf; omega
  · omega
  · omega

/-- The gradient of the running log-gates, by head. -/
theorem array_dc (e : Fin 16) (s : Fin 4096) : (dats m 0 c).arrAt 10 cfg0.N (ix3 e 0 s)
    = ((-(S.pair (e / 2)).dc 4096 (e % 2) s : ℝ) : EReal) := by
  refine (dats m 0 c).arrAt_forall_of_covers 10 (fun i v => v = ((-(S.pair ((i 0).val / 2)).dc 4096 ((i 0).val % 2) (i 2).val : ℝ) : EReal))
    (by decide +kernel) (fun t hf y => ?_) (ix3 e 0 s)
  have ht := points t
  have h7 := last_point10 t hf
  blk_simp [idx10 t]
  rw [after0_10]
  idx_bounds y
  have y1 : y 1 = (0 : Fin 1) := Fin.ext (by show (y 1).val = 0; omega)
  refine (congrArg _ ((eq_ix3 (n0 := 2) (n1 := 1) (n2 := 4096) y).trans (by rw [y1]))).trans (((left H t.val t.isLt).2.1.dc (y 0) (y 2)).trans (dc_eq ?_ ?_ ?_ ?_))
  · omega
  · omega
  · omega
  · omega

end Cert.Fox

end
-- ==== Proof.Fox.Host.lean ====
/-
  THE KERNEL'S OPERANDS, read off the host operations before it: the rounded projections and cotangent, the running log-gates by head,
  and the saved output and log-sums, in terms of the reference's own scores. Each stretch of host operations is read from arbitrary
  contents first (`first_…`, `second_…`, `third_…`), and the stretches are then composed.
-/
module

public import proofs.«01_k».proof.Proof.Gen.KernelIdeal.Value
public import proofs.«01_k».proof.Proof.Gen.ReferenceIdeal.Read
public import Idealize.ShloMosaic.Lib.Pipeline.ValueKit
public import Idealize.ShloMosaic.Lib.StableHlo.RunRead

@[expose] public section

set_option maxRecDepth 16384

noncomputable section

open Idealize.ShloMosaic Idealize.ShloMosaic.TcCoe Idealize.ShloMosaic.Tactic Idealize.SL.Sem
open Idealize.ShloMosaic.StableHlo

namespace Cert.Operands

open Cert.KernelIdeal Cert.KernelIdeal.Gen

/-- Arrays of one number for every pair of positions of every head, of a column for every head, and of one number a position. -/
abbrev Square (F : FTy → Type) := BufTy.Contents (Elt F) ⟨S2x8x4096x4096, .f32⟩
abbrev Column (F : FTy → Type) := BufTy.Contents (Elt F) ⟨S2x8x4096x1, .f32⟩
abbrev Line (F : FTy → Type) := BufTy.Contents (Elt F) ⟨S2x8x4096, .f32⟩
/-- Rows of a batch entry, all heads' lanes in a row. -/
abbrev Lanes (F : FTy → Type) := BufTy.Contents (Elt F) ⟨S2x4096x512, .f32⟩
/-- The same by head. -/
abbrev Heads (F : FTy → Type) := BufTy.Contents (Elt F) ⟨S2x8x4096x64, .f32⟩
abbrev Proj (F : FTy → Type) := BufTy.Contents (Elt F) ⟨S8192x3072, .f32⟩

variable {F : FTy → Type} [FloatOps F]

/-- One number a row, as a column. -/
def column (y : Line F) : Column F := (broadcastInDim S2x8x4096x1 ![0, 1, 2] bcast_S2x8x4096_S2x8x4096x1_0_1_2 : Line F → Column F) y
/-- A column repeated over its row. -/
def across (y : Column F) : Square F := (broadcastInDim S2x8x4096x4096 ![0, 1, 2, 3] bcast_S2x8x4096x1_S2x8x4096x4096_0_1_2_3 : Column F → Square F) y
/-- The largest of a row. -/
def rowMax (z : Square F) : Line F := Host.reduce FloatOps.maximumf z (constant (F := F) S_ .f32 0xFF800000#32) reducesTo_S2x8x4096x4096_S2x8x4096_d3 h_S_
/-- The sum of a row. -/
def rowSum (z : Square F) : Line F := Host.reduceAdd z (constant (F := F) S_ .f32 0x00000000#32) reducesTo_S2x8x4096x4096_S2x8x4096_d3 h_S_
/-- The exponentials of scores less a number a row. -/
def exps (z : Square F) (y : Line F) : Square F := (Host.exp : Square F → Square F) ((subf : Square F → Square F → Square F) z (across (column y)))
/-- A row's largest score, never below negative infinity. -/
def guarded (z : Square F) : Line F := (maximumf : Line F → Line F → Line F) ((broadcastInDim S2x8x4096 ![] bcast_S_S2x8x4096 : BufTy.Contents (Elt F) ⟨S_, .f32⟩ → Line F) (constant S_ .f32 0xFF800000#32)) (rowMax z)
/-- Rows split by head. -/
def heads (r : Lanes F) : Heads F := (transpose S2x8x4096x64 [0, 2, 1, 3] · transposes_S2x4096x8x64_S2x8x4096x64_0_2_1_3 : BufTy.Contents (Elt F) ⟨S2x4096x8x64, .f32⟩ → Heads F) (shapeCast _ r shapeCasts_S2x4096x512_S2x4096x8x64)
/-- The heads' rows laid side by side. -/
def joined (h : Heads F) : Lanes F := shapeCast _ ((transpose S2x4096x8x64 [0, 2, 1, 3] · transposes_S2x8x4096x64_S2x4096x8x64_0_2_1_3 : Heads F → BufTy.Contents (Elt F) ⟨S2x4096x8x64, .f32⟩) h) shapeCasts_S2x4096x8x64_S2x4096x512
/-- The softmax of scores over a row, times the values. -/
def mixed (z : Square F) (v : Lanes F) : Lanes F :=
  joined (Host.dotGeneral dot_S2x8x4096x4096_S2x8x4096x64_S2x8x4096x64_3_2_2_3_01_01 none
    ((Host.divf : Square F → Square F → Square F) (exps z (guarded z)) (across (column (rowSum (exps z (guarded z)))))) (heads v))
/-- The log-sum of a row of scores. -/
def logSum (z : Square F) : Column F :=
  (addf : Column F → Column F → Column F) (column (rowMax z)) ((Host.log : Column F → Column F) (column (rowSum (exps z (rowMax z)))))
/-- The masked scores of queries, keys and running log-gates. -/
def scores (q k : Lanes F) (l : Line F) : Square F :=
  (select : BufTy.Contents (Elt F) ⟨S2x8x4096x4096, .i1⟩ → Square F → Square F → Square F) (Cert.ReferenceIdeal.Read.val_main_v28_1 (F := F))
    ((subf : Square F → Square F → Square F)
      ((addf : Square F → Square F → Square F)
        ((mulf : Square F → Square F → Square F) (Host.dotGeneral dot_S2x8x4096x64_S2x8x4096x64_S2x8x4096x4096_3_3_2_2_01_01 none (heads q) (heads k)) (Cert.ReferenceIdeal.Read.val_main_v14 (F := F)))
        (Cert.ReferenceIdeal.Read.val_main_v17 (F := F) l))
      (Cert.ReferenceIdeal.Read.val_main_v20 (F := F) l))
    (Cert.ReferenceIdeal.Read.val_main_call0_v2 (F := F))

variable (X : Valuation τ sig (Elt Ideal))

/-! ## From the arguments to the scores -/

abbrev first (X : Valuation τ sig (Elt Ideal)) := after hostOps0_1 (after hostOps0 X)
theorem first_q : (first X) (Proc.tc.devRef main_v6) = Cert.ReferenceIdeal.Read.val_main_v6 (F := Ideal) (X (Proc.tc.devRef main_arg0)) := by
  after_results; rfl
theorem first_k : (first X) (Proc.tc.devRef main_v7) = Cert.ReferenceIdeal.Read.val_main_v7 (F := Ideal) (X (Proc.tc.devRef main_arg0)) := by
  after_results; rfl
theorem first_v : (first X) (Proc.tc.devRef main_v8) = Cert.ReferenceIdeal.Read.val_main_v8 (F := Ideal) (X (Proc.tc.devRef main_arg0)) := by
  after_results; rfl
theorem first_z : (first X) (Proc.tc.devRef main_v28) = scores (Cert.ReferenceIdeal.Read.val_main_v6 (F := Ideal) (X (Proc.tc.devRef main_arg0))) (Cert.ReferenceIdeal.Read.val_main_v7 (F := Ideal) (X (Proc.tc.devRef main_arg0))) (X (Proc.tc.devRef main_arg1)) := by
  after_results; rfl
theorem first_arg0 : (first X) (Proc.tc.devRef main_arg0) = X (Proc.tc.devRef main_arg0) := by after_results
theorem first_arg1 : (first X) (Proc.tc.devRef main_arg1) = X (Proc.tc.devRef main_arg1) := by after_results
theorem first_arg2 : (first X) (Proc.tc.devRef main_arg2) = X (Proc.tc.devRef main_arg2) := by after_results

/-! ## The output, and the scores once more -/

abbrev second (X : Valuation τ sig (Elt Ideal)) := after hostOps0_3 (after hostOps0_2 X)
theorem second_o : (second X) (Proc.tc.devRef main_v45) = shapeCast _ (mixed (X (Proc.tc.devRef main_v28)) (X (Proc.tc.devRef main_v8))) shapeCasts_S2x4096x512_S8192x512 := by
  after_results; rfl
theorem second_z : (second X) (Proc.tc.devRef main_v65) = scores (X (Proc.tc.devRef main_v6)) (X (Proc.tc.devRef main_v7)) (X (Proc.tc.devRef main_arg1)) := by
  after_results; rfl
theorem second_arg0 : (second X) (Proc.tc.devRef main_arg0) = X (Proc.tc.devRef main_arg0) := by after_results
theorem second_arg1 : (second X) (Proc.tc.devRef main_arg1) = X (Proc.tc.devRef main_arg1) := by after_results
theorem second_arg2 : (second X) (Proc.tc.devRef main_arg2) = X (Proc.tc.devRef main_arg2) := by after_results

/-! ## The log-sums and the roundings -/

abbrev third (X : Valuation τ sig (Elt Ideal)) := after hostOps0_4 X
theorem third_o : (third X) (Proc.tc.devRef main_v45) = X (Proc.tc.devRef main_v45) := by after_results
theorem third_lse : (third X) (Proc.tc.devRef main_v77) = shapeCast _ (logSum (X (Proc.tc.devRef main_v65))) shapeCasts_S2x8x4096x1_S16x4096x1 := by
  after_results; rfl
theorem third_x (i : S8192x3072.Idx) : (third X) (Proc.tc.devRef main_v78) i = X (Proc.tc.devRef main_arg0) i := by
  after_results; rfl
theorem third_c : (third X) (Proc.tc.devRef main_v79) = shapeCast _ (X (Proc.tc.devRef main_arg1) : Line Ideal) shapeCasts_S2x8x4096_S16x1x4096 := by
  after_results; rfl
theorem third_g (i : S8192x512.Idx) : (third X) (Proc.tc.devRef main_v80) i = X (Proc.tc.devRef main_arg2) i := by
  after_results; rfl

/-! ## The reference's stages in these words -/

theorem ref_scores (x : Proj Ideal) (l : Line Ideal) : Cert.ReferenceIdeal.Read.val_main_v28_0 (F := Ideal) x l
    = scores (Cert.ReferenceIdeal.Read.val_main_v6 (F := Ideal) x) (Cert.ReferenceIdeal.Read.val_main_v7 (F := Ideal) x) l := by
  rfl

variable (m : (ℓ : Loc nD τ sig) → Buf (Elt Ideal) ℓ) (c : Dev nD)

theorem lines (b : Ref sig .tc) : V m c b = third (second (first fun b => m (c, b))) (Proc.tc.devRef b) := by
  simp only [V, List.flatten_cons, List.flatten_nil, List.append_nil, StableHlo.after_append]

end Cert.Operands
-- ==== Proof.Fox.Softmax.lean ====
/-
  ONE HEAD OF THE ATTENTION AND ITS GRADIENT, over the reals, as the reference states them: the softmax of the masked scores, and the
  gradients by its chain rule. Then that a pair of heads given these outputs and log-sums (`Pair`) has the same weights and the same
  gradients, although it forms its weights from the log-sums and its rows' corrections from the outputs (`weights_eq`, `grads_eq`).
  The number taken off a row of scores before the exponential (`top`) may be any: it cancels.
-/
module

public import proofs.«01_k».proof.Proof.Fox.Math
public import Mathlib.Algebra.BigOperators.Field
public import Mathlib.Analysis.SpecialFunctions.Log.Basic

@[expose] public section

noncomputable section

namespace Cert.Fox

open Finset

/-- A head's queries, keys, values, cotangent and running log-gates, and the number taken off each row of scores. -/
structure Head where
  q : ℕ → ℕ → ℝ
  k : ℕ → ℕ → ℝ
  v : ℕ → ℕ → ℝ
  g : ℕ → ℕ → ℝ
  gate : ℕ → ℝ
  top : ℕ → ℝ

namespace Head

variable (A : Head)

/-- The score of key `s` for query `t`. -/
def score (t s : ℕ) : ℝ := (∑ d : Fin 64, A.q t d * A.k s d) * (1 / 8) + A.gate t - A.gate s
/-- Its exponential, zero after `t`. -/
def ex (t s : ℕ) : ℝ := if s ≤ t then Real.exp (A.score t s - A.top t) else 0
/-- The row's sum. -/
def total (t : ℕ) : ℝ := ∑ s : Fin 4096, A.ex t s
/-- The weight. -/
def weight (t s : ℕ) : ℝ := A.ex t s / A.total t
/-- The output. -/
def out (t d : ℕ) : ℝ := ∑ s : Fin 4096, A.weight t s * A.v s d
/-- The log-sum. -/
def logSum (t : ℕ) : ℝ := A.top t + Real.log (A.total t)
/-- The gradient at the weights. -/
def gw (t s : ℕ) : ℝ := ∑ d : Fin 64, A.g t d * A.v s d
/-- The row's correction in the gradient at the exponentials. -/
def corr (t : ℕ) : ℝ := ∑ s : Fin 4096, A.gw t s * (1 / (A.total t * A.total t)) * A.ex t s
/-- The gradient at the scores. -/
def gs (t s : ℕ) : ℝ := if s ≤ t then (A.gw t s / A.total t + -A.corr t) * A.ex t s else 0

theorem ex_nonneg (t s : ℕ) : 0 ≤ A.ex t s := by
  unfold ex
  split
  · exact (Real.exp_pos _).le
  · exact le_refl _

theorem total_pos (t : ℕ) : 0 < A.total t := by
  refine sum_pos' (fun s _ => A.ex_nonneg t s) ⟨0, mem_univ _, ?_⟩
  rw [ex, if_pos (by simp)]
  exact Real.exp_pos _

theorem total_ne (t : ℕ) : A.total t ≠ 0 := (A.total_pos t).ne'

theorem sum_weight (t : ℕ) : ∑ s : Fin 4096, A.weight t s = 1 := by
  simp only [weight, ← sum_div]
  exact div_self (A.total_ne t)

/-- The row's product of cotangent and output is the weighted sum of the gradient at the weights. -/
theorem sum_out (t : ℕ) : ∑ d : Fin 64, A.g t d * A.out t d = ∑ s : Fin 4096, A.weight t s * A.gw t s := by
  simp only [out, gw, mul_sum]
  rw [sum_comm]
  exact sum_congr rfl fun s _ => sum_congr rfl fun d _ => by ring

theorem corr_eq (t : ℕ) : A.corr t = (∑ d : Fin 64, A.g t d * A.out t d) / A.total t := by
  rw [sum_out, corr, sum_div]
  refine sum_congr rfl fun s _ => ?_
  have h := A.total_ne t
  rw [weight]
  field_simp

/-- The gradient at the scores: the weight times what its row's mean falls short by. -/
theorem gs_eq (t s : ℕ) : A.gs t s = A.weight t s * (A.gw t s - ∑ d : Fin 64, A.g t d * A.out t d) := by
  have h := A.total_ne t
  unfold gs
  split
  · rw [corr_eq, weight]
    field_simp
    ring
  · rename_i hs
    rw [weight, ex, if_neg hs, zero_div, zero_mul]

/-- A row of it sums to zero. -/
theorem sum_gs (t : ℕ) : ∑ s : Fin 4096, A.gs t s = 0 := by
  simp only [gs_eq, mul_sub, sum_sub_distrib, ← sum_mul, sum_weight, one_mul, sum_out, sub_self]

/-- The weight from the log-sum. -/
theorem weight_eq (t s : ℕ) : A.weight t s = if s ≤ t then Real.exp (A.score t s - A.logSum t) else 0 := by
  unfold weight ex
  split
  · rw [logSum, ← sub_sub, Real.exp_sub (_ - _), Real.exp_log (A.total_pos t)]
  · exact zero_div _

end Head

/-! ## A head among the two of a pair -/

/-- A sum over the lanes of one of two heads. -/
theorem sum_lanes (h : ℕ) (hh : h < 2) (f : ℕ → ℝ) : (∑ d : Fin 128, if d.val / 64 = h then f d else 0) = ∑ d : Fin 64, f (64 * h + d) := by
  rw [Fin.sum_univ_eq_sum_range (fun d => if d / 64 = h then f d else 0) 128, Fin.sum_univ_eq_sum_range (fun d => f (64 * h + d)) 64,
    show (128 : ℕ) = 64 + 64 from rfl, sum_range_add]
  have a : ∀ d ∈ range 64, d / 64 = 0 := fun d hd => Nat.div_eq_of_lt (mem_range.mp hd)
  have b : ∀ d ∈ range 64, (64 + d) / 64 = 1 := fun d hd => by have := mem_range.mp hd; omega
  rcases (by omega : h = 0 ∨ h = 1) with rfl | rfl
  · rw [sum_congr rfl fun d hd => if_pos (a d hd), sum_congr rfl fun d hd => if_neg (by rw [b d hd]; decide : ¬(64 + d) / 64 = 0), sum_const_zero, add_zero]
    exact sum_congr rfl fun d _ => by rw [Nat.mul_zero, Nat.zero_add]
  · rw [sum_congr rfl fun d hd => if_neg (by rw [a d hd]; decide : ¬d / 64 = 1), sum_congr rfl fun d hd => if_pos (b d hd), sum_const_zero, zero_add]

/-- Head `h` of a pair is the head `A`, with its output and its log-sums. -/
structure Is (D : Pair) (h : ℕ) (A : Head) : Prop where
  q : ∀ t d, d < 64 → D.q t (64 * h + d) = A.q t d
  k : ∀ t d, d < 64 → D.k t (64 * h + d) = A.k t d
  v : ∀ t d, d < 64 → D.v t (64 * h + d) = A.v t d
  g : ∀ t d, d < 64 → D.g t (64 * h + d) = A.g t d
  o : ∀ t d, t < 4096 → d < 64 → D.o t (64 * h + d) = A.out t d
  c : ∀ s, D.c h s = A.gate s
  lse : ∀ t, D.lse h t = A.logSum t

namespace Is

variable {D : Pair} {h : ℕ} {A : Head} (I : Is D h A) (hh : h < 2)
include I hh

theorem weights (t s : ℕ) : D.P h t s = A.weight t s := by
  rw [A.weight_eq, Pair.P]
  refine if_congr Iff.rfl (congrArg Real.exp ?_) rfl
  have e : ∀ d : Fin 128, D.qm h t d * D.k s d = if d.val / 64 = h then D.q t d * (1 / 8) * D.k s d else 0 := fun d => by
    rw [Pair.qm, ite_mul, zero_mul]
  rw [sum_congr rfl fun d _ => e d, sum_lanes h hh fun d => D.q t d * (1 / 8) * D.k s d, I.c, I.c, I.lse, Head.score, sum_mul,
    sum_congr rfl fun (d : Fin 64) _ => show D.q t (64 * h + d) * (1 / 8) * D.k s (64 * h + d) = A.q t d * A.k s d * (1 / 8) by
      rw [I.q _ _ d.isLt, I.k _ _ d.isLt]; ring]
  ring

theorem grads (t s : ℕ) : D.DP h t s = A.gw t s := by
  have e : ∀ d : Fin 128, D.gm h t d * D.v s d = if d.val / 64 = h then D.g t d * D.v s d else 0 := fun d => by
    rw [Pair.gm, ite_mul, zero_mul]
  rw [Pair.DP, sum_congr rfl fun d _ => e d, sum_lanes h hh fun d => D.g t d * D.v s d, Head.gw]
  exact sum_congr rfl fun d _ => by rw [I.g _ _ d.isLt, I.v _ _ d.isLt]

theorem deltas (t : ℕ) (ht : t < 4096) : D.delta h t = ∑ d : Fin 64, A.g t d * A.out t d := by
  rw [Pair.delta, sum_lanes h hh fun d => D.g t d * D.o t d]
  exact sum_congr rfl fun d _ => by rw [I.g _ _ d.isLt, I.o _ _ ht d.isLt]

theorem scores (t s : ℕ) (ht : t < 4096) : D.DS h t s = A.gs t s := by
  rw [Pair.DS, I.weights hh, I.grads hh, I.deltas hh _ ht, A.gs_eq]

theorem dc (s : ℕ) : -D.dc 4096 h s = ∑ t : Fin 4096, -A.gs t s := by
  rw [Pair.dc, sum_range, ← sum_neg_distrib]
  exact sum_congr rfl fun t _ => by rw [I.scores hh _ _ t.isLt]

theorem dq (t d : ℕ) (ht : t < 4096) (hd : d < 64) : D.dq 4096 t (64 * h + d) * (1 / 8) = ∑ s : Fin 4096, A.gs t s * (1 / 8) * A.k s d := by
  rw [Pair.dq, sum_range, sum_mul]
  refine sum_congr rfl fun s _ => ?_
  rcases (by omega : h = 0 ∨ h = 1) with rfl | rfl
  · rw [Pair.km, Pair.km, if_pos (by omega), if_neg (by omega), mul_zero (D.DS 1 _ _), add_zero (D.DS 0 _ _ * _), I.scores hh _ _ ht, I.k _ _ hd]
    ring
  · rw [Pair.km, Pair.km, if_neg (by omega), if_pos (by omega), mul_zero (D.DS 0 _ _), zero_add, I.scores hh _ _ ht, I.k _ _ hd]
    ring

theorem dk (s d : ℕ) (hd : d < 64) : D.dk 4096 s (64 * h + d) = ∑ t : Fin 4096, A.gs t s * (1 / 8) * A.q t d := by
  rw [Pair.dk, sum_range]
  refine sum_congr rfl fun t _ => ?_
  rcases (by omega : h = 0 ∨ h = 1) with rfl | rfl
  · rw [Pair.qm, Pair.qm, if_pos (by omega), if_neg (by omega), mul_zero (D.DS 1 _ _), add_zero (D.DS 0 _ _ * _), I.scores hh _ _ t.isLt, I.q _ _ hd]
    ring
  · rw [Pair.qm, Pair.qm, if_neg (by omega), if_pos (by omega), mul_zero (D.DS 0 _ _), zero_add, I.scores hh _ _ t.isLt, I.q _ _ hd]
    ring

theorem dv (s d : ℕ) (hd : d < 64) : D.dv 4096 s (64 * h + d) = ∑ t : Fin 4096, A.g t d * A.weight t s := by
  rw [Pair.dv, sum_range]
  refine sum_congr rfl fun t _ => ?_
  rcases (by omega : h = 0 ∨ h = 1) with rfl | rfl
  · rw [Pair.gm, Pair.gm, if_pos (by omega), if_neg (by omega), mul_zero (D.P 1 _ _), add_zero (D.P 0 _ _ * _), I.weights hh, I.g _ _ hd]
    ring
  · rw [Pair.gm, Pair.gm, if_neg (by omega), if_pos (by omega), mul_zero (D.P 0 _ _), zero_add, I.weights hh, I.g _ _ hd]
    ring

end Is

end Cert.Fox
-- ==== Proof.Fox.Ref.lean ====
/-
  THE REFERENCE'S STAGES, read as one head's real quantities (`Head`): from real arguments every stage up to the gradient at the scores
  is a real number, entry by entry. The number taken off a row of scores is the row's largest, a real number since a row has an
  unmasked score and no infinite one (`row_top`).
-/
module

public import proofs.«01_k».proof.Proof.Fox.Softmax
public import proofs.«01_k».proof.Proof.Gen.ReferenceIdeal.Read
public import Idealize.ShloMosaic.Lib.Pipeline.ValueKit
public import Idealize.ShloMosaic.PureOps.Ideal.Laws

@[expose] public section

set_option maxRecDepth 16384

noncomputable section

open Idealize.ShloMosaic Idealize.ShloMosaic.TcCoe Idealize.ShloMosaic.Tactic Idealize.SL.Sem

namespace Cert.Fox

open Cert.ReferenceIdeal Cert.ReferenceIdeal.Gen Cert.ReferenceIdeal.Read

theorem coe2 {f : ℕ → ℕ → ℝ} {a a' b b' : ℕ} (ha : a = a') (hb : b = b') : (f a b : EReal) = f a' b' := by
  subst ha hb
  rfl
theorem coe3 {f : ℕ → ℕ → ℕ → ℝ} {e e' a a' b b' : ℕ} (he : e = e') (ha : a = a') (hb : b = b') : (f e a b : EReal) = f e' a' b' := by
  subst he ha hb
  rfl

/-- The largest of every row of squares of numbers. -/
def largest {F : FTy → Type} [FloatOps F] (z : (⟨S2x8x4096x4096, .f32⟩ : BufTy).Contents (Elt F)) : (⟨S2x8x4096, .f32⟩ : BufTy).Contents (Elt F) :=
  Host.reduce FloatOps.maximumf z (val_main_cst_1 (F := F)) reducesTo_S2x8x4096x4096_S2x8x4096_d3 h_S_

/-- Head `e` (counted over both batch entries) of the projections `x`, the cotangent `g` and the running log-gates `l`. -/
def headAt (x g l top : ℕ → ℕ → ℝ) (e : ℕ) : Head where
  q t d := x (4096 * (e / 8) + t) (1536 + (64 * (e % 8) + d))
  k t d := x (4096 * (e / 8) + t) (2048 + (64 * (e % 8) + d))
  v t d := x (4096 * (e / 8) + t) (2560 + (64 * (e % 8) + d))
  g t d := g (4096 * (e / 8) + t) (64 * (e % 8) + d)
  gate := l e
  top := top e

/-- The arguments hold real numbers (of the projections only the columns of this attention matter). -/
structure Reads (x0 : (⟨S8192x3072, .f32⟩ : BufTy).Contents (Elt Ideal)) (x1 : (⟨S2x8x4096, .f32⟩ : BufTy).Contents (Elt Ideal))
    (x2 : (⟨S8192x512, .f32⟩ : BufTy).Contents (Elt Ideal)) (x g l : ℕ → ℕ → ℝ) : Prop where
  x : ∀ i, 1536 ≤ (i 1).val → x0 i = (x (i 0).val (i 1).val : EReal)
  l : ∀ i, x1 i = (l (8 * (i 0).val + (i 1).val) (i 2).val : EReal)
  g : ∀ i, x2 i = (g (i 0).val (i 1).val : EReal)

variable {x0 : (⟨S8192x3072, .f32⟩ : BufTy).Contents (Elt Ideal)} {x1 : (⟨S2x8x4096, .f32⟩ : BufTy).Contents (Elt Ideal)}
  {x2 : (⟨S8192x512, .f32⟩ : BufTy).Contents (Elt Ideal)} {x g l : ℕ → ℕ → ℝ} (H : Reads x0 x1 x2 x g l) (top : ℕ → ℕ → ℝ)

include H

/-! ## The arguments by head -/

theorem r9 (i : S2x4096x8x64.Idx) : val_main_v9 (F := Ideal) x0 i = ((headAt x g l top (8 * (i 0).val + (i 2).val)).q (i 1).val (i 3).val : EReal) := by
  idx_bounds i
  rw [val_main_v9_apply, val_main_v6_apply, val_main_v3_apply, H.x _ (by dsimp only [idx_main_v9, idx_main_v6, idx_main_v3]; omega)]
  refine coe2 ?_ ?_
  · dsimp only [idx_main_v9, idx_main_v6, idx_main_v3]; omega
  · dsimp only [idx_main_v9, idx_main_v6, idx_main_v3]; omega
theorem r11 (i : S2x4096x8x64.Idx) : val_main_v11 (F := Ideal) x0 i = ((headAt x g l top (8 * (i 0).val + (i 2).val)).k (i 1).val (i 3).val : EReal) := by
  idx_bounds i
  rw [val_main_v11_apply, val_main_v7_apply, val_main_v4_apply, H.x _ (by dsimp only [idx_main_v11, idx_main_v7, idx_main_v4]; omega)]
  refine coe2 ?_ ?_
  · dsimp only [idx_main_v11, idx_main_v7, idx_main_v4]; omega
  · dsimp only [idx_main_v11, idx_main_v7, idx_main_v4]; omega
theorem r29 (i : S2x4096x8x64.Idx) : val_main_v29 (F := Ideal) x0 i = ((headAt x g l top (8 * (i 0).val + (i 2).val)).v (i 1).val (i 3).val : EReal) := by
  idx_bounds i
  rw [val_main_v29_apply, val_main_v8_apply, val_main_v5_apply, H.x _ (by dsimp only [idx_main_v29, idx_main_v8, idx_main_v5]; omega)]
  refine coe2 ?_ ?_
  · dsimp only [idx_main_v29, idx_main_v8, idx_main_v5]; omega
  · dsimp only [idx_main_v29, idx_main_v8, idx_main_v5]; omega
theorem r63 (i : S2x4096x8x64.Idx) : val_main_v63 (F := Ideal) x2 i = ((headAt x g l top (8 * (i 0).val + (i 2).val)).g (i 1).val (i 3).val : EReal) := by
  idx_bounds i
  rw [val_main_v63_apply, val_main_v62_apply, H.g]
  refine coe2 ?_ ?_
  · dsimp only [idx_main_v63, idx_main_v62]; omega
  · dsimp only [idx_main_v63, idx_main_v62]; omega

theorem r10 (i : S2x8x4096x64.Idx) : val_main_v10 (F := Ideal) x0 i = ((headAt x g l top (8 * (i 0).val + (i 1).val)).q (i 2).val (i 3).val : EReal) := by
  rw [val_main_v10_apply]; exact r9 H top _
theorem r12 (i : S2x8x4096x64.Idx) : val_main_v12 (F := Ideal) x0 i = ((headAt x g l top (8 * (i 0).val + (i 1).val)).k (i 2).val (i 3).val : EReal) := by
  rw [val_main_v12_apply]; exact r11 H top _
theorem r30 (i : S2x8x4096x64.Idx) : val_main_v30 (F := Ideal) x0 i = ((headAt x g l top (8 * (i 0).val + (i 1).val)).v (i 2).val (i 3).val : EReal) := by
  rw [val_main_v30_apply]; exact r29 H top _
theorem r64 (i : S2x8x4096x64.Idx) : val_main_v64 (F := Ideal) x2 i = ((headAt x g l top (8 * (i 0).val + (i 1).val)).g (i 2).val (i 3).val : EReal) := by
  rw [val_main_v64_apply]; exact r63 H top _

/-! ## The scores -/

omit H in
theorem eighth : FloatOps.ofBits (F := Ideal) .f32 0x3E000000#32 = ((1 / 8 : ℝ) : EReal) := by
  show Ideal.ofBits _ _ = _
  simp [Ideal.ofBits, Ideal.ieee, -EReal.coe_mul]; norm_num
omit H in
theorem one_f32 : FloatOps.ofBits (F := Ideal) .f32 0x3F800000#32 = ((1 : ℝ) : EReal) := by
  show Ideal.ofBits _ _ = _
  simp [Ideal.ofBits, Ideal.ieee, -EReal.coe_mul]; norm_num
omit H in
theorem zero_f32 : FloatOps.ofBits (F := Ideal) .f32 0x00000000#32 = (0 : EReal) := by
  show Ideal.ofBits _ _ = _
  simp [Ideal.ofBits, Ideal.ieee]
omit H in
theorem bot_f32 : FloatOps.ofBits (F := Ideal) .f32 0xFF800000#32 = (⊥ : EReal) := by
  show Ideal.ofBits _ _ = _
  simp [Ideal.ofBits, Ideal.ieee]

theorem r13 (i : S2x8x4096x4096.Idx) : val_main_v13 (F := Ideal) x0 i
    = ((∑ d : Fin 64, (headAt x g l top (8 * (i 0).val + (i 1).val)).q (i 2).val d * (headAt x g l top (8 * (i 0).val + (i 1).val)).k (i 3).val d : ℝ) : EReal) := by
  rw [val_main_v13_apply]
  exact (Finset.sum_congr rfl fun k _ => (congrArg₂ (· * ·) (r10 H top _) (r12 H top _)).trans (EReal.coe_mul _ _).symm).trans (coe_sum _ _).symm

theorem r21 (i : S2x8x4096x4096.Idx) : val_main_v21 (F := Ideal) x0 x1 i
    = ((headAt x g l top (8 * (i 0).val + (i 1).val)).score (i 2).val (i 3).val : EReal) := by
  rw [val_main_v21_apply, val_main_v18_apply, val_main_v15_apply, r13 H top, val_main_v14_apply, val_main_cst_apply, eighth,
    val_main_v17_apply, val_main_v16_apply, H.l, val_main_v20_apply, val_main_v19_apply, H.l]
  simp only [Ideal.subf_def, Ideal.addf_def, Ideal.mulf_def, ← EReal.coe_mul, ← EReal.coe_add, ← EReal.coe_sub]
  rfl

omit H in
theorem toInt_row (n : ℕ) (h : n < 4096) : (BitVec.ofNat 32 n).toInt = n := by
  rw [BitVec.toInt_eq_toNat_of_lt] <;> rw [BitVec.toNat_ofNat, Nat.mod_eq_of_lt] <;> omega

omit H in
/-- The mask: keys no later than the query. -/
theorem r28_1 (i : S2x8x4096x4096.Idx) : val_main_v28_1 (F := Ideal) i = 1#1 ↔ (i 3).val ≤ (i 2).val := by
  rw [val_main_v28_1_apply, val_main_v27_apply, val_main_v25_apply, val_main_v23_apply, val_main_v22_apply, val_main_v26_apply,
    val_main_v24_apply, val_main_v22_apply, IntOp.cmpi_sle]
  show (BitVec.ofNat 32 (i 3).val).toInt ≤ (BitVec.ofNat 32 (i 2).val).toInt ↔ _
  rw [toInt_row _ (i 3).isLt, toInt_row _ (i 2).isLt]
  omega

theorem r28_0 (i : S2x8x4096x4096.Idx) : val_main_v28_0 (F := Ideal) x0 x1 i
    = if (i 3).val ≤ (i 2).val then ((headAt x g l top (8 * (i 0).val + (i 1).val)).score (i 2).val (i 3).val : EReal) else ⊥ := by
  rw [val_main_v28_0_apply, r21 H top, val_main_call0_v2_apply, val_main_call0_v0_apply, val_main_cst_0_apply, bot_f32]
  exact if_congr (r28_1 i) rfl rfl

omit H in
/-- The largest of a row with a number above negative infinity and none of them infinite is a real number. -/
theorem max_real (z : (⟨S2x8x4096x4096, .f32⟩ : BufTy).Contents (Elt Ideal)) (j : S2x8x4096.Idx) (hz : ∀ i, z i ≠ (⊤ : EReal))
    (k : Fin 4096) (hk : z (ix4 (n0 := 2) (n1 := 8) (n2 := 4096) (n3 := 4096) (j 0) (j 1) (j 2) k) ≠ (⊥ : EReal)) :
    ∃ r : ℝ, largest (F := Ideal) z j = (r : EReal) := by
  refine (?_ : ∃ r : ℝ, Host.reduce (FloatOps.maximumf (F := Ideal) (φ := .f32)) z _ _ _ j = (r : EReal))
  rw [Host.reduce_eq_fold (FloatOps.maximumf (F := Ideal) (φ := .f32))]
  have hb : val_main_cst_1 (F := Ideal) (Shape.Idx.first h_S_) = (⊥ : EReal) := bot_f32
  rw [hb]
  obtain ⟨M, hM⟩ : ∃ M : EReal, (Finset.univ.filter fun i => reducesTo_S2x8x4096x4096_S2x8x4096_d3.drop i = j).fold max (⊥ : EReal) z = M := ⟨_, rfl⟩
  have htop : (M : EReal) < ⊤ := by
    rw [← hM]
    exact (Finset.fold_max_lt _).2 ⟨bot_lt_top, fun i _ => lt_top_iff_ne_top.2 (hz i)⟩
  have hbot : (⊥ : EReal) < M := by
    rw [← hM]
    refine (Finset.lt_fold_max _).2 (Or.inr ⟨_, ?_, bot_lt_iff_ne_bot.2 hk⟩)
    rw [Finset.mem_filter]
    refine ⟨Finset.mem_univ _, funext fun b => Fin.ext ?_⟩
    match b with
    | ⟨0, _⟩ => exact Shape.ReducesTo.drop_apply_val_of_eq reducesTo_S2x8x4096x4096_S2x8x4096_d3 _ 0 0
    | ⟨1, _⟩ => exact Shape.ReducesTo.drop_apply_val_of_eq reducesTo_S2x8x4096x4096_S2x8x4096_d3 _ 1 1
    | ⟨2, _⟩ => exact Shape.ReducesTo.drop_apply_val_of_eq reducesTo_S2x8x4096x4096_S2x8x4096_d3 _ 2 2
  exact ⟨EReal.toReal M, hM.trans (EReal.coe_toReal htop.ne hbot.ne').symm⟩

/-- The largest score of every row. -/
theorem row_top : ∃ top : ℕ → ℕ → ℝ, ∀ i : S2x8x4096.Idx, val_main_v31 (F := Ideal) x0 x1 i = (top (8 * (i 0).val + (i 1).val) (i 2).val : EReal) := by
  have h : ∀ j : S2x8x4096.Idx, ∃ r : ℝ, val_main_v31 (F := Ideal) x0 x1 j = (r : EReal) := fun j =>
    max_real _ j (fun i => by rw [r28_0 H (fun _ _ => 0)]; split <;> simp) (j 2) (by
      rw [r28_0 H (fun _ _ => 0)]
      exact fun h => EReal.coe_ne_bot _ ((if_pos (le_refl (j 2).val)).symm.trans h))
  choose r hr using h
  refine ⟨fun e t => r (ix3 (n0 := 2) (n1 := 8) (n2 := 4096) (Fin.ofNat 2 (e / 8)) (Fin.ofNat 8 (e % 8)) (Fin.ofNat 4096 t)), fun i => ?_⟩
  idx_bounds i
  rw [hr i]
  refine congrArg (fun j => ((r j : ℝ) : EReal)) ((eq_ix3 (n0 := 2) (n1 := 8) (n2 := 4096) i).trans ?_)
  have h0 : (i 0 : Fin 2) = Fin.ofNat 2 ((8 * (i 0).val + (i 1).val) / 8) := Fin.ext (by show _ = _ % 2; omega)
  have h1 : (i 1 : Fin 8) = Fin.ofNat 8 ((8 * (i 0).val + (i 1).val) % 8) := Fin.ext (by show _ = _ % 8; omega)
  have h2 : (i 2 : Fin 4096) = Fin.ofNat 4096 (i 2).val := Fin.ext (by show _ = _ % 4096; omega)
  rw [← h0, ← h1, ← h2]

variable {top : ℕ → ℕ → ℝ} (T : ∀ i : S2x8x4096.Idx, val_main_v31 (F := Ideal) x0 x1 i = (top (8 * (i 0).val + (i 1).val) (i 2).val : EReal))
include T

/-! ## The softmax -/

omit H in
theorem r38 (i : S2x8x4096.Idx) : val_main_v38 (F := Ideal) x0 x1 i = (top (8 * (i 0).val + (i 1).val) (i 2).val : EReal) := by
  rw [val_main_v38_apply, val_main_v37_apply, val_main_cst_3_apply, bot_f32, T, Ideal.maximumf_def]
  exact max_eq_right bot_le

theorem r51 (i : S2x8x4096x4096.Idx) : val_main_v51 (F := Ideal) x0 x1 i
    = ((headAt x g l top (8 * (i 0).val + (i 1).val)).ex (i 2).val (i 3).val : EReal) := by
  rw [val_main_v51_apply, val_main_v50_apply, r28_0 H top, val_main_v49_apply, val_main_v48_apply, r38 T, Ideal.subf_def]
  unfold Head.ex
  show Ideal.exp _ = _
  split
  · rw [← EReal.coe_sub, Ideal.exp_coe]
    rfl
  · rw [EReal.bot_sub, Ideal.exp_bot, EReal.coe_zero]

theorem r52 (i : S2x8x4096.Idx) : val_main_v52 (F := Ideal) x0 x1 i = ((headAt x g l top (8 * (i 0).val + (i 1).val)).total (i 2).val : EReal) := by
  rw [val_main_v52_apply, val_main_cst_9_apply, zero_f32, zero_add]
  exact (Finset.sum_congr rfl fun k _ => r51 H T _).trans (coe_sum _ _).symm

theorem r53 (i : S2x8x4096x1.Idx) : val_main_v53 (F := Ideal) x0 x1 i = ((headAt x g l top (8 * (i 0).val + (i 1).val)).total (i 2).val : EReal) := by
  rw [val_main_v53_apply]; exact r52 H T _

theorem r55 (i : S2x8x4096x4096.Idx) : val_main_v55 (F := Ideal) x0 x1 i
    = ((headAt x g l top (8 * (i 0).val + (i 1).val)).weight (i 2).val (i 3).val : EReal) := by
  rw [val_main_v55_apply, r51 H T, val_main_v54_apply, r53 H T, Ideal.hostDivf_def, Ideal.div_coe (Head.total_ne _ _), ← EReal.coe_mul,
    mul_one_div]
  rfl

theorem r59 (i : S2x8x4096x64.Idx) : val_main_v59 (F := Ideal) x0 x1 i
    = ((headAt x g l top (8 * (i 0).val + (i 1).val)).out (i 2).val (i 3).val : EReal) := by
  rw [val_main_v59_apply]
  exact (Finset.sum_congr rfl fun k _ => (congrArg₂ (· * ·) (r55 H T _) (r30 H top _)).trans (EReal.coe_mul _ _).symm).trans (coe_sum _ _).symm

/-- The output, all heads' lanes in a row. -/
theorem r61 (i : S2x4096x512.Idx) : val_main_v61 (F := Ideal) x0 x1 i
    = ((headAt x g l top (8 * (i 0).val + (i 2).val / 64)).out (i 1).val ((i 2).val % 64) : EReal) := by
  idx_bounds i
  rw [val_main_v61_apply, val_main_v60_apply, r59 H T]
  refine coe3 (f := fun e t d => (headAt x g l top e).out t d) ?_ ?_ ?_
  · dsimp only [idx_main_v61, idx_main_v60]; omega
  · dsimp only [idx_main_v61, idx_main_v60]; omega
  · dsimp only [idx_main_v61, idx_main_v60]; omega

/-! ## The gradient at the scores -/

theorem r58 (i : S2x8x4096x1.Idx) : val_main_v58 (F := Ideal) x0 x1 i
    = ((1 / ((headAt x g l top (8 * (i 0).val + (i 1).val)).total (i 2).val * (headAt x g l top (8 * (i 0).val + (i 1).val)).total (i 2).val) : ℝ) : EReal) := by
  rw [val_main_v58_apply, val_main_v57_apply, val_main_cst_10_apply, one_f32, val_main_v56_apply, r53 H T, Ideal.mulf_def, ← EReal.coe_mul,
    Ideal.hostDivf_def, Ideal.div_coe (mul_ne_zero (Head.total_ne _ _) (Head.total_ne _ _)), ← EReal.coe_mul, one_mul]

omit T in
theorem r67 (i : S2x8x4096x4096.Idx) : val_main_v67 (F := Ideal) x0 x2 i
    = ((headAt x g l top (8 * (i 0).val + (i 1).val)).gw (i 2).val (i 3).val : EReal) := by
  rw [val_main_v67_apply]
  exact (Finset.sum_congr rfl fun k _ => (congrArg₂ (· * ·) (r64 H top _) (r30 H top _)).trans (EReal.coe_mul _ _).symm).trans (coe_sum _ _).symm

theorem r70 (i : S2x8x4096x4096.Idx) : val_main_v70 (F := Ideal) x0 x1 x2 i
    = (((headAt x g l top (8 * (i 0).val + (i 1).val)).gw (i 2).val (i 3).val
        * (1 / ((headAt x g l top (8 * (i 0).val + (i 1).val)).total (i 2).val * (headAt x g l top (8 * (i 0).val + (i 1).val)).total (i 2).val))
        * (headAt x g l top (8 * (i 0).val + (i 1).val)).ex (i 2).val (i 3).val : ℝ) : EReal) := by
  rw [val_main_v70_apply, val_main_v69_apply, r67 H, val_main_v68_apply, r58 H T, r51 H T, Ideal.mulf_def, Ideal.mulf_def, ← EReal.coe_mul,
    ← EReal.coe_mul]

theorem r71 (i : S2x8x4096.Idx) : val_main_v71 (F := Ideal) x0 x1 x2 i
    = ((headAt x g l top (8 * (i 0).val + (i 1).val)).corr (i 2).val : EReal) := by
  rw [val_main_v71_apply, val_main_cst_11_apply, zero_f32, zero_add]
  exact (Finset.sum_congr rfl fun k _ => r70 H T _).trans (coe_sum _ _).symm

theorem r73 (i : S2x8x4096x1.Idx) : val_main_v73 (F := Ideal) x0 x1 x2 i
    = ((-(headAt x g l top (8 * (i 0).val + (i 1).val)).corr (i 2).val : ℝ) : EReal) := by
  idx_bounds i
  rw [val_main_v73_apply, val_main_v72_apply, r71 H T, EReal.coe_neg]
  refine congrArg (fun y : EReal => -y) (coe2 (f := fun e t => (headAt x g l top e).corr t) ?_ ?_)
  · dsimp only [idx_main_v72]; omega
  · dsimp only [idx_main_v72]; omega

theorem r76 (i : S2x8x4096.Idx) : val_main_v76 (F := Ideal) x0 x1 x2 i
    = ((-(headAt x g l top (8 * (i 0).val + (i 1).val)).corr (i 2).val : ℝ) : EReal) := by
  rw [val_main_v76_apply, val_main_cst_12_apply, zero_f32, zero_add, Fin.sum_univ_one]
  exact r73 H T _

theorem r82 (i : S2x8x4096x4096.Idx) : val_main_v82 (F := Ideal) x0 x1 x2 i
    = ((headAt x g l top (8 * (i 0).val + (i 1).val)).gs (i 2).val (i 3).val : EReal) := by
  rw [val_main_v82_apply, val_main_v79_apply, val_main_v78_apply, val_main_v75_apply, r67 H, val_main_v74_apply, r53 H T, val_main_v77_apply,
    r76 H T, r51 H T, val_main_call1_v0_apply, val_main_call1_cst_apply, zero_f32, Ideal.hostDivf_def, Ideal.div_coe (Head.total_ne _ _),
    Ideal.addf_def, Ideal.mulf_def, ← EReal.coe_mul, ← EReal.coe_add, ← EReal.coe_mul, mul_one_div]
  refine (if_congr (r28_1 i) rfl rfl).trans ?_
  unfold Head.gs
  split
  · rfl
  · exact EReal.coe_zero.symm

/-! ## The gradients -/

theorem r92 (i : S2x8x4096x4096.Idx) : val_main_v92 (F := Ideal) x0 x1 x2 i
    = (((headAt x g l top (8 * (i 0).val + (i 1).val)).gs (i 2).val (i 3).val * (1 / 8) : ℝ) : EReal) := by
  rw [val_main_v92_apply, r82 H T, val_main_v91_apply, val_main_cst_17_apply, eighth, Ideal.mulf_def, ← EReal.coe_mul]

theorem r94 (i : S2x8x4096x64.Idx) : val_main_v94 (F := Ideal) x0 x1 x2 i
    = ((∑ s : Fin 4096, (headAt x g l top (8 * (i 0).val + (i 1).val)).gs (i 2).val s * (1 / 8)
        * (headAt x g l top (8 * (i 0).val + (i 1).val)).k s (i 3).val : ℝ) : EReal) := by
  rw [val_main_v94_apply]
  exact (Finset.sum_congr rfl fun k _ => (congrArg₂ (· * ·) (r92 H T _) (r12 H top _)).trans (EReal.coe_mul _ _).symm).trans (coe_sum _ _).symm

theorem r93 (i : S2x8x4096x64.Idx) : val_main_v93 (F := Ideal) x0 x1 x2 i
    = ((∑ t : Fin 4096, (headAt x g l top (8 * (i 0).val + (i 1).val)).gs t (i 2).val * (1 / 8)
        * (headAt x g l top (8 * (i 0).val + (i 1).val)).q t (i 3).val : ℝ) : EReal) := by
  rw [val_main_v93_apply]
  exact (Finset.sum_congr rfl fun k _ => (congrArg₂ (· * ·) (r92 H T _) (r10 H top _)).trans (EReal.coe_mul _ _).symm).trans (coe_sum _ _).symm

theorem r66 (i : S2x8x4096x64.Idx) : val_main_v66 (F := Ideal) x0 x1 x2 i
    = ((∑ t : Fin 4096, (headAt x g l top (8 * (i 0).val + (i 1).val)).g t (i 3).val
        * (headAt x g l top (8 * (i 0).val + (i 1).val)).weight t (i 2).val : ℝ) : EReal) := by
  rw [val_main_v66_apply, val_main_v65_apply]
  exact (Finset.sum_congr rfl fun k _ => (congrArg₂ (· * ·) (r64 H top _) (r55 H T _)).trans (EReal.coe_mul _ _).symm).trans (coe_sum _ _).symm

theorem r84 (i : S2x8x4096.Idx) : val_main_v84 (F := Ideal) x0 x1 x2 i
    = ((∑ t : Fin 4096, -(headAt x g l top (8 * (i 0).val + (i 1).val)).gs t (i 2).val : ℝ) : EReal) := by
  rw [val_main_v84_apply, val_main_cst_13_apply, zero_f32, zero_add]
  exact (Finset.sum_congr rfl fun k _ => ((congrArg (fun y : EReal => -y) (r82 H T _)).trans (EReal.coe_neg _).symm)).trans (coe_sum _ _).symm

theorem r87 (i : S2x8x4096.Idx) : val_main_v87 (F := Ideal) x0 x1 x2 i = 0 := by
  rw [val_main_v87_apply, val_main_cst_15_apply, zero_f32, zero_add]
  refine ((Finset.sum_congr rfl fun k _ => r82 H T _).trans (coe_sum _ _).symm).trans ?_
  refine (congrArg (fun y : ℝ => (y : EReal)) (Head.sum_gs (headAt x g l top (8 * (i 0).val + (i 1).val)) (i 2).val)).trans EReal.coe_zero

theorem r90 (i : S2x8x4096.Idx) : val_main_v90 (F := Ideal) x0 x1 x2 i
    = ((∑ t : Fin 4096, -(headAt x g l top (8 * (i 0).val + (i 1).val)).gs t (i 2).val : ℝ) : EReal) := by
  idx_bounds i
  rw [val_main_v90_apply, val_main_v86_apply, val_main_cst_14_apply, val_main_v89_apply, val_main_cst_16_apply, zero_f32, zero_add, zero_add,
    Fin.sum_univ_one, Fin.sum_univ_one, val_main_v85_apply, val_main_v88_apply, r87 H T, r84 H T, Ideal.addf_def, add_zero]
  refine coe2 (f := fun e s => ∑ t : Fin 4096, -(headAt x g l top e).gs t s) ?_ ?_
  · dsimp only [idx_main_v86, idx_main_v85, Fin.val_zero]; omega
  · dsimp only [idx_main_v86, idx_main_v85, Fin.val_zero]; omega

/-! ## The results -/

theorem r100 (i : S8192x512.Idx) : val_main_v100 (F := Ideal) x0 x1 x2 i
    = ((∑ s : Fin 4096, (headAt x g l top (8 * ((i 0).val / 4096) + (i 1).val / 64)).gs ((i 0).val % 4096) s * (1 / 8)
        * (headAt x g l top (8 * ((i 0).val / 4096) + (i 1).val / 64)).k s ((i 1).val % 64) : ℝ) : EReal) := by
  idx_bounds i
  rw [val_main_v100_apply, Ideal.truncf_def, val_main_v99_apply, val_main_v98_apply, val_main_v97_apply, r94 H T]
  refine coe3 (f := fun e t d => ∑ s : Fin 4096, (headAt x g l top e).gs t s * (1 / 8) * (headAt x g l top e).k s d) ?_ ?_ ?_
  · dsimp only [idx_main_v99, idx_main_v98, idx_main_v97]; omega
  · dsimp only [idx_main_v99, idx_main_v98, idx_main_v97]; omega
  · dsimp only [idx_main_v99, idx_main_v98, idx_main_v97]; omega

theorem r102 (i : S8192x512.Idx) : val_main_v102 (F := Ideal) x0 x1 x2 i
    = ((∑ t : Fin 4096, (headAt x g l top (8 * ((i 0).val / 4096) + (i 1).val / 64)).gs t ((i 0).val % 4096) * (1 / 8)
        * (headAt x g l top (8 * ((i 0).val / 4096) + (i 1).val / 64)).q t ((i 1).val % 64) : ℝ) : EReal) := by
  idx_bounds i
  rw [val_main_v102_apply, Ideal.truncf_def, val_main_v101_apply, val_main_v96_apply, val_main_v95_apply, r93 H T]
  refine coe3 (f := fun e s d => ∑ t : Fin 4096, (headAt x g l top e).gs t s * (1 / 8) * (headAt x g l top e).q t d) ?_ ?_ ?_
  · dsimp only [idx_main_v101, idx_main_v96, idx_main_v95]; omega
  · dsimp only [idx_main_v101, idx_main_v96, idx_main_v95]; omega
  · dsimp only [idx_main_v101, idx_main_v96, idx_main_v95]; omega

theorem r104 (i : S8192x512.Idx) : val_main_v104 (F := Ideal) x0 x1 x2 i
    = ((∑ t : Fin 4096, (headAt x g l top (8 * ((i 0).val / 4096) + (i 1).val / 64)).g t ((i 1).val % 64)
        * (headAt x g l top (8 * ((i 0).val / 4096) + (i 1).val / 64)).weight t ((i 0).val % 4096) : ℝ) : EReal) := by
  idx_bounds i
  rw [val_main_v104_apply, Ideal.truncf_def, val_main_v103_apply, val_main_v81_apply, val_main_v80_apply, r66 H T]
  refine coe3 (f := fun e s d => ∑ t : Fin 4096, (headAt x g l top e).g t d * (headAt x g l top e).weight t s) ?_ ?_ ?_
  · dsimp only [idx_main_v103, idx_main_v81, idx_main_v80]; omega
  · dsimp only [idx_main_v103, idx_main_v81, idx_main_v80]; omega
  · dsimp only [idx_main_v103, idx_main_v81, idx_main_v80]; omega

theorem r105 (i : S16x1x4096.Idx) : val_main_v105 (F := Ideal) x0 x1 x2 i
    = ((∑ t : Fin 4096, -(headAt x g l top (i 0).val).gs t (i 2).val : ℝ) : EReal) := by
  idx_bounds i
  rw [val_main_v105_apply, r90 H T]
  refine coe2 (f := fun e s => ∑ t : Fin 4096, -(headAt x g l top e).gs t s) ?_ ?_
  · dsimp only [idx_main_v105]; omega
  · dsimp only [idx_main_v105]; omega

end Cert.Fox
-- ==== Proof.Fox.Held.lean ====
/-
  WHAT THE KERNEL'S OPERANDS HOLD when the arguments hold real numbers: the arguments themselves, and every head's output and log-sums
  (`held`). Then that a pair of heads of the kernel is two heads of the reference (`is_head`).
-/
module

public import proofs.«01_k».proof.Proof.Fox.Grid
public import proofs.«01_k».proof.Proof.Fox.Host
public import proofs.«01_k».proof.Proof.Fox.Ref

@[expose] public section

set_option maxRecDepth 16384

noncomputable section

open Idealize.ShloMosaic Idealize.ShloMosaic.TcCoe Idealize.ShloMosaic.Tactic Idealize.SL.Sem

namespace Cert.Fox

open Cert.KernelIdeal Cert.KernelIdeal.Gen
open Cert.Operands (Proj Line mixed rowMax logSum lines first_q first_k first_v first_z first_arg0 first_arg1 first_arg2 second_o second_z second_arg0 second_arg1 second_arg2 third_o third_lse third_x third_c third_g ref_scores)

/-- The operands: the arguments, and what the reference's heads give. -/
def srcOf (x g l top : ℕ → ℕ → ℝ) : Src where
  x := x
  g := g
  o a b := (headAt x g l top (8 * (a / 4096) + b / 64)).out (a % 4096) (b % 64)
  c := l
  lse e t := (headAt x g l top e).logSum t

/-- A pair's head is a head of the reference. -/
theorem is_head (x g l top : ℕ → ℕ → ℝ) (u h : ℕ) (hh : h < 2) : Is ((srcOf x g l top).pair u) h (headAt x g l top (2 * u + h)) where
  q t d hd := by
    show x _ _ = x _ _
    rw [show 4096 * (u / 4) + t = 4096 * ((2 * u + h) / 8) + t by omega, show 1536 + (128 * (u % 4) + (64 * h + d)) = 1536 + (64 * ((2 * u + h) % 8) + d) by omega]
  k t d hd := by
    show x _ _ = x _ _
    rw [show 4096 * (u / 4) + t = 4096 * ((2 * u + h) / 8) + t by omega, show 2048 + (128 * (u % 4) + (64 * h + d)) = 2048 + (64 * ((2 * u + h) % 8) + d) by omega]
  v t d hd := by
    show x _ _ = x _ _
    rw [show 4096 * (u / 4) + t = 4096 * ((2 * u + h) / 8) + t by omega, show 2560 + (128 * (u % 4) + (64 * h + d)) = 2560 + (64 * ((2 * u + h) % 8) + d) by omega]
  g t d hd := by
    show g _ _ = g _ _
    rw [show 4096 * (u / 4) + t = 4096 * ((2 * u + h) / 8) + t by omega, show 128 * (u % 4) + (64 * h + d) = 64 * ((2 * u + h) % 8) + d by omega]
  o t d ht hd := by
    show (headAt x g l top _).out _ _ = _
    rw [show 8 * ((4096 * (u / 4) + t) / 4096) + (128 * (u % 4) + (64 * h + d)) / 64 = 2 * u + h by omega,
      show (4096 * (u / 4) + t) % 4096 = t by omega, show (128 * (u % 4) + (64 * h + d)) % 64 = d by omega]
  c s := rfl
  lse t := rfl

variable {x0 : Proj Ideal} {x1 : Line Ideal} {x2 : BufTy.Contents (Elt Ideal) ⟨S8192x512, .f32⟩} {x g l top : ℕ → ℕ → ℝ} (H : Reads x0 x1 x2 x g l)
  (T : ∀ i : S2x8x4096.Idx, Cert.ReferenceIdeal.Read.val_main_v31 (F := Ideal) x0 x1 i = (top (8 * (i 0).val + (i 1).val) (i 2).val : EReal))

/-- The softmax of the reference's scores times its values is the reference's output. -/
theorem mixed_ref : mixed (Cert.ReferenceIdeal.Read.val_main_v28_0 (F := Ideal) x0 x1) (Cert.ReferenceIdeal.Read.val_main_v8 (F := Ideal) x0)
    = Cert.ReferenceIdeal.Read.val_main_v61 (F := Ideal) x0 x1 := rfl

include T in
theorem rowMax_ref : rowMax (Cert.ReferenceIdeal.Read.val_main_v28_0 (F := Ideal) x0 x1) = Cert.ReferenceIdeal.Read.val_main_v38 (F := Ideal) x0 x1 :=
  funext fun i => (T i).trans (r38 T i).symm

theorem exps_ref : Cert.Operands.exps (Cert.ReferenceIdeal.Read.val_main_v28_0 (F := Ideal) x0 x1) (Cert.ReferenceIdeal.Read.val_main_v38 (F := Ideal) x0 x1)
    = Cert.ReferenceIdeal.Read.val_main_v51 (F := Ideal) x0 x1 := by
  unfold Cert.Operands.exps Cert.Operands.across Cert.Operands.column Cert.ReferenceIdeal.Read.val_main_v51 Cert.ReferenceIdeal.Read.val_main_v50
    Cert.ReferenceIdeal.Read.val_main_v49 Cert.ReferenceIdeal.Read.val_main_v48
  rfl
theorem total_ref : Cert.Operands.column (Cert.Operands.rowSum (Cert.ReferenceIdeal.Read.val_main_v51 (F := Ideal) x0 x1))
    = Cert.ReferenceIdeal.Read.val_main_v53 (F := Ideal) x0 x1 := by
  unfold Cert.Operands.column Cert.Operands.rowSum Cert.ReferenceIdeal.Read.val_main_v53 Cert.ReferenceIdeal.Read.val_main_v52 Cert.ReferenceIdeal.Read.val_main_cst_9
  rfl
theorem top_ref : Cert.Operands.column (Cert.ReferenceIdeal.Read.val_main_v38 (F := Ideal) x0 x1)
    = Cert.ReferenceIdeal.Read.val_main_v48 (F := Ideal) x0 x1 := by
  unfold Cert.Operands.column Cert.ReferenceIdeal.Read.val_main_v48
  rfl
/-- A sum of a column and the logarithm of another, at an element. -/
theorem add_log {F : FTy → Type} [FloatOps F] (y z : Cert.Operands.Column F) (i : S2x8x4096x1.Idx) :
    (addf : Cert.Operands.Column F → Cert.Operands.Column F → Cert.Operands.Column F) y ((Host.log : Cert.Operands.Column F → Cert.Operands.Column F) z) i
      = FloatOps.addf (y i) (FloatOps.hostUnary .log (z i)) := rfl
theorem log_real {r s : ℝ} (hs : 0 < s) : FloatOps.addf (F := Ideal) (φ := .f32) (r : EReal) (FloatOps.hostUnary (F := Ideal) (φ := .f32) .log (s : EReal))
    = ((r + Real.log s : ℝ) : EReal) := by
  refine (congrArg (fun y : EReal => (r : EReal) + y) (?_ : Ideal.log (s : EReal) = (Real.log s : EReal))).trans (EReal.coe_add _ _).symm
  rw [Ideal.log_coe, if_neg (not_le.2 hs)]

include H T in
/-- The log-sums of the reference's scores. -/
theorem logSum_ref (i : S2x8x4096x1.Idx) : logSum (Cert.ReferenceIdeal.Read.val_main_v28_0 (F := Ideal) x0 x1) i
    = ((headAt x g l top (8 * (i 0).val + (i 1).val)).logSum (i 2).val : EReal) := by
  unfold logSum
  rw [rowMax_ref T, exps_ref, total_ref, top_ref, add_log, r53 H T, Cert.ReferenceIdeal.Read.val_main_v48_apply, r38 T]
  exact log_real (Head.total_pos _ _)

/-- Lines of numbers by batch entry and head, laid out by head. -/
theorem by_head (y : Line Ideal) (e : Fin 16) (s : Fin 4096) : shapeCast _ y shapeCasts_S2x8x4096_S16x1x4096 (ix3 e 0 s)
    = y (ix3 (n0 := 2) (n1 := 8) (n2 := 4096) ⟨e / 8, by omega⟩ ⟨e % 8, by omega⟩ s) := by
  refine shapeCast_apply y shapeCasts_S2x8x4096_S16x1x4096 _ _ ?_
  rewrite [Shape.rowMajor_val_three, Shape.rowMajor_val_three]
  show (e.val / 8 * 8 + e.val % 8) * 4096 + s.val = (e.val * 1 + 0) * 4096 + s.val
  omega

variable (m : (ℓ : Loc nD τ sig) → Buf (Elt Ideal) ℓ) (c : Dev nD)

theorem held (H : Reads (m ((c.tc : Thread nD τ).loc main_arg0)) (m ((c.tc : Thread nD τ).loc main_arg1)) (m ((c.tc : Thread nD τ).loc main_arg2)) x g l)
    (T : ∀ i : S2x8x4096.Idx, Cert.ReferenceIdeal.Read.val_main_v31 (F := Ideal) (m ((c.tc : Thread nD τ).loc main_arg0)) (m ((c.tc : Thread nD τ).loc main_arg1)) i
      = (top (8 * (i 0).val + (i 1).val) (i 2).val : EReal)) : Held m c (srcOf x g l top) where
  x a b hb := by
    rw [lines, third_x, second_arg0, first_arg0]
    exact H.x _ hb
  g a b := by
    rw [lines, third_g, second_arg2, first_arg2]
    exact H.g _
  gates e s := by
    rw [lines, third_c, second_arg1, first_arg1]
    refine (by_head _ e s).trans ((H.l _).trans (coe2 ?_ rfl))
    show 8 * (e.val / 8) + e.val % 8 = e.val
    omega
  o a b := by
    rw [lines, third_o, second_o, first_z, first_v, ← ref_scores, mixed_ref]
    refine (shapeCast_apply _ shapeCasts_S2x4096x512_S8192x512 _
      (ix3 (n0 := 2) (n1 := 4096) (n2 := 512) ⟨a / 4096, by omega⟩ ⟨a % 4096, by omega⟩ b) ?_).trans (r61 H T _)
    rewrite [Shape.rowMajor_val_three, Shape.rowMajor_val_two]
    show (a.val / 4096 * 4096 + a.val % 4096) * 512 + b.val = a.val * 512 + b.val
    omega
  lse e t := by
    rw [lines, third_lse, second_z, first_q, first_k, first_arg1, ← ref_scores]
    refine (shapeCast_apply _ shapeCasts_S2x8x4096x1_S16x4096x1 _
      (ix4 (n0 := 2) (n1 := 8) (n2 := 4096) (n3 := 1) ⟨e / 8, by omega⟩ ⟨e % 8, by omega⟩ t 0) ?_).trans ((logSum_ref H T _).trans
        (coe2 (f := fun e t => (headAt x g l top e).logSum t) ?_ rfl))
    · rewrite [Shape.rowMajor_val_four, Shape.rowMajor_val_three]
      show ((e.val / 8 * 8 + e.val % 8) * 4096 + t.val) * 1 + 0 = (e.val * 4096 + t.val) * 1 + 0
      omega
    · show 8 * (e.val / 8) + e.val % 8 = e.val
      omega

end Cert.Fox
-- ==== Proof.Fox.Value.lean ====
/-
  THE FOUR RESULTS ARE THE SAME: the kernel's gradients of q, k, v and of the running log-gates are the reference's, element by element,
  when the arguments hold real numbers (`dq_same`, `dk_same`, `dv_same`, `dc_same`).
-/
module

public import proofs.«01_k».proof.Proof.Fox.Arrays
public import proofs.«01_k».proof.Proof.Fox.Held

@[expose] public section

set_option maxRecDepth 16384

noncomputable section

open Idealize.ShloMosaic Idealize.ShloMosaic.TcCoe Idealize.ShloMosaic.Tactic Idealize.SL.Sem
open Idealize.ShloMosaic.Pipeline (Dat)

namespace Cert.Fox

open Cert.KernelIdeal Cert.KernelIdeal.Gen Cert.KernelIdeal.Value

/-- A lane of a pair of heads, and the head it belongs to. -/
theorem head_of (a b : ℕ) (hb : b < 512) : 2 * pairOf a b + b % 128 / 64 = 8 * (a / 4096) + b / 64 := by
  unfold pairOf
  omega
theorem lane_of (b : ℕ) : 64 * (b % 128 / 64) + b % 64 = b % 128 := by omega

variable {m : (ℓ : Loc nD τ sig) → Buf (Elt Ideal) ℓ} {c : Dev nD} {x g l : ℕ → ℕ → ℝ}
  (H : Reads (m ((c.tc : Thread nD τ).loc main_arg0)) (m ((c.tc : Thread nD τ).loc main_arg1)) (m ((c.tc : Thread nD τ).loc main_arg2)) x g l)
include H

theorem dq_same : (dats m 0 c).arrAt 7 cfg0.N = Cert.ReferenceIdeal.Read.val_main_v100 (F := Ideal) (m ((c.tc : Thread nD τ).loc main_arg0))
    (m ((c.tc : Thread nD τ).loc main_arg1)) (m ((c.tc : Thread nD τ).loc main_arg2)) := by
  obtain ⟨top, T⟩ := row_top H
  refine funext fun i => ?_
  have h := is_head x g l top (pairOf (i 0).val (i 1).val) ((i 1).val % 128 / 64) (by omega)
  have e := h.dq (by omega) ((i 0).val % 4096) ((i 1).val % 64) (by omega) (by omega)
  rw [head_of _ _ (i 1).isLt, lane_of] at e
  refine ((congrArg _ (eq_ix2 (n0 := 8192) (n1 := 512) i)).trans (array_dq (held m c H T) (i 0) (i 1))).trans ?_
  exact (congrArg (fun y : ℝ => (y : EReal)) e).trans (r100 H T i).symm

theorem dk_same : (dats m 0 c).arrAt 8 cfg0.N = Cert.ReferenceIdeal.Read.val_main_v102 (F := Ideal) (m ((c.tc : Thread nD τ).loc main_arg0))
    (m ((c.tc : Thread nD τ).loc main_arg1)) (m ((c.tc : Thread nD τ).loc main_arg2)) := by
  obtain ⟨top, T⟩ := row_top H
  refine funext fun i => ?_
  have h := is_head x g l top (pairOf (i 0).val (i 1).val) ((i 1).val % 128 / 64) (by omega)
  have e := h.dk (by omega) ((i 0).val % 4096) ((i 1).val % 64) (by omega)
  rw [head_of _ _ (i 1).isLt, lane_of] at e
  refine ((congrArg _ (eq_ix2 (n0 := 8192) (n1 := 512) i)).trans (array_dk (held m c H T) (i 0) (i 1))).trans ?_
  exact (congrArg (fun y : ℝ => (y : EReal)) e).trans (r102 H T i).symm

theorem dv_same : (dats m 0 c).arrAt 9 cfg0.N = Cert.ReferenceIdeal.Read.val_main_v104 (F := Ideal) (m ((c.tc : Thread nD τ).loc main_arg0))
    (m ((c.tc : Thread nD τ).loc main_arg1)) (m ((c.tc : Thread nD τ).loc main_arg2)) := by
  obtain ⟨top, T⟩ := row_top H
  refine funext fun i => ?_
  have h := is_head x g l top (pairOf (i 0).val (i 1).val) ((i 1).val % 128 / 64) (by omega)
  have e := h.dv (by omega) ((i 0).val % 4096) ((i 1).val % 64) (by omega)
  rw [head_of _ _ (i 1).isLt, lane_of] at e
  refine ((congrArg _ (eq_ix2 (n0 := 8192) (n1 := 512) i)).trans (array_dv (held m c H T) (i 0) (i 1))).trans ?_
  exact (congrArg (fun y : ℝ => (y : EReal)) e).trans (r104 H T i).symm

theorem dc_same : (dats m 0 c).arrAt 10 cfg0.N = Cert.ReferenceIdeal.Read.val_main_v105 (F := Ideal) (m ((c.tc : Thread nD τ).loc main_arg0))
    (m ((c.tc : Thread nD τ).loc main_arg1)) (m ((c.tc : Thread nD τ).loc main_arg2)) := by
  obtain ⟨top, T⟩ := row_top H
  refine funext fun i => ?_
  have h := is_head x g l top ((i 0).val / 2) ((i 0).val % 2) (by omega)
  have e := h.dc (by omega) (i 2).val
  rw [Nat.div_add_mod] at e
  have h1 : i = ix3 (n0 := 16) (n1 := 1) (n2 := 4096) (i 0) 0 (i 2) :=
    (eq_ix3 (n0 := 16) (n1 := 1) (n2 := 4096) i).trans (congrArg (fun k : Fin 1 => ix3 (n0 := 16) (n1 := 1) (n2 := 4096) (i 0) k (i 2)) (Subsingleton.elim _ _))
  refine ((congrArg _ h1).trans (array_dc (held m c H T) (i 0) (i 2))).trans ?_
  exact (congrArg (fun y : ℝ => (y : EReal)) e).trans (r105 H T i).symm

end Cert.Fox
-- ==== Proof.Fox.Pre.lean ====
/-
  WHAT THE PRECONDITION SAYS: every entry it speaks of is a real number, so the arguments are the casts of real functions (`reads`).
-/
module

public import proofs.«01_k».proof.Defs
public import proofs.«01_k».proof.Proof.Fox.Ref

@[expose] public section

set_option maxRecDepth 16384

noncomputable section

open Idealize.ShloMosaic Idealize.ShloMosaic.TcCoe Idealize.ShloMosaic.Tactic Idealize.SL.Sem

namespace Cert.Fox

theorem pre_facts : Cert.Pre_finite.Facts := ⟨by decide, by decide, by decide, by decide⟩

/-- An absolute value less than infinity is that of a real number. -/
theorem real_of_lt (y : EReal) (h : FloatOps.cmpf (F := Ideal) (φ := .f32) .olt (FloatOps.hostAbsf (F := Ideal) (φ := .f32) y) (FloatOps.ofBits (F := Ideal) .f32 0x7F800000#32) = 1#1) :
    ∃ r : ℝ, y = (r : EReal) := by
  have e : FloatOps.ofBits (F := Ideal) .f32 0x7F800000#32 = (⊤ : EReal) := by
    show Ideal.ofBits _ _ = _
    simp [Ideal.ofBits, Ideal.ieee]
  rw [e] at h
  have h1 : BitVec.ofBool (decide (max y (-y) < (⊤ : EReal))) = 1#1 := h
  have h2 : max y (-y) < (⊤ : EReal) := by
    by_contra hn
    rw [decide_eq_false hn] at h1
    exact absurd h1 (by decide)
  have h3 := max_lt_iff.1 h2
  refine ⟨EReal.toReal y, (EReal.coe_toReal h3.1.ne fun hb => ?_).symm⟩
  rw [hb, EReal.neg_bot] at h3
  exact lt_irrefl _ h3.2

attribute [local instance] pre_facts

theorem reads (x0 : FVec Ideal Cert.ReferenceIdeal.S8192x3072 .f32) (x1 : FVec Ideal Cert.ReferenceIdeal.S2x8x4096 .f32) (x2 : FVec Ideal Cert.ReferenceIdeal.S8192x512 .f32)
    (h0 : (Cert.Pre_finite.fn (F := Ideal) x0 x1 x2).1 = fun _ => 1#1)
    (h1 : (Cert.Pre_finite.fn (F := Ideal) x0 x1 x2).2.1 = fun _ => 1#1)
    (h2 : (Cert.Pre_finite.fn (F := Ideal) x0 x1 x2).2.2 = fun _ => 1#1) :
    ∃ x g l : ℕ → ℕ → ℝ, Reads x0 x1 x2 x g l := by
  have r0 : ∀ i : Cert.ReferenceIdeal.S8192x3072.Idx, 1536 ≤ (i 1).val → ∃ r : ℝ, x0 i = (r : EReal) := fun i hi => by
    idx_bounds i
    have e := congrFun h0 (ix2 (n0 := 8192) (n1 := 1536) (i 0) ⟨(i 1).val - 1536, by omega⟩)
    refine real_of_lt _ ((congrArg (fun y => FloatOps.cmpf (F := Ideal) (φ := .f32) .olt (FloatOps.hostAbsf (F := Ideal) (φ := .f32) y) (FloatOps.ofBits (F := Ideal) .f32 0x7F800000#32)) ?_).trans e)
    refine (extractStridedSlice_apply ![0, 1536] x0 pre_facts.slices_S8192x3072_S8192x1536_0_1536 _ i fun a => ?_).symm
    match a with
    | ⟨0, _⟩ => show (i 0).val = 0 + (i 0).val; omega
    | ⟨1, _⟩ => show (i 1).val = 1536 + ((i 1).val - 1536); omega
  have r1 : ∀ i : Cert.ReferenceIdeal.S2x8x4096.Idx, ∃ r : ℝ, x1 i = (r : EReal) := fun i => real_of_lt _ (congrFun h1 i)
  have r2 : ∀ i : Cert.ReferenceIdeal.S8192x512.Idx, ∃ r : ℝ, x2 i = (r : EReal) := fun i => real_of_lt _ (congrFun h2 i)
  refine ⟨fun a b => EReal.toReal (x0 (ix2 (n0 := 8192) (n1 := 3072) (Fin.ofNat 8192 a) (Fin.ofNat 3072 b))),
    fun a b => EReal.toReal (x2 (ix2 (n0 := 8192) (n1 := 512) (Fin.ofNat 8192 a) (Fin.ofNat 512 b))),
    fun e t => EReal.toReal (x1 (ix3 (n0 := 2) (n1 := 8) (n2 := 4096) (Fin.ofNat 2 (e / 8)) (Fin.ofNat 8 (e % 8)) (Fin.ofNat 4096 t))), fun i hi => ?_, fun i => ?_, fun i => ?_⟩
  · obtain ⟨r, hr⟩ := r0 i hi
    have e : ix2 (n0 := 8192) (n1 := 3072) (Fin.ofNat 8192 (i 0).val) (Fin.ofNat 3072 (i 1).val) = i :=
      (congrArg₂ (ix2 (n0 := 8192) (n1 := 3072)) (Fin.ext (Nat.mod_eq_of_lt (i 0).isLt)) (Fin.ext (Nat.mod_eq_of_lt (i 1).isLt))).trans (eq_ix2 (n0 := 8192) (n1 := 3072) i).symm
    rw [e, hr, EReal.toReal_coe]
  · obtain ⟨r, hr⟩ := r1 i
    idx_bounds i
    have e : ix3 (n0 := 2) (n1 := 8) (n2 := 4096) (Fin.ofNat 2 ((8 * (i 0).val + (i 1).val) / 8)) (Fin.ofNat 8 ((8 * (i 0).val + (i 1).val) % 8)) (Fin.ofNat 4096 (i 2).val) = i := by
      refine Eq.trans ?_ (eq_ix3 (n0 := 2) (n1 := 8) (n2 := 4096) i).symm
      have h0 : Fin.ofNat 2 ((8 * (i 0).val + (i 1).val) / 8) = (i 0 : Fin 2) := Fin.ext (by show _ % 2 = _; omega)
      have h1 : Fin.ofNat 8 ((8 * (i 0).val + (i 1).val) % 8) = (i 1 : Fin 8) := Fin.ext (by show _ % 8 = _; omega)
      have h2 : Fin.ofNat 4096 (i 2).val = (i 2 : Fin 4096) := Fin.ext (by show _ % 4096 = _; omega)
      rw [h0, h1, h2]
    rw [e, hr, EReal.toReal_coe]
  · obtain ⟨r, hr⟩ := r2 i
    have e : ix2 (n0 := 8192) (n1 := 512) (Fin.ofNat 8192 (i 0).val) (Fin.ofNat 512 (i 1).val) = i :=
      (congrArg₂ (ix2 (n0 := 8192) (n1 := 512)) (Fin.ext (Nat.mod_eq_of_lt (i 0).isLt)) (Fin.ext (Nat.mod_eq_of_lt (i 1).isLt))).trans (eq_ix2 (n0 := 8192) (n1 := 512) i).symm
    rw [e, hr, EReal.toReal_coe]

end Cert.Fox
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18Ideal
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20Ideal
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21Ideal
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22Ideal
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23Ideal
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24Ideal
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25Ideal
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26Ideal
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27Ideal
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28Ideal
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29Ideal
public import proofs.«01_k».proof.Proof.Gen.Kernel29.Frame
public import proofs.«01_k».proof.Proof.Gen.Kernel29Ideal.Frame
public import proofs.«01_k».proof.Proof.Gen.Reference29Ideal
public import proofs.«01_k».proof.Proof.Loss.Reference
public import proofs.«01_k».proof.Proof.Loss.Kernel
public import proofs.«01_k».proof.Proof.Gen.Kernel30
public import proofs.«01_k».proof.Proof.Gen.Kernel30Ideal
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Product.DWPsb
public import proofs.«01_k».proof.Proof.Gen.Kernel31
public import proofs.«01_k».proof.Proof.Gen.Kernel31Ideal
public import proofs.«01_k».proof.Proof.Gen.Kernel31.Frame
public import proofs.«01_k».proof.Proof.Gen.Kernel31Ideal.Frame
public import proofs.«01_k».proof.Proof.Gen.Reference31Ideal
public import proofs.«01_k».proof.Proof.Conv.Kernel
public import proofs.«01_k».proof.Proof.Product.DX1
public import proofs.«01_k».proof.Proof.Product.DWUp
public import proofs.«01_k».proof.Proof.Product.DAct
public import proofs.«01_k».proof.Proof.Product.DWDown
public import proofs.«01_k».proof.Proof.Product.InputGrad
public import proofs.«01_k».proof.Proof.Product.DWOut
public import proofs.«01_k».proof.Proof.Product.DO
public import proofs.«01_k».proof.Proof.Product.DWP
public import proofs.«01_k».proof.Proof.Product.GateBack
public import proofs.«01_k».proof.Proof.Product.DWQkv
public import proofs.«01_k».proof.Proof.Product.DWGate
public import proofs.«01_k».proof.Proof.Product.DWForget
public import proofs.«01_k».proof.Proof.Product.FfnUp
public import proofs.«01_k».proof.Proof.Product.InQkv
public import proofs.«01_k».proof.Proof.Product.InGate
public import proofs.«01_k».proof.Proof.Product.Merge
public import proofs.«01_k».proof.Proof.Product.OutLn
public import proofs.«01_k».proof.Proof.Product.DownLn
public import proofs.«01_k».proof.Proof.Adam.WIn
public import proofs.«01_k».proof.Proof.Adam.BIn
public import proofs.«01_k».proof.Proof.Adam.WProj
public import proofs.«01_k».proof.Proof.Adam.WOut
public import proofs.«01_k».proof.Proof.Adam.Ln
public import proofs.«01_k».proof.Proof.Adam.WUp
public import proofs.«01_k».proof.Proof.Adam.WConv
public import proofs.«01_k».proof.Proof.Adam.BConv
public import proofs.«01_k».proof.Proof.Adam.WDown
public import proofs.«01_k».proof.Proof.Fox.Value
public import proofs.«01_k».proof.Proof.Fox.Pre
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Kernel2.Gen.facts Cert.Kernel2Ideal.Gen.facts Cert.Reference2Ideal.Gen.facts Cert.Kernel3.Gen.facts Cert.Kernel3Ideal.Gen.facts Cert.Reference3Ideal.Gen.facts Cert.Kernel4.Gen.facts Cert.Kernel4Ideal.Gen.facts Cert.Reference4Ideal.Gen.facts Cert.Kernel5.Gen.facts Cert.Kernel5Ideal.Gen.facts Cert.Reference5Ideal.Gen.facts Cert.Kernel6.Gen.facts Cert.Kernel6Ideal.Gen.facts Cert.Reference6Ideal.Gen.facts Cert.Kernel7.Gen.facts Cert.Kernel7Ideal.Gen.facts Cert.Reference7Ideal.Gen.facts Cert.Kernel8.Gen.facts Cert.Kernel8Ideal.Gen.facts Cert.Reference8Ideal.Gen.facts Cert.Kernel9.Gen.facts Cert.Kernel9Ideal.Gen.facts Cert.Reference9Ideal.Gen.facts Cert.Kernel10.Gen.facts Cert.Kernel10Ideal.Gen.facts Cert.Reference10Ideal.Gen.facts Cert.Kernel11.Gen.facts Cert.Kernel11Ideal.Gen.facts Cert.Reference11Ideal.Gen.facts Cert.Kernel12.Gen.facts Cert.Kernel12Ideal.Gen.facts Cert.Reference12Ideal.Gen.facts Cert.Kernel13.Gen.facts Cert.Kernel13Ideal.Gen.facts Cert.Reference13Ideal.Gen.facts Cert.Kernel14.Gen.facts Cert.Kernel14Ideal.Gen.facts Cert.Reference14Ideal.Gen.facts Cert.Kernel15.Gen.facts Cert.Kernel15Ideal.Gen.facts Cert.Reference15Ideal.Gen.facts Cert.Kernel16.Gen.facts Cert.Kernel16Ideal.Gen.facts Cert.Reference16Ideal.Gen.facts Cert.Kernel17.Gen.facts Cert.Kernel17Ideal.Gen.facts Cert.Reference17Ideal.Gen.facts Cert.Kernel18.Gen.facts Cert.Kernel18Ideal.Gen.facts Cert.Reference18Ideal.Gen.facts Cert.Kernel19.Gen.facts Cert.Kernel19Ideal.Gen.facts Cert.Reference19Ideal.Gen.facts Cert.Kernel20.Gen.facts Cert.Kernel20Ideal.Gen.facts Cert.Reference20Ideal.Gen.facts Cert.Kernel21.Gen.facts Cert.Kernel21Ideal.Gen.facts Cert.Reference21Ideal.Gen.facts Cert.Kernel22.Gen.facts Cert.Kernel22Ideal.Gen.facts Cert.Reference22Ideal.Gen.facts Cert.Kernel23.Gen.facts Cert.Kernel23Ideal.Gen.facts Cert.Reference23Ideal.Gen.facts Cert.Kernel24.Gen.facts Cert.Kernel24Ideal.Gen.facts Cert.Reference24Ideal.Gen.facts Cert.Kernel25.Gen.facts Cert.Kernel25Ideal.Gen.facts Cert.Reference25Ideal.Gen.facts Cert.Kernel26.Gen.facts Cert.Kernel26Ideal.Gen.facts Cert.Reference26Ideal.Gen.facts Cert.Kernel27.Gen.facts Cert.Kernel27Ideal.Gen.facts Cert.Reference27Ideal.Gen.facts Cert.Kernel28.Gen.facts Cert.Kernel28Ideal.Gen.facts Cert.Reference28Ideal.Gen.facts Cert.Kernel29.Gen.facts Cert.Kernel29Ideal.Gen.facts Cert.Reference29Ideal.Gen.facts Cert.Kernel30.Gen.facts Cert.Kernel30Ideal.Gen.facts Cert.Reference30Ideal.Gen.facts Cert.Kernel31.Gen.facts Cert.Kernel31Ideal.Gen.facts Cert.Reference31Ideal.Gen.facts Cert.Fox.pre_facts

/-- The reference runs, its arguments kept. -/
theorem reference_runs (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2, sem_eq_zero_of_no_sems (by decide) r.2⟩) (Cert.ReferenceIdeal.Value.run (F := Ideal) m ρ)

section Values

variable {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ}
  {c : Dev Cert.KernelIdeal.nD} {x g l : ℕ → ℕ → ℝ} (H : Cert.Fox.Reads (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2)) x g l)
include H

/-- The gradient of q. -/
theorem dq_eq (hx : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hy : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hz : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v100 m' c = (Cert.KernelIdeal.Gen.dats m 0 c).arrAt 7 Cert.KernelIdeal.cfg0.N := by
  rw [Cert.ReferenceIdeal.Read.val_main_v100_eq, hx, hy, hz]
  exact (Cert.Fox.dq_same H).symm
/-- The gradient of k. -/
theorem dk_eq (hx : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hy : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hz : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v102 m' c = (Cert.KernelIdeal.Gen.dats m 0 c).arrAt 8 Cert.KernelIdeal.cfg0.N := by
  rw [Cert.ReferenceIdeal.Read.val_main_v102_eq, hx, hy, hz]
  exact (Cert.Fox.dk_same H).symm
/-- The gradient of v. -/
theorem dv_eq (hx : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hy : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hz : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v104 m' c = (Cert.KernelIdeal.Gen.dats m 0 c).arrAt 9 Cert.KernelIdeal.cfg0.N := by
  rw [Cert.ReferenceIdeal.Read.val_main_v104_eq, hx, hy, hz]
  exact (Cert.Fox.dv_same H).symm
/-- The gradient of the running log-gates. -/
theorem dc_eq (hx : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hy : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (hz : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v105 m' c = (Cert.KernelIdeal.Gen.dats m 0 c).arrAt 10 Cert.KernelIdeal.cfg0.N := by
  rw [Cert.ReferenceIdeal.Read.val_main_v105_eq, hx, hy, hz]
  exact (Cert.Fox.dc_same H).symm

end Values

/-- The kernel and the reference end with the same four arrays. -/
theorem same : Cert.algebraic_KernelIdeal_ReferenceIdeal_pre_finite := by
  intro m ρ m' ρ' pre hagree
  have h : ∀ c : Dev Cert.KernelIdeal.nD, ∃ x g l : ℕ → ℕ → ℝ, Cert.Fox.Reads (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) x g l := fun c =>
    Cert.Fox.reads _ _ _ (pre c).1 (pre c).2.1 (pre c).2.2
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m ρ, ?_⟩
  refine (θ_run Cert.ReferenceIdeal.defs _ _).mono (fun r hr c => ?_) (Cert.ReferenceIdeal.Value.run (F := Ideal) m' ρ')
  obtain ⟨x, g, l, H⟩ := h c
  obtain ⟨a0, a1, a2⟩ := hagree c
  obtain ⟨h0, h1, h2, h3, h4⟩ := hr c
  exact ⟨h0.trans (dq_eq H a0 a1 a2), h1.trans (dk_eq H a0 a1 a2), h2.trans (dv_eq H a0 a1 a2), h3.trans (dc_eq H a0 a1 a2), h4⟩

/-- The reference of the input gradient of the up product runs, its arguments kept. -/
theorem reference_runs_2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

/-- Kernel and reference agree on the input gradient of the up product. -/
theorem same_2 : Cert.algebraic_Kernel2Ideal_Reference2Ideal := by
  intro m ρ m' ρ' _ hagree
  refine ⟨fun c => (Cert.Kernel2Ideal.Gen.dats m 0 c).arrAt 2 Cert.Kernel2Ideal.cfg0.N,
    Cert.Kernel2Ideal.Value.run_blocks m ρ, ?_⟩
  refine (θ_run Cert.Reference2Ideal.defs _ _).mono (fun r hr c => ?_) (Cert.Reference2Ideal.Value.run (F := Ideal) m' ρ')
  obtain ⟨a0, a1⟩ := hagree c
  obtain ⟨h0, h1⟩ := hr c
  exact ⟨h0.trans (by rw [Cert.Reference2Ideal.Read.val_main_v2_eq, a0, a1]; exact Cert.Product.DX1.same.symm), h1⟩

/-- The reference of the weight gradient of the up product runs, its arguments kept. -/
theorem reference_runs_3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

/-- Kernel and reference agree on the weight gradient of the up product. -/
theorem same_3 : Cert.algebraic_Kernel3Ideal_Reference3Ideal := by
  intro m ρ m' ρ' _ hagree
  refine ⟨fun c => (Cert.Kernel3Ideal.Gen.dats m 0 c).arrAt 2 Cert.Kernel3Ideal.cfg0.N,
    Cert.Kernel3Ideal.Value.run_blocks m ρ, ?_⟩
  refine (θ_run Cert.Reference3Ideal.defs _ _).mono (fun r hr c => ?_) (Cert.Reference3Ideal.Value.run (F := Ideal) m' ρ')
  obtain ⟨a0, a1⟩ := hagree c
  obtain ⟨h0, h1⟩ := hr c
  exact ⟨h0.trans (by rw [Cert.Reference3Ideal.Read.val_main_v4_eq, a0, a1]; exact Cert.Product.DWUp.same.symm), h1⟩

/-- The reference of the gradient of the activation runs, its arguments kept. -/
theorem reference_runs_4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- Kernel and reference agree on the gradient of the activation. -/
theorem same_4 : Cert.algebraic_Kernel4Ideal_Reference4Ideal := by
  intro m ρ m' ρ' _ hagree
  refine ⟨fun c => (Cert.Kernel4Ideal.Gen.dats m 0 c).arrAt 2 Cert.Kernel4Ideal.cfg0.N,
    Cert.Kernel4Ideal.Value.run_blocks m ρ, ?_⟩
  refine (θ_run Cert.Reference4Ideal.defs _ _).mono (fun r hr c => ?_) (Cert.Reference4Ideal.Value.run (F := Ideal) m' ρ')
  obtain ⟨a0, a1⟩ := hagree c
  obtain ⟨h0, h1⟩ := hr c
  exact ⟨h0.trans (by rw [Cert.Reference4Ideal.Read.val_main_v3_eq, a0, a1]; exact Cert.Product.DAct.same.symm), h1⟩

/-- The reference of the weight gradient of the down product runs, its arguments kept. -/
theorem reference_runs_5 : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- Kernel and reference agree on the weight gradient of the down product. -/
theorem same_5 : Cert.algebraic_Kernel5Ideal_Reference5Ideal := by
  intro m ρ m' ρ' _ hagree
  refine ⟨fun c => (Cert.Kernel5Ideal.Gen.dats m 0 c).arrAt 2 Cert.Kernel5Ideal.cfg0.N,
    Cert.Kernel5Ideal.Value.run_blocks m ρ, ?_⟩
  refine (θ_run Cert.Reference5Ideal.defs _ _).mono (fun r hr c => ?_) (Cert.Reference5Ideal.Value.run (F := Ideal) m' ρ')
  obtain ⟨a0, a1⟩ := hagree c
  obtain ⟨h0, h1⟩ := hr c
  exact ⟨h0.trans (by rw [Cert.Reference5Ideal.Read.val_main_v4_eq, a0, a1]; exact Cert.Product.DWDown.same.symm), h1⟩

/-- The reference of the gradient of x runs, its arguments kept. -/
theorem reference_runs_6 : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- Kernel and reference agree on the gradient of x. -/
theorem same_6 : Cert.algebraic_Kernel6Ideal_Reference6Ideal := by
  intro m ρ m' ρ' _ hagree
  refine ⟨fun c => (Cert.Kernel6Ideal.Gen.dats m 0 c).arrAt 7 Cert.Kernel6Ideal.cfg0.N,
    Cert.Kernel6Ideal.Value.run_blocks m ρ, ?_⟩
  refine (θ_run Cert.Reference6Ideal.defs _ _).mono (fun r hr c => ?_) (Cert.Reference6Ideal.Value.run (F := Ideal) m' ρ')
  obtain ⟨a0, a1, a2, a3, a4, a5, a6⟩ := hagree c
  obtain ⟨h0, h1⟩ := hr c
  exact ⟨h0.trans (by rw [Cert.Reference6Ideal.Read.val_main_v13_eq, a0, a1, a2, a3, a4, a5, a6]; exact Cert.Product.InputGrad.same.symm), h1⟩

/-- The reference of the weight gradient of the output projection runs, its arguments kept. -/
theorem reference_runs_7 : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

/-- Kernel and reference agree on the weight gradient of the output projection. -/
theorem same_7 : Cert.algebraic_Kernel7Ideal_Reference7Ideal := by
  intro m ρ m' ρ' _ hagree
  refine ⟨fun c => (Cert.Kernel7Ideal.Gen.dats m 0 c).arrAt 2 Cert.Kernel7Ideal.cfg0.N,
    Cert.Kernel7Ideal.Value.run_blocks m ρ, ?_⟩
  refine (θ_run Cert.Reference7Ideal.defs _ _).mono (fun r hr c => ?_) (Cert.Reference7Ideal.Value.run (F := Ideal) m' ρ')
  obtain ⟨a0, a1⟩ := hagree c
  obtain ⟨h0, h1⟩ := hr c
  exact ⟨h0.trans (by rw [Cert.Reference7Ideal.Read.val_main_v4_eq, a0, a1]; exact Cert.Product.DWOut.same.symm), h1⟩

/-- The reference of the gradient of an attention's output runs, its arguments kept. -/
theorem reference_runs_8 : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

/-- Kernel and reference agree on the gradient of an attention's output. -/
theorem same_8 : Cert.algebraic_Kernel8Ideal_Reference8Ideal := by
  intro m ρ m' ρ' _ hagree
  refine ⟨fun c => (Cert.Kernel8Ideal.Gen.dats m 0 c).arrAt 2 Cert.Kernel8Ideal.cfg0.N,
    Cert.Kernel8Ideal.Value.run_blocks m ρ, ?_⟩
  refine (θ_run Cert.Reference8Ideal.defs _ _).mono (fun r hr c => ?_) (Cert.Reference8Ideal.Value.run (F := Ideal) m' ρ')
  obtain ⟨a0, a1⟩ := hagree c
  obtain ⟨h0, h1⟩ := hr c
  exact ⟨h0.trans (by rw [Cert.Reference8Ideal.Read.val_main_v3_eq, a0, a1]; exact Cert.Product.DO.same.symm), h1⟩

/-- The reference of the weight gradient of a branch projection runs, its arguments kept. -/
theorem reference_runs_9 : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- Kernel and reference agree on the weight gradient of a branch projection. -/
theorem same_9 : Cert.algebraic_Kernel9Ideal_Reference9Ideal := by
  intro m ρ m' ρ' _ hagree
  refine ⟨fun c => (Cert.Kernel9Ideal.Gen.dats m 0 c).arrAt 2 Cert.Kernel9Ideal.cfg0.N,
    Cert.Kernel9Ideal.Value.run_blocks m ρ, ?_⟩
  refine (θ_run Cert.Reference9Ideal.defs _ _).mono (fun r hr c => ?_) (Cert.Reference9Ideal.Value.run (F := Ideal) m' ρ')
  obtain ⟨a0, a1⟩ := hagree c
  obtain ⟨h0, h1⟩ := hr c
  exact ⟨h0.trans (by rw [Cert.Reference9Ideal.Read.val_main_v3_eq, a0, a1]; exact Cert.Product.DWP.same.symm), h1⟩

/-- The reference of the gradient of the gated merge runs, its arguments kept. -/
theorem reference_runs_10 : Cert.quiescent_Reference10Ideal := fun m ρ _ =>
  (θ_run Cert.Reference10Ideal.defs _ _).mono (fun r h => ⟨fun c => (h c).2.2.2, sem_eq_zero_of_no_sems (by decide) r.2⟩) (Cert.Reference10Ideal.Value.run (F := Ideal) m ρ)

/-- Kernel and reference agree on the gradient of the gated merge. -/
theorem same_10 : Cert.algebraic_Kernel10Ideal_Reference10Ideal := by
  intro m ρ m' ρ' _ hagree
  refine ⟨fun c => (Cert.Kernel10Ideal.Gen.dats m 0 c).arrAt 6 Cert.Kernel10Ideal.cfg0.N,
    fun c => (Cert.Kernel10Ideal.Gen.dats m 0 c).arrAt 7 Cert.Kernel10Ideal.cfg0.N,
    fun c => (Cert.Kernel10Ideal.Gen.dats m 0 c).arrAt 8 Cert.Kernel10Ideal.cfg0.N,
    Cert.Kernel10Ideal.Value.run_blocks m ρ, ?_⟩
  refine (θ_run Cert.Reference10Ideal.defs _ _).mono (fun r hr c => ?_) (Cert.Reference10Ideal.Value.run (F := Ideal) m' ρ')
  obtain ⟨a0, a1, a2, a3, a4⟩ := hagree c
  obtain ⟨h0, h1, h2, h3⟩ := hr c
  exact ⟨h0.trans (by rw [Cert.Reference10Ideal.Read.val_main_v33_eq, a0, a1, a4]; exact Cert.Product.GateBack.same_6.symm),
    h1.trans (by rw [Cert.Reference10Ideal.Read.val_main_v34_eq, a0, a1, a4]; exact Cert.Product.GateBack.same_7.symm),
    h2.trans (by rw [Cert.Reference10Ideal.Read.val_main_v36_eq, a0, a1, a2, a3, a4]; exact Cert.Product.GateBack.same_8.symm), h3⟩

/-- The reference of the weight gradient of the q, k, v projection runs, its arguments kept. -/
theorem reference_runs_11 : Cert.quiescent_Reference11Ideal := fun m ρ _ =>
  (θ_run Cert.Reference11Ideal.defs _ _).mono (fun r h => ⟨fun c => (h c).2, sem_eq_zero_of_no_sems (by decide) r.2⟩) (Cert.Reference11Ideal.Value.run (F := Ideal) m ρ)

/-- Kernel and reference agree on the weight gradient of the q, k, v projection. -/
theorem same_11 : Cert.algebraic_Kernel11Ideal_Reference11Ideal := by
  intro m ρ m' ρ' _ hagree
  refine ⟨fun c => (Cert.Kernel11Ideal.Gen.dats m 0 c).arrAt 2 Cert.Kernel11Ideal.cfg0.N,
    (θ_run Cert.Kernel11Ideal.defs _ _).mono (fun r h c => ⟨(h c).1, (h c).2.2⟩) (Cert.Kernel11Ideal.Value.run_blocks m ρ), ?_⟩
  refine (θ_run Cert.Reference11Ideal.defs _ _).mono (fun r hr c => ?_) (Cert.Reference11Ideal.Value.run (F := Ideal) m' ρ')
  obtain ⟨a0, a1⟩ := hagree c
  obtain ⟨h0, h1⟩ := hr c
  exact ⟨h0.trans (by rw [Cert.Reference11Ideal.Read.val_main_v4_eq, a0, a1]; exact Cert.Product.DWQkv.same.symm), h1⟩

/-- The reference of the weight gradient of the gates runs, its arguments kept. -/
theorem reference_runs_12 : Cert.quiescent_Reference12Ideal := fun m ρ _ =>
  (θ_run Cert.Reference12Ideal.defs _ _).mono (fun r h => ⟨fun c => (h c).2, sem_eq_zero_of_no_sems (by decide) r.2⟩) (Cert.Reference12Ideal.Value.run (F := Ideal) m ρ)

/-- Kernel and reference agree on the weight gradient of the gates. -/
theorem same_12 : Cert.algebraic_Kernel12Ideal_Reference12Ideal := by
  intro m ρ m' ρ' _ hagree
  refine ⟨fun c => (Cert.Kernel12Ideal.Gen.dats m 0 c).arrAt 2 Cert.Kernel12Ideal.cfg0.N,
    (θ_run Cert.Kernel12Ideal.defs _ _).mono (fun r h c => ⟨(h c).1, (h c).2.2⟩) (Cert.Kernel12Ideal.Value.run_blocks m ρ), ?_⟩
  refine (θ_run Cert.Reference12Ideal.defs _ _).mono (fun r hr c => ?_) (Cert.Reference12Ideal.Value.run (F := Ideal) m' ρ')
  obtain ⟨a0, a1⟩ := hagree c
  obtain ⟨h0, h1⟩ := hr c
  exact ⟨h0.trans (by rw [Cert.Reference12Ideal.Read.val_main_v4_eq, a0, a1]; exact Cert.Product.DWGate.same.symm), h1⟩

/-- The reference of the weight gradient of the forget gates runs, its arguments kept. -/
theorem reference_runs_13 : Cert.quiescent_Reference13Ideal := fun m ρ _ =>
  (θ_run Cert.Reference13Ideal.defs _ _).mono (fun r h => ⟨fun c => (h c).2, sem_eq_zero_of_no_sems (by decide) r.2⟩) (Cert.Reference13Ideal.Value.run (F := Ideal) m ρ)

/-- Kernel and reference agree on the weight gradient of the forget gates. -/
theorem same_13 : Cert.algebraic_Kernel13Ideal_Reference13Ideal := by
  intro m ρ m' ρ' _ hagree
  refine ⟨fun c => (Cert.Kernel13Ideal.Gen.dats m 0 c).arrAt 2 Cert.Kernel13Ideal.cfg0.N,
    (θ_run Cert.Kernel13Ideal.defs _ _).mono (fun r h c => ⟨(h c).1, (h c).2.2⟩) (Cert.Kernel13Ideal.Value.run_blocks m ρ), ?_⟩
  refine (θ_run Cert.Reference13Ideal.defs _ _).mono (fun r hr c => ?_) (Cert.Reference13Ideal.Value.run (F := Ideal) m' ρ')
  obtain ⟨a0, a1⟩ := hagree c
  obtain ⟨h0, h1⟩ := hr c
  exact ⟨h0.trans (by rw [Cert.Reference13Ideal.Read.val_main_v4_eq, a0, a1]; exact Cert.Product.DWForget.same.symm), h1⟩

/-- The reference of the up product runs, its arguments kept. -/
theorem reference_runs_14 : Cert.quiescent_Reference14Ideal := fun m ρ _ =>
  (θ_run Cert.Reference14Ideal.defs _ _).mono (fun r h => ⟨fun c => (h c).2, sem_eq_zero_of_no_sems (by decide) r.2⟩) (Cert.Reference14Ideal.Value.run (F := Ideal) m ρ)

/-- Kernel and reference agree on the up product. -/
theorem same_14 : Cert.algebraic_Kernel14Ideal_Reference14Ideal := by
  intro m ρ m' ρ' _ hagree
  refine ⟨fun c => (Cert.Kernel14Ideal.Gen.dats m 0 c).arrAt 2 Cert.Kernel14Ideal.cfg0.N,
    Cert.Kernel14Ideal.Value.run_blocks m ρ, ?_⟩
  refine (θ_run Cert.Reference14Ideal.defs _ _).mono (fun r hr c => ?_) (Cert.Reference14Ideal.Value.run (F := Ideal) m' ρ')
  obtain ⟨a0, a1⟩ := hagree c
  obtain ⟨h0, h1⟩ := hr c
  exact ⟨h0.trans (by rw [Cert.Reference14Ideal.Read.val_main_v3_eq, a0, a1]; exact Cert.Product.FfnUp.same.symm), h1⟩

/-- The reference of the q, k, v projection runs, its arguments kept. -/
theorem reference_runs_15 : Cert.quiescent_Reference15Ideal := fun m ρ _ =>
  (θ_run Cert.Reference15Ideal.defs _ _).mono (fun r h => ⟨fun c => (h c).2, sem_eq_zero_of_no_sems (by decide) r.2⟩) (Cert.Reference15Ideal.Value.run (F := Ideal) m ρ)

/-- Kernel and reference agree on the q, k, v projection. -/
theorem same_15 : Cert.algebraic_Kernel15Ideal_Reference15Ideal := by
  intro m ρ m' ρ' _ hagree
  refine ⟨fun c => (Cert.Kernel15Ideal.Gen.dats m 0 c).arrAt 3 Cert.Kernel15Ideal.cfg0.N,
    Cert.Kernel15Ideal.Value.run_blocks m ρ, ?_⟩
  refine (θ_run Cert.Reference15Ideal.defs _ _).mono (fun r hr c => ?_) (Cert.Reference15Ideal.Value.run (F := Ideal) m' ρ')
  obtain ⟨a0, a1, a2⟩ := hagree c
  obtain ⟨h0, h1⟩ := hr c
  exact ⟨h0.trans (by rw [Cert.Reference15Ideal.Read.val_main_v5_eq, a0, a1, a2]; exact Cert.Product.InQkv.same.symm), h1⟩

/-- The reference of the gate projection runs, its arguments kept. -/
theorem reference_runs_16 : Cert.quiescent_Reference16Ideal := fun m ρ _ =>
  (θ_run Cert.Reference16Ideal.defs _ _).mono (fun r h => ⟨fun c => (h c).2, sem_eq_zero_of_no_sems (by decide) r.2⟩) (Cert.Reference16Ideal.Value.run (F := Ideal) m ρ)

/-- Kernel and reference agree on the gate projection. -/
theorem same_16 : Cert.algebraic_Kernel16Ideal_Reference16Ideal := by
  intro m ρ m' ρ' _ hagree
  refine ⟨fun c => (Cert.Kernel16Ideal.Gen.dats m 0 c).arrAt 3 Cert.Kernel16Ideal.cfg0.N,
    Cert.Kernel16Ideal.Value.run_blocks m ρ, ?_⟩
  refine (θ_run Cert.Reference16Ideal.defs _ _).mono (fun r hr c => ?_) (Cert.Reference16Ideal.Value.run (F := Ideal) m' ρ')
  obtain ⟨a0, a1, a2⟩ := hagree c
  obtain ⟨h0, h1⟩ := hr c
  exact ⟨h0.trans (by rw [Cert.Reference16Ideal.Read.val_main_v4_eq, a0, a1, a2]; exact Cert.Product.InGate.same.symm), h1⟩

/-- The reference of the branch projections and the gated merge runs, its arguments kept. -/
theorem reference_runs_17 : Cert.quiescent_Reference17Ideal := fun m ρ _ =>
  (θ_run Cert.Reference17Ideal.defs _ _).mono (fun r h => ⟨fun c => (h c).2.2.2, sem_eq_zero_of_no_sems (by decide) r.2⟩) (Cert.Reference17Ideal.Value.run (F := Ideal) m ρ)

/-- Kernel and reference agree on the branch projections and the gated merge. -/
theorem same_17 : Cert.algebraic_Kernel17Ideal_Reference17Ideal := by
  intro m ρ m' ρ' _ hagree
  refine ⟨fun c => (Cert.Kernel17Ideal.Gen.dats m 0 c).arrAt 6 Cert.Kernel17Ideal.cfg0.N,
    fun c => (Cert.Kernel17Ideal.Gen.dats m 0 c).arrAt 7 Cert.Kernel17Ideal.cfg0.N,
    fun c => (Cert.Kernel17Ideal.Gen.dats m 0 c).arrAt 8 Cert.Kernel17Ideal.cfg0.N,
    Cert.Kernel17Ideal.Value.run_blocks m ρ, ?_⟩
  refine (θ_run Cert.Reference17Ideal.defs _ _).mono (fun r hr c => ?_) (Cert.Reference17Ideal.Value.run (F := Ideal) m' ρ')
  obtain ⟨a0, a1, a2, a3, a4⟩ := hagree c
  obtain ⟨h0, h1, h2, h3⟩ := hr c
  exact ⟨h0.trans (by rw [Cert.Reference17Ideal.Read.val_main_v22_eq, a0, a1, a2, a3, a4]; exact Cert.Product.Merge.same_6.symm),
    h1.trans (by rw [Cert.Reference17Ideal.Read.val_main_v2_eq, a0, a2]; exact Cert.Product.Merge.same_7.symm),
    h2.trans (by rw [Cert.Reference17Ideal.Read.val_main_v4_eq, a1, a3]; exact Cert.Product.Merge.same_8.symm), h3⟩

/-- The reference of the output projection with the first normalisation runs, its arguments kept. -/
theorem reference_runs_18 : Cert.quiescent_Reference18Ideal := fun m ρ _ =>
  (θ_run Cert.Reference18Ideal.defs _ _).mono (fun r h => ⟨fun c => (h c).2.2.2.2, sem_eq_zero_of_no_sems (by decide) r.2⟩) (Cert.Reference18Ideal.Value.run (F := Ideal) m ρ)

/-- Kernel and reference agree on the output projection with the first normalisation. -/
theorem same_18 : Cert.algebraic_Kernel18Ideal_Reference18Ideal := by
  intro m ρ m' ρ' _ hagree
  refine ⟨fun c => (Cert.Kernel18Ideal.Gen.dats m 0 c).arrAt 5 Cert.Kernel18Ideal.cfg0.N,
    fun c => (Cert.Kernel18Ideal.Gen.dats m 0 c).arrAt 6 Cert.Kernel18Ideal.cfg0.N,
    fun c => (Cert.Kernel18Ideal.Gen.dats m 0 c).arrAt 7 Cert.Kernel18Ideal.cfg0.N,
    fun c => (Cert.Kernel18Ideal.Gen.dats m 0 c).arrAt 8 Cert.Kernel18Ideal.cfg0.N,
    Cert.Kernel18Ideal.Value.run_blocks m ρ, ?_⟩
  refine (θ_run Cert.Reference18Ideal.defs _ _).mono (fun r hr c => ?_) (Cert.Reference18Ideal.Value.run (F := Ideal) m' ρ')
  obtain ⟨a0, a1, a2, a3, a4⟩ := hagree c
  obtain ⟨h0, h1, h2, h3, h4⟩ := hr c
  exact ⟨h0.trans (by rw [Cert.Reference18Ideal.Read.val_main_v27_eq, a0, a1, a2, a3, a4]; exact Cert.Product.OutLn.same_5.symm),
    h1.trans (by rw [Cert.Reference18Ideal.Read.val_main_v23_eq, a0, a1, a2]; exact Cert.Product.OutLn.same_6.symm),
    h2.trans (by rw [Cert.Reference18Ideal.Read.val_main_v19_eq, a0, a1, a2]; exact Cert.Product.OutLn.same_7.symm),
    h3.trans (by rw [Cert.Reference18Ideal.Read.val_main_v28_eq, a0, a1, a2, a3, a4]; exact Cert.Product.OutLn.same_8.symm), h4⟩

/-- The reference of the down product with the second normalisation runs, its arguments kept. -/
theorem reference_runs_19 : Cert.quiescent_Reference19Ideal := fun m ρ _ =>
  (θ_run Cert.Reference19Ideal.defs _ _).mono (fun r h => ⟨fun c => (h c).2.2.2.2, sem_eq_zero_of_no_sems (by decide) r.2⟩) (Cert.Reference19Ideal.Value.run (F := Ideal) m ρ)

/-- Kernel and reference agree on the down product with the second normalisation. -/
theorem same_19 : Cert.algebraic_Kernel19Ideal_Reference19Ideal := by
  intro m ρ m' ρ' _ hagree
  refine ⟨fun c => (Cert.Kernel19Ideal.Gen.dats m 0 c).arrAt 5 Cert.Kernel19Ideal.cfg0.N,
    fun c => (Cert.Kernel19Ideal.Gen.dats m 0 c).arrAt 6 Cert.Kernel19Ideal.cfg0.N,
    fun c => (Cert.Kernel19Ideal.Gen.dats m 0 c).arrAt 7 Cert.Kernel19Ideal.cfg0.N,
    fun c => (Cert.Kernel19Ideal.Gen.dats m 0 c).arrAt 8 Cert.Kernel19Ideal.cfg0.N,
    Cert.Kernel19Ideal.Value.run_blocks m ρ, ?_⟩
  refine (θ_run Cert.Reference19Ideal.defs _ _).mono (fun r hr c => ?_) (Cert.Reference19Ideal.Value.run (F := Ideal) m' ρ')
  obtain ⟨a0, a1, a2, a3, a4⟩ := hagree c
  obtain ⟨h0, h1, h2, h3, h4⟩ := hr c
  exact ⟨h0.trans (by rw [Cert.Reference19Ideal.Read.val_main_v27_eq, a0, a1, a2, a3, a4]; exact Cert.Product.DownLn.same_5.symm),
    h1.trans (by rw [Cert.Reference19Ideal.Read.val_main_v23_eq, a0, a1, a2]; exact Cert.Product.DownLn.same_6.symm),
    h2.trans (by rw [Cert.Reference19Ideal.Read.val_main_v19_eq, a0, a1, a2]; exact Cert.Product.DownLn.same_7.symm),
    h3.trans (by rw [Cert.Reference19Ideal.Read.val_main_v28_eq, a0, a1, a2, a3, a4]; exact Cert.Product.DownLn.same_8.symm), h4⟩

/-- The reference of the AdamW step of w_in runs, its arguments kept. -/
theorem reference_runs_20 : Cert.quiescent_Reference20Ideal := fun m ρ _ =>
  (θ_run Cert.Reference20Ideal.defs _ _).mono (fun r h => ⟨fun c => (h c).2.2.2.2, sem_eq_zero_of_no_sems (by decide) r.2⟩) (Cert.Reference20Ideal.Value.run (F := Ideal) m ρ)

/-- Kernel and reference agree on the AdamW step of w_in. -/
theorem same_20 : Cert.algebraic_Kernel20Ideal_Reference20Ideal := by
  intro m ρ m' ρ' _ hagree
  refine ⟨fun c => (Cert.Kernel20Ideal.Gen.dats m 0 c).arrAt 4 Cert.Kernel20Ideal.cfg0.N,
    fun c => (Cert.Kernel20Ideal.Gen.dats m 0 c).arrAt 5 Cert.Kernel20Ideal.cfg0.N,
    fun c => (Cert.Kernel20Ideal.Gen.dats m 0 c).arrAt 6 Cert.Kernel20Ideal.cfg0.N,
    fun c => (Cert.Kernel20Ideal.Gen.dats m 0 c).arrAt 7 Cert.Kernel20Ideal.cfg0.N,
    Cert.Kernel20Ideal.Value.run_blocks m ρ, ?_⟩
  refine (θ_run Cert.Reference20Ideal.defs _ _).mono (fun r hr c => ?_) (Cert.Reference20Ideal.Value.run (F := Ideal) m' ρ')
  obtain ⟨a0, a1, a2, a3⟩ := hagree c
  obtain ⟨h0, h1, h2, h3, h4⟩ := hr c
  exact ⟨h0.trans (by rw [Cert.Reference20Ideal.Read.val_main_v1_eq, a1]; exact Cert.Adam.WIn.grad_same.symm),
    h1.trans (by rw [Cert.Reference20Ideal.Read.val_main_v25_eq, a0, a1, a2, a3]; exact Cert.Adam.WIn.delta_same.symm),
    h2.trans (by rw [Cert.Reference20Ideal.Read.val_main_v6_eq, a1, a2]; exact Cert.Adam.WIn.m_same.symm),
    h3.trans (by rw [Cert.Reference20Ideal.Read.val_main_v12_eq, a1, a3]; exact Cert.Adam.WIn.v_same.symm), h4⟩

/-- The reference of the AdamW step of b_in runs, its arguments kept. -/
theorem reference_runs_21 : Cert.quiescent_Reference21Ideal := fun m ρ _ =>
  (θ_run Cert.Reference21Ideal.defs _ _).mono (fun r h => ⟨fun c => (h c).2.2.2.2, sem_eq_zero_of_no_sems (by decide) r.2⟩) (Cert.Reference21Ideal.Value.run (F := Ideal) m ρ)

/-- Kernel and reference agree on the AdamW step of b_in. -/
theorem same_21 : Cert.algebraic_Kernel21Ideal_Reference21Ideal := by
  intro m ρ m' ρ' _ hagree
  refine ⟨fun c => (Cert.Kernel21Ideal.Gen.dats m 0 c).arrAt 4 Cert.Kernel21Ideal.cfg0.N,
    fun c => (Cert.Kernel21Ideal.Gen.dats m 0 c).arrAt 5 Cert.Kernel21Ideal.cfg0.N,
    fun c => (Cert.Kernel21Ideal.Gen.dats m 0 c).arrAt 6 Cert.Kernel21Ideal.cfg0.N,
    fun c => (Cert.Kernel21Ideal.Gen.dats m 0 c).arrAt 7 Cert.Kernel21Ideal.cfg0.N,
    Cert.Kernel21Ideal.Value.run_blocks m ρ, ?_⟩
  refine (θ_run Cert.Reference21Ideal.defs _ _).mono (fun r hr c => ?_) (Cert.Reference21Ideal.Value.run (F := Ideal) m' ρ')
  obtain ⟨a0, a1, a2, a3⟩ := hagree c
  obtain ⟨h0, h1, h2, h3, h4⟩ := hr c
  exact ⟨h0.trans (by rw [Cert.Reference21Ideal.Read.val_main_v0_eq, a1]; exact Cert.Adam.BIn.grad_same.symm),
    h1.trans (by rw [Cert.Reference21Ideal.Read.val_main_v24_eq, a0, a1, a2, a3]; exact Cert.Adam.BIn.delta_same.symm),
    h2.trans (by rw [Cert.Reference21Ideal.Read.val_main_v5_eq, a1, a2]; exact Cert.Adam.BIn.m_same.symm),
    h3.trans (by rw [Cert.Reference21Ideal.Read.val_main_v11_eq, a1, a3]; exact Cert.Adam.BIn.v_same.symm), h4⟩

/-- The reference of the AdamW step of the two branch projections runs, its arguments kept. -/
theorem reference_runs_22 : Cert.quiescent_Reference22Ideal := fun m ρ _ =>
  (θ_run Cert.Reference22Ideal.defs _ _).mono (fun r h => ⟨fun c => (h c).2.2.2.2, sem_eq_zero_of_no_sems (by decide) r.2⟩) (Cert.Reference22Ideal.Value.run (F := Ideal) m ρ)

/-- Kernel and reference agree on the AdamW step of the two branch projections. -/
theorem same_22 : Cert.algebraic_Kernel22Ideal_Reference22Ideal := by
  intro m ρ m' ρ' _ hagree
  refine ⟨fun c => (Cert.Kernel22Ideal.Gen.dats m 0 c).arrAt 4 Cert.Kernel22Ideal.cfg0.N,
    fun c => (Cert.Kernel22Ideal.Gen.dats m 0 c).arrAt 5 Cert.Kernel22Ideal.cfg0.N,
    fun c => (Cert.Kernel22Ideal.Gen.dats m 0 c).arrAt 6 Cert.Kernel22Ideal.cfg0.N,
    fun c => (Cert.Kernel22Ideal.Gen.dats m 0 c).arrAt 7 Cert.Kernel22Ideal.cfg0.N,
    Cert.Kernel22Ideal.Value.run_blocks m ρ, ?_⟩
  refine (θ_run Cert.Reference22Ideal.defs _ _).mono (fun r hr c => ?_) (Cert.Reference22Ideal.Value.run (F := Ideal) m' ρ')
  obtain ⟨a0, a1, a2, a3⟩ := hagree c
  obtain ⟨h0, h1, h2, h3, h4⟩ := hr c
  exact ⟨h0.trans (by rw [Cert.Reference22Ideal.Read.val_main_v1_eq, a1]; exact Cert.Adam.WProj.grad_same.symm),
    h1.trans (by rw [Cert.Reference22Ideal.Read.val_main_v25_eq, a0, a1, a2, a3]; exact Cert.Adam.WProj.delta_same.symm),
    h2.trans (by rw [Cert.Reference22Ideal.Read.val_main_v6_eq, a1, a2]; exact Cert.Adam.WProj.m_same.symm),
    h3.trans (by rw [Cert.Reference22Ideal.Read.val_main_v12_eq, a1, a3]; exact Cert.Adam.WProj.v_same.symm), h4⟩

/-- The reference of the AdamW step of w_out runs, its arguments kept. -/
theorem reference_runs_23 : Cert.quiescent_Reference23Ideal := fun m ρ _ =>
  (θ_run Cert.Reference23Ideal.defs _ _).mono (fun r h => ⟨fun c => (h c).2.2.2.2, sem_eq_zero_of_no_sems (by decide) r.2⟩) (Cert.Reference23Ideal.Value.run (F := Ideal) m ρ)

/-- Kernel and reference agree on the AdamW step of w_out. -/
theorem same_23 : Cert.algebraic_Kernel23Ideal_Reference23Ideal := by
  intro m ρ m' ρ' _ hagree
  refine ⟨fun c => (Cert.Kernel23Ideal.Gen.dats m 0 c).arrAt 4 Cert.Kernel23Ideal.cfg0.N,
    fun c => (Cert.Kernel23Ideal.Gen.dats m 0 c).arrAt 5 Cert.Kernel23Ideal.cfg0.N,
    fun c => (Cert.Kernel23Ideal.Gen.dats m 0 c).arrAt 6 Cert.Kernel23Ideal.cfg0.N,
    fun c => (Cert.Kernel23Ideal.Gen.dats m 0 c).arrAt 7 Cert.Kernel23Ideal.cfg0.N,
    Cert.Kernel23Ideal.Value.run_blocks m ρ, ?_⟩
  refine (θ_run Cert.Reference23Ideal.defs _ _).mono (fun r hr c => ?_) (Cert.Reference23Ideal.Value.run (F := Ideal) m' ρ')
  obtain ⟨a0, a1, a2, a3⟩ := hagree c
  obtain ⟨h0, h1, h2, h3, h4⟩ := hr c
  exact ⟨h0.trans (by rw [Cert.Reference23Ideal.Read.val_main_v1_eq, a1]; exact Cert.Adam.WOut.grad_same.symm),
    h1.trans (by rw [Cert.Reference23Ideal.Read.val_main_v25_eq, a0, a1, a2, a3]; exact Cert.Adam.WOut.delta_same.symm),
    h2.trans (by rw [Cert.Reference23Ideal.Read.val_main_v6_eq, a1, a2]; exact Cert.Adam.WOut.m_same.symm),
    h3.trans (by rw [Cert.Reference23Ideal.Read.val_main_v12_eq, a1, a3]; exact Cert.Adam.WOut.v_same.symm), h4⟩

/-- The reference of the AdamW step of the normalisations' scales and shifts runs, its arguments kept. -/
theorem reference_runs_24 : Cert.quiescent_Reference24Ideal := fun m ρ _ =>
  (θ_run Cert.Reference24Ideal.defs _ _).mono (fun r h => ⟨fun c => (h c).2.2.2.2, sem_eq_zero_of_no_sems (by decide) r.2⟩) (Cert.Reference24Ideal.Value.run (F := Ideal) m ρ)

/-- Kernel and reference agree on the AdamW step of the normalisations' scales and shifts. -/
theorem same_24 : Cert.algebraic_Kernel24Ideal_Reference24Ideal := by
  intro m ρ m' ρ' _ hagree
  refine ⟨fun c => (Cert.Kernel24Ideal.Gen.dats m 0 c).arrAt 4 Cert.Kernel24Ideal.cfg0.N,
    fun c => (Cert.Kernel24Ideal.Gen.dats m 0 c).arrAt 5 Cert.Kernel24Ideal.cfg0.N,
    fun c => (Cert.Kernel24Ideal.Gen.dats m 0 c).arrAt 6 Cert.Kernel24Ideal.cfg0.N,
    fun c => (Cert.Kernel24Ideal.Gen.dats m 0 c).arrAt 7 Cert.Kernel24Ideal.cfg0.N,
    Cert.Kernel24Ideal.Value.run_blocks m ρ, ?_⟩
  refine (θ_run Cert.Reference24Ideal.defs _ _).mono (fun r hr c => ?_) (Cert.Reference24Ideal.Value.run (F := Ideal) m' ρ')
  obtain ⟨a0, a1, a2, a3⟩ := hagree c
  obtain ⟨h0, h1, h2, h3, h4⟩ := hr c
  exact ⟨h0.trans (by rw [Cert.Reference24Ideal.Read.val_main_v0_eq, a1]; exact Cert.Adam.Ln.grad_same.symm),
    h1.trans (by rw [Cert.Reference24Ideal.Read.val_main_v24_eq, a0, a1, a2, a3]; exact Cert.Adam.Ln.delta_same.symm),
    h2.trans (by rw [Cert.Reference24Ideal.Read.val_main_v5_eq, a1, a2]; exact Cert.Adam.Ln.m_same.symm),
    h3.trans (by rw [Cert.Reference24Ideal.Read.val_main_v11_eq, a1, a3]; exact Cert.Adam.Ln.v_same.symm), h4⟩

/-- The reference of the AdamW step of w_up runs, its arguments kept. -/
theorem reference_runs_25 : Cert.quiescent_Reference25Ideal := fun m ρ _ =>
  (θ_run Cert.Reference25Ideal.defs _ _).mono (fun r h => ⟨fun c => (h c).2.2.2.2, sem_eq_zero_of_no_sems (by decide) r.2⟩) (Cert.Reference25Ideal.Value.run (F := Ideal) m ρ)

/-- Kernel and reference agree on the AdamW step of w_up. -/
theorem same_25 : Cert.algebraic_Kernel25Ideal_Reference25Ideal := by
  intro m ρ m' ρ' _ hagree
  refine ⟨fun c => (Cert.Kernel25Ideal.Gen.dats m 0 c).arrAt 4 Cert.Kernel25Ideal.cfg0.N,
    fun c => (Cert.Kernel25Ideal.Gen.dats m 0 c).arrAt 5 Cert.Kernel25Ideal.cfg0.N,
    fun c => (Cert.Kernel25Ideal.Gen.dats m 0 c).arrAt 6 Cert.Kernel25Ideal.cfg0.N,
    fun c => (Cert.Kernel25Ideal.Gen.dats m 0 c).arrAt 7 Cert.Kernel25Ideal.cfg0.N,
    Cert.Kernel25Ideal.Value.run_blocks m ρ, ?_⟩
  refine (θ_run Cert.Reference25Ideal.defs _ _).mono (fun r hr c => ?_) (Cert.Reference25Ideal.Value.run (F := Ideal) m' ρ')
  obtain ⟨a0, a1, a2, a3⟩ := hagree c
  obtain ⟨h0, h1, h2, h3, h4⟩ := hr c
  exact ⟨h0.trans (by rw [Cert.Reference25Ideal.Read.val_main_v1_eq, a1]; exact Cert.Adam.WUp.grad_same.symm),
    h1.trans (by rw [Cert.Reference25Ideal.Read.val_main_v25_eq, a0, a1, a2, a3]; exact Cert.Adam.WUp.delta_same.symm),
    h2.trans (by rw [Cert.Reference25Ideal.Read.val_main_v6_eq, a1, a2]; exact Cert.Adam.WUp.m_same.symm),
    h3.trans (by rw [Cert.Reference25Ideal.Read.val_main_v12_eq, a1, a3]; exact Cert.Adam.WUp.v_same.symm), h4⟩

/-- The reference of the AdamW step of w_conv runs, its arguments kept. -/
theorem reference_runs_26 : Cert.quiescent_Reference26Ideal := fun m ρ _ =>
  (θ_run Cert.Reference26Ideal.defs _ _).mono (fun r h => ⟨fun c => (h c).2.2.2.2, sem_eq_zero_of_no_sems (by decide) r.2⟩) (Cert.Reference26Ideal.Value.run (F := Ideal) m ρ)

/-- Kernel and reference agree on the AdamW step of w_conv. -/
theorem same_26 : Cert.algebraic_Kernel26Ideal_Reference26Ideal := by
  intro m ρ m' ρ' _ hagree
  refine ⟨fun c => (Cert.Kernel26Ideal.Gen.dats m 0 c).arrAt 4 Cert.Kernel26Ideal.cfg0.N,
    fun c => (Cert.Kernel26Ideal.Gen.dats m 0 c).arrAt 5 Cert.Kernel26Ideal.cfg0.N,
    fun c => (Cert.Kernel26Ideal.Gen.dats m 0 c).arrAt 6 Cert.Kernel26Ideal.cfg0.N,
    fun c => (Cert.Kernel26Ideal.Gen.dats m 0 c).arrAt 7 Cert.Kernel26Ideal.cfg0.N,
    Cert.Kernel26Ideal.Value.run_blocks m ρ, ?_⟩
  refine (θ_run Cert.Reference26Ideal.defs _ _).mono (fun r hr c => ?_) (Cert.Reference26Ideal.Value.run (F := Ideal) m' ρ')
  obtain ⟨a0, a1, a2, a3⟩ := hagree c
  obtain ⟨h0, h1, h2, h3, h4⟩ := hr c
  exact ⟨h0.trans (by rw [Cert.Reference26Ideal.Read.val_main_v0_eq, a1]; exact Cert.Adam.WConv.grad_same.symm),
    h1.trans (by rw [Cert.Reference26Ideal.Read.val_main_v24_eq, a0, a1, a2, a3]; exact Cert.Adam.WConv.delta_same.symm),
    h2.trans (by rw [Cert.Reference26Ideal.Read.val_main_v5_eq, a1, a2]; exact Cert.Adam.WConv.m_same.symm),
    h3.trans (by rw [Cert.Reference26Ideal.Read.val_main_v11_eq, a1, a3]; exact Cert.Adam.WConv.v_same.symm), h4⟩

/-- The reference of the AdamW step of b_conv runs, its arguments kept. -/
theorem reference_runs_27 : Cert.quiescent_Reference27Ideal := fun m ρ _ =>
  (θ_run Cert.Reference27Ideal.defs _ _).mono (fun r h => ⟨fun c => (h c).2.2.2.2, sem_eq_zero_of_no_sems (by decide) r.2⟩) (Cert.Reference27Ideal.Value.run (F := Ideal) m ρ)

/-- Kernel and reference agree on the AdamW step of b_conv. -/
theorem same_27 : Cert.algebraic_Kernel27Ideal_Reference27Ideal := by
  intro m ρ m' ρ' _ hagree
  refine ⟨fun c => (Cert.Kernel27Ideal.Gen.dats m 0 c).arrAt 4 Cert.Kernel27Ideal.cfg0.N,
    fun c => (Cert.Kernel27Ideal.Gen.dats m 0 c).arrAt 5 Cert.Kernel27Ideal.cfg0.N,
    fun c => (Cert.Kernel27Ideal.Gen.dats m 0 c).arrAt 6 Cert.Kernel27Ideal.cfg0.N,
    fun c => (Cert.Kernel27Ideal.Gen.dats m 0 c).arrAt 7 Cert.Kernel27Ideal.cfg0.N,
    Cert.Kernel27Ideal.Value.run_blocks m ρ, ?_⟩
  refine (θ_run Cert.Reference27Ideal.defs _ _).mono (fun r hr c => ?_) (Cert.Reference27Ideal.Value.run (F := Ideal) m' ρ')
  obtain ⟨a0, a1, a2, a3⟩ := hagree c
  obtain ⟨h0, h1, h2, h3, h4⟩ := hr c
  exact ⟨h0.trans (by rw [Cert.Reference27Ideal.Read.val_main_v0_eq, a1]; exact Cert.Adam.BConv.grad_same.symm),
    h1.trans (by rw [Cert.Reference27Ideal.Read.val_main_v24_eq, a0, a1, a2, a3]; exact Cert.Adam.BConv.delta_same.symm),
    h2.trans (by rw [Cert.Reference27Ideal.Read.val_main_v5_eq, a1, a2]; exact Cert.Adam.BConv.m_same.symm),
    h3.trans (by rw [Cert.Reference27Ideal.Read.val_main_v11_eq, a1, a3]; exact Cert.Adam.BConv.v_same.symm), h4⟩

/-- The reference of the AdamW step of w_down runs, its arguments kept. -/
theorem reference_runs_28 : Cert.quiescent_Reference28Ideal := fun m ρ _ =>
  (θ_run Cert.Reference28Ideal.defs _ _).mono (fun r h => ⟨fun c => (h c).2.2.2.2, sem_eq_zero_of_no_sems (by decide) r.2⟩) (Cert.Reference28Ideal.Value.run (F := Ideal) m ρ)

/-- Kernel and reference agree on the AdamW step of w_down. -/
theorem same_28 : Cert.algebraic_Kernel28Ideal_Reference28Ideal := by
  intro m ρ m' ρ' _ hagree
  refine ⟨fun c => (Cert.Kernel28Ideal.Gen.dats m 0 c).arrAt 4 Cert.Kernel28Ideal.cfg0.N,
    fun c => (Cert.Kernel28Ideal.Gen.dats m 0 c).arrAt 5 Cert.Kernel28Ideal.cfg0.N,
    fun c => (Cert.Kernel28Ideal.Gen.dats m 0 c).arrAt 6 Cert.Kernel28Ideal.cfg0.N,
    fun c => (Cert.Kernel28Ideal.Gen.dats m 0 c).arrAt 7 Cert.Kernel28Ideal.cfg0.N,
    Cert.Kernel28Ideal.Value.run_blocks m ρ, ?_⟩
  refine (θ_run Cert.Reference28Ideal.defs _ _).mono (fun r hr c => ?_) (Cert.Reference28Ideal.Value.run (F := Ideal) m' ρ')
  obtain ⟨a0, a1, a2, a3⟩ := hagree c
  obtain ⟨h0, h1, h2, h3, h4⟩ := hr c
  exact ⟨h0.trans (by rw [Cert.Reference28Ideal.Read.val_main_v1_eq, a1]; exact Cert.Adam.WDown.grad_same.symm),
    h1.trans (by rw [Cert.Reference28Ideal.Read.val_main_v25_eq, a0, a1, a2, a3]; exact Cert.Adam.WDown.delta_same.symm),
    h2.trans (by rw [Cert.Reference28Ideal.Read.val_main_v6_eq, a1, a2]; exact Cert.Adam.WDown.m_same.symm),
    h3.trans (by rw [Cert.Reference28Ideal.Read.val_main_v12_eq, a1, a3]; exact Cert.Adam.WDown.v_same.symm), h4⟩

/-- The reference of the loss runs, its arguments kept. -/
theorem reference_runs_29 : Cert.quiescent_Reference29Ideal := fun m ρ _ =>
  (θ_run Cert.Reference29Ideal.defs _ _).mono (fun r h => ⟨fun c => (h c).2, sem_eq_zero_of_no_sems (by decide) r.2⟩) (Cert.Loss.Reference.run m ρ)

/-- Kernel and reference agree on the loss. -/
theorem same_29 : Cert.algebraic_Kernel29Ideal_Reference29Ideal := by
  intro m ρ m' ρ' _ hagree
  refine ⟨fun c => Cert.Loss.value m c, Cert.Loss.run m ρ, ?_⟩
  refine (θ_run Cert.Reference29Ideal.defs _ _).mono (fun r hr c => ?_) (Cert.Loss.Reference.run m' ρ')
  obtain ⟨a0, a1, a2, a3, a4⟩ := hagree c
  obtain ⟨h0, h1⟩ := hr c
  exact ⟨h0.trans (by rw [a0, a4]; exact Cert.Loss.same.symm), h1⟩

/-- The reference of the weight gradient of the stick-breaking projection runs, its arguments kept. -/
theorem reference_runs_30 : Cert.quiescent_Reference30Ideal := fun m ρ _ =>
  (θ_run Cert.Reference30Ideal.defs _ _).mono (fun r h => ⟨fun c => (h c).2, sem_eq_zero_of_no_sems (by decide) r.2⟩) (Cert.Reference30Ideal.Value.run (F := Ideal) m ρ)

/-- Kernel and reference agree on the weight gradient of the stick-breaking projection. -/
theorem same_30 : Cert.algebraic_Kernel30Ideal_Reference30Ideal := by
  intro m ρ m' ρ' _ hagree
  refine ⟨fun c => (Cert.Kernel30Ideal.Gen.dats m 0 c).arrAt 2 Cert.Kernel30Ideal.cfg0.N,
    Cert.Kernel30Ideal.Value.run_blocks m ρ, ?_⟩
  refine (θ_run Cert.Reference30Ideal.defs _ _).mono (fun r hr c => ?_) (Cert.Reference30Ideal.Value.run (F := Ideal) m' ρ')
  obtain ⟨a0, a1⟩ := hagree c
  obtain ⟨h0, h1⟩ := hr c
  exact ⟨h0.trans (by rw [Cert.Reference30Ideal.Read.val_main_v4_eq, a0, a1]; exact Cert.Product.DWPsb.same.symm), h1⟩

/-- The reference of the gated convolution runs, its arguments kept. -/
theorem reference_runs_31 : Cert.quiescent_Reference31Ideal := fun m ρ _ =>
  (θ_run Cert.Reference31Ideal.defs _ _).mono (fun r h => ⟨fun c => (h c).2, sem_eq_zero_of_no_sems (by decide) r.2⟩) (Cert.Conv.Reference.run m ρ)

/-- Kernel and reference agree on the gated convolution. -/
theorem same_31 : Cert.algebraic_Kernel31Ideal_Reference31Ideal := by
  intro m ρ m' ρ' _ hagree
  refine ⟨fun c => (Cert.Kernel31Ideal.Gen.dats m 0 c).arrAt 5 Cert.Kernel31Ideal.cfg0.N, Cert.Conv.run m ρ, ?_⟩
  refine (θ_run Cert.Reference31Ideal.defs _ _).mono (fun r hr c => ?_) (Cert.Conv.Reference.run m' ρ')
  obtain ⟨a0, a1, a2⟩ := hagree c
  obtain ⟨h0, h1⟩ := hr c
  exact ⟨h0.trans (by rw [a0, a1, a2]; exact Cert.Conv.same.symm), h1⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Fox.pre_facts,
  fun m ρ _ => Cert.Kernel.Gen.frame m ρ, fun m ρ _ => Cert.KernelIdeal.Gen.frame m ρ, fun m ρ _ => Cert.KernelIdeal.Gen.frame m ρ,
  fun m ρ _ => reference_runs m ρ, fun m ρ _ => reference_runs m ρ,
  fun m ρ _ => Cert.Kernel2.Gen.frame m ρ, fun m ρ _ => Cert.Kernel2Ideal.Gen.frame m ρ, reference_runs_2,
  fun m ρ _ => Cert.Kernel3.Gen.frame m ρ, fun m ρ _ => Cert.Kernel3Ideal.Gen.frame m ρ, reference_runs_3,
  fun m ρ _ => Cert.Kernel4.Gen.frame m ρ, fun m ρ _ => Cert.Kernel4Ideal.Gen.frame m ρ, reference_runs_4,
  fun m ρ _ => Cert.Kernel5.Gen.frame m ρ, fun m ρ _ => Cert.Kernel5Ideal.Gen.frame m ρ, reference_runs_5,
  fun m ρ _ => Cert.Kernel6.Gen.frame m ρ, fun m ρ _ => Cert.Kernel6Ideal.Gen.frame m ρ, reference_runs_6,
  fun m ρ _ => Cert.Kernel7.Gen.frame m ρ, fun m ρ _ => Cert.Kernel7Ideal.Gen.frame m ρ, reference_runs_7,
  fun m ρ _ => Cert.Kernel8.Gen.frame m ρ, fun m ρ _ => Cert.Kernel8Ideal.Gen.frame m ρ, reference_runs_8,
  fun m ρ _ => Cert.Kernel9.Gen.frame m ρ, fun m ρ _ => Cert.Kernel9Ideal.Gen.frame m ρ, reference_runs_9,
  fun m ρ _ => Cert.Kernel10.Gen.frame m ρ, fun m ρ _ => Cert.Kernel10Ideal.Gen.frame m ρ, reference_runs_10,
  fun m ρ _ => Cert.Kernel11.Gen.frame m ρ, fun m ρ _ => Cert.Kernel11Ideal.Gen.frame m ρ, reference_runs_11,
  fun m ρ _ => Cert.Kernel12.Gen.frame m ρ, fun m ρ _ => Cert.Kernel12Ideal.Gen.frame m ρ, reference_runs_12,
  fun m ρ _ => Cert.Kernel13.Gen.frame m ρ, fun m ρ _ => Cert.Kernel13Ideal.Gen.frame m ρ, reference_runs_13,
  fun m ρ _ => Cert.Kernel14.Gen.frame m ρ, fun m ρ _ => Cert.Kernel14Ideal.Gen.frame m ρ, reference_runs_14,
  fun m ρ _ => Cert.Kernel15.Gen.frame m ρ, fun m ρ _ => Cert.Kernel15Ideal.Gen.frame m ρ, reference_runs_15,
  fun m ρ _ => Cert.Kernel16.Gen.frame m ρ, fun m ρ _ => Cert.Kernel16Ideal.Gen.frame m ρ, reference_runs_16,
  fun m ρ _ => Cert.Kernel17.Gen.frame m ρ, fun m ρ _ => Cert.Kernel17Ideal.Gen.frame m ρ, reference_runs_17,
  fun m ρ _ => Cert.Kernel18.Gen.frame m ρ, fun m ρ _ => Cert.Kernel18Ideal.Gen.frame m ρ, reference_runs_18,
  fun m ρ _ => Cert.Kernel19.Gen.frame m ρ, fun m ρ _ => Cert.Kernel19Ideal.Gen.frame m ρ, reference_runs_19,
  fun m ρ _ => Cert.Kernel20.Gen.frame m ρ, fun m ρ _ => Cert.Kernel20Ideal.Gen.frame m ρ, reference_runs_20,
  fun m ρ _ => Cert.Kernel21.Gen.frame m ρ, fun m ρ _ => Cert.Kernel21Ideal.Gen.frame m ρ, reference_runs_21,
  fun m ρ _ => Cert.Kernel22.Gen.frame m ρ, fun m ρ _ => Cert.Kernel22Ideal.Gen.frame m ρ, reference_runs_22,
  fun m ρ _ => Cert.Kernel23.Gen.frame m ρ, fun m ρ _ => Cert.Kernel23Ideal.Gen.frame m ρ, reference_runs_23,
  fun m ρ _ => Cert.Kernel24.Gen.frame m ρ, fun m ρ _ => Cert.Kernel24Ideal.Gen.frame m ρ, reference_runs_24,
  fun m ρ _ => Cert.Kernel25.Gen.frame m ρ, fun m ρ _ => Cert.Kernel25Ideal.Gen.frame m ρ, reference_runs_25,
  fun m ρ _ => Cert.Kernel26.Gen.frame m ρ, fun m ρ _ => Cert.Kernel26Ideal.Gen.frame m ρ, reference_runs_26,
  fun m ρ _ => Cert.Kernel27.Gen.frame m ρ, fun m ρ _ => Cert.Kernel27Ideal.Gen.frame m ρ, reference_runs_27,
  fun m ρ _ => Cert.Kernel28.Gen.frame m ρ, fun m ρ _ => Cert.Kernel28Ideal.Gen.frame m ρ, reference_runs_28,
  fun m ρ _ => Cert.Kernel29.Gen.frame m ρ, fun m ρ _ => Cert.Kernel29Ideal.Gen.frame m ρ, reference_runs_29,
  fun m ρ _ => Cert.Kernel30.Gen.frame m ρ, fun m ρ _ => Cert.Kernel30Ideal.Gen.frame m ρ, reference_runs_30,
  fun m ρ _ => Cert.Kernel31.Gen.frame m ρ, fun m ρ _ => Cert.Kernel31Ideal.Gen.frame m ρ, reference_runs_31,
  trivial, same, trivial, same_2, trivial, same_3, trivial, same_4, trivial, same_5, trivial, same_6, trivial, same_7, trivial, same_8, trivial, same_9, trivial, same_10, trivial, same_11, trivial, same_12, trivial, same_13, trivial, same_14, trivial, same_15, trivial, same_16, trivial, same_17, trivial, same_18, trivial, same_19, trivial, same_20, trivial, same_21, trivial, same_22, trivial, same_23, trivial, same_24, trivial, same_25, trivial, same_26, trivial, same_27, trivial, same_28, trivial, same_29, trivial, same_30, trivial, same_31⟩

end Cert.Proof

end
